-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_written [hKernel2Ideal : Cert.Kernel2Ideal.Facts] [hReference2Ideal : Cert.Reference2Ideal.Facts] [hOn_written : Cert.On_written.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![4, 4224, 1024]⟩ : Shape).Idx, (Cert.On_written.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) i = 1#1 → r.2.mem ((c.tc : Thread Cert.Kernel2Ideal.nD Cert.Kernel2Ideal.τ).loc Cert.Kernel2Ideal.main_v1) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![4, 4224, 1024]⟩ : Shape).Idx, (Cert.On_written.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) i = 1#1 → r.2.mem ((c.tc : Thread Cert.Reference2Ideal.nD Cert.Reference2Ideal.τ).loc Cert.Reference2Ideal.main_v10) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_arg0) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v4) = v2 c
          ∧ r.2.mem ((c.tc : Thread Cert.Reference5Ideal.nD Cert.Reference5Ideal.τ).loc Cert.Reference5Ideal.main_v10) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v42) = v1 c
          ∧ r.2.mem ((c.tc : Thread Cert.Reference6Ideal.nD Cert.Reference6Ideal.τ).loc Cert.Reference6Ideal.main_v45) = v2 c
          ∧ r.2.mem ((c.tc : Thread Cert.Reference6Ideal.nD Cert.Reference6Ideal.τ).loc Cert.Reference6Ideal.main_v48) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_v42) = v2 c
          ∧ r.2.mem ((c.tc : Thread Cert.Reference7Ideal.nD Cert.Reference7Ideal.τ).loc Cert.Reference7Ideal.main_v45) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_v42) = v2 c
          ∧ r.2.mem ((c.tc : Thread Cert.Reference8Ideal.nD Cert.Reference8Ideal.τ).loc Cert.Reference8Ideal.main_v45) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_v42) = v2 c
          ∧ r.2.mem ((c.tc : Thread Cert.Reference9Ideal.nD Cert.Reference9Ideal.τ).loc Cert.Reference9Ideal.main_v45) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_v39) = v1 c
          ∧ r.2.mem ((c.tc : Thread Cert.Reference10Ideal.nD Cert.Reference10Ideal.τ).loc Cert.Reference10Ideal.main_v42) = v2 c
          ∧ r.2.mem ((c.tc : Thread Cert.Reference10Ideal.nD Cert.Reference10Ideal.τ).loc Cert.Reference10Ideal.main_v45) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_written (hKernel2Ideal := hKernel2Ideal) (hReference2Ideal := hReference2Ideal) (hOn_written := hOn_written)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== On_written.lean ====
abbrev S16384x1024 : Shape := ⟨2, ![16384, 1024]⟩
abbrev S12x16384x1024 : Shape := ⟨3, ![12, 16384, 1024]⟩
abbrev S4x4224x1024 : Shape := ⟨3, ![4, 4224, 1024]⟩
abbrev S_ : Shape := ⟨0, ![]⟩

class Facts : Prop where
  bcast_S_S4x4224x1024 : S_.BroadcastsInDim S4x4224x1024 (![] : Fin 0 → Fin S4x4224x1024.rank)

variable [Facts]

def fn {F : FTy → Type} [FloatOps F] (main_arg0 : FVec F S16384x1024 .bf16) (main_arg1 : FVec F S12x16384x1024 .bf16) : IVec S4x4224x1024 1 :=
  let main_v0 : IVec S4x4224x1024 32 := iotaInDim S4x4224x1024 32 1
  let main_c : IVec S_ 32 := constantI S_ 32 3072#32
  let main_v1 : IVec S4x4224x1024 32 := broadcastInDim S4x4224x1024 ![] bcast_S_S4x4224x1024 main_c
  let main_v2 : IVec S4x4224x1024 1 := cmpi .slt main_v0 main_v1
  main_v2
-- ==== Kernel.lean ====
abbrev S12x16384x1024 : Shape := ⟨3, ![12, 16384, 1024]⟩
abbrev S4x4224x1024 : Shape := ⟨3, ![4, 4224, 1024]⟩
abbrev S16384x1024 : Shape := ⟨2, ![16384, 1024]⟩
abbrev S1x1024 : Shape := ⟨2, ![1, 1024]⟩
abbrev S12x256x1024 : Shape := ⟨3, ![12, 256, 1024]⟩
abbrev S256x1024 : Shape := ⟨2, ![256, 1024]⟩
abbrev S4x3072x1024 : Shape := ⟨3, ![4, 3072, 1024]⟩
abbrev S16x1024 : Shape := ⟨2, ![16, 1024]⟩
abbrev S4 : Shape := ⟨1, ![4]⟩
abbrev S1 : Shape := ⟨1, ![1]⟩
abbrev S_ : Shape := ⟨0, ![]⟩
abbrev S1x3072x1024 : Shape := ⟨3, ![1, 3072, 1024]⟩
abbrev S3072x1024 : Shape := ⟨2, ![3072, 1024]⟩
abbrev S1x256x1024 : Shape := ⟨3, ![1, 256, 1024]⟩
abbrev S1x1024x1024 : Shape := ⟨3, ![1, 1024, 1024]⟩
abbrev S1024x1024 : Shape := ⟨2, ![1024, 1024]⟩
abbrev S16x512 : Shape := ⟨2, ![16, 512]⟩
abbrev S16 : Shape := ⟨1, ![16]⟩
abbrev S16x1 : Shape := ⟨2, ![16, 1]⟩
abbrev S1x512 : Shape := ⟨2, ![1, 512]⟩
abbrev S1024 : Shape := ⟨1, ![1024]⟩

abbrev nBuf : Space → Nat
  | .hbm => 7
  | .vmem => 14
  | .smem => 0
  | _ => 0

abbrev bufTy : (tb : Table) → Fin (tcTables nBuf tb) → BufTy
  | .hbm, ⟨0, _⟩ => ⟨S12x16384x1024, .bf16⟩
  | .hbm, ⟨1, _⟩ => ⟨S4x4224x1024, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .local _ .vmem, ⟨0, _⟩ => ⟨S12x256x1024, .bf16⟩
  | .local _ .vmem, ⟨1, _⟩ => ⟨S12x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S4x3072x1024, .bf16⟩
  | .local _ .vmem, ⟨11, _⟩ => ⟨S256x1024, .f32⟩
  | .local _ .vmem, ⟨12, _⟩ => ⟨S256x1024, .f32⟩
  | .local _ .vmem, ⟨13, _⟩ => ⟨S16x1024, .f32⟩
  | _, _ => ⟨S12x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let c0_i32_6 : BitVec 32 := 0#32
  let v14 : BitVec 1 := Scalar.cmpi .sgt arg0 c0_i32_6
  let v15 : BitVec 1 := Scalar.andi v13 v14
  let c64_i32 : BitVec 32 := 64#32
  let v16 : BitVec 1 := Scalar.cmpi .slt arg0 c64_i32
  let v17 : BitVec 1 := Scalar.andi v15 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_14 : BitVec 32 := 1#32
  let v30 : BitVec 1 := Scalar.cmpi .eq v29 c1_i32_14
  let c0_i32_15 : BitVec 32 := 0#32
  let v31 : BitVec 1 := Scalar.cmpi .sgt arg0 c0_i32_15
  let v32 : BitVec 1 := Scalar.andi v30 v31
  let c64_i32_16 : BitVec 32 := 64#32
  let v33 : BitVec 1 := Scalar.cmpi .slt arg0 c64_i32_16
  let v34 : BitVec 1 := Scalar.andi v32 v33
  let v35 : BitVec 32 := Scalar.extui v34
  let c0_i32_17 : BitVec 32 := 0#32
  let v36 : BitVec 1 := Scalar.cmpi .ne v35 c0_i32_17
  v36

def k0_cond4 (i : grid0.Coords) : BitVec 1 :=
  let arg0 : BitVec 32 := BitVec.ofNat 32 (i 0).val
  let c64_i32_18 : BitVec 32 := 64#32
  let v37 : BitVec 1 := Scalar.cmpi .eq arg0 c64_i32_18
  let v38 : BitVec 32 := Scalar.extui v37
  let c0_i32_19 : BitVec 32 := 0#32
  let v39 : BitVec 1 := Scalar.cmpi .ne v38 c0_i32_19
  v39

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S12x16384x1024 : Shape := ⟨3, ![12, 16384, 1024]⟩
abbrev S4x4224x1024 : Shape := ⟨3, ![4, 4224, 1024]⟩
abbrev S16384x1024 : Shape := ⟨2, ![16384, 1024]⟩
abbrev S1x1024 : Shape := ⟨2, ![1, 1024]⟩
abbrev S4x3072x1024 : Shape := ⟨3, ![4, 3072, 1024]⟩
abbrev S12x1024x1024 : Shape := ⟨3, ![12, 1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S12x1024x16384 : Shape := ⟨3, ![12, 1024, 16384]⟩

abbrev nBuf : Space → Nat
  | .hbm => 61
  | .vmem => 0
  | .smem => 0
  | _ => 0

abbrev bufTy : (tb : Table) → Fin (tcTables nBuf tb) → BufTy
  | .hbm, ⟨0, _⟩ => ⟨S12x16384x1024, .bf16⟩
  | .hbm, ⟨1, _⟩ => ⟨S4x4224x1024, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S4x3072x1024, .bf16⟩
  | .hbm, ⟨6, _⟩ => ⟨S4x3072x1024, .f32⟩
  | .hbm, ⟨7, _⟩ => ⟨S12x1024x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S12x1024x16384, .f32⟩
  | .hbm, ⟨30, _⟩ => ⟨S12x16384x1024, .f32⟩
  | .hbm, ⟨31, _⟩ => ⟨S12x16384x1024, .f32⟩
  | .hbm, ⟨32, _⟩ => ⟨S12x1024x16384, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S1x1024, .f32⟩
  | _, _ => ⟨S12x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel2.lean ====
abbrev S16384x1024 : Shape := ⟨2, ![16384, 1024]⟩
abbrev S12x16384x1024 : Shape := ⟨3, ![12, 16384, 1024]⟩
abbrev S1x16384x1024 : Shape := ⟨3, ![1, 16384, 1024]⟩
abbrev S4x4224x1024 : Shape := ⟨3, ![4, 4224, 1024]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S12x16384x1024, .bf16⟩
  | .hbm, ⟨2, _⟩ => ⟨S1x16384x1024, .bf16⟩
  | .hbm, ⟨3, _⟩ => ⟨S4x4224x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 4], ![false, false]⟩

def k0_cond3 (i : grid0.Coords) : BitVec 1 :=
  let arg1 : BitVec 32 := BitVec.ofNat 32 (i 1).val
  let c3_i32 : BitVec 32 := 3#32
  let v8 : BitVec 1 := Scalar.cmpi .sge arg1 c3_i32
  let v9 : BitVec 32 := Scalar.extui v8
  let c0_i32_3 : BitVec 32 := 0#32
  let v10 : BitVec 1 := Scalar.cmpi .ne v9 c0_i32_3
  v10

def k0_mult1 (i : grid0.Coords) : BitVec 32 :=
  let arg1 : BitVec 32 := BitVec.ofNat 32 (i 1).val
  let c3_i32_4 : BitVec 32 := 3#32
  let v11 : BitVec 32 := Scalar.subi arg1 c3_i32_4
  let c1024_i32 : BitVec 32 := 1024#32
  let v12 : BitVec 32 := Scalar.muli v11 c1024_i32
  v12
def k0_off1 (i : grid0.Coords) : Fin 2 → Nat :=
  let arg1 : BitVec 32 := BitVec.ofNat 32 (i 1).val
  let c3_i32_4 : BitVec 32 := 3#32
  let v11 : BitVec 32 := Scalar.subi arg1 c3_i32_4
  let c1024_i32 : BitVec 32 := 1024#32
  let v12 : BitVec 32 := Scalar.muli v11 c1024_i32
  let v13 : BitVec 32 := v12
  let v14 : Index := Scalar.indexCast v13
  let c0 : Index := 0#32
  ![v14.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c3_i32_0 : BitVec 32 := 3#32
  let v2 : BitVec 32 := Scalar.divsi arg0 c3_i32_0
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .slt arg0 c0_i32_2
  let v6 : BitVec 32 := Scalar.extui v5
  let v7 : BitVec 32 := Scalar.subi v4 v6
  let c0_i32_3 : BitVec 32 := 0#32
  let v8 : BitVec 1 := Scalar.cmpi .sgt c3_i32_0 c0_i32_3
  let v9 : BitVec 32 := Scalar.extui v8
  let c0_i32_4 : BitVec 32 := 0#32
  let v10 : BitVec 1 := Scalar.cmpi .slt c3_i32_0 c0_i32_4
  let v11 : BitVec 32 := Scalar.extui v10
  let v12 : BitVec 32 := Scalar.subi v9 v11
  let v13 : BitVec 1 := Scalar.cmpi .ne v7 v12
  let v14 : BitVec 32 := Scalar.remsi arg0 c3_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S16384x1024 : Shape := ⟨2, ![16384, 1024]⟩
abbrev S12x16384x1024 : Shape := ⟨3, ![12, 16384, 1024]⟩
abbrev S_ : Shape := ⟨0, ![]⟩
abbrev S12x1024x1024 : Shape := ⟨3, ![12, 1024, 1024]⟩
abbrev S12x1024x16384 : Shape := ⟨3, ![12, 1024, 16384]⟩
abbrev S4x3072x1024 : Shape := ⟨3, ![4, 3072, 1024]⟩
abbrev S4x4224x1024 : Shape := ⟨3, ![4, 4224, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S12x16384x1024, .bf16⟩
  | .hbm, ⟨2, _⟩ => ⟨S_, .f32⟩
  | .hbm, ⟨3, _⟩ => ⟨S12x1024x1024, .f32⟩
  | .hbm, ⟨4, _⟩ => ⟨S16384x1024, .f32⟩
  | .hbm, ⟨5, _⟩ => ⟨S12x1024x16384, .f32⟩
  | .hbm, ⟨6, _⟩ => ⟨S12x16384x1024, .f32⟩
  | .hbm, ⟨7, _⟩ => ⟨S12x16384x1024, .f32⟩
  | .hbm, ⟨8, _⟩ => ⟨S12x1024x16384, .f32⟩
  | .hbm, ⟨9, _⟩ => ⟨S12x1024x1024, .f32⟩
  | .hbm, ⟨10, _⟩ => ⟨S12x1024x1024, .f32⟩
  | .hbm, ⟨11, _⟩ => ⟨S4x3072x1024, .f32⟩
  | .hbm, ⟨12, _⟩ => ⟨S4x3072x1024, .bf16⟩
  | .hbm, ⟨13, _⟩ => ⟨S_, .i32⟩
  | .hbm, ⟨14, _⟩ => ⟨S_, .bf16⟩
  | .hbm, ⟨15, _⟩ => ⟨S4x4224x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel3.lean ====
abbrev S3x16384x1024 : Shape := ⟨3, ![3, 16384, 1024]⟩
abbrev S4x4224x1024 : Shape := ⟨3, ![4, 4224, 1024]⟩
abbrev S1x2048x1024 : Shape := ⟨3, ![1, 2048, 1024]⟩
abbrev S1x256x1024 : Shape := ⟨3, ![1, 256, 1024]⟩
abbrev S1024x1024 : Shape := ⟨2, ![1024, 1024]⟩
abbrev S2048x1024 : Shape := ⟨2, ![2048, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S3x16384x1024, .bf16⟩
  | .hbm, ⟨1, _⟩ => ⟨S3x16384x1024, .bf16⟩
  | .hbm, ⟨2, _⟩ => ⟨S4x4224x1024, .bf16⟩
  | .hbm, ⟨3, _⟩ => ⟨S4x4224x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .f32⟩
  | _, _ => ⟨S3x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 11], ![false, false]⟩

def k0_cond3 (i : grid0.Coords) : BitVec 1 :=
  let arg1 : BitVec 32 := BitVec.ofNat 32 (i 1).val
  let c7_i32 : BitVec 32 := 7#32
  let v8 : BitVec 1 := Scalar.cmpi .sge arg1 c7_i32
  let v9 : BitVec 32 := Scalar.extui v8
  let c0_i32_3 : BitVec 32 := 0#32
  let v10 : BitVec 1 := Scalar.cmpi .ne v9 c0_i32_3
  v10

def k0_mult1 (i : grid0.Coords) : BitVec 32 :=
  let arg1 : BitVec 32 := BitVec.ofNat 32 (i 1).val
  let c7_i32_4 : BitVec 32 := 7#32
  let v11 : BitVec 32 := Scalar.subi arg1 c7_i32_4
  let c256_i32 : BitVec 32 := 256#32
  let v12 : BitVec 32 := Scalar.muli v11 c256_i32
  v12
def k0_off1 (i : grid0.Coords) : Fin 2 → Nat :=
  let arg1 : BitVec 32 := BitVec.ofNat 32 (i 1).val
  let c7_i32_4 : BitVec 32 := 7#32
  let v11 : BitVec 32 := Scalar.subi arg1 c7_i32_4
  let c256_i32 : BitVec 32 := 256#32
  let v12 : BitVec 32 := Scalar.muli v11 c256_i32
  let v13 : BitVec 32 := v12
  let v14 : Index := Scalar.indexCast v13
  let c0 : Index := 0#32
  ![v14.toNat, 0]
def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c12_i32 : BitVec 32 := 12#32
  let v2 : BitVec 32 := Scalar.addi c12_i32 arg0
  let c0_i32_0 : BitVec 32 := 0#32
  let c0_i32_1 : BitVec 32 := 0#32
  ![v1.toNat, v2.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S3x16384x1024 : Shape := ⟨3, ![3, 16384, 1024]⟩
abbrev S4x4224x1024 : Shape := ⟨3, ![4, 4224, 1024]⟩
abbrev S_ : Shape := ⟨0, ![]⟩
abbrev S3x1024x1024 : Shape := ⟨3, ![3, 1024, 1024]⟩
abbrev S3x4x256x1024 : Shape := ⟨4, ![3, 4, 256, 1024]⟩
abbrev S4x3x256x1024 : Shape := ⟨4, ![4, 3, 256, 1024]⟩
abbrev S4x768x1024 : Shape := ⟨3, ![4, 768, 1024]⟩
abbrev S4x3072x1024 : Shape := ⟨3, ![4, 3072, 1024]⟩
abbrev S4x384x1024 : Shape := ⟨3, ![4, 384, 1024]⟩

abbrev nBuf : Space → Nat
  | .hbm => 17
  | .vmem => 0
  | .smem => 0
  | _ => 0

abbrev bufTy : (tb : Table) → Fin (tcTables nBuf tb) → BufTy
  | .hbm, ⟨0, _⟩ => ⟨S3x16384x1024, .bf16⟩
  | .hbm, ⟨1, _⟩ => ⟨S3x16384x1024, .bf16⟩
  | .hbm, ⟨2, _⟩ => ⟨S4x4224x1024, .bf16⟩
  | .hbm, ⟨3, _⟩ => ⟨S_, .f32⟩
  | .hbm, ⟨4, _⟩ => ⟨S3x1024x1024, .f32⟩
  | .hbm, ⟨5, _⟩ => ⟨S3x16384x1024, .f32⟩
  | .hbm, ⟨6, _⟩ => ⟨S3x16384x1024, .f32⟩
  | .hbm, ⟨7, _⟩ => ⟨S3x16384x1024, .f32⟩
  | .hbm, ⟨8, _⟩ => ⟨S3x1024x1024, .f32⟩
  | .hbm, ⟨9, _⟩ => ⟨S3x1024x1024, .f32⟩
  | .hbm, ⟨10, _⟩ => ⟨S3x4x256x1024, .f32⟩
  | .hbm, ⟨11, _⟩ => ⟨S4x3x256x1024, .f32⟩
  | .hbm, ⟨12, _⟩ => ⟨S4x768x1024, .f32⟩
  | .hbm, ⟨13, _⟩ => ⟨S4x768x1024, .bf16⟩
  | .hbm, ⟨14, _⟩ => ⟨S4x3072x1024, .bf16⟩
  | .hbm, ⟨15, _⟩ => ⟨S4x384x1024, .bf16⟩
  | .hbm, ⟨16, _⟩ => ⟨S4x4224x1024, .bf16⟩
  | _, _ => ⟨S3x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel4.lean ====
abbrev S16384x1024 : Shape := ⟨2, ![16384, 1024]⟩
abbrev S4x4224x1024 : Shape := ⟨3, ![4, 4224, 1024]⟩
abbrev S1x16384x1024 : Shape := ⟨3, ![1, 16384, 1024]⟩
abbrev S1x2048x1024 : Shape := ⟨3, ![1, 2048, 1024]⟩
abbrev S1x256x1024 : Shape := ⟨3, ![1, 256, 1024]⟩
abbrev S1024x1024 : Shape := ⟨2, ![1024, 1024]⟩
abbrev S2048x1024 : Shape := ⟨2, ![2048, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S4x4224x1024, .bf16⟩
  | .hbm, ⟨3, _⟩ => ⟨S1x16384x1024, .bf16⟩
  | .hbm, ⟨4, _⟩ => ⟨S1x16384x1024, .f32⟩
  | .hbm, ⟨5, _⟩ => ⟨S4x4224x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 11], ![false, false]⟩

def k0_cond3 (i : grid0.Coords) : BitVec 1 :=
  let arg1 : BitVec 32 := BitVec.ofNat 32 (i 1).val
  let c7_i32 : BitVec 32 := 7#32
  let v8 : BitVec 1 := Scalar.cmpi .sge arg1 c7_i32
  let v9 : BitVec 32 := Scalar.extui v8
  let c0_i32_3 : BitVec 32 := 0#32
  let v10 : BitVec 1 := Scalar.cmpi .ne v9 c0_i32_3
  v10

def k0_mult1 (i : grid0.Coords) : BitVec 32 :=
  let arg1 : BitVec 32 := BitVec.ofNat 32 (i 1).val
  let c7_i32_4 : BitVec 32 := 7#32
  let v11 : BitVec 32 := Scalar.subi arg1 c7_i32_4
  let c256_i32 : BitVec 32 := 256#32
  let v12 : BitVec 32 := Scalar.muli v11 c256_i32
  v12
def k0_off1 (i : grid0.Coords) : Fin 2 → Nat :=
  let arg1 : BitVec 32 := BitVec.ofNat 32 (i 1).val
  let c7_i32_4 : BitVec 32 := 7#32
  let v11 : BitVec 32 := Scalar.subi arg1 c7_i32_4
  let c256_i32 : BitVec 32 := 256#32
  let v12 : BitVec 32 := Scalar.muli v11 c256_i32
  let v13 : BitVec 32 := v12
  let v14 : Index := Scalar.indexCast v13
  let c0 : Index := 0#32
  ![v14.toNat, 0]
def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c15_i32 : BitVec 32 := 15#32
  let c0_i32_0 : BitVec 32 := 0#32
  let c0_i32_1 : BitVec 32 := 0#32
  ![v1.toNat, c15_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference4Ideal.lean ====
abbrev S16384x1024 : Shape := ⟨2, ![16384, 1024]⟩
abbrev S4x4224x1024 : Shape := ⟨3, ![4, 4224, 1024]⟩
abbrev S_ : Shape := ⟨0, ![]⟩
abbrev S1024x1024 : Shape := ⟨2, ![1024, 1024]⟩
abbrev S4x256x1024 : Shape := ⟨3, ![4, 256, 1024]⟩
abbrev S4x3840x1024 : Shape := ⟨3, ![4, 3840, 1024]⟩
abbrev S4x128x1024 : Shape := ⟨3, ![4, 128, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S4x4224x1024, .bf16⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S4x256x1024, .bf16⟩
  | .hbm, ⟨11, _⟩ => ⟨S4x3840x1024, .bf16⟩
  | .hbm, ⟨12, _⟩ => ⟨S4x128x1024, .bf16⟩
  | .hbm, ⟨13, _⟩ => ⟨S4x4224x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S576x1024 : Shape := ⟨2, ![576, 1024]⟩
abbrev S192x1024 : Shape := ⟨2, ![192, 1024]⟩

abbrev nBuf : Space → Nat
  | .hbm => 12
  | .vmem => 16
  | .smem => 0
  | _ => 0

abbrev bufTy : (tb : Table) → Fin (tcTables nBuf tb) → BufTy
  | .hbm, ⟨0, _⟩ => ⟨S576x1024, .f32⟩
  | .hbm, ⟨1, _⟩ => ⟨S576x1024, .f32⟩
  | .hbm, ⟨2, _⟩ => ⟨S576x1024, .f32⟩
  | .hbm, ⟨3, _⟩ => ⟨S576x1024, .f32⟩
  | .hbm, ⟨4, _⟩ => ⟨S576x1024, .f32⟩
  | .hbm, ⟨5, _⟩ => ⟨S576x1024, .f32⟩
  | .hbm, ⟨6, _⟩ => ⟨S576x1024, .f32⟩
  | .hbm, ⟨7, _⟩ => ⟨S576x1024, .f32⟩
  | .hbm, ⟨8, _⟩ => ⟨S576x1024, .f32⟩
  | .hbm, ⟨9, _⟩ => ⟨S576x1024, .f32⟩
  | .hbm, ⟨10, _⟩ => ⟨S576x1024, .f32⟩
  | .hbm, ⟨11, _⟩ => ⟨S576x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | _, _ => ⟨S576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S576x1024 : Shape := ⟨2, ![576, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S576x1024, .f32⟩
  | .hbm, ⟨1, _⟩ => ⟨S576x1024, .f32⟩
  | .hbm, ⟨2, _⟩ => ⟨S576x1024, .f32⟩
  | .hbm, ⟨3, _⟩ => ⟨S576x1024, .f32⟩
  | .hbm, ⟨4, _⟩ => ⟨S576x1024, .f32⟩
  | .hbm, ⟨5, _⟩ => ⟨S576x1024, .f32⟩
  | .hbm, ⟨6, _⟩ => ⟨S576x1024, .f32⟩
  | .hbm, ⟨7, _⟩ => ⟨S576x1024, .f32⟩
  | .hbm, ⟨8, _⟩ => ⟨S_, .f32⟩
  | .hbm, ⟨9, _⟩ => ⟨S576x1024, .f32⟩
  | .hbm, ⟨10, _⟩ => ⟨S576x1024, .f32⟩
  | .hbm, ⟨11, _⟩ => ⟨S_, .f32⟩
  | .hbm, ⟨12, _⟩ => ⟨S576x1024, .f32⟩
  | .hbm, ⟨13, _⟩ => ⟨S576x1024, .f32⟩
  | .hbm, ⟨14, _⟩ => ⟨S576x1024, .f32⟩
  | .hbm, ⟨15, _⟩ => ⟨S_, .f32⟩
  | .hbm, ⟨16, _⟩ => ⟨S576x1024, .f32⟩
  | .hbm, ⟨17, _⟩ => ⟨S576x1024, .f32⟩
  | .hbm, ⟨18, _⟩ => ⟨S576x1024, .f32⟩
  | .hbm, ⟨19, _⟩ => ⟨S_, .f32⟩
  | .hbm, ⟨20, _⟩ => ⟨S576x1024, .f32⟩
  | .hbm, ⟨21, _⟩ => ⟨S576x1024, .f32⟩
  | .hbm, ⟨22, _⟩ => ⟨S576x1024, .f32⟩
  | .hbm, ⟨23, _⟩ => ⟨S_, .f32⟩
  | .hbm, ⟨24, _⟩ => ⟨S576x1024, .f32⟩
  | .hbm, ⟨25, _⟩ => ⟨S576x1024, .f32⟩
  | .hbm, ⟨26, _⟩ => ⟨S_, .f32⟩
  | .hbm, ⟨27, _⟩ => ⟨S576x1024, .f32⟩
  | .hbm, ⟨28, _⟩ => ⟨S576x1024, .f32⟩
  | .hbm, ⟨29, _⟩ => ⟨S576x1024, .f32⟩
  | .hbm, ⟨30, _⟩ => ⟨S_, .f32⟩
  | .hbm, ⟨31, _⟩ => ⟨S576x1024, .f32⟩
  | .hbm, ⟨32, _⟩ => ⟨S576x1024, .f32⟩
  | .hbm, ⟨33, _⟩ => ⟨S576x1024, .f32⟩
  | .hbm, ⟨34, _⟩ => ⟨S_, .f32⟩
  | .hbm, ⟨35, _⟩ => ⟨S576x1024, .f32⟩
  | .hbm, ⟨36, _⟩ => ⟨S576x1024, .f32⟩
  | .hbm, ⟨37, _⟩ => ⟨S576x1024, .f32⟩
  | .hbm, ⟨38, _⟩ => ⟨S_, .f32⟩
  | .hbm, ⟨39, _⟩ => ⟨S576x1024, .f32⟩
  | .hbm, ⟨40, _⟩ => ⟨S576x1024, .f32⟩
  | _, _ => ⟨S576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Kernel6.lean ====
abbrev S4224x1024 : Shape := ⟨2, ![4224, 1024]⟩
abbrev S4x1024x3072 : Shape := ⟨3, ![4, 1024, 3072]⟩
abbrev S128x1024 : Shape := ⟨2, ![128, 1024]⟩
abbrev S1x128x1024 : Shape := ⟨3, ![1, 128, 1024]⟩

abbrev nBuf : Space → Nat
  | .hbm => 13
  | .vmem => 18
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4x1024x3072, .f32⟩
  | .hbm, ⟨3, _⟩ => ⟨S4x1024x3072, .f32⟩
  | .hbm, ⟨4, _⟩ => ⟨S4x1024x3072, .f32⟩
  | .hbm, ⟨5, _⟩ => ⟨S4x1024x3072, .f32⟩
  | .hbm, ⟨6, _⟩ => ⟨S4x1024x3072, .f32⟩
  | .hbm, ⟨7, _⟩ => ⟨S4x1024x3072, .f32⟩
  | .hbm, ⟨8, _⟩ => ⟨S4x1024x3072, .f32⟩
  | .hbm, ⟨9, _⟩ => ⟨S4x1024x3072, .f32⟩
  | .hbm, ⟨10, _⟩ => ⟨S4x1024x3072, .f32⟩
  | .hbm, ⟨11, _⟩ => ⟨S4x1024x3072, .f32⟩
  | .hbm, ⟨12, _⟩ => ⟨S4x1024x3072, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S4224x1024 : Shape := ⟨2, ![4224, 1024]⟩
abbrev S4x1024x3072 : Shape := ⟨3, ![4, 1024, 3072]⟩
abbrev S3072x1024 : Shape := ⟨2, ![3072, 1024]⟩
abbrev S3x1024x1024 : Shape := ⟨3, ![3, 1024, 1024]⟩
abbrev S1024x3x1024 : Shape := ⟨3, ![1024, 3, 1024]⟩
abbrev S1024x3072 : Shape := ⟨2, ![1024, 3072]⟩
abbrev S1x1024x3072 : Shape := ⟨3, ![1, 1024, 3072]⟩
abbrev S_ : Shape := ⟨0, ![]⟩
abbrev S3x1024x3072 : Shape := ⟨3, ![3, 1024, 3072]⟩

abbrev nBuf : Space → Nat
  | .hbm => 67
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4x1024x3072, .f32⟩
  | .hbm, ⟨3, _⟩ => ⟨S4x1024x3072, .f32⟩
  | .hbm, ⟨4, _⟩ => ⟨S4x1024x3072, .f32⟩
  | .hbm, ⟨5, _⟩ => ⟨S4x1024x3072, .f32⟩
  | .hbm, ⟨6, _⟩ => ⟨S4x1024x3072, .f32⟩
  | .hbm, ⟨7, _⟩ => ⟨S4x1024x3072, .f32⟩
  | .hbm, ⟨8, _⟩ => ⟨S4x1024x3072, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S3072x1024, .f32⟩
  | .hbm, ⟨13, _⟩ => ⟨S3x1024x1024, .f32⟩
  | .hbm, ⟨14, _⟩ => ⟨S1024x3x1024, .f32⟩
  | .hbm, ⟨15, _⟩ => ⟨S1024x3072, .f32⟩
  | .hbm, ⟨16, _⟩ => ⟨S1x1024x3072, .f32⟩
  | .hbm, ⟨17, _⟩ => ⟨S1024x3072, .f32⟩
  | .hbm, ⟨18, _⟩ => ⟨S1x1024x3072, .f32⟩
  | .hbm, ⟨19, _⟩ => ⟨S1024x3072, .f32⟩
  | .hbm, ⟨20, _⟩ => ⟨S1x1024x3072, .f32⟩
  | .hbm, ⟨21, _⟩ => ⟨S1024x3072, .f32⟩
  | .hbm, ⟨22, _⟩ => ⟨S_, .f32⟩
  | .hbm, ⟨23, _⟩ => ⟨S1024x3072, .f32⟩
  | .hbm, ⟨24, _⟩ => ⟨S1024x3072, .f32⟩
  | .hbm, ⟨25, _⟩ => ⟨S_, .f32⟩
  | .hbm, ⟨26, _⟩ => ⟨S1024x3072, .f32⟩
  | .hbm, ⟨27, _⟩ => ⟨S1024x3072, .f32⟩
  | .hbm, ⟨28, _⟩ => ⟨S1024x3072, .f32⟩
  | .hbm, ⟨29, _⟩ => ⟨S_, .f32⟩
  | .hbm, ⟨30, _⟩ => ⟨S1024x3072, .f32⟩
  | .hbm, ⟨31, _⟩ => ⟨S1024x3072, .f32⟩
  | .hbm, ⟨32, _⟩ => ⟨S1024x3072, .f32⟩
  | .hbm, ⟨33, _⟩ => ⟨S_, .f32⟩
  | .hbm, ⟨34, _⟩ => ⟨S1024x3072, .f32⟩
  | .hbm, ⟨35, _⟩ => ⟨S1024x3072, .f32⟩
  | .hbm, ⟨36, _⟩ => ⟨S1024x3072, .f32⟩
  | .hbm, ⟨37, _⟩ => ⟨S_, .f32⟩
  | .hbm, ⟨38, _⟩ => ⟨S1024x3072, .f32⟩
  | .hbm, ⟨39, _⟩ => ⟨S1024x3072, .f32⟩
  | .hbm, ⟨40, _⟩ => ⟨S_, .f32⟩
  | .hbm, ⟨41, _⟩ => ⟨S1024x3072, .f32⟩
  | .hbm, ⟨42, _⟩ => ⟨S1024x3072, .f32⟩
  | .hbm, ⟨43, _⟩ => ⟨S1024x3072, .f32⟩
  | .hbm, ⟨44, _⟩ => ⟨S_, .f32⟩
  | .hbm, ⟨45, _⟩ => ⟨S1024x3072, .f32⟩
  | .hbm, ⟨46, _⟩ => ⟨S1024x3072, .f32⟩
  | .hbm, ⟨47, _⟩ => ⟨S1024x3072, .f32⟩
  | .hbm, ⟨48, _⟩ => ⟨S_, .f32⟩
  | .hbm, ⟨49, _⟩ => ⟨S1024x3072, .f32⟩
  | .hbm, ⟨50, _⟩ => ⟨S1024x3072, .f32⟩
  | .hbm, ⟨51, _⟩ => ⟨S1024x3072, .f32⟩
  | .hbm, ⟨52, _⟩ => ⟨S_, .f32⟩
  | .hbm, ⟨53, _⟩ => ⟨S1024x3072, .f32⟩
  | .hbm, ⟨54, _⟩ => ⟨S1024x3072, .f32⟩
  | .hbm, ⟨55, _⟩ => ⟨S1x1024x3072, .f32⟩
  | .hbm, ⟨56, _⟩ => ⟨S3x1024x3072, .f32⟩
  | .hbm, ⟨57, _⟩ => ⟨S4x1024x3072, .f32⟩
  | .hbm, ⟨58, _⟩ => ⟨S1x1024x3072, .f32⟩
  | .hbm, ⟨59, _⟩ => ⟨S3x1024x3072, .f32⟩
  | .hbm, ⟨60, _⟩ => ⟨S4x1024x3072, .f32⟩
  | .hbm, ⟨61, _⟩ => ⟨S1x1024x3072, .f32⟩
  | .hbm, ⟨62, _⟩ => ⟨S3x1024x3072, .f32⟩
  | .hbm, ⟨63, _⟩ => ⟨S4x1024x3072, .f32⟩
  | .hbm, ⟨64, _⟩ => ⟨S1x1024x3072, .f32⟩
  | .hbm, ⟨65, _⟩ => ⟨S3x1024x3072, .f32⟩
  | .hbm, ⟨66, _⟩ => ⟨S4x1024x3072, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Kernel7.lean ====
abbrev S4224x1024 : Shape := ⟨2, ![4224, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .local _ .vmem, ⟨0, _⟩ => ⟨S256x1024, .bf16⟩
  | .local _ .vmem, ⟨1, _⟩ => ⟨S256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c12_i32 : BitVec 32 := 12#32
  let c0_i32 : BitVec 32 := 0#32
  let c0_i32_0 : BitVec 32 := 0#32
  ![c12_i32.toNat, c0_i32.toNat]

def cc0_transform_1 (i : grid0.Coords) : Fin 2 → Nat :=
  let arg0 : BitVec 32 := BitVec.ofNat 32 (i 0).val
  let c12_i32 : BitVec 32 := 12#32
  let c0_i32 : BitVec 32 := 0#32
  let c0_i32_0 : BitVec 32 := 0#32
  ![c12_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4224x1024 : Shape := ⟨2, ![4224, 1024]⟩
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩
abbrev S3x256x1024 : Shape := ⟨3, ![3, 256, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S256x1024, .f32⟩
  | .hbm, ⟨13, _⟩ => ⟨S1x256x1024, .f32⟩
  | .hbm, ⟨14, _⟩ => ⟨S256x1024, .f32⟩
  | .hbm, ⟨15, _⟩ => ⟨S1x256x1024, .f32⟩
  | .hbm, ⟨16, _⟩ => ⟨S256x1024, .f32⟩
  | .hbm, ⟨17, _⟩ => ⟨S1x256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S_, .f32⟩
  | .hbm, ⟨50, _⟩ => ⟨S256x1024, .f32⟩
  | .hbm, ⟨51, _⟩ => ⟨S256x1024, .f32⟩
  | .hbm, ⟨52, _⟩ => ⟨S1x256x1024, .f32⟩
  | .hbm, ⟨53, _⟩ => ⟨S3x256x1024, .f32⟩
  | .hbm, ⟨54, _⟩ => ⟨S4x256x1024, .f32⟩
  | .hbm, ⟨55, _⟩ => ⟨S1x256x1024, .f32⟩
  | .hbm, ⟨56, _⟩ => ⟨S3x256x1024, .f32⟩
  | .hbm, ⟨57, _⟩ => ⟨S4x256x1024, .f32⟩
  | .hbm, ⟨58, _⟩ => ⟨S1x256x1024, .f32⟩
  | .hbm, ⟨59, _⟩ => ⟨S3x256x1024, .f32⟩
  | .hbm, ⟨60, _⟩ => ⟨S4x256x1024, .f32⟩
  | .hbm, ⟨61, _⟩ => ⟨S1x256x1024, .f32⟩
  | .hbm, ⟨62, _⟩ => ⟨S3x256x1024, .f32⟩
  | .hbm, ⟨63, _⟩ => ⟨S4x256x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel8.lean ====
abbrev S4224x1024 : Shape := ⟨2, ![4224, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .local _ .vmem, ⟨0, _⟩ => ⟨S256x1024, .bf16⟩
  | .local _ .vmem, ⟨1, _⟩ => ⟨S256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c13_i32 : BitVec 32 := 13#32
  let c0_i32 : BitVec 32 := 0#32
  let c0_i32_0 : BitVec 32 := 0#32
  ![c13_i32.toNat, c0_i32.toNat]

def cc0_transform_1 (i : grid0.Coords) : Fin 2 → Nat :=
  let arg0 : BitVec 32 := BitVec.ofNat 32 (i 0).val
  let c13_i32 : BitVec 32 := 13#32
  let c0_i32 : BitVec 32 := 0#32
  let c0_i32_0 : BitVec 32 := 0#32
  ![c13_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S4224x1024 : Shape := ⟨2, ![4224, 1024]⟩
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩
abbrev S3x256x1024 : Shape := ⟨3, ![3, 256, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S256x1024, .f32⟩
  | .hbm, ⟨13, _⟩ => ⟨S1x256x1024, .f32⟩
  | .hbm, ⟨14, _⟩ => ⟨S256x1024, .f32⟩
  | .hbm, ⟨15, _⟩ => ⟨S1x256x1024, .f32⟩
  | .hbm, ⟨16, _⟩ => ⟨S256x1024, .f32⟩
  | .hbm, ⟨17, _⟩ => ⟨S1x256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S_, .f32⟩
  | .hbm, ⟨50, _⟩ => ⟨S256x1024, .f32⟩
  | .hbm, ⟨51, _⟩ => ⟨S256x1024, .f32⟩
  | .hbm, ⟨52, _⟩ => ⟨S1x256x1024, .f32⟩
  | .hbm, ⟨53, _⟩ => ⟨S3x256x1024, .f32⟩
  | .hbm, ⟨54, _⟩ => ⟨S4x256x1024, .f32⟩
  | .hbm, ⟨55, _⟩ => ⟨S1x256x1024, .f32⟩
  | .hbm, ⟨56, _⟩ => ⟨S3x256x1024, .f32⟩
  | .hbm, ⟨57, _⟩ => ⟨S4x256x1024, .f32⟩
  | .hbm, ⟨58, _⟩ => ⟨S1x256x1024, .f32⟩
  | .hbm, ⟨59, _⟩ => ⟨S3x256x1024, .f32⟩
  | .hbm, ⟨60, _⟩ => ⟨S4x256x1024, .f32⟩
  | .hbm, ⟨61, _⟩ => ⟨S1x256x1024, .f32⟩
  | .hbm, ⟨62, _⟩ => ⟨S3x256x1024, .f32⟩
  | .hbm, ⟨63, _⟩ => ⟨S4x256x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel9.lean ====
abbrev S4224x1024 : Shape := ⟨2, ![4224, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .local _ .vmem, ⟨0, _⟩ => ⟨S256x1024, .bf16⟩
  | .local _ .vmem, ⟨1, _⟩ => ⟨S256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c14_i32 : BitVec 32 := 14#32
  let c0_i32 : BitVec 32 := 0#32
  let c0_i32_0 : BitVec 32 := 0#32
  ![c14_i32.toNat, c0_i32.toNat]

def cc0_transform_1 (i : grid0.Coords) : Fin 2 → Nat :=
  let arg0 : BitVec 32 := BitVec.ofNat 32 (i 0).val
  let c14_i32 : BitVec 32 := 14#32
  let c0_i32 : BitVec 32 := 0#32
  let c0_i32_0 : BitVec 32 := 0#32
  ![c14_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S4224x1024 : Shape := ⟨2, ![4224, 1024]⟩
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩
abbrev S3x256x1024 : Shape := ⟨3, ![3, 256, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S256x1024, .f32⟩
  | .hbm, ⟨13, _⟩ => ⟨S1x256x1024, .f32⟩
  | .hbm, ⟨14, _⟩ => ⟨S256x1024, .f32⟩
  | .hbm, ⟨15, _⟩ => ⟨S1x256x1024, .f32⟩
  | .hbm, ⟨16, _⟩ => ⟨S256x1024, .f32⟩
  | .hbm, ⟨17, _⟩ => ⟨S1x256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S_, .f32⟩
  | .hbm, ⟨50, _⟩ => ⟨S256x1024, .f32⟩
  | .hbm, ⟨51, _⟩ => ⟨S256x1024, .f32⟩
  | .hbm, ⟨52, _⟩ => ⟨S1x256x1024, .f32⟩
  | .hbm, ⟨53, _⟩ => ⟨S3x256x1024, .f32⟩
  | .hbm, ⟨54, _⟩ => ⟨S4x256x1024, .f32⟩
  | .hbm, ⟨55, _⟩ => ⟨S1x256x1024, .f32⟩
  | .hbm, ⟨56, _⟩ => ⟨S3x256x1024, .f32⟩
  | .hbm, ⟨57, _⟩ => ⟨S4x256x1024, .f32⟩
  | .hbm, ⟨58, _⟩ => ⟨S1x256x1024, .f32⟩
  | .hbm, ⟨59, _⟩ => ⟨S3x256x1024, .f32⟩
  | .hbm, ⟨60, _⟩ => ⟨S4x256x1024, .f32⟩
  | .hbm, ⟨61, _⟩ => ⟨S1x256x1024, .f32⟩
  | .hbm, ⟨62, _⟩ => ⟨S3x256x1024, .f32⟩
  | .hbm, ⟨63, _⟩ => ⟨S4x256x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel10.lean ====
abbrev S4224x1024 : Shape := ⟨2, ![4224, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .local _ .vmem, ⟨0, _⟩ => ⟨S256x1024, .bf16⟩
  | .local _ .vmem, ⟨1, _⟩ => ⟨S256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c15_i32 : BitVec 32 := 15#32
  let c0_i32 : BitVec 32 := 0#32
  let c0_i32_0 : BitVec 32 := 0#32
  ![c15_i32.toNat, c0_i32.toNat]

def cc0_transform_1 (i : grid0.Coords) : Fin 2 → Nat :=
  let arg0 : BitVec 32 := BitVec.ofNat 32 (i 0).val
  let c15_i32 : BitVec 32 := 15#32
  let c0_i32 : BitVec 32 := 0#32
  let c0_i32_0 : BitVec 32 := 0#32
  ![c15_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4224x1024 : Shape := ⟨2, ![4224, 1024]⟩
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩
abbrev S3x256x1024 : Shape := ⟨3, ![3, 256, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S256x1024, .f32⟩
  | .hbm, ⟨13, _⟩ => ⟨S1x256x1024, .f32⟩
  | .hbm, ⟨14, _⟩ => ⟨S256x1024, .f32⟩
  | .hbm, ⟨15, _⟩ => ⟨S1x256x1024, .f32⟩
  | .hbm, ⟨16, _⟩ => ⟨S256x1024, .f32⟩
  | .hbm, ⟨17, _⟩ => ⟨S1x256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S_, .f32⟩
  | .hbm, ⟨50, _⟩ => ⟨S256x1024, .f32⟩
  | .hbm, ⟨51, _⟩ => ⟨S256x1024, .f32⟩
  | .hbm, ⟨52, _⟩ => ⟨S1x256x1024, .f32⟩
  | .hbm, ⟨53, _⟩ => ⟨S3x256x1024, .f32⟩
  | .hbm, ⟨54, _⟩ => ⟨S4x256x1024, .f32⟩
  | .hbm, ⟨55, _⟩ => ⟨S1x256x1024, .f32⟩
  | .hbm, ⟨56, _⟩ => ⟨S3x256x1024, .f32⟩
  | .hbm, ⟨57, _⟩ => ⟨S4x256x1024, .f32⟩
  | .hbm, ⟨58, _⟩ => ⟨S1x256x1024, .f32⟩
  | .hbm, ⟨59, _⟩ => ⟨S3x256x1024, .f32⟩
  | .hbm, ⟨60, _⟩ => ⟨S4x256x1024, .f32⟩
  | .hbm, ⟨61, _⟩ => ⟨S1x256x1024, .f32⟩
  | .hbm, ⟨62, _⟩ => ⟨S3x256x1024, .f32⟩
  | .hbm, ⟨63, _⟩ => ⟨S4x256x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Proof.InRuns.lean ====
/-
  The input-gradient call: what its runs are stated over — the region's entry contents and blocks, the body's branch
  conditions in closed form over the 65 points, the idle windows, the memrefs.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, e0]
    word_cmp
   : ∀ t : Fin grid0.N, cond0_0 (grid0.coords t) ↔ t.val % 65 = 0)

abbrev cond0_1 (i : grid0.Coords) : Prop := k0_cond2 i = 1#1
/-- It holds at the even points that are neither the first nor the last — decided over the grid. -/
theorem hcond0_1 : ∀ t : Fin cfg0.N, cond0_1 (grid0.coords t) ↔ (t.val % 2 = 0 ∧ 0 < t.val ∧ t.val < 64) :=
  (by decide +kernel : ∀ t : Fin grid0.N, cond0_1 (grid0.coords t) ↔ (t.val % 2 = 0 ∧ 0 < t.val ∧ t.val < 64))

abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

abbrev cond0_3 (i : grid0.Coords) : Prop := k0_cond4 i = 1#1
/-- It holds at the last point only — by arithmetic of the point. -/
theorem hcond0_3 : ∀ t : Fin cfg0.N, cond0_3 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_3, k0_cond4, e0]
    word_cmp
   : ∀ t : Fin grid0.N, cond0_3 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
abbrev conds0_B (i : grid0.Coords) : Prop := ¬cond0_0 i ∧ ¬cond0_1 i ∧ cond0_2 i ∧ ¬cond0_3 i
instance conds0_B.dec (i : grid0.Coords) : Decidable (conds0_B i) :=
  @instDecidableAnd _ _ inferInstance (@instDecidableAnd _ _ inferInstance (@instDecidableAnd _ _ inferInstance inferInstance))
abbrev conds0_C (i : grid0.Coords) : Prop := ¬cond0_0 i ∧ cond0_1 i ∧ ¬cond0_2 i ∧ ¬cond0_3 i
instance conds0_C.dec (i : grid0.Coords) : Decidable (conds0_C i) :=
  @instDecidableAnd _ _ inferInstance (@instDecidableAnd _ _ inferInstance (@instDecidableAnd _ _ inferInstance inferInstance))
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 4 idle: the case stores nothing into it. -/
theorem idleAt0_4_A : ∀ t : Fin cfg0.N, cond0_0 (grid0.coords t) → ¬cond0_1 (grid0.coords t) → ¬cond0_2 (grid0.coords t) → ¬cond0_3 (grid0.coords t) → cfg0.idle 4 (grid0.coords t) = true :=
  fun t h0 h1 h2 h3 => (by decide +kernel : ∀ t : Fin cfg0.N, conds0_A (grid0.coords t) → cfg0.idle 4 (grid0.coords t) = true) t ⟨h0, h1, h2, h3⟩
/-- At the points of case A the pipeline does not write output 4's block back. -/
theorem noFlush0_4_A : ∀ t : Fin cfg0.N, cond0_0 (grid0.coords t) → ¬cond0_1 (grid0.coords t) → ¬cond0_2 (grid0.coords t) → ¬cond0_3 (grid0.coords t) → (cfg0.win 4).flush t = false :=
  fun t h0 h1 h2 h3 => (by decide +kernel : ∀ t : Fin cfg0.N, conds0_A (grid0.coords t) → (cfg0.win 4).flush t = false) t ⟨h0, h1, h2, h3⟩
/-- At the points of case B the printed configuration (`Cfg.idle`) calls output 4 live: the case stores into it. -/
theorem liveAt0_4_B : ∀ t : Fin cfg0.N, ¬cond0_0 (grid0.coords t) → ¬cond0_1 (grid0.coords t) → cond0_2 (grid0.coords t) → ¬cond0_3 (grid0.coords t) → cfg0.idle 4 (grid0.coords t) = false :=
  fun t h0 h1 h2 h3 => (by decide +kernel : ∀ t : Fin cfg0.N, conds0_B (grid0.coords t) → cfg0.idle 4 (grid0.coords t) = false) t ⟨h0, h1, h2, h3⟩
theorem liveAt0_4_C : ∀ t : Fin cfg0.N, ¬cond0_0 (grid0.coords t) → cond0_1 (grid0.coords t) → ¬cond0_2 (grid0.coords t) → ¬cond0_3 (grid0.coords t) → cfg0.idle 4 (grid0.coords t) = false :=
  fun t h0 h1 h2 h3 => (by decide +kernel : ∀ t : Fin cfg0.N, conds0_C (grid0.coords t) → cfg0.idle 4 (grid0.coords t) = false) t ⟨h0, h1, h2, h3⟩
theorem liveAt0_4_D : ∀ t : Fin cfg0.N, ¬cond0_0 (grid0.coords t) → ¬cond0_1 (grid0.coords t) → ¬cond0_2 (grid0.coords t) → cond0_3 (grid0.coords t) → cfg0.idle 4 (grid0.coords t) = false :=
  fun t h0 h1 h2 h3 => (by decide +kernel : ∀ t : Fin cfg0.N, conds0_D (grid0.coords t) → cfg0.idle 4 (grid0.coords t) = false) t ⟨h0, h1, h2, h3⟩
theorem idleAt0_5_A : ∀ t : Fin cfg0.N, cond0_0 (grid0.coords t) → ¬cond0_1 (grid0.coords t) → ¬cond0_2 (grid0.coords t) → ¬cond0_3 (grid0.coords t) → cfg0.idle 5 (grid0.coords t) = true :=
  fun t h0 h1 h2 h3 => (by decide +kernel : ∀ t : Fin cfg0.N, conds0_A (grid0.coords t) → cfg0.idle 5 (grid0.coords t) = true) t ⟨h0, h1, h2, h3⟩
theorem noFlush0_5_A : ∀ t : Fin cfg0.N, cond0_0 (grid0.coords t) → ¬cond0_1 (grid0.coords t) → ¬cond0_2 (grid0.coords t) → ¬cond0_3 (grid0.coords t) → (cfg0.win 5).flush t = false :=
  fun t h0 h1 h2 h3 => (by decide +kernel : ∀ t : Fin cfg0.N, conds0_A (grid0.coords t) → (cfg0.win 5).flush t = false) t ⟨h0, h1, h2, h3⟩
theorem idleAt0_5_B : ∀ t : Fin cfg0.N, ¬cond0_0 (grid0.coords t) → ¬cond0_1 (grid0.coords t) → cond0_2 (grid0.coords t) → ¬cond0_3 (grid0.coords t) → cfg0.idle 5 (grid0.coords t) = true :=
  fun t h0 h1 h2 h3 => (by decide +kernel : ∀ t : Fin cfg0.N, conds0_B (grid0.coords t) → cfg0.idle 5 (grid0.coords t) = true) t ⟨h0, h1, h2, h3⟩
theorem noFlush0_5_B : ∀ t : Fin cfg0.N, ¬cond0_0 (grid0.coords t) → ¬cond0_1 (grid0.coords t) → cond0_2 (grid0.coords t) → ¬cond0_3 (grid0.coords t) → (cfg0.win 5).flush t = false :=
  fun t h0 h1 h2 h3 => (by decide +kernel : ∀ t : Fin cfg0.N, conds0_B (grid0.coords t) → (cfg0.win 5).flush t = false) t ⟨h0, h1, h2, h3⟩
theorem idleAt0_5_C : ∀ t : Fin cfg0.N, ¬cond0_0 (grid0.coords t) → cond0_1 (grid0.coords t) → ¬cond0_2 (grid0.coords t) → ¬cond0_3 (grid0.coords t) → cfg0.idle 5 (grid0.coords t) = true :=
  fun t h0 h1 h2 h3 => (by decide +kernel : ∀ t : Fin cfg0.N, conds0_C (grid0.coords t) → cfg0.idle 5 (grid0.coords t) = true) t ⟨h0, h1, h2, h3⟩
theorem noFlush0_5_C : ∀ t : Fin cfg0.N, ¬cond0_0 (grid0.coords t) → cond0_1 (grid0.coords t) → ¬cond0_2 (grid0.coords t) → ¬cond0_3 (grid0.coords t) → (cfg0.win 5).flush t = false :=
  fun t h0 h1 h2 h3 => (by decide +kernel : ∀ t : Fin cfg0.N, conds0_C (grid0.coords t) → (cfg0.win 5).flush t = false) t ⟨h0, h1, h2, h3⟩
theorem liveAt0_5_D : ∀ t : Fin cfg0.N, ¬cond0_0 (grid0.coords t) → ¬cond0_1 (grid0.coords t) → ¬cond0_2 (grid0.coords t) → cond0_3 (grid0.coords t) → cfg0.idle 5 (grid0.coords t) = false :=
  fun t h0 h1 h2 h3 => (by decide +kernel : ∀ t : Fin cfg0.N, conds0_D (grid0.coords t) → cfg0.idle 5 (grid0.coords t) = false) t ⟨h0, h1, h2, h3⟩

/-! ## The kernel body on any staging memrefs: a subtype the run finds -/

/-- Each window's current staging memref at point `t`, spelled as the pipeline passes it (`bodyAt0`), and its wholeness. -/
abbrev ms0_0 (t : Fin cfg0.N) : Memref sig .tc .vmem S12x256x1024 .bf16 := win0_0.stage (cfg0.slots t 0)
abbrev ms0_1 (t : Fin cfg0.N) : Memref sig .tc .vmem S256x1024 .f32 := win0_1.stage (cfg0.slots t 1)
abbrev ms0_2 (t : Fin cfg0.N) : Memref sig .tc .vmem S256x1024 .f32 := win0_2.stage (cfg0.slots t 2)
abbrev ms0_3 (t : Fin cfg0.N) : Memref sig .tc .vmem S1x1024 .f32 := win0_3.stage (cfg0.slots t 3)
abbrev ms0_4 (t : Fin cfg0.N) : Memref sig .tc .vmem S256x1024 .f32 := win0_4.stage (cfg0.slots t 4)
abbrev ms0_5 (t : Fin cfg0.N) : Memref sig .tc .vmem S1x1024 .f32 := win0_5.stage (cfg0.slots t 5)
/-- The scratch operands: whole scoped buffers of the kernel's own, passed beside the windows. -/
abbrev scM0_0 : Memref sig .tc .vmem S4x3072x1024 .bf16 := Memref.whole cc0_scratch0
abbrev scM0_1 : Memref sig .tc .vmem S256x1024 .f32 := Memref.whole cc0_scratch1
abbrev scM0_2 : Memref sig .tc .vmem S256x1024 .f32 := Memref.whole cc0_scratch2
abbrev scM0_3 : Memref sig .tc .vmem S16x1024 .f32 := Memref.whole cc0_scratch3
/-- The operands left in HBM that the body copies into scratch itself, whole. -/
abbrev hbM0_0 : Memref sig .tc .hbm S4x4224x1024 .bf16 := Memref.whole main_arg1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 10, SemLoc.dma 11, SemLoc.dma 12, SemLoc.dma 13] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg1}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg1))) := by
  rw [Pipeline.ΦD_eq, scopedRest0_eq, ownSems00_eq, hbmPts0_eq]; simp only [scM0_0, scM0_1, scM0_2, scM0_3, owns_whole]; try rfl

end Cert.KernelIdeal.Hand

end
-- ==== Proof.InVals.lean ====
/-
  The input-gradient call: the values its body computes, written as functions of what it loads — a tile's product of
  the input cotangents with the weights, and the row-chunk arithmetic of the norm's backward — with the piece lists its
  stores leave.
-/
module

public import proofs.«01_k».proof.Proof.InRuns

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The rectangles -/

/-- Rows `16 n …` and half `h` of the columns of a tile. -/
abbrev RX (n h : ℕ) : Rect S256x1024 := Rect.unit (s := S256x1024) ![16 * (n % 16), 512 * (h % 2)] S16x512.size (by
  intro a; have := Nat.mod_lt n (show 16 > 0 by decide); have := Nat.mod_lt h (show 2 > 0 by decide)
  match a with
  | 0 => show 16 * (n % 16) + 16 ≤ 256; omega
  | 1 => show 512 * (h % 2) + 512 ≤ 1024; omega)
/-- Half `h` of the columns of the sixteen partial sums. -/
abbrev RG (h : ℕ) : Rect S16x1024 := Rect.unit (s := S16x1024) ![0, 512 * (h % 2)] S16x512.size (by
  intro a; have := Nat.mod_lt h (show 2 > 0 by decide)
  match a with
  | 0 => show 0 + 16 ≤ 16; omega
  | 1 => show 512 * (h % 2) + 512 ≤ 1024; omega)
/-- Half `h` of the columns of the gain. -/
abbrev RN (h : ℕ) : Rect S1x1024 := Rect.unit (s := S1x1024) ![0, 512 * (h % 2)] S1x512.size (by
  intro a; have := Nat.mod_lt h (show 2 > 0 by decide)
  match a with
  | 0 => show 0 + 1 ≤ 1; omega
  | 1 => show 512 * (h % 2) + 512 ≤ 1024; omega)
/-- Slab `k` of the cotangents' block. -/
abbrev RA (k : ℕ) : Rect S12x256x1024 := Rect.unit (s := S12x256x1024) ![k % 12, 0, 0] S1x256x1024.size (by
  intro a; have := Nat.mod_lt k (show 12 > 0 by decide)
  match a with
  | 0 => show k % 12 + 1 ≤ 12; omega
  | 1 => show 0 + 256 ≤ 256; omega
  | 2 => show 0 + 1024 ≤ 1024; omega)
/-- The weight slab that meets slab `k` of the cotangents. -/
abbrev RB (k : ℕ) : Rect S4x3072x1024 := Rect.unit (s := S4x3072x1024) ![k / 3 % 4, 1024 * (k % 3), 0] S1x1024x1024.size (by
  intro a; have := Nat.mod_lt (k / 3) (show 4 > 0 by decide); have := Nat.mod_lt k (show 3 > 0 by decide)
  match a with
  | 0 => show k / 3 % 4 + 1 ≤ 4; omega
  | 1 => show 1024 * (k % 3) + 1024 ≤ 3072; omega
  | 2 => show 0 + 1024 ≤ 1024; omega)

/-! ## The product -/

/-- The first `n` of the twelve products, summed from zero. -/
def dHn (a : ℕ → Vec F S1x256x1024 .bf16) (b : ℕ → Vec F S1x1024x1024 .bf16) (n : ℕ) : FVec F S256x1024 .f32 :=
  Nat.rec (broadcast S256x1024 (Scalar.ofBits .f32 0x00000000#32))
    (fun k acc => addf acc (matmul dot_S256x1024_S1024x1024_S256x1024_1_1_0_0_n_n none
      (shapeCast S256x1024 (a k) shapeCasts_S1x256x1024_S256x1024 : FVec F S256x1024 .bf16)
      (shapeCast S1024x1024 (b k) shapeCasts_S1x1024x1024_S1024x1024 : FVec F S1024x1024 .bf16)
      (constant S256x1024 .f32 0x00000000#32 : FVec F S256x1024 .f32))) n

/-- All twelve, as the body stores them. -/
def dHp (a : ℕ → Vec F S1x256x1024 .bf16) (b : ℕ → Vec F S1x1024x1024 .bf16) : Vec F S256x1024 .f32 :=
  shapeCast S256x1024 (dHn a b 12) shapeCasts_S256x1024_S256x1024

/-! ## The norm's backward on sixteen rows -/

/-- The sum of a half's squares or products over its columns, as a column. -/
def sumc (X : FVec F S16x512 .f32) : FVec F S16x1 .f32 :=
  shapeCast S16x1 (multiReduction .add [1] S16 X 0x00000000#32 reduces_S16x512_S16 (.inl rfl) rfl : FVec F S16 .f32) shapeCasts_S16_S16x1
/-- The mean over both halves, before the division: `(0 + sum of the first) + sum of the second`. -/
def sum2 (X Y : FVec F S16x512 .f32) : FVec F S16x1 .f32 :=
  addf (addf (broadcast S16x1 (Scalar.ofBits .f32 0x00000000#32)) (sumc X)) (sumc Y)
/-- The reciprocal root of the mean square. -/
def rr (X0 X1 : Vec F S16x512 .f32) : FVec F S16x1 .f32 :=
  rsqrt (addf (mulf (sum2 (mulf X0 X0) (mulf X1 X1)) (broadcast S16x1 (Scalar.ofBits .f32 0x3A800000#32))) (broadcast S16x1 (Scalar.ofBits .f32 0x358637BD#32)))
/-- The normalised rows. -/
def xh (X : Vec F S16x512 .f32) (r : FVec F S16x1 .f32) : FVec F S16x512 .f32 :=
  mulf X (broadcastTo S16x512 r broadcasts_S16x1_S16x512)
/-- The partial sums after these rows. -/
def gP (G P X : Vec F S16x512 .f32) (r : FVec F S16x1 .f32) : FVec F S16x512 .f32 :=
  shapeCast S16x512 (addf G (mulf P (xh X r))) shapeCasts_S16x512_S16x512
/-- The cotangent times the gain. -/
def dg (P : Vec F S16x512 .f32) (N : Vec F S1x512 .f32) : FVec F S16x512 .f32 :=
  mulf P (broadcastTo S16x512 N broadcasts_S1x512_S16x512)
/-- The rows' mean of it against the normalised rows. -/
def mm (P0 P1 X0 X1 : Vec F S16x512 .f32) (N0 N1 : Vec F S1x512 .f32) : FVec F S16x1 .f32 :=
  mulf (sum2 (mulf (dg P0 N0) (xh X0 (rr X0 X1))) (mulf (dg P1 N1) (xh X1 (rr X0 X1)))) (broadcast S16x1 (Scalar.ofBits .f32 0x3A800000#32))
/-- A half of the rows' gradient. -/
def dxP (D P X : Vec F S16x512 .f32) (N : Vec F S1x512 .f32) (r mu : FVec F S16x1 .f32) : FVec F S16x512 .f32 :=
  addf D (mulf (broadcastTo S16x512 r broadcasts_S16x1_S16x512)
    (subf (dg P N) (mulf (xh X r) (broadcastTo S16x512 mu broadcasts_S16x1_S16x512))))

/-! ## The piece lists -/

/-- The pieces of the gradient's block after `n` chunks. -/
def dxL (D P X : ℕ → ℕ → Vec F S16x512 .f32) (N : ℕ → Vec F S1x512 .f32) (n : ℕ) : List (View.Piece (Elt F) S256x1024 .f32) :=
  Nat.rec [] (fun k L =>
    ⟨RX k 1, dxP (D k 1) (P k 1) (X k 1) (N 1) (rr (X k 0) (X k 1)) (mm (P k 0) (P k 1) (X k 0) (X k 1) (N 0) (N 1))⟩
    :: ⟨RX k 0, dxP (D k 0) (P k 0) (X k 0) (N 0) (rr (X k 0) (X k 1)) (mm (P k 0) (P k 1) (X k 0) (X k 1) (N 0) (N 1))⟩ :: L) n

/-- The pieces of the partial sums after `n + 1` chunks, from what they held before (`G`). -/
def gL (v : View sig .tc .vmem S16x1024 .f32) (G : ℕ → Vec F S16x512 .f32) (P X : ℕ → ℕ → Vec F S16x512 .f32) (n : ℕ) :
    List (View.Piece (Elt F) S16x1024 .f32) :=
  Nat.rec [⟨RG 1, gP (G 1) (P 0 1) (X 0 1) (rr (X 0 0) (X 0 1))⟩, ⟨RG 0, gP (G 0) (P 0 0) (X 0 0) (rr (X 0 0) (X 0 1))⟩]
    (fun k L => (fun L1 : List (View.Piece (Elt F) S16x1024 .f32) =>
        ⟨RG 1, gP (v.readCov L1 (RG 1).toLoadRect) (P (k + 1) 1) (X (k + 1) 1) (rr (X (k + 1) 0) (X (k + 1) 1))⟩ :: L1)
      (⟨RG 0, gP (v.readCov L (RG 0).toLoadRect) (P (k + 1) 0) (X (k + 1) 0) (rr (X (k + 1) 0) (X (k + 1) 1))⟩ :: L)) n

/-! ## Loads through a memref -/

/-- Load a half of sixteen rows of a tile. -/
abbrev lX (M : Memref sig .tc .vmem S256x1024 .f32) (h : M.IsWhole) (x : Vec F S256x1024 .f32) (n k : ℕ) : Vec F S16x512 .f32 :=
  View.readAt (Elt F) M.view (RX n k).toLoadRect (h.unread x)
/-- Load a half of the gain. -/
abbrev lN (M : Memref sig .tc .vmem S1x1024 .f32) (h : M.IsWhole) (x : Vec F S1x1024 .f32) (k : ℕ) : Vec F S1x512 .f32 :=
  View.readAt (Elt F) M.view (RN k).toLoadRect (h.unread x)
/-- Load a half of the partial sums. -/
abbrev lG (M : Memref sig .tc .vmem S16x1024 .f32) (h : M.IsWhole) (x : Vec F S16x1024 .f32) (k : ℕ) : Vec F S16x512 .f32 :=
  View.readAt (Elt F) M.view (RG k).toLoadRect (h.unread x)
/-- Load a slab of the cotangents' block. -/
abbrev lA (M : Memref sig .tc .vmem S12x256x1024 .bf16) (h : M.IsWhole) (x : Vec F S12x256x1024 .bf16) (k : ℕ) : Vec F S1x256x1024 .bf16 :=
  View.readAt (Elt F) M.view (RA k).toLoadRect (h.unread x)
/-- Load a slab of the weights from the scratch at contents `f`. -/
abbrev lB (M : Memref sig .tc .vmem S4x3072x1024 .bf16) (f : M.view.ty.Contents (Elt F)) (k : ℕ) : Vec F S1x1024x1024 .bf16 :=
  View.readAt (Elt F) M.view (RB k).toLoadRect f

end Cert.KernelIdeal.Hand

end
-- ==== Proof.InRunA.lean ====
/-
  The input-gradient call: its body run in case A.
-/
module

public import proofs.«01_k».proof.Proof.InRuns
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run in case A: the pieces its stores leave in each buffer, with the triple. -/
def kernelRun0_A (c : Dev nD) (i : grid0.Coords) (arg1 : Memref sig .tc .vmem S12x256x1024 .bf16) (harg1 : arg1.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S4x3072x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S16x1024 .f32) (harg11 : arg11.IsWhole) (hc0 : cond0_0 i) (hc1 : ¬cond0_1 i) (hc2 : ¬cond0_2 i) (hc3 : ¬cond0_3 i)
    (x0 : Vec F S12x256x1024 .bf16) (x1 : Vec F S256x1024 .f32) (x2 : Vec F S256x1024 .f32) (x3 : Vec F S1x1024 .f32) (xs0 : Vec F S4x3072x1024 .bf16) (fh0 : HbBuf0 (F := F) c hbM0_0) :
    Σ' (L4 : List (View.Piece (Elt F) S256x1024 .f32)), Σ' (L5 : List (View.Piece (Elt F) S1x1024 .f32)), Σ' (G8 : arg8.view.ty.Contents (Elt F)), Σ' (LS1 : List (View.Piece (Elt F) S256x1024 .f32)), { LS3 : List (View.Piece (Elt F) S16x1024 .f32) //
      ∀ (xi4 : Vec F S256x1024 .f32) (xi5 : Vec F S1x1024 .f32) (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (arg8.view.loc (c : Thread nD τ) ↦[arg8.view.set]{fullShare} G8) ∗ (∃ f, arg9.view.loc (c : Thread nD τ) ↦[arg9.view.set]{fullShare} arg9.view.writes (Elt F) f LS1) ∗ (∃ d, owns (c : Thread nD τ) arg10 fullShare d) ∗ (∃ f, arg11.view.loc (c : Thread nD τ) ↦[arg11.view.set]{fullShare} arg11.view.writes (Elt F) f LS3) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ (∃ W', owes (c : Thread nD τ) 0 W')) -∗ K ⟨⟩))
          ⊢ wp frame (wpE (defs₀ (F := F)) Variants.none c none) Set.univ (cc0_bwd_in i arg1 harg1 (Memref.whole main_arg1) (Memref.isWhole_whole _) arg3 harg3 arg4 harg4 arg5 harg5 arg6 harg6 arg7 harg7 arg8 harg8 arg9 harg9 arg10 harg10 arg11 harg11 cc0_scratch4) K } := by
  refine ⟨[], [], ?_, ?_, ?_, fun xi4 xi5 W K => ?run⟩
  case run =>
    simp only [cc0_bwd_in_eq_skeleton]; unfold cc0_bwd_in_skel
    simp only [k0_part98_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, %hs2, HS2⟩, ⟨%ds3, %fs3, -, HS3⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    set_option sl_exec.dmaWindow true in
    set_option sl_exec.dmaWindowSet true in
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexact HS0
    isplitl [HS1]; · iexists _; iexact HS1
    isplitl [HS2]
    · iexists ds2; iexists fs2; isplitr; · ipureintro; exact hs2
      iexact HS2
    isplitl [HS3]; · iexists _; iexact HS3
    isplitl [Hq0]; · iexact Hq0
    isplitl [Hq1]; · iexact Hq1
    isplitl [Hq2]; · iexact Hq2
    isplitl [Hq3]; · iexact Hq3
    isplitl [Hh0]; · iexact Hh0
    iexists _; iexact HW

end Cert.KernelIdeal.Hand

end
-- ==== Proof.InEqA.lean ====
/-
  The input-gradient call: what the first point leaves — the weights copied slab by slab, the first tile's product, the
  partial sums at zero.
-/
module

public import proofs.«01_k».proof.Proof.InVals
public import proofs.«01_k».proof.Proof.InRunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- Slab `j` of the weight scratch. -/
abbrev R8 (j : ℕ) : Rect S4x3072x1024 := Rect.unit (s := S4x3072x1024) ![j % 4, 0, 0] S1x3072x1024.size (by
  intro a; have := Nat.mod_lt j (show 4 > 0 by decide)
  match a with
  | 0 => show j % 4 + 1 ≤ 4; omega
  | 1 => show 0 + 3072 ≤ 3072; omega
  | 2 => show 0 + 1024 ≤ 1024; omega)
/-- Its rows in the packed weights. -/
abbrev R2 (j : ℕ) : Rect S4x4224x1024 := Rect.unit (s := S4x4224x1024) ![j % 4, 0, 0] S1x3072x1024.size (by
  intro a; have := Nat.mod_lt j (show 4 > 0 by decide)
  match a with
  | 0 => show j % 4 + 1 ≤ 4; omega
  | 1 => show 0 + 3072 ≤ 4224; omega
  | 2 => show 0 + 1024 ≤ 1024; omega)

/-- One copy into a squeezed slab is the slab's piece. -/
theorem slabWrite (M : Memref sig .tc .vmem S4x3072x1024 .bf16) (c : Dev nD) (fh0 : HbBuf0 (F := F) c hbM0_0)
    (f : M.view.ty.Contents (Elt F)) (j : ℕ) (h1) (h2) :
    View.write (Elt F) ((M.slice (R8 j) h1).squeeze S3072x1024 squeezes_S1x3072x1024_S3072x1024).view f
      (ReadAs.same.apply (View.read (Elt F) ((hbM0_0.slice (R2 j) h2).squeeze S3072x1024 squeezes_S1x3072x1024_S3072x1024).view fh0)) Finset.univ
      = (M.view.slice (R8 j)).write (Elt F) f (View.readAt (Elt F) hbM0_0.view (R2 j).toLoadRect fh0) Finset.univ := by
  refine (View.write_reshape_univ (M.view.slice (R8 j)) squeezes_S1x3072x1024_S3072x1024.numel_eq f _).trans ?_
  congr 1
  funext x
  show View.read (Elt F) hbM0_0.view fh0 ((R2 j).emb ((Shape.reshapeEquiv _) ((Shape.reshapeEquiv _).symm x))) = _
  rw [Equiv.apply_symm_apply]
  rfl

/-- The pieces the first `n` copies leave. -/
def wL (c : Dev nD) (fh0 : HbBuf0 (F := F) c hbM0_0) (n : ℕ) : List (View.Piece (Elt F) S4x3072x1024 .bf16) :=
  Nat.rec [] (fun j L => ⟨R8 j, View.readAt (Elt F) hbM0_0.view (R2 j).toLoadRect fh0⟩ :: L) n

variable (c : Dev nD) (i : grid0.Coords) (arg1 : Memref sig .tc .vmem S12x256x1024 .bf16) (harg1 : arg1.IsWhole)
  (arg3 : Memref sig .tc .vmem S256x1024 .f32) (harg3 : arg3.IsWhole) (arg4 : Memref sig .tc .vmem S256x1024 .f32) (harg4 : arg4.IsWhole)
  (arg5 : Memref sig .tc .vmem S1x1024 .f32) (harg5 : arg5.IsWhole) (arg6 : Memref sig .tc .vmem S256x1024 .f32) (harg6 : arg6.IsWhole)
  (arg7 : Memref sig .tc .vmem S1x1024 .f32) (harg7 : arg7.IsWhole) (arg8 : Memref sig .tc .vmem S4x3072x1024 .bf16) (harg8 : arg8.IsWhole)
  (arg9 : Memref sig .tc .vmem S256x1024 .f32) (harg9 : arg9.IsWhole) (arg10 : Memref sig .tc .vmem S256x1024 .f32) (harg10 : arg10.IsWhole)
  (arg11 : Memref sig .tc .vmem S16x1024 .f32) (harg11 : arg11.IsWhole)
  (x0 : Vec F S12x256x1024 .bf16) (x1 : Vec F S256x1024 .f32) (x2 : Vec F S256x1024 .f32) (x3 : Vec F S1x1024 .f32)
  (xs0 : Vec F S4x3072x1024 .bf16) (fh0 : HbBuf0 (F := F) c hbM0_0)
  (hc0 : cond0_0 i) (hc1 : ¬cond0_1 i) (hc2 : ¬cond0_2 i) (hc3 : ¬cond0_3 i)

theorem runA_w : (kernelRun0_A c i arg1 harg1 arg3 harg3 arg4 harg4 arg5 harg5 arg6 harg6 arg7 harg7 arg8 harg8 arg9 harg9 arg10 harg10 arg11 harg11 hc0 hc1 hc2 hc3 x0 x1 x2 x3 xs0 fh0).2.2.1
    = arg8.view.writes (Elt F) (harg8.unread xs0) (wL c fh0 4) := by
  refine (slabWrite arg8 c fh0 _ 3 (fun _ => rfl) (fun _ => rfl)).trans ?_
  refine congrArg (fun f => (arg8.view.slice (R8 3)).write (Elt F) f _ Finset.univ) ?_
  refine (slabWrite arg8 c fh0 _ 2 (fun _ => rfl) (fun _ => rfl)).trans ?_
  refine congrArg (fun f => (arg8.view.slice (R8 2)).write (Elt F) f _ Finset.univ) ?_
  refine (slabWrite arg8 c fh0 _ 1 (fun _ => rfl) (fun _ => rfl)).trans ?_
  refine congrArg (fun f => (arg8.view.slice (R8 1)).write (Elt F) f _ Finset.univ) ?_
  exact slabWrite arg8 c fh0 _ 0 (fun _ => rfl) (fun _ => rfl)

theorem runA_h : (kernelRun0_A c i arg1 harg1 arg3 harg3 arg4 harg4 arg5 harg5 arg6 harg6 arg7 harg7 arg8 harg8 arg9 harg9 arg10 harg10 arg11 harg11 hc0 hc1 hc2 hc3 x0 x1 x2 x3 xs0 fh0).2.2.2.1
    = [⟨Rect.unit ![0, 0] S256x1024.size inb_S256x1024_S256x1024_0_0, dHp (lA arg1 harg1 x0)
        (lB arg8 (kernelRun0_A c i arg1 harg1 arg3 harg3 arg4 harg4 arg5 harg5 arg6 harg6 arg7 harg7 arg8 harg8 arg9 harg9 arg10 harg10 arg11 harg11 hc0 hc1 hc2 hc3 x0 x1 x2 x3 xs0 fh0).2.2.1)⟩] := by sl_kernel_rfl

theorem runA_g : (kernelRun0_A c i arg1 harg1 arg3 harg3 arg4 harg4 arg5 harg5 arg6 harg6 arg7 harg7 arg8 harg8 arg9 harg9 arg10 harg10 arg11 harg11 hc0 hc1 hc2 hc3 x0 x1 x2 x3 xs0 fh0).2.2.2.2.1
    = [⟨Rect.unit ![0, 0] S16x1024.size inb_S16x1024_S16x1024_0_0, shapeCast S16x1024 (k0_pay3 : FVec F S16x1024 .f32) shapeCasts_S16x1024_S16x1024⟩] := by sl_kernel_rfl

end Cert.KernelIdeal.Hand

end
-- ==== Proof.InRunB.lean ====
/-
  The input-gradient call: its body run in case B.
-/
module

public import proofs.«01_k».proof.Proof.InRuns
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2120000 in
/-- The body run in case B: the pieces its stores leave in each buffer, with the triple. -/
def kernelRun0_B (c : Dev nD) (i : grid0.Coords) (arg1 : Memref sig .tc .vmem S12x256x1024 .bf16) (harg1 : arg1.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S4x3072x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S16x1024 .f32) (harg11 : arg11.IsWhole) (hc0 : ¬cond0_0 i) (hc1 : ¬cond0_1 i) (hc2 : cond0_2 i) (hc3 : ¬cond0_3 i)
    (x0 : Vec F S12x256x1024 .bf16) (x1 : Vec F S256x1024 .f32) (x2 : Vec F S256x1024 .f32) (x3 : Vec F S1x1024 .f32) (xs0 : Vec F S4x3072x1024 .bf16) (xs1 : Vec F S256x1024 .f32) (xs3 : Vec F S16x1024 .f32) (fh0 : HbBuf0 (F := F) c hbM0_0) :
    Σ' (L4 : List (View.Piece (Elt F) S256x1024 .f32)), Σ' (L5 : List (View.Piece (Elt F) S1x1024 .f32)), Σ' (LS0 : List (View.Piece (Elt F) S4x3072x1024 .bf16)), Σ' (LS1 : List (View.Piece (Elt F) S256x1024 .f32)), Σ' (LS2 : List (View.Piece (Elt F) S256x1024 .f32)), { LS3 : List (View.Piece (Elt F) S16x1024 .f32) //
      ∀ (xi5 : Vec F S1x1024 .f32) (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0 ∗ owns (c : Thread nD τ) arg9 fullShare xs1 ∗ (∃ d, owns (c : Thread nD τ) arg10 fullShare d) ∗ owns (c : Thread nD τ) arg11 fullShare xs3 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xs0 ∗ owns (c : Thread nD τ) arg9 fullShare xs1 ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ (∃ W', owes (c : Thread nD τ) 0 W')) -∗ K ⟨⟩))
          ⊢ wp frame (wpE (defs₀ (F := F)) Variants.none c none) Set.univ (cc0_bwd_in i arg1 harg1 (Memref.whole main_arg1) (Memref.isWhole_whole _) arg3 harg3 arg4 harg4 arg5 harg5 arg6 harg6 arg7 harg7 arg8 harg8 arg9 harg9 arg10 harg10 arg11 harg11 cc0_scratch4) K } := by
  refine ⟨?_, [], [], [], ?_, ?_, fun xi5 W K => ?run⟩
  case run =>
    simp only [cc0_bwd_in_eq_skeleton]; unfold cc0_bwd_in_skel
    simp only [k0_part98_eq_skeleton, k0_part68_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, ⟨%ds2, %fs2, -, HS2⟩, ⟨%fs3, %hfs3, HS3⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1; obtain rfl := harg11.eq_unread hfs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]
    · iexists _; isplitr; · ipureintro; exact harg8.read_unread _
      iexact HS0
    isplitl [HS1]
    · iexists _; isplitr; · ipureintro; exact harg9.read_unread _
      iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hh0]; · iexact Hh0
    iexists _; iexact HW

end Cert.KernelIdeal.Hand

end
-- ==== Proof.InEqB.lean ====
/-
  The input-gradient call: the pieces the stores of case B leave are the lists of `InVals`.
-/
module

public import proofs.«01_k».proof.Proof.InVals
public import proofs.«01_k».proof.Proof.InRunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD) (i : grid0.Coords) (arg1 : Memref sig .tc .vmem S12x256x1024 .bf16) (harg1 : arg1.IsWhole)
  (arg3 : Memref sig .tc .vmem S256x1024 .f32) (harg3 : arg3.IsWhole) (arg4 : Memref sig .tc .vmem S256x1024 .f32) (harg4 : arg4.IsWhole)
  (arg5 : Memref sig .tc .vmem S1x1024 .f32) (harg5 : arg5.IsWhole) (arg6 : Memref sig .tc .vmem S256x1024 .f32) (harg6 : arg6.IsWhole)
  (arg7 : Memref sig .tc .vmem S1x1024 .f32) (harg7 : arg7.IsWhole) (arg8 : Memref sig .tc .vmem S4x3072x1024 .bf16) (harg8 : arg8.IsWhole)
  (arg9 : Memref sig .tc .vmem S256x1024 .f32) (harg9 : arg9.IsWhole) (arg10 : Memref sig .tc .vmem S256x1024 .f32) (harg10 : arg10.IsWhole)
  (arg11 : Memref sig .tc .vmem S16x1024 .f32) (harg11 : arg11.IsWhole)
  (x0 : Vec F S12x256x1024 .bf16) (x1 : Vec F S256x1024 .f32) (x2 : Vec F S256x1024 .f32) (x3 : Vec F S1x1024 .f32)
  (xs0 : Vec F S4x3072x1024 .bf16) (fh0 : HbBuf0 (F := F) c hbM0_0)

theorem runB_dx (hc0 : ¬cond0_0 i) (hc1 : ¬cond0_1 i) (hc2 : cond0_2 i) (hc3 : ¬cond0_3 i) (xs1 : Vec F S256x1024 .f32) (xs3 : Vec F S16x1024 .f32) : (kernelRun0_B c i arg1 harg1 arg3 harg3 arg4 harg4 arg5 harg5 arg6 harg6 arg7 harg7 arg8 harg8 arg9 harg9 arg10 harg10 arg11 harg11 hc0 hc1 hc2 hc3 x0 x1 x2 x3 xs0 xs1 xs3 fh0).1
    = dxL (lX arg4 harg4 x2) (lX arg9 harg9 xs1) (lX arg3 harg3 x1) (lN arg5 harg5 x3) 16 := by sl_kernel_rfl

theorem runB_g (hc0 : ¬cond0_0 i) (hc1 : ¬cond0_1 i) (hc2 : cond0_2 i) (hc3 : ¬cond0_3 i) (xs1 : Vec F S256x1024 .f32) (xs3 : Vec F S16x1024 .f32) : (kernelRun0_B c i arg1 harg1 arg3 harg3 arg4 harg4 arg5 harg5 arg6 harg6 arg7 harg7 arg8 harg8 arg9 harg9 arg10 harg10 arg11 harg11 hc0 hc1 hc2 hc3 x0 x1 x2 x3 xs0 xs1 xs3 fh0).2.2.2.2.2.1
    = gL arg11.view (lG arg11 harg11 xs3) (lX arg9 harg9 xs1) (lX arg3 harg3 x1) 15 := by sl_kernel_rfl

theorem runB_h (hc0 : ¬cond0_0 i) (hc1 : ¬cond0_1 i) (hc2 : cond0_2 i) (hc3 : ¬cond0_3 i) (xs1 : Vec F S256x1024 .f32) (xs3 : Vec F S16x1024 .f32) : (kernelRun0_B c i arg1 harg1 arg3 harg3 arg4 harg4 arg5 harg5 arg6 harg6 arg7 harg7 arg8 harg8 arg9 harg9 arg10 harg10 arg11 harg11 hc0 hc1 hc2 hc3 x0 x1 x2 x3 xs0 xs1 xs3 fh0).2.2.2.2.1
    = [⟨Rect.unit ![0, 0] S256x1024.size inb_S256x1024_S256x1024_0_0, dHp (lA arg1 harg1 x0) (lB arg8 (harg8.unread xs0))⟩] := by sl_kernel_rfl

end Cert.KernelIdeal.Hand

end
-- ==== Proof.InRunC.lean ====
/-
  The input-gradient call: its body run in case C.
-/
module

public import proofs.«01_k».proof.Proof.InRuns
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2120000 in
/-- The body run in case C: the pieces its stores leave in each buffer, with the triple. -/
def kernelRun0_C (c : Dev nD) (i : grid0.Coords) (arg1 : Memref sig .tc .vmem S12x256x1024 .bf16) (harg1 : arg1.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S4x3072x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S16x1024 .f32) (harg11 : arg11.IsWhole) (hc0 : ¬cond0_0 i) (hc1 : cond0_1 i) (hc2 : ¬cond0_2 i) (hc3 : ¬cond0_3 i)
    (x0 : Vec F S12x256x1024 .bf16) (x1 : Vec F S256x1024 .f32) (x2 : Vec F S256x1024 .f32) (x3 : Vec F S1x1024 .f32) (xs0 : Vec F S4x3072x1024 .bf16) (xs2 : Vec F S256x1024 .f32) (xs3 : Vec F S16x1024 .f32) (fh0 : HbBuf0 (F := F) c hbM0_0) :
    Σ' (L4 : List (View.Piece (Elt F) S256x1024 .f32)), Σ' (L5 : List (View.Piece (Elt F) S1x1024 .f32)), Σ' (LS0 : List (View.Piece (Elt F) S4x3072x1024 .bf16)), Σ' (LS1 : List (View.Piece (Elt F) S256x1024 .f32)), Σ' (LS2 : List (View.Piece (Elt F) S256x1024 .f32)), { LS3 : List (View.Piece (Elt F) S16x1024 .f32) //
      ∀ (xi5 : Vec F S1x1024 .f32) (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0 ∗ (∃ d, owns (c : Thread nD τ) arg9 fullShare d) ∗ owns (c : Thread nD τ) arg10 fullShare xs2 ∗ owns (c : Thread nD τ) arg11 fullShare xs3 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xs0 ∗ (∃ f, arg9.view.loc (c : Thread nD τ) ↦[arg9.view.set]{fullShare} arg9.view.writes (Elt F) f LS1) ∗ owns (c : Thread nD τ) arg10 fullShare xs2 ∗ (∃ f, arg11.view.loc (c : Thread nD τ) ↦[arg11.view.set]{fullShare} arg11.view.writes (Elt F) f LS3) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ (∃ W', owes (c : Thread nD τ) 0 W')) -∗ K ⟨⟩))
          ⊢ wp frame (wpE (defs₀ (F := F)) Variants.none c none) Set.univ (cc0_bwd_in i arg1 harg1 (Memref.whole main_arg1) (Memref.isWhole_whole _) arg3 harg3 arg4 harg4 arg5 harg5 arg6 harg6 arg7 harg7 arg8 harg8 arg9 harg9 arg10 harg10 arg11 harg11 cc0_scratch4) K } := by
  refine ⟨?_, [], [], ?_, [], ?_, fun xi5 W K => ?run⟩
  case run =>
    simp only [cc0_bwd_in_eq_skeleton]; unfold cc0_bwd_in_skel
    simp only [k0_part98_eq_skeleton, k0_part36_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%ds1, %fs1, -, HS1⟩, ⟨%fs2, %hfs2, HS2⟩, ⟨%fs3, %hfs3, HS3⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg7.eq_unread hf5; obtain rfl := harg8.eq_unread hfs0; obtain rfl := harg10.eq_unread hfs2; obtain rfl := harg11.eq_unread hfs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]
    · iexists _; isplitr; · ipureintro; exact harg8.read_unread _
      iexact HS0
    isplitl [HS1]; · iexists _; iexact HS1
    isplitl [HS2]
    · iexists _; isplitr; · ipureintro; exact harg10.read_unread _
      iexact HS2
    isplitl [HS3]; · iexists _; iexact HS3
    isplitl [Hq0]; · iexact Hq0
    isplitl [Hq1]; · iexact Hq1
    isplitl [Hq2]; · iexact Hq2
    isplitl [Hq3]; · iexact Hq3
    isplitl [Hh0]; · iexact Hh0
    iexists _; iexact HW

end Cert.KernelIdeal.Hand

end
-- ==== Proof.InEqC.lean ====
/-
  The input-gradient call: the pieces the stores of case C leave are the lists of `InVals`.
-/
module

public import proofs.«01_k».proof.Proof.InVals
public import proofs.«01_k».proof.Proof.InRunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD) (i : grid0.Coords) (arg1 : Memref sig .tc .vmem S12x256x1024 .bf16) (harg1 : arg1.IsWhole)
  (arg3 : Memref sig .tc .vmem S256x1024 .f32) (harg3 : arg3.IsWhole) (arg4 : Memref sig .tc .vmem S256x1024 .f32) (harg4 : arg4.IsWhole)
  (arg5 : Memref sig .tc .vmem S1x1024 .f32) (harg5 : arg5.IsWhole) (arg6 : Memref sig .tc .vmem S256x1024 .f32) (harg6 : arg6.IsWhole)
  (arg7 : Memref sig .tc .vmem S1x1024 .f32) (harg7 : arg7.IsWhole) (arg8 : Memref sig .tc .vmem S4x3072x1024 .bf16) (harg8 : arg8.IsWhole)
  (arg9 : Memref sig .tc .vmem S256x1024 .f32) (harg9 : arg9.IsWhole) (arg10 : Memref sig .tc .vmem S256x1024 .f32) (harg10 : arg10.IsWhole)
  (arg11 : Memref sig .tc .vmem S16x1024 .f32) (harg11 : arg11.IsWhole)
  (x0 : Vec F S12x256x1024 .bf16) (x1 : Vec F S256x1024 .f32) (x2 : Vec F S256x1024 .f32) (x3 : Vec F S1x1024 .f32)
  (xs0 : Vec F S4x3072x1024 .bf16) (fh0 : HbBuf0 (F := F) c hbM0_0)

theorem runC_dx (hc0 : ¬cond0_0 i) (hc1 : cond0_1 i) (hc2 : ¬cond0_2 i) (hc3 : ¬cond0_3 i) (xs2 : Vec F S256x1024 .f32) (xs3 : Vec F S16x1024 .f32) : (kernelRun0_C c i arg1 harg1 arg3 harg3 arg4 harg4 arg5 harg5 arg6 harg6 arg7 harg7 arg8 harg8 arg9 harg9 arg10 harg10 arg11 harg11 hc0 hc1 hc2 hc3 x0 x1 x2 x3 xs0 xs2 xs3 fh0).1
    = dxL (lX arg4 harg4 x2) (lX arg10 harg10 xs2) (lX arg3 harg3 x1) (lN arg5 harg5 x3) 16 := by sl_kernel_rfl

theorem runC_g (hc0 : ¬cond0_0 i) (hc1 : cond0_1 i) (hc2 : ¬cond0_2 i) (hc3 : ¬cond0_3 i) (xs2 : Vec F S256x1024 .f32) (xs3 : Vec F S16x1024 .f32) : (kernelRun0_C c i arg1 harg1 arg3 harg3 arg4 harg4 arg5 harg5 arg6 harg6 arg7 harg7 arg8 harg8 arg9 harg9 arg10 harg10 arg11 harg11 hc0 hc1 hc2 hc3 x0 x1 x2 x3 xs0 xs2 xs3 fh0).2.2.2.2.2.1
    = gL arg11.view (lG arg11 harg11 xs3) (lX arg10 harg10 xs2) (lX arg3 harg3 x1) 15 := by sl_kernel_rfl

theorem runC_h (hc0 : ¬cond0_0 i) (hc1 : cond0_1 i) (hc2 : ¬cond0_2 i) (hc3 : ¬cond0_3 i) (xs2 : Vec F S256x1024 .f32) (xs3 : Vec F S16x1024 .f32) : (kernelRun0_C c i arg1 harg1 arg3 harg3 arg4 harg4 arg5 harg5 arg6 harg6 arg7 harg7 arg8 harg8 arg9 harg9 arg10 harg10 arg11 harg11 hc0 hc1 hc2 hc3 x0 x1 x2 x3 xs0 xs2 xs3 fh0).2.2.2.1
    = [⟨Rect.unit ![0, 0] S256x1024.size inb_S256x1024_S256x1024_0_0, dHp (lA arg1 harg1 x0) (lB arg8 (harg8.unread xs0))⟩] := by sl_kernel_rfl

end Cert.KernelIdeal.Hand

end
-- ==== Proof.InRunD.lean ====
/-
  The input-gradient call: its body run in case D.
-/
module

public import proofs.«01_k».proof.Proof.InRuns
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1992000 in
/-- The body run in case D: the pieces its stores leave in each buffer, with the triple. -/
def kernelRun0_D (c : Dev nD) (i : grid0.Coords) (arg1 : Memref sig .tc .vmem S12x256x1024 .bf16) (harg1 : arg1.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S4x3072x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S16x1024 .f32) (harg11 : arg11.IsWhole) (hc0 : ¬cond0_0 i) (hc1 : ¬cond0_1 i) (hc2 : ¬cond0_2 i) (hc3 : cond0_3 i)
    (x0 : Vec F S12x256x1024 .bf16) (x1 : Vec F S256x1024 .f32) (x2 : Vec F S256x1024 .f32) (x3 : Vec F S1x1024 .f32) (xs0 : Vec F S4x3072x1024 .bf16) (xs1 : Vec F S256x1024 .f32) (xs2 : Vec F S256x1024 .f32) (xs3 : Vec F S16x1024 .f32) (fh0 : HbBuf0 (F := F) c hbM0_0) :
    Σ' (L4 : List (View.Piece (Elt F) S256x1024 .f32)), Σ' (L5 : List (View.Piece (Elt F) S1x1024 .f32)), Σ' (LS0 : List (View.Piece (Elt F) S4x3072x1024 .bf16)), Σ' (LS1 : List (View.Piece (Elt F) S256x1024 .f32)), Σ' (LS2 : List (View.Piece (Elt F) S256x1024 .f32)), { LS3 : List (View.Piece (Elt F) S16x1024 .f32) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0 ∗ owns (c : Thread nD τ) arg9 fullShare xs1 ∗ owns (c : Thread nD τ) arg10 fullShare xs2 ∗ (∃ f, arg11.view.loc (c : Thread nD τ) ↦[arg11.view.set]{fullShare} arg11.view.writes (Elt F) f LS3) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ (∃ W', owes (c : Thread nD τ) 0 W')) -∗ K ⟨⟩))
          ⊢ wp frame (wpE (defs₀ (F := F)) Variants.none c none) Set.univ (cc0_bwd_in i arg1 harg1 (Memref.whole main_arg1) (Memref.isWhole_whole _) arg3 harg3 arg4 harg4 arg5 harg5 arg6 harg6 arg7 harg7 arg8 harg8 arg9 harg9 arg10 harg10 arg11 harg11 cc0_scratch4) K } := by
  refine ⟨?_, ?_, [], [], [], ?_, fun W K => ?run⟩
  case run =>
    simp only [cc0_bwd_in_eq_skeleton]; unfold cc0_bwd_in_skel
    simp only [k0_part98_eq_skeleton, k0_part97_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2; obtain rfl := harg11.eq_unread hfs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]; · iexists _; iexact HS3
    isplitl [Hq0]; · iexact Hq0
    isplitl [Hq1]; · iexact Hq1
    isplitl [Hq2]; · iexact Hq2
    isplitl [Hq3]; · iexact Hq3
    isplitl [Hh0]; · iexact Hh0
    iexists _; iexact HW

end Cert.KernelIdeal.Hand

end
-- ==== Proof.InEqD.lean ====
/-
  The input-gradient call: the pieces the stores of case D leave are the lists of `InVals`.
-/
module

public import proofs.«01_k».proof.Proof.InVals
public import proofs.«01_k».proof.Proof.InRunD

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD) (i : grid0.Coords) (arg1 : Memref sig .tc .vmem S12x256x1024 .bf16) (harg1 : arg1.IsWhole)
  (arg3 : Memref sig .tc .vmem S256x1024 .f32) (harg3 : arg3.IsWhole) (arg4 : Memref sig .tc .vmem S256x1024 .f32) (harg4 : arg4.IsWhole)
  (arg5 : Memref sig .tc .vmem S1x1024 .f32) (harg5 : arg5.IsWhole) (arg6 : Memref sig .tc .vmem S256x1024 .f32) (harg6 : arg6.IsWhole)
  (arg7 : Memref sig .tc .vmem S1x1024 .f32) (harg7 : arg7.IsWhole) (arg8 : Memref sig .tc .vmem S4x3072x1024 .bf16) (harg8 : arg8.IsWhole)
  (arg9 : Memref sig .tc .vmem S256x1024 .f32) (harg9 : arg9.IsWhole) (arg10 : Memref sig .tc .vmem S256x1024 .f32) (harg10 : arg10.IsWhole)
  (arg11 : Memref sig .tc .vmem S16x1024 .f32) (harg11 : arg11.IsWhole)
  (x0 : Vec F S12x256x1024 .bf16) (x1 : Vec F S256x1024 .f32) (x2 : Vec F S256x1024 .f32) (x3 : Vec F S1x1024 .f32)
  (xs0 : Vec F S4x3072x1024 .bf16) (fh0 : HbBuf0 (F := F) c hbM0_0)

theorem runD_dx (hc0 : ¬cond0_0 i) (hc1 : ¬cond0_1 i) (hc2 : ¬cond0_2 i) (hc3 : cond0_3 i) (xs1 xs2 : Vec F S256x1024 .f32) (xs3 : Vec F S16x1024 .f32) : (kernelRun0_D c i arg1 harg1 arg3 harg3 arg4 harg4 arg5 harg5 arg6 harg6 arg7 harg7 arg8 harg8 arg9 harg9 arg10 harg10 arg11 harg11 hc0 hc1 hc2 hc3 x0 x1 x2 x3 xs0 xs1 xs2 xs3 fh0).1
    = dxL (lX arg4 harg4 x2) (lX arg10 harg10 xs2) (lX arg3 harg3 x1) (lN arg5 harg5 x3) 16 := by sl_kernel_rfl

theorem runD_g (hc0 : ¬cond0_0 i) (hc1 : ¬cond0_1 i) (hc2 : ¬cond0_2 i) (hc3 : cond0_3 i) (xs1 xs2 : Vec F S256x1024 .f32) (xs3 : Vec F S16x1024 .f32) : (kernelRun0_D c i arg1 harg1 arg3 harg3 arg4 harg4 arg5 harg5 arg6 harg6 arg7 harg7 arg8 harg8 arg9 harg9 arg10 harg10 arg11 harg11 hc0 hc1 hc2 hc3 x0 x1 x2 x3 xs0 xs1 xs2 xs3 fh0).2.2.2.2.2.1
    = gL arg11.view (lG arg11 harg11 xs3) (lX arg10 harg10 xs2) (lX arg3 harg3 x1) 15 := by sl_kernel_rfl

theorem runD_dng (hc0 : ¬cond0_0 i) (hc1 : ¬cond0_1 i) (hc2 : ¬cond0_2 i) (hc3 : cond0_3 i) (xs1 xs2 : Vec F S256x1024 .f32) (xs3 : Vec F S16x1024 .f32) : (kernelRun0_D c i arg1 harg1 arg3 harg3 arg4 harg4 arg5 harg5 arg6 harg6 arg7 harg7 arg8 harg8 arg9 harg9 arg10 harg10 arg11 harg11 hc0 hc1 hc2 hc3 x0 x1 x2 x3 xs0 xs1 xs2 xs3 fh0).2.1
    = [⟨Rect.unit ![0, 0] S1x1024.size inb_S1x1024_S1x1024_0_0, k0_pay2 (arg11.view.readCov (gL arg11.view (lG arg11 harg11 xs3) (lX arg10 harg10 xs2) (lX arg3 harg3 x1) 15) (Rect.unit ![0, 0] S16x1024.size inb_S16x1024_S16x1024_0_0).toLoadRect)⟩] := by sl_kernel_rfl

end Cert.KernelIdeal.Hand

end
-- ==== Proof.InState.lean ====
/-
  The input-gradient call: what the stores' piece lists leave, as functions of the vectors the buffers held — the
  weights' copy, a tile's product, a tile's gradient, the sixteen partial sums and their column sums.
-/
module

public import proofs.«01_k».proof.Proof.InEqA
public import proofs.«01_k».proof.Proof.InEqB
public import proofs.«01_k».proof.Proof.InEqC
public import proofs.«01_k».proof.Proof.InEqD

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## Loads of a vector -/

/-- Half `h` of sixteen rows of a tile. -/
abbrev pX (x : Vec F S256x1024 .f32) (n h : ℕ) : Vec F S16x512 .f32 := fun j => x ((RX n h).toLoadRect.idx j)
/-- Half `h` of the gain. -/
abbrev pN (x : Vec F S1x1024 .f32) (h : ℕ) : Vec F S1x512 .f32 := fun j => x ((RN h).toLoadRect.idx j)
/-- Half `h` of the partial sums. -/
abbrev pG (x : Vec F S16x1024 .f32) (h : ℕ) : Vec F S16x512 .f32 := fun j => x ((RG h).toLoadRect.idx j)
/-- A slab of the cotangents' block. -/
abbrev pA (x : Vec F S12x256x1024 .bf16) (k : ℕ) : Vec F S1x256x1024 .bf16 := fun j => x ((RA k).toLoadRect.idx j)
/-- A slab of the weights. -/
abbrev pB (x : Vec F S4x3072x1024 .bf16) (k : ℕ) : Vec F S1x1024x1024 .bf16 := fun j => x ((RB k).toLoadRect.idx j)

theorem lX_eq (M : Memref sig .tc .vmem S256x1024 .f32) (h : M.IsWhole) (x : Vec F S256x1024 .f32) : lX M h x = pX x := by
  funext n k j; exact congrFun (h.read_unread x) _
theorem lN_eq (M : Memref sig .tc .vmem S1x1024 .f32) (h : M.IsWhole) (x : Vec F S1x1024 .f32) : lN M h x = pN x := by
  funext k j; exact congrFun (h.read_unread x) _
theorem lG_eq (M : Memref sig .tc .vmem S16x1024 .f32) (h : M.IsWhole) (x : Vec F S16x1024 .f32) : lG M h x = pG x := by
  funext k j; exact congrFun (h.read_unread x) _
theorem lA_eq (M : Memref sig .tc .vmem S12x256x1024 .bf16) (h : M.IsWhole) (x : Vec F S12x256x1024 .bf16) : lA M h x = pA x := by
  funext k j; exact congrFun (h.read_unread x) _
theorem lB_eq (M : Memref sig .tc .vmem S4x3072x1024 .bf16) (f : M.view.ty.Contents (Elt F)) (x : Vec F S4x3072x1024 .bf16)
    (hf : M.view.read (Elt F) f = x) : lB M f = pB x := by
  funext k j; exact congrFun hf _

/-- A piece over the whole shape leaves its payload. -/
theorem read_whole {sp : Space} {s : Shape} {e : EltTy} (v : View sig .tc sp s e) (f : v.ty.Contents (Elt F)) {off : Fin s.rank → ℕ}
    (h0 : off = fun _ => 0) (inb : ∀ a, off a + s.size a ≤ s.size a) (w : s.Idx → Elt F e) (L : List (View.Piece (Elt F) s e)) :
    v.read (Elt F) (v.writes (Elt F) f (⟨Rect.unit off s.size inb, w⟩ :: L)) = w := by
  subst h0
  funext y
  exact View.read_writes_cons_hit v f (Rect.unit (fun _ => 0) s.size inb) w L y y (Rect.emb_eq_of_coords _ _ _ fun a => by
    show (y a).val = 0 + 1 * (y a).val; omega)

theorem off2 : (![0, 0] : Fin 2 → ℕ) = fun _ => 0 := by
  funext a; match a with | 0 => rfl | 1 => rfl

/-! ## The weights -/

/-- The packed weights' rows the product takes. -/
def w0f (c : Dev nD) (fh0 : HbBuf0 (F := F) c hbM0_0) : Vec F S4x3072x1024 .bf16 := fun y =>
  hbM0_0.view.read (Elt F) fh0 (fun a => match a with
    | 0 => ⟨(y 0).val, (y 0).isLt⟩
    | 1 => ⟨(y 1).val, Nat.lt_trans (y 1).isLt (show 3072 < 4224 by decide)⟩
    | 2 => ⟨(y 2).val, (y 2).isLt⟩ : S4x4224x1024.Idx)

theorem wL_agree (c : Dev nD) (fh0 : HbBuf0 (F := F) c hbM0_0) (n : ℕ) :
    ∀ p ∈ wL c fh0 n, ∀ x : p.1.shape.Idx, p.2 x = w0f c fh0 (p.1.emb x) := by
  induction n with
  | zero => intro p hp; exact absurd hp List.not_mem_nil
  | succ n ih =>
    intro p hp
    rcases List.mem_cons.mp hp with rfl | hp
    · intro x
      show hbM0_0.view.read (Elt F) fh0 ((R2 n).toLoadRect.idx x) = _
      unfold w0f
      refine congrArg _ (funext fun a => Fin.ext ?_)
      match a with
      | 0 => rfl
      | 1 => rfl
      | 2 => rfl
    · exact ih p hp

theorem read_w (M : Memref sig .tc .vmem S4x3072x1024 .bf16) (c : Dev nD) (fh0 : HbBuf0 (F := F) c hbM0_0) (f : M.view.ty.Contents (Elt F)) :
    M.view.read (Elt F) (M.view.writes (Elt F) f (wL c fh0 4)) = w0f c fh0 :=
  funext fun y => View.read_writes_apply_of_pieces M.view f (w0f c fh0) (wL c fh0 4) (wL_agree c fh0 4) y
    (View.cover_of_tiledL (wL c fh0 4) S1x3072x1024.size (by sl_kernel_rfl) y)

/-! ## A tile's product -/

/-- A tile's product of the input cotangents with the weights. -/
def dHf (x0 : Vec F S12x256x1024 .bf16) (w : Vec F S4x3072x1024 .bf16) : Vec F S256x1024 .f32 := dHp (pA x0) (pB w)

/-! ## A tile's gradient -/

/-- A place in a chunk's half. -/
def loc (a b : ℕ) : S16x512.Idx := fun k => match k with
  | 0 => ⟨a % 16, Nat.mod_lt _ (by decide)⟩
  | 1 => ⟨b % 512, Nat.mod_lt _ (by decide)⟩

theorem loc_self (x : S16x512.Idx) (a b : ℕ) (h0 : a % 16 = (x 0).val) (h1 : b % 512 = (x 1).val) : loc a b = x :=
  funext fun k => Fin.ext (match k with | 0 => h0 | 1 => h1)

/-- Chunk `n`, half `h` of a tile's gradient, from the chunks of what it reads. -/
def dxV (D P X : ℕ → ℕ → Vec F S16x512 .f32) (N : ℕ → Vec F S1x512 .f32) (n h : ℕ) : FVec F S16x512 .f32 :=
  dxP (D n h) (P n h) (X n h) (N h) (rr (X n 0) (X n 1)) (mm (P n 0) (P n 1) (X n 0) (X n 1) (N 0) (N 1))

/-- The tile's gradient. -/
def dxT (D P X : ℕ → ℕ → Vec F S16x512 .f32) (N : ℕ → Vec F S1x512 .f32) : Vec F S256x1024 .f32 := fun y =>
  dxV D P X N ((y 0).val / 16) ((y 1).val / 512) (loc (y 0).val (y 1).val)

theorem dxT_emb (D P X : ℕ → ℕ → Vec F S16x512 .f32) (N : ℕ → Vec F S1x512 .f32) (n h : ℕ) (hn : n < 16) (hh : h < 2) (x : S16x512.Idx) :
    dxV D P X N n h x = dxT D P X N ((RX n h).emb x) := by
  have e0 : ((RX n h).emb x 0).val = 16 * (n % 16) + 1 * (x 0).val := rfl
  have e1 : ((RX n h).emb x 1).val = 512 * (h % 2) + 1 * (x 1).val := rfl
  have l0 : (x 0).val < 16 := (x 0).isLt
  have l1 : (x 1).val < 512 := (x 1).isLt
  rw [Nat.mod_eq_of_lt hn] at e0
  rw [Nat.mod_eq_of_lt hh] at e1
  unfold dxT
  rw [e0, e1, show (16 * n + 1 * (x 0).val) / 16 = n by omega, show (512 * h + 1 * (x 1).val) / 512 = h by omega,
    loc_self x _ _ (by omega) (by omega)]

theorem dxL_agree (D P X : ℕ → ℕ → Vec F S16x512 .f32) (N : ℕ → Vec F S1x512 .f32) (n : ℕ) (hn : n ≤ 16) :
    ∀ p ∈ dxL D P X N n, ∀ x : p.1.shape.Idx, p.2 x = dxT D P X N (p.1.emb x) := by
  induction n with
  | zero => intro p hp; exact absurd hp List.not_mem_nil
  | succ n ih =>
    intro p hp
    rcases List.mem_cons.mp hp with rfl | hp
    · exact fun x => dxT_emb D P X N n 1 (by omega) (by decide) x
    rcases List.mem_cons.mp hp with rfl | hp
    · exact fun x => dxT_emb D P X N n 0 (by omega) (by decide) x
    · exact ih (by omega) p hp

theorem read_dx (v : View sig .tc .vmem S256x1024 .f32) (f : v.ty.Contents (Elt F)) (D P X : ℕ → ℕ → Vec F S16x512 .f32) (N : ℕ → Vec F S1x512 .f32) :
    v.read (Elt F) (v.writes (Elt F) f (dxL D P X N 16)) = dxT D P X N :=
  funext fun y => View.read_writes_apply_of_pieces v f (dxT D P X N) (dxL D P X N 16) (dxL_agree D P X N 16 le_rfl) y
    (View.cover_of_tiledL (dxL D P X N 16) S16x512.size (by sl_kernel_rfl) y)

/-- A tile's gradient, from the residual cotangent, the product, the activations and the gain. -/
def dxF (d p x : Vec F S256x1024 .f32) (g : Vec F S1x1024 .f32) : Vec F S256x1024 .f32 := dxT (pX d) (pX p) (pX x) (pN g)

/-! ## The partial sums -/

/-- Half `h` of the partial sums after `n` chunks. -/
def gN (G : ℕ → Vec F S16x512 .f32) (P X : ℕ → ℕ → Vec F S16x512 .f32) (h n : ℕ) : Vec F S16x512 .f32 :=
  Nat.rec (G h) (fun k acc => gP acc (P k h) (X k h) (rr (X k 0) (X k 1))) n

theorem RG_disjoint (h h' : ℕ) (e : h % 2 ≠ h' % 2) : Disjoint (RG h).set (RG h').toLoadRect.set := by
  rw [Finset.disjoint_left]
  intro y hy hy'
  obtain ⟨j, rfl⟩ := (RG h).exists_idx_of_mem hy
  obtain ⟨j', hj', he⟩ := ((RG h').toLoadRect.mem_set.mp hy' 1)
  have l : (j 1).val < 512 := (j 1).isLt
  have e1 : ((RG h).emb j 1).val = 512 * (h % 2) + 1 * (j 1).val := rfl
  have e2 : ((RG h).emb j 1).val = 512 * (h' % 2) + 1 * j' := he
  have l' : j' < 512 := hj'
  omega

theorem gL_shape (v : View sig .tc .vmem S16x1024 .f32) (G : ℕ → Vec F S16x512 .f32) (P X : ℕ → ℕ → Vec F S16x512 .f32) (n : ℕ) :
    ∃ L, gL v G P X n = ⟨RG 1, gN G P X 1 (n + 1)⟩ :: ⟨RG 0, gN G P X 0 (n + 1)⟩ :: L := by
  induction n with
  | zero => exact ⟨[], rfl⟩
  | succ n ih =>
    obtain ⟨L, hL⟩ := ih
    have h0 : v.readCov (gL v G P X n) (RG 0).toLoadRect = gN G P X 0 (n + 1) := by
      rw [hL]
      exact (View.readCov_cons_of_disjoint v ⟨RG 1, _⟩ _ (RG 0).toLoadRect (RG_disjoint 1 0 (by decide))).trans
        (View.readCov_cons_toLoadRect v (RG 0) _ _)
    have h1 (w : Vec F S16x512 .f32) : v.readCov (⟨RG 0, w⟩ :: gL v G P X n) (RG 1).toLoadRect = gN G P X 1 (n + 1) := by
      refine (View.readCov_cons_of_disjoint v ⟨RG 0, w⟩ _ (RG 1).toLoadRect (RG_disjoint 0 1 (by decide))).trans ?_
      rw [hL]
      exact View.readCov_cons_toLoadRect v (RG 1) _ _
    refine ⟨gL v G P X n, ?_⟩
    show (⟨RG 1, gP (v.readCov (⟨RG 0, gP (v.readCov (gL v G P X n) (RG 0).toLoadRect) _ _ _⟩ :: gL v G P X n) (RG 1).toLoadRect) _ _ _⟩
      :: ⟨RG 0, gP (v.readCov (gL v G P X n) (RG 0).toLoadRect) _ _ _⟩ :: gL v G P X n : List (View.Piece (Elt F) S16x1024 .f32)) = _
    rw [h1, h0]
    rfl

/-- The partial sums after a tile. -/
def gT (G : ℕ → Vec F S16x512 .f32) (P X : ℕ → ℕ → Vec F S16x512 .f32) : Vec F S16x1024 .f32 := fun y =>
  gN G P X ((y 1).val / 512) 16 (loc (y 0).val (y 1).val)

theorem read_g (v : View sig .tc .vmem S16x1024 .f32) (f : v.ty.Contents (Elt F)) (G : ℕ → Vec F S16x512 .f32) (P X : ℕ → ℕ → Vec F S16x512 .f32) :
    v.read (Elt F) (v.writes (Elt F) f (gL v G P X 15)) = gT G P X := by
  obtain ⟨L, hL⟩ := gL_shape v G P X 15
  rw [hL]
  funext y
  have l0 : (y 0).val < 16 := (y 0).isLt
  have l1 : (y 1).val < 1024 := (y 1).isLt
  unfold gT
  by_cases hy : (y 1).val < 512
  · rw [View.read_writes_cons_miss_of_axis v f _ _ y 1 512 512 rfl rfl rfl (.inl hy),
      show (y 1).val / 512 = 0 by omega]
    refine View.read_writes_cons_hit_of_coords v f (RG 0) _ L (loc (y 0).val (y 1).val) y fun a => ?_
    match a with
    | 0 => show (y 0).val = 0 + 1 * ((y 0).val % 16); omega
    | 1 => show (y 1).val = 512 * (0 % 2) + 1 * ((y 1).val % 512); omega
  · rw [show (y 1).val / 512 = 1 by omega]
    refine View.read_writes_cons_hit_of_coords v f (RG 1) _ _ (loc (y 0).val (y 1).val) y fun a => ?_
    match a with
    | 0 => show (y 0).val = 0 + 1 * ((y 0).val % 16); omega
    | 1 => show (y 1).val = 512 * (1 % 2) + 1 * ((y 1).val % 512); omega

/-- The partial sums after a tile, from those before it, the product and the activations. -/
def gF (g : Vec F S16x1024 .f32) (p x : Vec F S256x1024 .f32) : Vec F S16x1024 .f32 := gT (pG g) (pX p) (pX x)

/-- The partial sums at the start. -/
def g0 : Vec F S16x1024 .f32 := shapeCast S16x1024 (k0_pay3 : FVec F S16x1024 .f32) shapeCasts_S16x1024_S16x1024

theorem readCov_g (v : View sig .tc .vmem S16x1024 .f32) (G : ℕ → Vec F S16x512 .f32) (P X : ℕ → ℕ → Vec F S16x512 .f32) :
    v.readCov (gL v G P X 15) (Rect.unit ![0, 0] S16x1024.size inb_S16x1024_S16x1024_0_0).toLoadRect = gT G P X := by
  show v.readAt (Elt F) _ _ = _
  funext y
  rw [View.readAt_apply, read_g]
  refine congrArg _ (funext fun a => Fin.ext ?_)
  match a with
  | 0 => show 0 + 1 * (y 0).val = (y 0).val; omega
  | 1 => show 0 + 1 * (y 1).val = (y 1).val; omega

end Cert.KernelIdeal.Hand

end
-- ==== Proof.InFrame.lean ====
/-
  The input-gradient call: its run at any interpretation of the floats. Between two grid points the weight scratch holds
  the packed weights' rows, the product scratch of the point's parity that point's product, and the partial sums what
  the tiles so far left; the other product scratch holds anything. From that the body obligation, the run and the frame.
-/
module

public import proofs.«01_k».proof.Proof.InState
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the buffers hold after each point -/

/-- Point `n` of the grid. -/
def pt (n : ℕ) : Fin cfg0.N := ⟨n % 65, Nat.lt_of_lt_of_eq (Nat.mod_lt n (by decide)) N_0.symm⟩

theorem pt_val (t : Fin cfg0.N) : pt t.val = t :=
  Fin.ext (Nat.mod_eq_of_lt (Nat.lt_of_lt_of_eq t.isLt N_0))

/-- The weights the scratch holds. -/
def wS (c : Dev nD) : Vec F S4x3072x1024 .bf16 := w0f c (V m c main_arg1)
/-- The product of point `n`. -/
def pS (c : Dev nD) (n : ℕ) : Vec F S256x1024 .f32 := dHf (iblk m c 0 (pt n)) (wS m c)
/-- The partial sums after point `n`. -/
def gS (c : Dev nD) (n : ℕ) : Vec F S16x1024 .f32 :=
  Nat.rec g0 (fun k g => gF g (pS m c k) (iblk m c 1 (pt (k + 1)))) n
theorem gS_succ (c : Dev nD) (n : ℕ) : gS m c (n + 1) = gF (gS m c n) (pS m c n) (iblk m c 1 (pt (n + 1))) := rfl
/-- The gradient's block after point `t`. -/
def oS (c : Dev nD) (t : Fin cfg0.N) : Vec F S256x1024 .f32 :=
  dxF (iblk m c 2 t) (pS m c (t.val - 1)) (iblk m c 1 t) (iblk m c 3 t)

/-- The rest of the invariant: the generator register, the body's own counters at zero, the packed weights. -/
def restS (c : Dev nD) : sProp 𝕄 :=
  iprop((∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg1)))

/-- After an even point: its product in the first product scratch. -/
def PhiE (c : Dev nD) (n : ℕ) : sProp 𝕄 :=
  iprop(iprop(owns (c : Thread nD τ) scM0_0 fullShare (wS m c) ∗ owns (c : Thread nD τ) scM0_1 fullShare (pS m c n) ∗ (∃ d, owns (c : Thread nD τ) scM0_2 fullShare d) ∗ owns (c : Thread nD τ) scM0_3 fullShare (gS m c n)) ∗ restS m c)
/-- After an odd point: its product in the second. -/
def PhiO (c : Dev nD) (n : ℕ) : sProp 𝕄 :=
  iprop(iprop(owns (c : Thread nD τ) scM0_0 fullShare (wS m c) ∗ (∃ d, owns (c : Thread nD τ) scM0_1 fullShare d) ∗ owns (c : Thread nD τ) scM0_2 fullShare (pS m c n) ∗ owns (c : Thread nD τ) scM0_3 fullShare (gS m c n)) ∗ restS m c)
/-- The invariant before point `k`. -/
def PhiS (c : Dev nD) (k : ℕ) : sProp 𝕄 :=
  if k = 0 ∨ k = 65 then Pipeline.ΦD osem0 spec0 H0 (V m) c
  else if k % 2 = 1 then PhiE m c (k - 1) else PhiO m c (k - 1)

theorem PhiS_end (c : Dev nD) (k : ℕ) (h : k = 0 ∨ k = 65) : PhiS m c k
    = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ restS m c) := by
  unfold PhiS restS; rw [if_pos h, PhiD0_eq]
theorem PhiS_even (c : Dev nD) (n : ℕ) (h : n % 2 = 0) (hn : n < 64) : PhiS m c (n + 1) = PhiE m c n := by
  unfold PhiS; rw [if_neg (by omega), if_pos (by omega)]; rfl
theorem PhiS_odd (c : Dev nD) (n : ℕ) (h : n % 2 = 1) (hn : n < 64) : PhiS m c (n + 1) = PhiO m c n := by
  unfold PhiS; rw [if_neg (by omega), if_neg (by omega)]; rfl

/-! ## The pipeline's proof data -/

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oS m c t
    | ⟨5, _⟩ => k0_pay2 (gS m c t.val)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = oS m c t := by dsimp only [dats]
theorem after0_5 (c : Dev nD) (t : Fin cfg0.N) : (dats m 0 c).after 5 t = k0_pay2 (gS m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## What each case's stores leave -/

section Leaves
variable {c : Dev nD} {i : grid0.Coords} {arg1 : Memref sig .tc .vmem S12x256x1024 .bf16} {harg1 : arg1.IsWhole}
  {arg3 : Memref sig .tc .vmem S256x1024 .f32} {harg3 : arg3.IsWhole} {arg4 : Memref sig .tc .vmem S256x1024 .f32} {harg4 : arg4.IsWhole}
  {arg5 : Memref sig .tc .vmem S1x1024 .f32} {harg5 : arg5.IsWhole} {arg6 : Memref sig .tc .vmem S256x1024 .f32} {harg6 : arg6.IsWhole}
  {arg7 : Memref sig .tc .vmem S1x1024 .f32} {harg7 : arg7.IsWhole} {arg8 : Memref sig .tc .vmem S4x3072x1024 .bf16} {harg8 : arg8.IsWhole}
  {arg9 : Memref sig .tc .vmem S256x1024 .f32} {harg9 : arg9.IsWhole} {arg10 : Memref sig .tc .vmem S256x1024 .f32} {harg10 : arg10.IsWhole}
  {arg11 : Memref sig .tc .vmem S16x1024 .f32} {harg11 : arg11.IsWhole}
  {x0 : Vec F S12x256x1024 .bf16} {x1 : Vec F S256x1024 .f32} {x2 : Vec F S256x1024 .f32} {x3 : Vec F S1x1024 .f32}
  {xs0 : Vec F S4x3072x1024 .bf16} {xs1 xs2 : Vec F S256x1024 .f32} {xs3 : Vec F S16x1024 .f32} {fh0 : HbBuf0 (F := F) c hbM0_0}

theorem leafA_w {hc0 : cond0_0 i} {hc1 : ¬cond0_1 i} {hc2 : ¬cond0_2 i} {hc3 : ¬cond0_3 i} : arg8.view.read (Elt F) (kernelRun0_A c i arg1 harg1 arg3 harg3 arg4 harg4 arg5 harg5 arg6 harg6 arg7 harg7 arg8 harg8 arg9 harg9 arg10 harg10 arg11 harg11 hc0 hc1 hc2 hc3 x0 x1 x2 x3 xs0 fh0).2.2.1 = w0f c fh0 := by
  rw [runA_w, read_w]
theorem leafA_p {hc0 : cond0_0 i} {hc1 : ¬cond0_1 i} {hc2 : ¬cond0_2 i} {hc3 : ¬cond0_3 i} (f : arg9.view.ty.Contents (Elt F)) : arg9.view.read (Elt F) (arg9.view.writes (Elt F) f (kernelRun0_A c i arg1 harg1 arg3 harg3 arg4 harg4 arg5 harg5 arg6 harg6 arg7 harg7 arg8 harg8 arg9 harg9 arg10 harg10 arg11 harg11 hc0 hc1 hc2 hc3 x0 x1 x2 x3 xs0 fh0).2.2.2.1) = dHf x0 (w0f c fh0) := by
  have hw : arg8.view.read (Elt F) (kernelRun0_A c i arg1 harg1 arg3 harg3 arg4 harg4 arg5 harg5 arg6 harg6 arg7 harg7 arg8 harg8 arg9 harg9 arg10 harg10 arg11 harg11 hc0 hc1 hc2 hc3 x0 x1 x2 x3 xs0 fh0).2.2.1 = w0f c fh0 := leafA_w
  rw [runA_h, read_whole _ _ off2, lA_eq, lB_eq _ _ _ hw]; rfl
theorem leafA_g {hc0 : cond0_0 i} {hc1 : ¬cond0_1 i} {hc2 : ¬cond0_2 i} {hc3 : ¬cond0_3 i} (f : arg11.view.ty.Contents (Elt F)) : arg11.view.read (Elt F) (arg11.view.writes (Elt F) f (kernelRun0_A c i arg1 harg1 arg3 harg3 arg4 harg4 arg5 harg5 arg6 harg6 arg7 harg7 arg8 harg8 arg9 harg9 arg10 harg10 arg11 harg11 hc0 hc1 hc2 hc3 x0 x1 x2 x3 xs0 fh0).2.2.2.2.1) = g0 := by
  rw [runA_g, read_whole _ _ off2]; rfl
theorem leafB_x {hc0 : ¬cond0_0 i} {hc1 : ¬cond0_1 i} {hc2 : cond0_2 i} {hc3 : ¬cond0_3 i} (f : arg6.view.ty.Contents (Elt F)) : arg6.view.read (Elt F) (arg6.view.writes (Elt F) f (kernelRun0_B c i arg1 harg1 arg3 harg3 arg4 harg4 arg5 harg5 arg6 harg6 arg7 harg7 arg8 harg8 arg9 harg9 arg10 harg10 arg11 harg11 hc0 hc1 hc2 hc3 x0 x1 x2 x3 xs0 xs1 xs3 fh0).1) = dxF x2 xs1 x1 x3 := by
  rw [runB_dx, read_dx, lX_eq, lX_eq, lX_eq, lN_eq]; rfl
theorem leafB_g {hc0 : ¬cond0_0 i} {hc1 : ¬cond0_1 i} {hc2 : cond0_2 i} {hc3 : ¬cond0_3 i} (f : arg11.view.ty.Contents (Elt F)) : arg11.view.read (Elt F) (arg11.view.writes (Elt F) f (kernelRun0_B c i arg1 harg1 arg3 harg3 arg4 harg4 arg5 harg5 arg6 harg6 arg7 harg7 arg8 harg8 arg9 harg9 arg10 harg10 arg11 harg11 hc0 hc1 hc2 hc3 x0 x1 x2 x3 xs0 xs1 xs3 fh0).2.2.2.2.2.1) = gF xs3 xs1 x1 := by
  rw [runB_g, read_g, lX_eq, lX_eq, lG_eq]; rfl
theorem leafB_p {hc0 : ¬cond0_0 i} {hc1 : ¬cond0_1 i} {hc2 : cond0_2 i} {hc3 : ¬cond0_3 i} (f : arg10.view.ty.Contents (Elt F)) : arg10.view.read (Elt F) (arg10.view.writes (Elt F) f (kernelRun0_B c i arg1 harg1 arg3 harg3 arg4 harg4 arg5 harg5 arg6 harg6 arg7 harg7 arg8 harg8 arg9 harg9 arg10 harg10 arg11 harg11 hc0 hc1 hc2 hc3 x0 x1 x2 x3 xs0 xs1 xs3 fh0).2.2.2.2.1) = dHf x0 xs0 := by
  rw [runB_h, read_whole _ _ off2, lA_eq, lB_eq _ _ _ (harg8.read_unread xs0)]; rfl
theorem leafC_x {hc0 : ¬cond0_0 i} {hc1 : cond0_1 i} {hc2 : ¬cond0_2 i} {hc3 : ¬cond0_3 i} (f : arg6.view.ty.Contents (Elt F)) : arg6.view.read (Elt F) (arg6.view.writes (Elt F) f (kernelRun0_C c i arg1 harg1 arg3 harg3 arg4 harg4 arg5 harg5 arg6 harg6 arg7 harg7 arg8 harg8 arg9 harg9 arg10 harg10 arg11 harg11 hc0 hc1 hc2 hc3 x0 x1 x2 x3 xs0 xs2 xs3 fh0).1) = dxF x2 xs2 x1 x3 := by
  rw [runC_dx, read_dx, lX_eq, lX_eq, lX_eq, lN_eq]; rfl
theorem leafC_g {hc0 : ¬cond0_0 i} {hc1 : cond0_1 i} {hc2 : ¬cond0_2 i} {hc3 : ¬cond0_3 i} (f : arg11.view.ty.Contents (Elt F)) : arg11.view.read (Elt F) (arg11.view.writes (Elt F) f (kernelRun0_C c i arg1 harg1 arg3 harg3 arg4 harg4 arg5 harg5 arg6 harg6 arg7 harg7 arg8 harg8 arg9 harg9 arg10 harg10 arg11 harg11 hc0 hc1 hc2 hc3 x0 x1 x2 x3 xs0 xs2 xs3 fh0).2.2.2.2.2.1) = gF xs3 xs2 x1 := by
  rw [runC_g, read_g, lX_eq, lX_eq, lG_eq]; rfl
theorem leafC_p {hc0 : ¬cond0_0 i} {hc1 : cond0_1 i} {hc2 : ¬cond0_2 i} {hc3 : ¬cond0_3 i} (f : arg9.view.ty.Contents (Elt F)) : arg9.view.read (Elt F) (arg9.view.writes (Elt F) f (kernelRun0_C c i arg1 harg1 arg3 harg3 arg4 harg4 arg5 harg5 arg6 harg6 arg7 harg7 arg8 harg8 arg9 harg9 arg10 harg10 arg11 harg11 hc0 hc1 hc2 hc3 x0 x1 x2 x3 xs0 xs2 xs3 fh0).2.2.2.1) = dHf x0 xs0 := by
  rw [runC_h, read_whole _ _ off2, lA_eq, lB_eq _ _ _ (harg8.read_unread xs0)]; rfl
theorem leafD_x {hc0 : ¬cond0_0 i} {hc1 : ¬cond0_1 i} {hc2 : ¬cond0_2 i} {hc3 : cond0_3 i} (f : arg6.view.ty.Contents (Elt F)) : arg6.view.read (Elt F) (arg6.view.writes (Elt F) f (kernelRun0_D c i arg1 harg1 arg3 harg3 arg4 harg4 arg5 harg5 arg6 harg6 arg7 harg7 arg8 harg8 arg9 harg9 arg10 harg10 arg11 harg11 hc0 hc1 hc2 hc3 x0 x1 x2 x3 xs0 xs1 xs2 xs3 fh0).1) = dxF x2 xs2 x1 x3 := by
  rw [runD_dx, read_dx, lX_eq, lX_eq, lX_eq, lN_eq]; rfl
theorem leafD_g {hc0 : ¬cond0_0 i} {hc1 : ¬cond0_1 i} {hc2 : ¬cond0_2 i} {hc3 : cond0_3 i} (f : arg11.view.ty.Contents (Elt F)) : arg11.view.read (Elt F) (arg11.view.writes (Elt F) f (kernelRun0_D c i arg1 harg1 arg3 harg3 arg4 harg4 arg5 harg5 arg6 harg6 arg7 harg7 arg8 harg8 arg9 harg9 arg10 harg10 arg11 harg11 hc0 hc1 hc2 hc3 x0 x1 x2 x3 xs0 xs1 xs2 xs3 fh0).2.2.2.2.2.1) = gF xs3 xs2 x1 := by
  rw [runD_g, read_g, lX_eq, lX_eq, lG_eq]; rfl
theorem leafD_s {hc0 : ¬cond0_0 i} {hc1 : ¬cond0_1 i} {hc2 : ¬cond0_2 i} {hc3 : cond0_3 i} (f : arg7.view.ty.Contents (Elt F)) : arg7.view.read (Elt F) (arg7.view.writes (Elt F) f (kernelRun0_D c i arg1 harg1 arg3 harg3 arg4 harg4 arg5 harg5 arg6 harg6 arg7 harg7 arg8 harg8 arg9 harg9 arg10 harg10 arg11 harg11 hc0 hc1 hc2 hc3 x0 x1 x2 x3 xs0 xs1 xs2 xs3 fh0).2.1) = k0_pay2 (gF xs3 xs2 x1) := by
  rw [runD_dng, read_whole _ _ off2, readCov_g, lX_eq, lX_eq, lG_eq]; rfl
end Leaves

/-! ## The body obligation -/

/-- What the body is called with at point `t`, the windows one by one, -/
def bodyPre (c : Dev nD) (t : Fin cfg0.N) : sProp 𝕄 :=
  iprop(PhiS m c t.val ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop(PhiS m c (t.val + 1) ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The inputs' windows are handed back at their blocks. -/
theorem leaves_in (c : Dev nD) (t : Fin cfg0.N) :
    (dats m 0 c).leavesExact 0 t = owns (c : Thread nD τ) (ms0_0 t) fullShare (iblk m c 0 t)
      ∧ (dats m 0 c).leavesExact 1 t = owns (c : Thread nD τ) (ms0_1 t) fullShare (iblk m c 1 t)
      ∧ (dats m 0 c).leavesExact 2 t = owns (c : Thread nD τ) (ms0_2 t) fullShare (iblk m c 2 t)
      ∧ (dats m 0 c).leavesExact 3 t = owns (c : Thread nD τ) (ms0_3 t) fullShare (iblk m c 3 t) :=
  ⟨by unfold Dat.leavesExact; rw [liveAt0_0 t, after0_0], by unfold Dat.leavesExact; rw [liveAt0_1 t, after0_1],
    by unfold Dat.leavesExact; rw [liveAt0_2 t, after0_2], by unfold Dat.leavesExact; rw [liveAt0_3 t, after0_3]⟩
theorem leaves_4 (c : Dev nD) (t : Fin cfg0.N) (h : cfg0.idle 4 (grid0.coords t) = false) :
    (dats m 0 c).leavesExact 4 t = owns (c : Thread nD τ) (ms0_4 t) fullShare (oS m c t) := by
  unfold Dat.leavesExact; rw [h, after0_4]
theorem leaves_5 (c : Dev nD) (t : Fin cfg0.N) (h : cfg0.idle 5 (grid0.coords t) = false) :
    (dats m 0 c).leavesExact 5 t = owns (c : Thread nD τ) (ms0_5 t) fullShare (k0_pay2 (gS m c t.val)) := by
  unfold Dat.leavesExact; rw [h, after0_5]

set_option maxHeartbeats 3200000 in
theorem body_A (c : Dev nD) (t : Fin cfg0.N) (ht : t.val = 0) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  have hc0 : cond0_0 (grid0.coords t) := (hcond0_0 t).mpr (by omega)
  have hc1 : ¬cond0_1 (grid0.coords t) := fun h => absurd ((hcond0_1 t).mp h) (by omega)
  have hc2 : ¬cond0_2 (grid0.coords t) := fun h => absurd ((hcond0_2 t).mp h) (by omega)
  have hc3 : ¬cond0_3 (grid0.coords t) := fun h => absurd ((hcond0_3 t).mp h) (by omega)
  unfold bodyPre bodyPost bodyAt0
  simp only [before0_0, before0_1, before0_2, before0_3]
  rw [(leaves_in m c t).1, (leaves_in m c t).2.1, (leaves_in m c t).2.2.1, (leaves_in m c t).2.2.2]
  unfold Dat.owesAt Pipeline.owesWithin
  rw [show (dats m 0 c).owed t.castSucc = 0 from rfl, show (dats m 0 c).owed t.succ = 0 from rfl]
  rw [Dat.leavesExact_idle (dats m 0 c) 4 t (idleAt0_4_A t hc0 hc1 hc2 hc3) (noFlush0_4_A t hc0 hc1 hc2 hc3)]
  rw [Dat.leavesExact_idle (dats m 0 c) 5 t (idleAt0_5_A t hc0 hc1 hc2 hc3) (noFlush0_5_A t hc0 hc1 hc2 hc3)]
  rw [PhiS_end m c t.val (.inl ht), show t.val + 1 = 0 + 1 by omega, PhiS_even m c 0 rfl (by decide)]
  have hp : pS m c 0 = dHf (iblk m c 0 t) (wS m c) := by unfold pS; rw [← ht, pt_val]
  unfold PhiE restS
  rw [hp]
  iintro ⟨⟨⟨⟨%ds0, HS0⟩, HS1, HS2, HS3⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ _ _ hc0 hc1 hc2 hc3 (iblk m c 0 t) (iblk m c 1 t) (iblk m c 2 t) (iblk m c 3 t) ds0 (V m c main_arg1)).2.2.2.2.2 _ _ W _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hh0]; · iexact Hh0
  isplitl [HW]; · iexact HW
  iintro ⟨H0, H1, H2, H3, H4, H5, HS0, ⟨%es1, HS1⟩, HS2, ⟨%es3, HS3⟩, Hq0, Hq1, Hq2, Hq3, Hh0, ⟨%W', HW'⟩⟩
  isplitl [HS0 HS1 HS2 HS3 Hg Hq0 Hq1 Hq2 Hq3 Hh0]
  · isplitl [HS0 HS1 HS2 HS3]
    · isplitl [HS0]
      · unfold owns; iexists _; isplitr
        swap; · iexact HS0
        ipureintro; exact leafA_w (F := F) (x0 := iblk m c 0 t)
      isplitl [HS1]
      · unfold owns; iexists _; isplitr
        swap; · iexact HS1
        ipureintro; exact leafA_p (F := F) (x0 := iblk m c 0 t) (fh0 := V m c main_arg1) _
      isplitl [HS2]
      · iexact HS2
      unfold owns; iexists _; isplitr
      swap; · iexact HS3
      ipureintro; exact leafA_g (F := F) _
    isplitl [Hg]; · iexact Hg
    isplitl [Hq0 Hq1 Hq2 Hq3]
    · isplitl [Hq0]; · iexact Hq0
      isplitl [Hq1]; · iexact Hq1
      isplitl [Hq2]; · iexact Hq2
      iexact Hq3
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexists _; iexact H4
  iexists _; iexact H5

set_option maxHeartbeats 3200000 in
theorem body_B (c : Dev nD) (t : Fin cfg0.N) (ht : t.val % 2 = 1) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  have hc0 : ¬cond0_0 (grid0.coords t) := fun h => absurd ((hcond0_0 t).mp h) (by omega)
  have hc1 : ¬cond0_1 (grid0.coords t) := fun h => absurd ((hcond0_1 t).mp h) (by omega)
  have hc2 : cond0_2 (grid0.coords t) := (hcond0_2 t).mpr (by omega)
  have hc3 : ¬cond0_3 (grid0.coords t) := fun h => absurd ((hcond0_3 t).mp h) (by omega)
  unfold bodyPre bodyPost bodyAt0
  simp only [before0_0, before0_1, before0_2, before0_3]
  rw [(leaves_in m c t).1, (leaves_in m c t).2.1, (leaves_in m c t).2.2.1, (leaves_in m c t).2.2.2]
  unfold Dat.owesAt Pipeline.owesWithin
  rw [show (dats m 0 c).owed t.castSucc = 0 from rfl, show (dats m 0 c).owed t.succ = 0 from rfl]
  rw [leaves_4 m c t (liveAt0_4_B t hc0 hc1 hc2 hc3)]
  rw [Dat.leavesExact_idle (dats m 0 c) 5 t (idleAt0_5_B t hc0 hc1 hc2 hc3) (noFlush0_5_B t hc0 hc1 hc2 hc3)]
  obtain ⟨n, hn⟩ : ∃ n, t.val = n + 1 := ⟨t.val - 1, by omega⟩
  have hpt : pt (n + 1) = t := by rw [← hn, pt_val]
  have ho : oS m c t = dxF (iblk m c 2 t) (pS m c n) (iblk m c 1 t) (iblk m c 3 t) := by unfold oS; rw [hn]; rfl
  have hg : gS m c (n + 1) = gF (gS m c n) (pS m c n) (iblk m c 1 t) := by rw [gS_succ, hpt]
  have hp : pS m c (n + 1) = dHf (iblk m c 0 t) (wS m c) := by unfold pS; rw [hpt]
  rw [hn, PhiS_even m c n (by omega) (by omega), PhiS_odd m c (n + 1) (by omega) (by omega), ho]
  unfold PhiE PhiO restS
  rw [hg, hp]
  iintro ⟨⟨⟨HS0, HS1, HS2, HS3⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ _ _ _ _ _ _ _ _ _ _ _ _ hc0 hc1 hc2 hc3 (iblk m c 0 t) (iblk m c 1 t) (iblk m c 2 t) (iblk m c 3 t) (wS m c) (pS m c n) (gS m c n) (V m c main_arg1)).2.2.2.2.2.2 _ W _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hh0]; · iexact Hh0
  isplitl [HW]; · iexact HW
  iintro ⟨H0, H1, H2, H3, ⟨%e4, H4⟩, H5, HS0, HS1, ⟨%es2, HS2⟩, ⟨%es3, HS3⟩, Hq0, Hq1, Hq2, Hq3, Hh0, ⟨%W', HW'⟩⟩
  isplitl [HS0 HS1 HS2 HS3 Hg Hq0 Hq1 Hq2 Hq3 Hh0]
  · isplitl [HS0 HS1 HS2 HS3]
    · isplitl [HS0]
      · iexact HS0
      isplitl [HS1]
      · iexists _; iexact HS1
      isplitl [HS2]
      · unfold owns; iexists _; isplitr
        swap; · iexact HS2
        ipureintro; exact leafB_p _
      unfold owns; iexists _; isplitr
      swap; · iexact HS3
      ipureintro; exact leafB_g _
    isplitl [Hg]; · iexact Hg
    isplitl [Hq0 Hq1 Hq2 Hq3]
    · isplitl [Hq0]; · iexact Hq0
      isplitl [Hq1]; · iexact Hq1
      isplitl [Hq2]; · iexact Hq2
      iexact Hq3
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact leafB_x _
  iexists _; iexact H5

set_option maxHeartbeats 3200000 in
theorem body_C (c : Dev nD) (t : Fin cfg0.N) (ht : t.val % 2 = 0 ∧ 0 < t.val ∧ t.val < 64) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  have hc0 : ¬cond0_0 (grid0.coords t) := fun h => absurd ((hcond0_0 t).mp h) (by omega)
  have hc1 : cond0_1 (grid0.coords t) := (hcond0_1 t).mpr (by omega)
  have hc2 : ¬cond0_2 (grid0.coords t) := fun h => absurd ((hcond0_2 t).mp h) (by omega)
  have hc3 : ¬cond0_3 (grid0.coords t) := fun h => absurd ((hcond0_3 t).mp h) (by omega)
  unfold bodyPre bodyPost bodyAt0
  simp only [before0_0, before0_1, before0_2, before0_3]
  rw [(leaves_in m c t).1, (leaves_in m c t).2.1, (leaves_in m c t).2.2.1, (leaves_in m c t).2.2.2]
  unfold Dat.owesAt Pipeline.owesWithin
  rw [show (dats m 0 c).owed t.castSucc = 0 from rfl, show (dats m 0 c).owed t.succ = 0 from rfl]
  rw [leaves_4 m c t (liveAt0_4_C t hc0 hc1 hc2 hc3)]
  rw [Dat.leavesExact_idle (dats m 0 c) 5 t (idleAt0_5_C t hc0 hc1 hc2 hc3) (noFlush0_5_C t hc0 hc1 hc2 hc3)]
  obtain ⟨n, hn⟩ : ∃ n, t.val = n + 1 := ⟨t.val - 1, by omega⟩
  have hpt : pt (n + 1) = t := by rw [← hn, pt_val]
  have ho : oS m c t = dxF (iblk m c 2 t) (pS m c n) (iblk m c 1 t) (iblk m c 3 t) := by unfold oS; rw [hn]; rfl
  have hg : gS m c (n + 1) = gF (gS m c n) (pS m c n) (iblk m c 1 t) := by rw [gS_succ, hpt]
  have hp : pS m c (n + 1) = dHf (iblk m c 0 t) (wS m c) := by unfold pS; rw [hpt]
  rw [hn, PhiS_odd m c n (by omega) (by omega), PhiS_even m c (n + 1) (by omega) (by omega), ho]
  unfold PhiE PhiO restS
  rw [hg, hp]
  iintro ⟨⟨⟨HS0, HS1, HS2, HS3⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩⟩
  iapply ((kernelRun0_C c (grid0.coords t) _ _ _ _ _ _ _ _ _ _ _ _ _ _ _ _ _ _ _ _ hc0 hc1 hc2 hc3 (iblk m c 0 t) (iblk m c 1 t) (iblk m c 2 t) (iblk m c 3 t) (wS m c) (pS m c n) (gS m c n) (V m c main_arg1)).2.2.2.2.2.2 _ W _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hh0]; · iexact Hh0
  isplitl [HW]; · iexact HW
  iintro ⟨H0, H1, H2, H3, ⟨%e4, H4⟩, H5, HS0, ⟨%es1, HS1⟩, HS2, ⟨%es3, HS3⟩, Hq0, Hq1, Hq2, Hq3, Hh0, ⟨%W', HW'⟩⟩
  isplitl [HS0 HS1 HS2 HS3 Hg Hq0 Hq1 Hq2 Hq3 Hh0]
  · isplitl [HS0 HS1 HS2 HS3]
    · isplitl [HS0]
      · iexact HS0
      isplitl [HS1]
      · unfold owns; iexists _; isplitr
        swap; · iexact HS1
        ipureintro; exact leafC_p _
      isplitl [HS2]
      · iexists _; iexact HS2
      unfold owns; iexists _; isplitr
      swap; · iexact HS3
      ipureintro; exact leafC_g _
    isplitl [Hg]; · iexact Hg
    isplitl [Hq0 Hq1 Hq2 Hq3]
    · isplitl [Hq0]; · iexact Hq0
      isplitl [Hq1]; · iexact Hq1
      isplitl [Hq2]; · iexact Hq2
      iexact Hq3
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact leafC_x _
  iexists _; iexact H5

set_option maxHeartbeats 3200000 in
theorem body_D (c : Dev nD) (t : Fin cfg0.N) (ht : t.val = 64) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  have hc0 : ¬cond0_0 (grid0.coords t) := fun h => absurd ((hcond0_0 t).mp h) (by omega)
  have hc1 : ¬cond0_1 (grid0.coords t) := fun h => absurd ((hcond0_1 t).mp h) (by omega)
  have hc2 : ¬cond0_2 (grid0.coords t) := fun h => absurd ((hcond0_2 t).mp h) (by omega)
  have hc3 : cond0_3 (grid0.coords t) := (hcond0_3 t).mpr (by omega)
  unfold bodyPre bodyPost bodyAt0
  simp only [before0_0, before0_1, before0_2, before0_3]
  rw [(leaves_in m c t).1, (leaves_in m c t).2.1, (leaves_in m c t).2.2.1, (leaves_in m c t).2.2.2]
  unfold Dat.owesAt Pipeline.owesWithin
  rw [show (dats m 0 c).owed t.castSucc = 0 from rfl, show (dats m 0 c).owed t.succ = 0 from rfl]
  rw [leaves_4 m c t (liveAt0_4_D t hc0 hc1 hc2 hc3)]
  rw [leaves_5 m c t (liveAt0_5_D t hc0 hc1 hc2 hc3)]
  obtain ⟨n, hn⟩ : ∃ n, t.val = n + 1 := ⟨t.val - 1, by omega⟩
  have hpt : pt (n + 1) = t := by rw [← hn, pt_val]
  have ho : oS m c t = dxF (iblk m c 2 t) (pS m c n) (iblk m c 1 t) (iblk m c 3 t) := by unfold oS; rw [hn]; rfl
  have hg : gS m c (n + 1) = gF (gS m c n) (pS m c n) (iblk m c 1 t) := by rw [gS_succ, hpt]
  have hp : pS m c (n + 1) = dHf (iblk m c 0 t) (wS m c) := by unfold pS; rw [hpt]
  rw [hn, PhiS_odd m c n (by omega) (by omega), PhiS_end m c (n + 1 + 1) (.inr (by omega)), ho]
  unfold PhiO restS
  rw [hg]
  iintro ⟨⟨⟨HS0, ⟨%ds1, HS1⟩, HS2, HS3⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩⟩
  iapply ((kernelRun0_D c (grid0.coords t) _ _ _ _ _ _ _ _ _ _ _ _ _ _ _ _ _ _ _ _ hc0 hc1 hc2 hc3 (iblk m c 0 t) (iblk m c 1 t) (iblk m c 2 t) (iblk m c 3 t) (wS m c) ds1 (pS m c n) (gS m c n) (V m c main_arg1)).2.2.2.2.2.2 W _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hh0]; · iexact Hh0
  isplitl [HW]; · iexact HW
  iintro ⟨H0, H1, H2, H3, ⟨%e4, H4⟩, ⟨%e5, H5⟩, HS0, HS1, HS2, ⟨%es3, HS3⟩, Hq0, Hq1, Hq2, Hq3, Hh0, ⟨%W', HW'⟩⟩
  isplitl [HS0 HS1 HS2 HS3 Hg Hq0 Hq1 Hq2 Hq3 Hh0]
  · isplitl [HS0 HS1 HS2 HS3]
    · isplitl [HS0]
      · iexists _; iexact HS0
      isplitl [HS1]
      · iexists _; iexact HS1
      isplitl [HS2]
      · iexists _; iexact HS2
      iexists _
      unfold owns; iexists _; isplitr
      swap; · iexact HS3
      ipureintro; exact leafD_g _
    isplitl [Hg]; · iexact Hg
    isplitl [Hq0 Hq1 Hq2 Hq3]
    · isplitl [Hq0]; · iexact Hq0
      isplitl [Hq1]; · iexact Hq1
      isplitl [Hq2]; · iexact Hq2
      iexact Hq3
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact leafD_x _
  unfold owns; iexists _; isplitr
  swap; · iexact H5
  ipureintro; exact leafD_s _

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  by_cases h0 : t.val = 0
  · exact body_A m c t h0
  by_cases h1 : t.val % 2 = 1
  · exact body_B m c t h1
  by_cases h2 : t.val = 64
  · exact body_D m c t h2
  · exact body_C m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 from rfl, PhiS, if_pos (Or.inl rfl)]

theorem hout (c : Dev nD) : (dats m 0 c).Φ (Fin.last cfg0.N) ⊢ Pipeline.ΦD osem0 spec0 H0 (V m) c := by
  rw [show (dats m 0 c).Φ (Fin.last cfg0.N) = PhiS m c cfg0.N from rfl, PhiS, if_pos (Or.inr N_0)]

/-! ## The run and the frame -/

set_option backward.isDefEq.respectTransparency.types false in
/-- Every weakly fair execution of @main terminates, every array of the pipeline at what the proof data says, every other
    unscoped buffer as the region found it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.InAlg.lean ====
/-
  The algebra of one row on the extended reals: the normalisation's gradient as the kernel writes it,
  `d + r (a − x r (Σ A X r) / 1024)`, is the gradient the chain rule writes, `d + a r + x t + t x` with
  `t = (Σ X A) (−1/2 · r / y) / 1024`, for every row. A row with an infinite entry has `y = ⊤` and `r = 0`; in any other
  row `y` is a positive real, `r = 1 / √y`, and a positive real factor distributes over every sum.
-/
module

public import Idealize.ShloMosaic.PureOps.Ideal
public import Idealize.ShloMosaic.PureOps.Ideal.Laws
public import Mathlib.Data.EReal.Operations
public import Mathlib.Data.EReal.Inv
public import Mathlib.Tactic.NormNum
public import Mathlib.Tactic.FieldSimp
public import Mathlib.Tactic.Ring
public import Mathlib.Tactic.Positivity

@[expose] public section

noncomputable section

namespace Cert.KernelIdeal.Hand

open Idealize.ShloMosaic
open scoped BigOperators

theorem ofBits_c : Ideal.ofBits .f32 0x3A800000#32 = ((1 / 1024 : ℝ) : EReal) := by
  simp [Ideal.ofBits, Ideal.ieee, -EReal.coe_mul]; norm_num
theorem ofBits_n : Ideal.ofBits .f32 0x44800000#32 = ((1024 : ℝ) : EReal) := by
  simp [Ideal.ofBits, Ideal.ieee, -EReal.coe_mul]; norm_num
theorem ofBits_h : Ideal.ofBits .f32 0xBF000000#32 = ((-(1 / 2) : ℝ) : EReal) := by
  simp [Ideal.ofBits, Ideal.ieee, -EReal.coe_mul]; norm_num
theorem ofBits_e : ∃ e : ℝ, 0 < e ∧ Ideal.ofBits .f32 0x358637BD#32 = (e : EReal) := by
  refine ⟨(2 : ℝ) ^ (-43 : ℤ) * 8796093, by positivity, ?_⟩
  simp [Ideal.ofBits, Ideal.ieee, -EReal.coe_mul]; norm_num

/-- The guard of the mean square. -/
def eps : EReal := Ideal.ofBits .f32 0x358637BD#32

theorem sum_mul_real {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

theorem sq_nonneg' (x : EReal) : 0 ≤ x * x := by
  induction x with
  | bot => simp
  | top => simp
  | coe q => rw [← EReal.coe_mul]; exact_mod_cast mul_self_nonneg q

theorem sum_top {ι : Type} [Fintype ι] [DecidableEq ι] (f : ι → EReal) (h0 : ∀ k, 0 ≤ f k) (k : ι) (hk : f k = ⊤) : ∑ k, f k = ⊤ := by
  rw [← Finset.add_sum_erase _ _ (Finset.mem_univ k), hk]
  refine EReal.top_add_of_ne_bot fun h => ?_
  have := Finset.sum_nonneg (s := Finset.univ.erase k) (f := f) fun i _ => h0 i
  rw [h] at this
  exact absurd this (by simp)

/-- The mean square of a row, guarded. -/
def msq (X : Fin 1024 → EReal) : EReal := (∑ k, X k * X k) * ((1 / 1024 : ℝ) : EReal) + eps

theorem msq_cases (X : Fin 1024 → EReal) :
    msq X = ⊤ ∨ ∃ (y : ℝ) (Q : Fin 1024 → ℝ), 0 < y ∧ msq X = y ∧ ∀ k, X k = Q k := by
  obtain ⟨e, he, hE⟩ := ofBits_e
  by_cases h : ∀ k, ∃ q : ℝ, X k = q
  · right
    choose Q hQ using h
    refine ⟨(∑ k, Q k * Q k) * (1 / 1024) + e, Q, ?_, ?_, hQ⟩
    · have : 0 ≤ ∑ k, Q k * Q k := Finset.sum_nonneg fun k _ => mul_self_nonneg _
      positivity
    · unfold msq eps
      rw [hE]
      simp only [hQ]
      rw [EReal.coe_add, EReal.coe_mul]
      refine congrArg (fun z : EReal => z * ((1 / 1024 : ℝ) : EReal) + (e : EReal)) ?_
      rw [show (∑ k, ((Q k : EReal) * (Q k : EReal))) = ∑ k, ((Q k * Q k : ℝ) : EReal) from Finset.sum_congr rfl fun k _ => (EReal.coe_mul _ _).symm]
      exact (map_sum (⟨⟨Real.toEReal, EReal.coe_zero⟩, EReal.coe_add⟩ : ℝ →+ EReal) (fun k => Q k * Q k) Finset.univ).symm
  · left
    push Not at h
    obtain ⟨k, hk⟩ := h
    have hX : X k * X k = ⊤ := by
      generalize X k = x at hk
      induction x with
      | bot => simp
      | top => simp
      | coe q => exact absurd rfl (hk q)
    unfold msq eps
    rw [sum_top _ (fun k => sq_nonneg' _) k hX, EReal.top_mul_coe_of_pos (by norm_num), hE]
    exact EReal.top_add_coe e

theorem two_copies (z : EReal) : z + z = ((2 : ℝ) : EReal) * z := by
  have := EReal.right_distrib_of_nonneg (a := 1) (b := 1) (c := z) zero_le_one zero_le_one
  rw [one_mul] at this
  rw [← this]
  congr 1
  rw [show (2 : ℝ) = 1 + 1 by norm_num, EReal.coe_add, EReal.coe_one]

/-- The row's gradient, the kernel's form and the chain rule's. -/
theorem row_eq (X A : Fin 1024 → EReal) (d : EReal) (j : Fin 1024) :
    d + Ideal.rsqrt (msq X) * (A j - X j * Ideal.rsqrt (msq X) * ((∑ k, A k * (X k * Ideal.rsqrt (msq X))) * ((1 / 1024 : ℝ) : EReal)))
      = d + A j * Ideal.rsqrt (msq X)
        + X j * ((∑ k, X k * A k) * (((-(1 / 2) : ℝ) : EReal) * Ideal.div (Ideal.rsqrt (msq X)) (msq X)) * ((1 / 1024 : ℝ) : EReal))
        + (∑ k, X k * A k) * (((-(1 / 2) : ℝ) : EReal) * Ideal.div (Ideal.rsqrt (msq X)) (msq X)) * ((1 / 1024 : ℝ) : EReal) * X j := by
  rcases msq_cases X with h | ⟨y, Q, hy, h, hQ⟩
  · have h0 : Ideal.rsqrt (msq X) = 0 := by rw [h]; rfl
    have h1 : Ideal.div 0 (msq X) = 0 := by rw [h, Ideal.div, if_neg (by simp)]; simp
    rw [h0, h1]; simp
  · obtain ⟨r, hr, h0⟩ : ∃ r : ℝ, 0 < r ∧ Ideal.rsqrt (msq X) = r := ⟨(Real.sqrt y)⁻¹, by positivity, by
      rw [h]; show (if y < 0 then ⊥ else if y = 0 then ⊤ else (((Real.sqrt y)⁻¹ : ℝ) : EReal)) = _
      rw [if_neg (by linarith), if_neg (by linarith)]⟩
    have hr2 : r * r * y = 1 := by
      have e : Ideal.rsqrt (msq X) = (((Real.sqrt y)⁻¹ : ℝ) : EReal) := by
        rw [h]; show (if y < 0 then ⊥ else if y = 0 then ⊤ else (((Real.sqrt y)⁻¹ : ℝ) : EReal)) = _
        rw [if_neg (by linarith), if_neg (by linarith)]
      have : r = (Real.sqrt y)⁻¹ := EReal.coe_injective (h0.symm.trans e)
      rw [this, ← mul_inv, Real.mul_self_sqrt hy.le, inv_mul_cancel₀ hy.ne']
    have h1 : Ideal.div (r : EReal) (msq X) = ((r * r * r : ℝ) : EReal) := by
      rw [h, Ideal.div_coe hy.ne', ← EReal.coe_mul]
      congr 1
      field_simp
      nlinarith [hr2]
    rw [h0, h1, hQ j]
    have hS : ∑ k, A k * (X k * (r : EReal)) = (∑ k, X k * A k) * (r : EReal) := by
      rw [sum_mul_real _ _ r hr.le]
      exact Finset.sum_congr rfl fun k _ => by rw [mul_comm (X k) (A k), mul_assoc]
    rw [hS]
    generalize ∑ k, X k * A k = S
    rw [sub_eq_add_neg, EReal.left_distrib_of_nonneg_of_ne_top (by exact_mod_cast hr.le) (EReal.coe_ne_top r), mul_comm (r : EReal) (A j),
      add_assoc d, add_assoc d, add_assoc (A j * (r : EReal))]
    refine congrArg (fun z => d + (A j * (r : EReal) + z)) ?_
    have e1 : (r : EReal) * -((Q j : EReal) * (r : EReal) * (S * (r : EReal) * ((1 / 1024 : ℝ) : EReal)))
        = ((-(r * Q j * r * r * (1 / 1024)) : ℝ) : EReal) * S := by
      rw [mul_neg, EReal.coe_neg, neg_mul]
      simp only [EReal.coe_mul]
      congr 1
      ac_rfl
    have e2 : (Q j : EReal) * (S * (((-(1 / 2) : ℝ) : EReal) * ((r * r * r : ℝ) : EReal)) * ((1 / 1024 : ℝ) : EReal))
        = ((Q j * (-(1 / 2)) * (r * r * r) * (1 / 1024) : ℝ) : EReal) * S := by
      simp only [EReal.coe_mul]
      ac_rfl
    have e3 : S * (((-(1 / 2) : ℝ) : EReal) * ((r * r * r : ℝ) : EReal)) * ((1 / 1024 : ℝ) : EReal) * (Q j : EReal)
        = ((Q j * (-(1 / 2)) * (r * r * r) * (1 / 1024) : ℝ) : EReal) * S := by
      simp only [EReal.coe_mul]
      ac_rfl
    rw [e1, e2, e3, two_copies, ← mul_assoc, ← EReal.coe_mul]
    congr 2
    ring

end Cert.KernelIdeal.Hand

end
-- ==== Proof.InRead.lean ====
/-
  The input-gradient call's per-tile functions on the extended reals, read at an index: a tile's product as a double sum,
  a tile's gradient as the row formula, the partial sums as what they held plus sixteen rows' terms.
-/
module

public import proofs.«01_k».proof.Proof.InFrame
public import proofs.«01_k».proof.Proof.InAlg
public import Idealize.ShloMosaic.Lib.Pipeline.Value
public import Idealize.ShloMosaic.Lib.ValueIdx
public import Idealize.ShloMosaic.Lib.ValueLayoutCasts
public import Idealize.ShloMosaic.Lib.MatmulPlain

@[expose] public section

set_option maxRecDepth 16384

noncomputable section

namespace Cert.KernelIdeal.Hand

open Cert.KernelIdeal Cert.KernelIdeal.Gen
open Idealize.ShloMosaic Idealize.ShloMosaic.ValueIdx
open scoped BigOperators

/-! ## Loads -/

theorem pX_apply (x : Vec Ideal S256x1024 .f32) (n h : ℕ) (hn : n < 16) (hh : h < 2) (a : Fin 16) (b : Fin 512) :
    pX x n h (ix2 a b) = x (ix2 ⟨16 * n + a.val, by omega⟩ ⟨512 * h + b.val, by omega⟩) := by
  refine congrArg x (funext fun k => Fin.ext ?_)
  match k with
  | 0 => show 16 * (n % 16) + 1 * a.val = 16 * n + a.val; rw [Nat.mod_eq_of_lt hn]; omega
  | 1 => show 512 * (h % 2) + 1 * b.val = 512 * h + b.val; rw [Nat.mod_eq_of_lt hh]; omega
theorem pN_apply (x : Vec Ideal S1x1024 .f32) (h : ℕ) (hh : h < 2) (u : Fin 1) (b : Fin 512) :
    pN x h (ix2 u b) = x (ix2 0 ⟨512 * h + b.val, by omega⟩) := by
  refine congrArg x (funext fun k => Fin.ext ?_)
  match k with
  | 0 => show 0 + 1 * u.val = 0; omega
  | 1 => show 512 * (h % 2) + 1 * b.val = 512 * h + b.val; rw [Nat.mod_eq_of_lt hh]; omega
theorem pG_apply (x : Vec Ideal S16x1024 .f32) (h : ℕ) (hh : h < 2) (a : Fin 16) (b : Fin 512) :
    pG x h (ix2 a b) = x (ix2 a ⟨512 * h + b.val, by omega⟩) := by
  refine congrArg x (funext fun k => Fin.ext ?_)
  match k with
  | 0 => show 0 + 1 * a.val = a.val; omega
  | 1 => show 512 * (h % 2) + 1 * b.val = 512 * h + b.val; rw [Nat.mod_eq_of_lt hh]; omega

/-! ## The product -/

/-- Row `j` of slab `k` of the weights. -/
abbrev wIdx (k : Fin 12) (j e : Fin 1024) : S4x3072x1024.Idx :=
  ix3 ⟨k.val / 3, by omega⟩ ⟨1024 * (k.val % 3) + j.val, by omega⟩ e

theorem pA_apply (x : Vec Ideal S12x256x1024 .bf16) (k : Fin 12) (r : Fin 256) (e : Fin 1024) :
    (shapeCast S256x1024 (pA x k.val) shapeCasts_S1x256x1024_S256x1024 : FVec Ideal S256x1024 .bf16) (ix2 r e) = x (ix3 k r e) := by
  refine (shapeCast_dropUnit_apply _ _ _ _).trans ?_
  refine congrArg x (funext fun a => Fin.ext ?_)
  match a with
  | 0 => show k.val % 12 + 1 * 0 = k.val; omega
  | 1 => show 0 + 1 * r.val = r.val; omega
  | 2 => show 0 + 1 * e.val = e.val; omega
theorem pB_apply (x : Vec Ideal S4x3072x1024 .bf16) (k : Fin 12) (j e : Fin 1024) :
    (shapeCast S1024x1024 (pB x k.val) shapeCasts_S1x1024x1024_S1024x1024 : FVec Ideal S1024x1024 .bf16) (ix2 j e) = x (wIdx k j e) := by
  refine (shapeCast_dropUnit_apply _ _ _ _).trans ?_
  refine congrArg x (funext fun a => Fin.ext ?_)
  match a with
  | 0 => show k.val / 3 % 4 + 1 * 0 = k.val / 3; omega
  | 1 => show 1024 * (k.val % 3) + 1 * j.val = 1024 * (k.val % 3) + j.val; omega
  | 2 => show 0 + 1 * e.val = e.val; omega

theorem dot_eq : dot_S256x1024_S1024x1024_S256x1024_1_1_0_0_n_n = DotDims.transposedRhs 256 1024 1024 := rfl

theorem dHn_apply (a : ℕ → Vec Ideal S1x256x1024 .bf16) (b : ℕ → Vec Ideal S1x1024x1024 .bf16) (n : ℕ) (r : Fin 256) (j : Fin 1024) :
    dHn a b n (ix2 r j) = ∑ k ∈ Finset.range n, ∑ e : Fin 1024,
      (shapeCast S256x1024 (a k) shapeCasts_S1x256x1024_S256x1024 : FVec Ideal S256x1024 .bf16) (ix2 r e)
        * (shapeCast S1024x1024 (b k) shapeCasts_S1x1024x1024_S1024x1024 : FVec Ideal S1024x1024 .bf16) (ix2 j e) := by
  induction n with
  | zero => exact Ideal.ofBits_zero_f32
  | succ n ih =>
    rw [Finset.sum_range_succ, ← ih]
    show dHn a b n (ix2 r j) + FloatOps.matmul dot_S256x1024_S1024x1024_S256x1024_1_1_0_0_n_n none _ _ (constant S256x1024 .f32 0x00000000#32) (ix2 r j) = _
    rw [dot_eq, Ideal.matmul_transposedRhs_apply]
    show _ + (Ideal.ofBits .f32 0x00000000#32 + _) = _
    rw [Ideal.ofBits_zero_f32, zero_add]

/-- A tile's product at an index. -/
theorem dHf_apply (x : Vec Ideal S12x256x1024 .bf16) (w : Vec Ideal S4x3072x1024 .bf16) (r : Fin 256) (j : Fin 1024) :
    dHf x w (ix2 r j) = ∑ k : Fin 12, ∑ e : Fin 1024, x (ix3 k r e) * w (wIdx k j e) := by
  unfold dHf dHp
  rw [shapeCast_self, dHn_apply, Finset.sum_range]
  refine Finset.sum_congr rfl fun k _ => Finset.sum_congr rfl fun e _ => ?_
  rw [pA_apply, pB_apply]

/-! ## The rows -/

theorem sumc_apply (X : FVec Ideal S16x512 .f32) (a : Fin 16) (u : Fin 1) : sumc X (ix2 a u) = ∑ k : Fin 512, X (ix2 a k) := by
  unfold sumc
  rw [shapeCast_a_a1_apply]
  refine (Ideal.multiReduction_add_single _ _ _ _ _ _).trans ?_
  refine Finset.sum_congr rfl fun k _ => congrArg X (funext fun d => Fin.ext ?_)
  match d with
  | 0 => rfl
  | 1 => rfl

theorem sum_halves (f : Fin 1024 → EReal) :
    (∑ k : Fin 512, f ⟨512 * 0 + k.val, by omega⟩) + (∑ k : Fin 512, f ⟨512 * 1 + k.val, by omega⟩) = ∑ k, f k := by
  rw [show (∑ k, f k) = ∑ k : Fin (512 + 512), f k from rfl, Fin.sum_univ_add]
  refine congrArg₂ (· + ·) (Finset.sum_congr rfl fun k _ => congrArg f (Fin.ext ?_)) (Finset.sum_congr rfl fun k _ => congrArg f (Fin.ext ?_))
  · show 512 * 0 + k.val = k.val; omega
  · show 512 * 1 + k.val = 512 + k.val; omega

theorem sum2_apply (X Y : FVec Ideal S16x512 .f32) (a : Fin 16) (u : Fin 1) (f : Fin 1024 → EReal)
    (h0 : ∀ k : Fin 512, X (ix2 a k) = f ⟨512 * 0 + k.val, by omega⟩) (h1 : ∀ k : Fin 512, Y (ix2 a k) = f ⟨512 * 1 + k.val, by omega⟩) :
    sum2 X Y (ix2 a u) = ∑ k, f k := by
  show Ideal.ofBits .f32 0x00000000#32 + sumc X (ix2 a u) + sumc Y (ix2 a u) = _
  rw [Ideal.ofBits_zero_f32, zero_add, sumc_apply, sumc_apply, ← sum_halves]
  simp only [h0, h1]

theorem rr_apply (X Y : Vec Ideal S16x512 .f32) (a : Fin 16) (u : Fin 1) (f : Fin 1024 → EReal)
    (h0 : ∀ k : Fin 512, X (ix2 a k) = f ⟨512 * 0 + k.val, by omega⟩) (h1 : ∀ k : Fin 512, Y (ix2 a k) = f ⟨512 * 1 + k.val, by omega⟩) :
    rr X Y (ix2 a u) = Ideal.rsqrt (msq f) := by
  show Ideal.rsqrt (sum2 (F := Ideal) (mulf X X) (mulf Y Y) (ix2 a u) * Ideal.ofBits .f32 0x3A800000#32 + eps) = _
  rw [sum2_apply _ _ a u (fun k => f k * f k) (fun k => by show X _ * X _ = _; rw [h0]) (fun k => by show Y _ * Y _ = _; rw [h1]), ofBits_c]
  rfl

theorem bc_col (r : FVec Ideal S16x1 .f32) (a : Fin 16) (b : Fin 512) : broadcastTo S16x512 r broadcasts_S16x1_S16x512 (ix2 a b) = r (ix2 a 0) :=
  broadcastTo_apply r _ _ _ fun k => match k with
    | ⟨0, _⟩ => rfl
    | ⟨1, _⟩ => rfl
theorem bc_row (g : FVec Ideal S1x512 .f32) (a : Fin 16) (b : Fin 512) : broadcastTo S16x512 g broadcasts_S1x512_S16x512 (ix2 a b) = g (ix2 0 b) :=
  broadcastTo_apply g _ _ _ fun k => match k with
    | ⟨0, _⟩ => rfl
    | ⟨1, _⟩ => rfl

theorem xh_apply (X : Vec Ideal S16x512 .f32) (r : FVec Ideal S16x1 .f32) (a : Fin 16) (b : Fin 512) :
    xh X r (ix2 a b) = X (ix2 a b) * r (ix2 a 0) := by
  show X _ * broadcastTo S16x512 r _ _ = _; rw [bc_col]
theorem dg_apply (P : Vec Ideal S16x512 .f32) (N : Vec Ideal S1x512 .f32) (a : Fin 16) (b : Fin 512) :
    dg P N (ix2 a b) = P (ix2 a b) * N (ix2 0 b) := by
  show P _ * broadcastTo S16x512 N _ _ = _; rw [bc_row]

section Tile
variable (d p x : Vec Ideal S256x1024 .f32) (g : Vec Ideal S1x1024 .f32)

/-- Row `r` of the activations. -/
abbrev rowX (r : Fin 256) : Fin 1024 → EReal := fun k => x (ix2 r k)
/-- Row `r` of the product times the gain. -/
abbrev rowA (r : Fin 256) : Fin 1024 → EReal := fun k => p (ix2 r k) * g (ix2 0 k)

theorem rr_tile (n : ℕ) (hn : n < 16) (a : Fin 16) (u : Fin 1) :
    rr (pX x n 0) (pX x n 1) (ix2 a u) = Ideal.rsqrt (msq (rowX x ⟨16 * n + a.val, by omega⟩)) :=
  rr_apply _ _ a u _ (fun k => pX_apply x n 0 hn (by decide) a k) (fun k => pX_apply x n 1 hn (by decide) a k)

theorem mm_tile (n : ℕ) (hn : n < 16) (a : Fin 16) (u : Fin 1) :
    mm (pX p n 0) (pX p n 1) (pX x n 0) (pX x n 1) (pN g 0) (pN g 1) (ix2 a u)
      = (∑ k, rowA p g ⟨16 * n + a.val, by omega⟩ k * (rowX x ⟨16 * n + a.val, by omega⟩ k * Ideal.rsqrt (msq (rowX x ⟨16 * n + a.val, by omega⟩))))
          * ((1 / 1024 : ℝ) : EReal) := by
  show sum2 (F := Ideal) _ _ (ix2 a u) * Ideal.ofBits .f32 0x3A800000#32 = _
  rw [ofBits_c]
  refine congrArg (· * ((1 / 1024 : ℝ) : EReal)) (sum2_apply _ _ a u _ (fun k => ?_) (fun k => ?_))
  all_goals
    show dg (F := Ideal) _ _ (ix2 a k) * xh (F := Ideal) _ _ (ix2 a k) = _
    rw [dg_apply, xh_apply, rr_tile x n hn, pX_apply _ _ _ hn (by decide), pX_apply _ _ _ hn (by decide), pN_apply _ _ (by decide)]

/-- A tile's gradient at an index. -/
theorem dxF_apply (r : Fin 256) (j : Fin 1024) :
    dxF d p x g (ix2 r j) = d (ix2 r j) + Ideal.rsqrt (msq (rowX x r)) * (rowA p g r j - rowX x r j * Ideal.rsqrt (msq (rowX x r))
      * ((∑ k, rowA p g r k * (rowX x r k * Ideal.rsqrt (msq (rowX x r)))) * ((1 / 1024 : ℝ) : EReal))) := by
  have hl : loc r.val j.val = ix2 ⟨r.val % 16, by omega⟩ ⟨j.val % 512, by omega⟩ := loc_self _ _ _ rfl rfl
  show dxV (pX d) (pX p) (pX x) (pN g) (r.val / 16) (j.val / 512) (loc r.val j.val) = _
  have hn : r.val / 16 < 16 := by omega
  have hh : j.val / 512 < 2 := by omega
  have er : (⟨16 * (r.val / 16) + r.val % 16, by omega⟩ : Fin 256) = r := Fin.ext (by show 16 * (r.val / 16) + r.val % 16 = r.val; omega)
  have ej : (⟨512 * (j.val / 512) + j.val % 512, by omega⟩ : Fin 1024) = j := Fin.ext (by show 512 * (j.val / 512) + j.val % 512 = j.val; omega)
  rw [hl]
  unfold dxV dxP
  show pX d _ _ _ + broadcastTo S16x512 _ _ _ * (dg (F := Ideal) _ _ _ - xh (F := Ideal) _ _ _ * broadcastTo S16x512 _ _ _) = _
  rw [bc_col, bc_col, dg_apply, xh_apply, rr_tile x _ hn, mm_tile p x g _ hn, pX_apply _ _ _ hn hh, pX_apply _ _ _ hn hh, pX_apply _ _ _ hn hh, pN_apply _ _ hh]
  simp only [er, ej]

theorem gN_apply (G : ℕ → Vec Ideal S16x512 .f32) (h : ℕ) (hh : h < 2) (a : Fin 16) (b : Fin 512) (n : ℕ) (hn : n ≤ 16) :
    gN G (pX p) (pX x) h n (ix2 a b) = G h (ix2 a b) + ∑ k : Fin n, p (ix2 ⟨16 * k.val + a.val, by omega⟩ ⟨512 * h + b.val, by omega⟩)
      * (x (ix2 ⟨16 * k.val + a.val, by omega⟩ ⟨512 * h + b.val, by omega⟩) * Ideal.rsqrt (msq (rowX x ⟨16 * k.val + a.val, by omega⟩))) := by
  induction n with
  | zero => simp; rfl
  | succ n ih =>
    rw [Fin.sum_univ_castSucc, ← add_assoc]
    refine Eq.trans ?_ (congrArg (· + _) (ih (by omega)))
    show gP (gN G (pX p) (pX x) h n) (pX p n h) (pX x n h) (rr (pX x n 0) (pX x n 1)) (ix2 a b) = _
    unfold gP
    rw [shapeCast_self]
    show gN G (pX p) (pX x) h n (ix2 a b) + pX p n h (ix2 a b) * xh (F := Ideal) _ _ (ix2 a b) = _
    rw [xh_apply, rr_tile x n (by omega), pX_apply _ _ _ (by omega) hh, pX_apply _ _ _ (by omega) hh]
    rfl

/-- The partial sums after a tile, at an index. -/
theorem gF_apply (s : Vec Ideal S16x1024 .f32) (a : Fin 16) (j : Fin 1024) :
    gF s p x (ix2 a j) = s (ix2 a j) + ∑ k : Fin 16, p (ix2 ⟨16 * k.val + a.val, by omega⟩ j)
      * (x (ix2 ⟨16 * k.val + a.val, by omega⟩ j) * Ideal.rsqrt (msq (rowX x ⟨16 * k.val + a.val, by omega⟩))) := by
  have hl : loc a.val j.val = ix2 a ⟨j.val % 512, by omega⟩ := loc_self _ _ _ (by show a.val % 16 = a.val; omega) rfl
  show gN (pG s) (pX p) (pX x) (j.val / 512) 16 (loc a.val j.val) = _
  have hh : j.val / 512 < 2 := by omega
  have ej : (⟨512 * (j.val / 512) + j.val % 512, by omega⟩ : Fin 1024) = j := Fin.ext (by show 512 * (j.val / 512) + j.val % 512 = j.val; omega)
  rw [hl, gN_apply p x _ _ hh _ _ 16 le_rfl, pG_apply _ _ hh]
  simp only [ej]

end Tile

theorem g0_apply (a : Fin 16) (j : Fin 1024) : (g0 : Vec Ideal S16x1024 .f32) (ix2 a j) = 0 := by
  unfold g0; rw [shapeCast_self]; exact Ideal.ofBits_zero_f32

theorem pay2_apply (s : Vec Ideal S16x1024 .f32) (u : Fin 1) (j : Fin 1024) : k0_pay2 s (ix2 u j) = ∑ a : Fin 16, s (ix2 a j) := by
  unfold k0_pay2
  refine (shapeCast_addUnit_apply _ _ _ _).trans ?_
  refine (Ideal.multiReduction_add_single _ _ _ _ _ _).trans ?_
  refine Finset.sum_congr rfl fun k _ => congrArg s (funext fun d => Fin.ext ?_)
  match d with
  | 0 => rfl
  | 1 => rfl

end Cert.KernelIdeal.Hand

end
-- ==== Proof.InBlocks.lean ====
/-
  The input-gradient call's blocks as rows of its arrays, and its two result arrays after the run.
-/
module

public import proofs.«01_k».proof.Proof.InRead

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (c : Dev nD)

/-! ## Block indices -/

theorem ind0 : ∀ t : Fin grid0.N, win0_0.index t 0 = 0 ∧ win0_0.index t 1 = min t.val 63 ∧ win0_0.index t 2 = 0 := by decide +kernel
theorem ind1 : ∀ t : Fin grid0.N, win0_1.index t 0 = t.val - 1 ∧ win0_1.index t 1 = 0 := by decide +kernel
theorem ind2 : ∀ t : Fin grid0.N, win0_2.index t 0 = t.val - 1 ∧ win0_2.index t 1 = 0 := by decide +kernel
theorem ind3 : ∀ t : Fin grid0.N, win0_3.index t 0 = 0 ∧ win0_3.index t 1 = 0 := by decide +kernel
theorem ind4 : ∀ t : Fin grid0.N, win0_4.index t 0 = t.val - 1 ∧ win0_4.index t 1 = 0 := by decide +kernel
theorem ind5 : ∀ t : Fin grid0.N, win0_5.index t 0 = 0 ∧ win0_5.index t 1 = 0 := by decide +kernel
theorem flush4 : ∀ t : Fin grid0.N, win0_4.flush t = true ↔ 0 < t.val := by decide +kernel

theorem lt65 (t : Fin cfg0.N) : t.val < 65 := Nat.lt_of_lt_of_eq t.isLt N_0

/-- Row `r` of tile `n`. -/
def row (n : ℕ) (hn : n < 64) (r : Fin 256) : Fin 16384 := ⟨256 * n + r.val, by omega⟩

theorem iblk0_apply (t : Fin cfg0.N) (n : ℕ) (hn : n < 64) (h : t.val = n) (k : Fin 12) (r : Fin 256) (e : Fin 1024) :
    iblk m c 0 t (ix3 k r e : S12x256x1024.Idx) = V m c main_arg0 (ix3 k (row n hn r) e) := by
  obtain ⟨i0, i1, i2⟩ := ind0 t
  show V m c main_arg0 ((win0_0.rect t).emb (ix3 k r e : S12x256x1024.Idx)) = _
  refine congrArg (V m c main_arg0) (funext fun a => Fin.ext ?_)
  match a with
  | 0 => exact (Pipeline.Window.rect_emb_val win0_0 t (ix3 k r e : S12x256x1024.Idx) 0).trans (by rw [i0]; show 0 * 12 + k.val = k.val; omega)
  | 1 => exact (Pipeline.Window.rect_emb_val win0_0 t (ix3 k r e : S12x256x1024.Idx) 1).trans (by
      rw [i1]; show min t.val 63 * 256 + r.val = 256 * n + r.val; omega)
  | 2 => exact (Pipeline.Window.rect_emb_val win0_0 t (ix3 k r e : S12x256x1024.Idx) 2).trans (by rw [i2]; show 0 * 1024 + e.val = e.val; omega)

theorem iblk1_apply (t : Fin cfg0.N) (n : ℕ) (hn : n < 64) (h : t.val = n + 1) (r : Fin 256) (e : Fin 1024) :
    iblk m c 1 t (ix2 r e : S256x1024.Idx) = V m c main_arg2 (ix2 (row n hn r) e) := by
  obtain ⟨i0, i1⟩ := ind1 t
  show V m c main_arg2 ((win0_1.rect t).emb (ix2 r e : S256x1024.Idx)) = _
  refine congrArg (V m c main_arg2) (funext fun a => Fin.ext ?_)
  match a with
  | 0 => exact (Pipeline.Window.rect_emb_val win0_1 t (ix2 r e : S256x1024.Idx) 0).trans (by
      rw [i0, h]; show (n + 1 - 1) * 256 + r.val = 256 * n + r.val; omega)
  | 1 => exact (Pipeline.Window.rect_emb_val win0_1 t (ix2 r e : S256x1024.Idx) 1).trans (by rw [i1]; show 0 * 1024 + e.val = e.val; omega)

theorem iblk2_apply (t : Fin cfg0.N) (n : ℕ) (hn : n < 64) (h : t.val = n + 1) (r : Fin 256) (e : Fin 1024) :
    iblk m c 2 t (ix2 r e : S256x1024.Idx) = V m c main_arg3 (ix2 (row n hn r) e) := by
  obtain ⟨i0, i1⟩ := ind2 t
  show V m c main_arg3 ((win0_2.rect t).emb (ix2 r e : S256x1024.Idx)) = _
  refine congrArg (V m c main_arg3) (funext fun a => Fin.ext ?_)
  match a with
  | 0 => exact (Pipeline.Window.rect_emb_val win0_2 t (ix2 r e : S256x1024.Idx) 0).trans (by
      rw [i0, h]; show (n + 1 - 1) * 256 + r.val = 256 * n + r.val; omega)
  | 1 => exact (Pipeline.Window.rect_emb_val win0_2 t (ix2 r e : S256x1024.Idx) 1).trans (by rw [i1]; show 0 * 1024 + e.val = e.val; omega)

theorem iblk3_apply (t : Fin cfg0.N) (u : Fin 1) (e : Fin 1024) :
    iblk m c 3 t (ix2 u e : S1x1024.Idx) = V m c main_arg4 (ix2 u e) := by
  obtain ⟨i0, i1⟩ := ind3 t
  show V m c main_arg4 ((win0_3.rect t).emb (ix2 u e : S1x1024.Idx)) = _
  refine congrArg (V m c main_arg4) (funext fun a => Fin.ext ?_)
  match a with
  | 0 => exact (Pipeline.Window.rect_emb_val win0_3 t (ix2 u e : S1x1024.Idx) 0).trans (by rw [i0]; show 0 * 1 + u.val = u.val; omega)
  | 1 => exact (Pipeline.Window.rect_emb_val win0_3 t (ix2 u e : S1x1024.Idx) 1).trans (by rw [i1]; show 0 * 1024 + e.val = e.val; omega)

theorem wS_apply (k : Fin 12) (j e : Fin 1024) :
    wS m c (wIdx k j e) = V m c main_arg1 (ix3 ⟨k.val / 3, by omega⟩ ⟨1024 * (k.val % 3) + j.val, by omega⟩ e : S4x4224x1024.Idx) :=
  congrArg (V m c main_arg1) (funext fun a => match a with | 0 => rfl | 1 => rfl | 2 => rfl)

/-! ## The call's functions of the whole arrays -/

/-- The arrays the call reads. -/
abbrev A0 : Vec Ideal S12x16384x1024 .bf16 := V m c main_arg0
abbrev A1 : Vec Ideal S4x4224x1024 .bf16 := V m c main_arg1
abbrev A2 : Vec Ideal S16384x1024 .f32 := V m c main_arg2
abbrev A3 : Vec Ideal S16384x1024 .f32 := V m c main_arg3
abbrev A4 : Vec Ideal S1x1024 .f32 := V m c main_arg4

/-- The product of the cotangents with the weights at row `s`, column `j`. -/
def dHg (s : Fin 16384) (j : Fin 1024) : EReal := ∑ k : Fin 12, ∑ e : Fin 1024,
  A0 m c (ix3 k s e) * A1 m c (ix3 ⟨k.val / 3, by omega⟩ ⟨1024 * (k.val % 3) + j.val, by omega⟩ e : S4x4224x1024.Idx)
/-- Row `s` of the activations. -/
abbrev rXg (s : Fin 16384) : Fin 1024 → EReal := fun k => A2 m c (ix2 s k)
/-- Row `s` of the product times the gain. -/
abbrev rAg (s : Fin 16384) : Fin 1024 → EReal := fun k => dHg m c s k * A4 m c (ix2 0 k)
/-- The input's gradient at row `s`, column `j`. -/
def dxg (s : Fin 16384) (j : Fin 1024) : EReal :=
  A3 m c (ix2 s j) + Ideal.rsqrt (msq (rXg m c s)) * (rAg m c s j - rXg m c s j * Ideal.rsqrt (msq (rXg m c s))
    * ((∑ k, rAg m c s k * (rXg m c s k * Ideal.rsqrt (msq (rXg m c s)))) * ((1 / 1024 : ℝ) : EReal)))
/-- One row's term of the gain's gradient. -/
def dng (s : Fin 16384) (j : Fin 1024) : EReal := dHg m c s j * (rXg m c s j * Ideal.rsqrt (msq (rXg m c s)))

theorem pt_of_lt (n : ℕ) (h : n < 65) : (pt n).val = n := Nat.mod_eq_of_lt h

theorem pS_apply (n : ℕ) (hn : n < 64) (r : Fin 256) (j : Fin 1024) : pS m c n (ix2 r j) = dHg m c (row n hn r) j := by
  unfold pS dHg
  rw [dHf_apply]
  refine Finset.sum_congr rfl fun k _ => Finset.sum_congr rfl fun e _ => ?_
  rw [iblk0_apply m c (pt n) n hn (pt_of_lt n (by omega)), wS_apply]

theorem rowX_eq (t : Fin cfg0.N) (n : ℕ) (hn : n < 64) (h : t.val = n + 1) (r : Fin 256) :
    rowX (iblk m c 1 t) r = rXg m c (row n hn r) := funext fun k => iblk1_apply m c t n hn h r k

theorem rowA_eq (t : Fin cfg0.N) (n : ℕ) (hn : n < 64) (r : Fin 256) :
    rowA (pS m c n) (iblk m c 3 t) r = rAg m c (row n hn r) := funext fun k => by
  show pS m c n (ix2 r k) * iblk m c 3 t (ix2 0 k : S1x1024.Idx) = _
  rw [pS_apply m c n hn, iblk3_apply]

theorem oS_apply (t : Fin cfg0.N) (n : ℕ) (hn : n < 64) (h : t.val = n + 1) (r : Fin 256) (j : Fin 1024) :
    oS m c t (ix2 r j) = dxg m c (row n hn r) j := by
  unfold oS dxg
  rw [dxF_apply, show t.val - 1 = n by omega, rowX_eq m c t n hn h, rowA_eq m c t n hn, iblk2_apply m c t n hn h]

theorem gS_apply (n : ℕ) (hn : n ≤ 64) (a : Fin 16) (j : Fin 1024) :
    gS m c n (ix2 a j) = ∑ q : Fin n, ∑ k : Fin 16, dng m c (row q.val (by omega) ⟨16 * k.val + a.val, by omega⟩) j := by
  induction n with
  | zero => rw [Fin.sum_univ_zero]; exact g0_apply a j
  | succ n ih =>
    rw [gS_succ, gF_apply, ih (by omega), Fin.sum_univ_castSucc (n := n)]
    refine congrArg (fun z : EReal => _ + z) (Finset.sum_congr rfl fun k _ => ?_)
    rw [pS_apply m c n (by omega), rowX_eq m c (pt (n + 1)) n (by omega) (pt_of_lt _ (by omega)),
      iblk1_apply m c (pt (n + 1)) n (by omega) (pt_of_lt _ (by omega))]
    rfl

/-- The rows of all tiles, sixteen chunks of sixteen each, are the rows. -/
theorem sum_rows (f : Fin 16384 → EReal) :
    ∑ a : Fin 16, ∑ q : Fin 64, ∑ k : Fin 16, f (row q.val (by omega) ⟨16 * k.val + a.val, by omega⟩) = ∑ s, f s := by
  rw [Finset.sum_comm, ← Fintype.sum_equiv (finProdFinEquiv (m := 64) (n := 256)) (fun p => f (finProdFinEquiv p)) f (fun _ => rfl), Fintype.sum_prod_type]
  refine Finset.sum_congr rfl fun q _ => ?_
  rw [Finset.sum_comm, ← Fintype.sum_equiv (finProdFinEquiv (m := 16) (n := 16)) (fun p => f (finProdFinEquiv (q, (finProdFinEquiv p : Fin 256))))
    (fun r => f (finProdFinEquiv (q, r))) (fun _ => rfl), Fintype.sum_prod_type]
  refine Finset.sum_congr rfl fun k _ => Finset.sum_congr rfl fun a _ => congrArg f (Fin.ext ?_)
  show 256 * q.val + (16 * k.val + a.val) = (a.val + 16 * k.val) + 256 * q.val
  omega

/-! ## The result arrays -/

/-- The first result: the input's gradient. -/
def G4 : Vec Ideal S16384x1024 .f32 := fun i => dxg m c (i 0) (i 1)
/-- The second: the gain's. -/
def G5 : Vec Ideal S1x1024 .f32 := fun i => ∑ s : Fin 16384, dng m c s (i 1)

theorem emb4 (t : Fin cfg0.N) (n : ℕ) (hn : n < 64) (h : t.val = n + 1) (r : Fin 256) (j : Fin 1024) :
    (win0_4.rect t).emb (ix2 r j : S256x1024.Idx) = (ix2 (row n hn r) j : S16384x1024.Idx) := by
  obtain ⟨i0, i1⟩ := ind4 t
  refine funext fun a => Fin.ext ?_
  match a with
  | 0 => exact (Pipeline.Window.rect_emb_val win0_4 t (ix2 r j : S256x1024.Idx) 0).trans (by
      rw [i0, h]; show (n + 1 - 1) * 256 + r.val = 256 * n + r.val; omega)
  | 1 => exact (Pipeline.Window.rect_emb_val win0_4 t (ix2 r j : S256x1024.Idx) 1).trans (by rw [i1]; show 0 * 1024 + j.val = j.val; omega)

theorem emb5 (t : Fin cfg0.N) (u : Fin 1) (j : Fin 1024) :
    (win0_5.rect t).emb (ix2 u j : S1x1024.Idx) = (ix2 u j : S1x1024.Idx) := by
  obtain ⟨i0, i1⟩ := ind5 t
  refine funext fun a => Fin.ext ?_
  match a with
  | 0 => exact (Pipeline.Window.rect_emb_val win0_5 t (ix2 u j : S1x1024.Idx) 0).trans (by rw [i0]; show 0 * 1 + u.val = u.val; omega)
  | 1 => exact (Pipeline.Window.rect_emb_val win0_5 t (ix2 u j : S1x1024.Idx) 1).trans (by rw [i1]; show 0 * 1024 + j.val = j.val; omega)

theorem arr4 : (dats m 0 c).arrAt 4 cfg0.N = G4 m c := by
  refine (dats m 0 c).arrAt_eq_of_cover 4 (G4 m c) (fun t hf => ?_) (fun i => ?_)
  · have hp : 0 < t.val := (flush4 t).mp hf
    have ht := lt65 t
    show (cfg0.win 4).cut (grid0.coords t) ((dats m 0 c).after 4 t) = _
    rw [after0_4]
    funext y
    obtain ⟨r, j, hy⟩ : ∃ (r : Fin 256) (j : Fin 1024), (ix2 r j : S256x1024.Idx) = y := ⟨y 0, y 1, (eq_ix2 y).symm⟩
    subst hy
    show oS m c t (ix2 r j) = G4 m c ((win0_4.rect t).emb (ix2 r j : S256x1024.Idx))
    rw [oS_apply m c t (t.val - 1) (by omega) (by omega), emb4 t (t.val - 1) (by omega) (by omega)]
    rfl
  · obtain ⟨s, j, rfl⟩ : ∃ (s : Fin 16384) (j : Fin 1024), (ix2 s j : S16384x1024.Idx) = i := ⟨i 0, i 1, (eq_ix2 i).symm⟩
    refine ⟨pt (s.val / 256 + 1), (flush4 _).mpr (by rw [pt_of_lt _ (by omega)]; omega), ?_⟩
    have e : ((cfg0.win 4).blk (pt (s.val / 256 + 1))).view.emb (ix2 ⟨s.val % 256, Nat.mod_lt _ (by decide)⟩ j : S256x1024.Idx)
        = (ix2 s j : S16384x1024.Idx) :=
      (emb4 (pt (s.val / 256 + 1)) (s.val / 256) (by omega) (pt_of_lt _ (by omega)) _ _).trans
        (congrArg (fun z : Fin 16384 => (ix2 z j : S16384x1024.Idx))
          (Fin.ext (show 256 * (s.val / 256) + s.val % 256 = s.val by omega)))
    exact Eq.subst (motive := fun i => i ∈ ((cfg0.win 4).blk (pt (s.val / 256 + 1))).view.set) e
      (((cfg0.win 4).blk (pt (s.val / 256 + 1))).view.emb_mem_set _)

theorem pay_gS (u : Fin 1) (j : Fin 1024) : k0_pay2 (gS m c 64) (ix2 u j) = ∑ s : Fin 16384, dng m c s j := by
  rw [← sum_rows]
  refine (pay2_apply _ u j).trans (Finset.sum_congr rfl fun a _ => ?_)
  exact gS_apply m c 64 (le_refl _) a j

theorem arr5 : (dats m 0 c).arrAt 5 cfg0.N = G5 m c := by
  refine (dats m 0 c).arrAt_eq_of_cover 5 (G5 m c) (fun t hf => ?_) (fun i => ?_)
  · have hp : t.val % 65 = 64 := (flush0_5 t).mp hf
    have ht := lt65 t
    show (cfg0.win 5).cut (grid0.coords t) ((dats m 0 c).after 5 t) = _
    rw [after0_5]
    have e64 : t.val = 64 := by omega
    rw [e64]
    generalize hz : k0_pay2 (gS m c 64) = z
    generalize hg : G5 m c = g
    funext y
    obtain ⟨u, j, hy⟩ : ∃ (u : Fin 1) (j : Fin 1024), (ix2 u j : S1x1024.Idx) = y := ⟨y 0, y 1, (eq_ix2 y).symm⟩
    subst hy
    show z (ix2 u j) = g ((win0_5.rect t).emb (ix2 u j : S1x1024.Idx))
    refine Eq.trans ?_ (congrArg g (emb5 t u j)).symm
    rw [← hz, ← hg]
    exact pay_gS m c u j
  · obtain ⟨u, j, rfl⟩ : ∃ (u : Fin 1) (j : Fin 1024), (ix2 u j : S1x1024.Idx) = i := ⟨i 0, i 1, (eq_ix2 i).symm⟩
    refine ⟨pt 64, (flush0_5 _).mpr (by rw [pt_of_lt _ (by omega)]), ?_⟩
    have e : ((cfg0.win 5).blk (pt 64)).view.emb (ix2 u j : S1x1024.Idx) = (ix2 u j : S1x1024.Idx) := emb5 (pt 64) u j
    exact Eq.subst (motive := fun i => i ∈ ((cfg0.win 5).blk (pt 64)).view.set) e (((cfg0.win 5).blk (pt 64)).view.emb_mem_set _)

end Cert.KernelIdeal.Hand

end
-- ==== Proof.InRef.lean ====
/-
  The reference's two results at an index: the chain rule's row formula, and the gain's gradient as one sum over the rows.
-/
module

public import proofs.«01_k».proof.Proof.Gen.ReferenceIdeal.Read
public import proofs.«01_k».proof.Proof.InAlg
public import Idealize.ShloMosaic.Lib.Pipeline.Value
public import Idealize.ShloMosaic.Lib.ValueIdx
public import Idealize.ShloMosaic.Lib.IdealHost
public import Idealize.ShloMosaic.Lib.TwoAxisContraction

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.ValueIdx
open Cert.KernelIdeal.Hand (msq eps ofBits_c ofBits_n ofBits_h)
open scoped BigOperators

variable (x0 : Vec Ideal S12x16384x1024 .bf16) (x1 : Vec Ideal S4x4224x1024 .bf16) (x2 x3 : Vec Ideal S16384x1024 .f32) (x4 : Vec Ideal S1x1024 .f32)

/-- Row `s` of the activations. -/
abbrev rX (s : Fin 16384) : Fin 1024 → EReal := fun k => x2 (ix2 s k)
/-- The product of the cotangents with the weights at an index. -/
def dH (s : Fin 16384) (j : Fin 1024) : EReal := ∑ k : Fin 12, ∑ e : Fin 1024,
  x0 (ix3 k s e) * x1 (ix3 ⟨k.val / 3, by omega⟩ ⟨1024 * (k.val % 3) + j.val, by omega⟩ e : S4x4224x1024.Idx)
/-- Row `s` of it times the gain. -/
abbrev rA (s : Fin 16384) : Fin 1024 → EReal := fun k => dH x0 x1 s k * x4 (ix2 0 k)

theorem v10_eq (s : Fin 16384) (u : Fin 1) : val_main_v10 (F := Ideal) x2 (ix2 s u) = msq (rX x2 s) := by
  rw [val_main_v10_apply, val_main_v8_apply, val_main_v6_apply, val_main_v7_apply, val_main_v9_apply, val_main_v5_apply]
  show Ideal.div (Ideal.ofBits .f32 0x00000000#32 + _) (Ideal.ofBits .f32 0x44800000#32) + Ideal.ofBits .f32 0x358637BD#32 = _
  rw [ofBits_n, Ideal.div_coe (by norm_num), Ideal.ofBits_zero_f32, zero_add]
  refine congrArg (fun z : EReal => z * _ + _) (Finset.sum_congr rfl fun k _ => ?_)
  rw [show idx_main_v5 (idx_main_v6 (ix2 s u)) k = ix2 s k from funext fun a => Fin.ext (match a with
    | 0 => rfl
    | 1 => rfl)]
  rfl

theorem v11_eq (s : Fin 16384) (u : Fin 1) : val_main_v11 (F := Ideal) x2 (ix2 s u) = Ideal.rsqrt (msq (rX x2 s)) := by
  rw [val_main_v11_apply, v10_eq]; rfl

theorem v14_eq (s : Fin 16384) (u : Fin 1) :
    val_main_v14 (F := Ideal) x2 (ix2 s u) = ((-(1 / 2) : ℝ) : EReal) * Ideal.div (Ideal.rsqrt (msq (rX x2 s))) (msq (rX x2 s)) := by
  rw [val_main_v14_apply, val_main_v13_apply, val_main_v12_apply, v11_eq, v10_eq]
  show Ideal.ofBits .f32 0xBF000000#32 * _ = _
  rw [ofBits_h]; rfl

theorem v2_eq (k : Fin 12) (j e : Fin 1024) :
    val_main_v2 (F := Ideal) x1 (ix3 k j e) = x1 (ix3 ⟨k.val / 3, by omega⟩ ⟨1024 * (k.val % 3) + j.val, by omega⟩ e : S4x4224x1024.Idx) := by
  rw [val_main_v2_apply, val_main_v1_apply, val_main_v0_apply]
  refine congrArg x1 (funext fun a => Fin.ext ?_)
  match a with
  | 0 => show ((k.val * 1024 + j.val) * 1024 + e.val) / 3145728 = k.val / 3; omega
  | 1 => show ((k.val * 1024 + j.val) * 1024 + e.val) / 1024 % 3072 = 1024 * (k.val % 3) + j.val; omega
  | 2 => show ((k.val * 1024 + j.val) * 1024 + e.val) % 1024 = e.val; omega

theorem v23_eq (k : Fin 12) (e : Fin 1024) (s : Fin 16384) : val_main_v23 (F := Ideal) x0 (ix3 k e s) = x0 (ix3 k s e) := by
  rw [val_main_v23_apply, val_main_v22_apply]
  refine congrArg x0 (funext fun a => Fin.ext ?_)
  match a with
  | 0 => rfl
  | 1 => rfl
  | 2 => rfl

abbrev D24 : DotDims S12x1024x16384 S12x1024x1024 S16384x1024 := dot_S12x1024x16384_S12x1024x1024_S16384x1024_01_02_2_1_n_n

theorem v24_eq (s : Fin 16384) (j : Fin 1024) : val_main_v24 (F := Ideal) x0 x1 (ix2 s j) = dH x0 x1 s j := by
  unfold val_main_v24 dH
  generalize hA : val_main_v23 (F := Ideal) x0 = A
  generalize hB : val_main_v2 (F := Ideal) x1 = B
  simp only [Host.dotGeneral]
  rw [Ideal.dotGeneral_apply, sum_contr2 D24 12 1024 rfl rfl rfl]
  refine Finset.sum_congr rfl fun k _ => Finset.sum_congr rfl fun e _ => ?_
  have h0 := contrEquiv2_symm_val0 D24 12 1024 rfl rfl rfl (k, e)
  have h1 := contrEquiv2_symm_val1 D24 12 1024 rfl rfl rfl (k, e)
  have el : D24.lhsIdx (ix2 s j) ((contrEquiv2 D24 12 1024 rfl rfl rfl).symm (k, e)) = ix3 k e s := by
    funext a; apply Fin.ext
    match a with
    | ⟨0, _⟩ => exact h0
    | ⟨1, _⟩ => exact h1
    | ⟨2, _⟩ => rfl
  have er : D24.rhsIdx (ix2 s j) ((contrEquiv2 D24 12 1024 rfl rfl rfl).symm (k, e)) = ix3 k j e := by
    funext a; apply Fin.ext
    match a with
    | ⟨0, _⟩ => exact h0
    | ⟨1, _⟩ => rfl
    | ⟨2, _⟩ => exact h1
  rw [el, er, ← hA, ← hB, v23_eq, v2_eq]

theorem v29_eq (s : Fin 16384) (j : Fin 1024) : val_main_v29 (F := Ideal) x0 x1 x4 (ix2 s j) = rA x0 x1 x4 s j := by
  rw [val_main_v29_apply, v24_eq, val_main_v28_apply, val_main_v17_apply, val_main_v3_apply]
  refine congrArg (dH x0 x1 s j * ·) (congrArg x4 (funext fun a => Fin.ext ?_))
  match a with
  | 0 => rfl
  | 1 => show j.val % 1024 = j.val; omega

/-- The correction every entry of row `s` takes. -/
def corr (s : Fin 16384) : EReal :=
  (∑ k, rX x2 s k * rA x0 x1 x4 s k) * (((-(1 / 2) : ℝ) : EReal) * Ideal.div (Ideal.rsqrt (msq (rX x2 s))) (msq (rX x2 s))) * ((1 / 1024 : ℝ) : EReal)

theorem v41_eq (s : Fin 16384) (j : Fin 1024) : val_main_v41 (F := Ideal) x0 x1 x2 x4 (ix2 s j) = corr x0 x1 x2 x4 s := by
  rw [val_main_v41_apply, val_main_v40_apply]
  show Ideal.ofBits .f32 0x00000000#32 + _ = _
  rw [Ideal.ofBits_zero_f32, zero_add, Fin.sum_univ_one, val_main_v39_apply, val_main_v38_apply, val_main_v37_apply]
  rw [show idx_main_v40 (idx_main_v41 (ix2 s j)) 0 = ix2 s 0 from funext fun a => match a with | ⟨0, _⟩ => rfl | ⟨1, _⟩ => rfl, v14_eq,
    val_main_v33_apply, val_main_v32_apply]
  show Ideal.div ((Ideal.ofBits .f32 0x00000000#32 + _) * _) (Ideal.ofBits .f32 0x44800000#32) = _
  rw [ofBits_n, Ideal.div_coe (by norm_num), Ideal.ofBits_zero_f32, zero_add]
  unfold corr
  refine congrArg (fun z : EReal => z * _ * _) (Finset.sum_congr rfl fun k _ => ?_)
  rw [show idx_main_v32 (idx_main_v33 (ix2 s 0)) k = ix2 s k from funext fun a => Fin.ext (match a with
    | 0 => by show s.val * 1 + 0 = s.val; omega
    | 1 => rfl), val_main_v31_apply, v29_eq]
  rfl

/-- The input's gradient at an index. -/
theorem v45_eq (s : Fin 16384) (j : Fin 1024) : val_main_v45 (F := Ideal) x0 x1 x2 x3 x4 (ix2 s j)
    = x3 (ix2 s j) + rA x0 x1 x4 s j * Ideal.rsqrt (msq (rX x2 s)) + rX x2 s j * corr x0 x1 x2 x4 s + corr x0 x1 x2 x4 s * rX x2 s j := by
  rw [val_main_v45_apply, val_main_v43_apply, val_main_v44_apply, val_main_v42_apply, val_main_v36_apply, val_main_v35_apply, val_main_v34_apply,
    v41_eq, v29_eq]
  rw [show idx_main_v34 (ix2 s j) = ix2 s 0 from funext fun a => match a with | ⟨0, _⟩ => rfl | ⟨1, _⟩ => rfl, v11_eq]
  rfl

/-- The gain's gradient at an index. -/
theorem v46_eq (u : Fin 1) (j : Fin 1024) : val_main_v46 (F := Ideal) x0 x1 x2 (ix2 u j)
    = ∑ s : Fin 16384, dH x0 x1 s j * (rX x2 s j * Ideal.rsqrt (msq (rX x2 s))) := by
  rw [val_main_v46_apply, val_main_v30_apply]
  show Ideal.ofBits .f32 0x00000000#32 + _ = _
  rw [Ideal.ofBits_zero_f32, zero_add, Fin.sum_univ_one, val_main_v27_apply, val_main_v26_apply]
  show Ideal.ofBits .f32 0x00000000#32 + _ = _
  rw [Ideal.ofBits_zero_f32, zero_add]
  refine Finset.sum_congr rfl fun s _ => ?_
  rw [show idx_main_v26 (idx_main_v27 (idx_main_v30 (idx_main_v46 (ix2 u j)) 0)) s = ix2 s j from funext fun a => Fin.ext (match a with
    | 0 => rfl
    | 1 => by show 0 * 1024 + j.val = j.val; omega), val_main_v25_apply, v24_eq, val_main_v16_apply, val_main_v15_apply]
  rw [show idx_main_v15 (ix2 s j) = ix2 s 0 from funext fun a => match a with | ⟨0, _⟩ => rfl | ⟨1, _⟩ => rfl, v11_eq]
  exact mul_comm _ _

end Cert.ReferenceIdeal.Hand

end
-- ==== Proof.InClaim.lean ====
/-
  The input-gradient call computes the reference: the two runs' results are one function of the arguments.
-/
module

public import proofs.«01_k».proof.Defs
public import proofs.«01_k».proof.Proof.InBlocks
public import proofs.«01_k».proof.Proof.InRef
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Hand

open Idealize.ShloMosaic Idealize.ShloMosaic.TcCoe Idealize.ShloMosaic.ValueIdx Idealize.SL.Sem
open Cert.KernelIdeal.Hand Cert.ReferenceIdeal.Read
open scoped BigOperators

/-! ## The kernel's run -/

section Kernel
open Cert.KernelIdeal Cert.KernelIdeal.Gen

theorem args_kept (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (frame m ρ)

theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = G4 m c
      ∧ r.2.mem ((c.tc : Thread nD τ).loc main_v0_1) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 4).trans (arr4 m c), ((h.1 c).1 5).trans (arr5 m c), (h.2 c)⟩)
    (θ_run_and (run_main m ρ) (args_kept m ρ))

end Kernel

/-! ## The reference's functions are the kernel's -/

section Values
open Cert.KernelIdeal

variable (m : (ℓ : Loc nD τ sig) → Buf (Elt Ideal) ℓ) (c : Dev nD)

theorem dx_eq : val_main_v45 (F := Ideal) (A0 m c) (A1 m c) (A2 m c) (A3 m c) (A4 m c) = G4 m c := by
  funext i
  obtain ⟨s, j, rfl⟩ : ∃ (s : Fin 16384) (j : Fin 1024), (ix2 s j : S16384x1024.Idx) = i := ⟨i 0, i 1, (eq_ix2 i).symm⟩
  refine (Cert.ReferenceIdeal.Hand.v45_eq (A0 m c) (A1 m c) (A2 m c) (A3 m c) (A4 m c) s j).trans ?_
  exact (row_eq (rXg m c s) (rAg m c s) (A3 m c (ix2 s j)) j).symm

theorem dn_eq : val_main_v46 (F := Ideal) (A0 m c) (A1 m c) (A2 m c) = G5 m c := by
  funext i
  obtain ⟨u, j, rfl⟩ : ∃ (u : Fin 1) (j : Fin 1024), (ix2 u j : S1x1024.Idx) = i := ⟨i 0, i 1, (eq_ix2 i).symm⟩
  refine (Cert.ReferenceIdeal.Hand.v46_eq (A0 m c) (A1 m c) (A2 m c) u j).trans ?_
  unfold G5
  exact Finset.sum_congr rfl fun s _ => rfl

end Values

/-! ## The claims -/

/-- The two programs have one body table. -/
theorem defs_eq : @Cert.Kernel.defs Bits _ Cert.Kernel.Gen.facts = @Cert.KernelIdeal.defs Bits _ Cert.KernelIdeal.Gen.facts := by
  refine congrArg (Pipeline.defs (@Cert.KernelIdeal.pcfgs Bits Cert.KernelIdeal.Gen.facts)) ?_
  refine congrArg Defs.onTc (funext fun l => funext fun a => ?_)
  match l, a with
  | 0, (t, s) => rfl

theorem frame_kernel : Cert.quiescent_Kernel (hKernel := Cert.Kernel.Gen.facts) := fun m ρ _ =>
  Eq.mpr (congrArg (fun d => θ_run d _ _ _) defs_eq) (Cert.KernelIdeal.Hand.frame (F := Bits) m ρ)

theorem frame_ideal : Cert.quiescent_KernelIdeal (hKernelIdeal := Cert.KernelIdeal.Gen.facts) := fun m ρ _ =>
  Cert.KernelIdeal.Hand.frame m ρ

theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2.2, sem_eq_zero_of_no_sems (by decide) r.2⟩) (Cert.ReferenceIdeal.Value.run m ρ)

theorem algebraic : Cert.algebraic_KernelIdeal_ReferenceIdeal
    (hKernelIdeal := Cert.KernelIdeal.Gen.facts) (hReferenceIdeal := Cert.ReferenceIdeal.Gen.facts) := fun m g m' g' _ ha =>
  ⟨fun c => G4 m c, fun c => G5 m c, run_kernel m g,
    (θ_run (Cert.ReferenceIdeal.defs (F := Ideal)) _ _).mono (fun r h c => by
      obtain ⟨a0, a1, a2, a3, a4⟩ := ha c
      refine ⟨(h c).1.trans ?_, (h c).2.1.trans ?_, (h c).2.2⟩
      · refine (val_main_v45_eq m' c).trans ?_
        rw [a0, a1, a2, a3, a4]
        exact dx_eq m c
      · refine (val_main_v46_eq _ _ _).trans ?_
        rw [a0, a1, a2]
        exact dn_eq m c) (Cert.ReferenceIdeal.Value.run m' g')⟩

end Cert.Hand

end
-- ==== Proof.TnFacts.lean ====
/-
  The gradient call of the projection's weights: the facts its idealized program states, the launch, and the body as memory operations over named values.
-/
module

public import proofs.«01_k».proof.Kernel2Ideal
public import Idealize.ShloMosaic.Lib.Affine
public import Idealize.ShloMosaic.Lib.Decide
public import Idealize.ShloMosaic.Lib.Exec
public import Idealize.ShloMosaic.Lib.Pipeline.Kit
public import Idealize.ShloMosaic.Lib.Pipeline.Regions

@[expose] public section

set_option synthInstance.maxSize 4096

noncomputable section

namespace Cert.Kernel2Ideal.Gen

open Idealize.ShloMosaic Idealize.SL.Sem
/-! ## The facts over the vocabulary (`Facts₀`) -/

/-- The program's facts over its vocabulary, proved. -/
instance facts₀ : Cert.Kernel2Ideal.Facts₀ := by
  constructor
  iterate 2 all_goals try first
    | exact Fin.forall_fin_two.2 ⟨Memref.isWhole_whole _, Memref.isWhole_whole _⟩
    | exact fun _ => .inl rfl
    | exact fun _ => .inr (Affine.block_words_dvd (of_decide_eq_true rfl) (by decide))
    | (intro i i' h; first
        | (unfold cc0_transform_0; rw [h 1 rfl])
        | (unfold cc0_transform_1; rw [h 0 rfl, h 1 rfl])
        | (unfold cc0_transform_2; rw [h 0 rfl]))
    | decide +kernel

/-! ## The facts over the windows (`Facts`) -/

/-- Every fact the program states, proved. -/
instance facts : Cert.Kernel2Ideal.Facts where

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs. -/
theorem winFacts0 : Pipeline.WinFacts spec0 := by decide
/-- No window's block is empty. -/
theorem block_pos0 : ∀ w : Fin 3, 0 < (spec0 w).block.numel := by decide
/-- The windows' arrays and the staging memrefs are whole buffers. -/
theorem arr_whole0 : ∀ w : Fin 3, (spec0 w).arr.IsWhole := fun | 0 => Memref.isWhole_whole _ | 1 => Memref.isWhole_whole _ | 2 => Memref.isWhole_whole _ | ⟨_ + 3, h⟩ => absurd h (Nat.not_lt.2 (Nat.le_add_left _ _))
theorem stage_whole0 : ∀ (w : Fin 3) (s : Fin (spec0 w).nbuf), ((spec0 w).stage s).IsWhole := fun | 0 => fun s => Facts₀.hstage0_0 (s.cast Facts₀.nbuf0_0) | 1 => fun s => Facts₀.hstage0_1 (s.cast Facts₀.nbuf0_1) | 2 => fun s => Facts₀.hstage0_2 (s.cast Facts₀.nbuf0_2) | ⟨_ + 3, h⟩ => absurd h (Nat.not_lt.2 (Nat.le_add_left _ _))
/-- The five, bundled. -/
theorem launch0 : Pipeline.LaunchFacts (nD := nD) (τ := τ) cfgs 0 := ⟨cellOf_inj, winFacts0, block_pos0, arr_whole0, stage_whole0⟩

/-- The grid has 48 points. -/
theorem N_0 : grid0.N = 48 := by decide

/-- The windows conjoined one by one. -/
theorem bigSep_W0 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ
/-- The core's scoped buffers that are no staging buffer of custom_call 0, each whole at some contents: `cc0_scratch0`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)) :=
  Pipeline.scopedRest_eq_of_list spec0 c [cc0_scratch0] (by decide) (by decide)
/-! ## @main as segments and as a chain of items -/

/-- 1 host operation of @main, in order. -/
abbrev hostOps0 : List (HloOp τ sig (Elt F)) :=
  [ StableHlo.unary main_arg0 main_v0 (broadcastInDim S1x16384x1024 ![1, 2] Facts₀.bcast_S16384x1024_S1x16384x1024_1_2 : (⟨S16384x1024, .bf16⟩ : BufTy).Contents (Elt F) → (⟨S1x16384x1024, .bf16⟩ : BufTy).Contents (Elt F)) ]
/-- Each touches TensorCore references only. -/
theorem hostOps0_sub : (hostOps0 : List (HloOp τ sig (Elt F))).Forall fun op => op.bufs ⊆ StableHlo.tcRefs τ sig :=
  StableHlo.unary_bufs_sub ..
/-- `main` is the chain of its items (`Pipeline.chain`). -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

open Idealize.SL Idealize.SL.Sem

/-! ## custom_call 0 -/

/-- Window 2 (result 0 (%1)) is written back at the points ≡ 3 (mod 4). -/
theorem flush0_2 : ∀ t : Fin cfg0.N, (cfg0.win 2).flush t = true ↔ t.val % 4 = 3 :=
  (by decide +kernel : ∀ t : Fin grid0.N, win0_2.flush t = true ↔ t.val % 4 = 3)

/-- The kernel body at point `t`, on what the pipeline calls it with (`defs₀`'s row at the slots). -/
abbrev bodyAt0 (t : Fin cfg0.N) : Prog (TpuEff nD τ sig (Elt F) Λ₀ .tc) PUnit :=
  cc0_grad_w_in (grid0.coords t) (win0_0.stage (cfg0.slots t 0)) (Facts₀.hstage0_0 ((cfg0.slots t 0).cast Facts₀.nbuf0_0)) (win0_1.stage (cfg0.slots t 1)) (Facts₀.hstage0_1 ((cfg0.slots t 1).cast Facts₀.nbuf0_1)) (win0_2.stage (cfg0.slots t 2)) (Facts₀.hstage0_2 ((cfg0.slots t 2).cast Facts₀.nbuf0_2)) (Memref.whole cc0_scratch0) (Memref.isWhole_whole _)

/-! ## `cc0_grad_w_in` -/

/-- `%18` of the body. -/
def k0_pay1 (v11 : Vec F S1x4096x1024 .bf16) (v13 : Vec F S1x4096x1024 .bf16) : FVec F S1024x1024 .f32 :=
  have v12 : FVec F S4096x1024 .bf16 := shapeCast S4096x1024 v11 Facts₀.shapeCasts_S1x4096x1024_S4096x1024
  have v14 : FVec F S4096x1024 .bf16 := shapeCast S4096x1024 v13 Facts₀.shapeCasts_S1x4096x1024_S4096x1024
  have cst : FVec F S1024x1024 .f32 := constant S1024x1024 .f32 0x00000000#32
  have v15 : FVec F S1024x1024 .f32 := matmul dot_S4096x1024_S4096x1024_S1024x1024_0_0_1_1_n_n none v12 v14 cst
  have v18 : FVec F S1024x1024 .f32 := shapeCast S1024x1024 v15 Facts₀.shapeCasts_S1024x1024_S1024x1024
  v18

def k0_pay2 (v11 : Vec F S1024x1024 .f32) (v12 : Vec F S1x4096x1024 .bf16) (v14 : Vec F S1x4096x1024 .bf16) : FVec F S1024x1024 .f32 :=
  have v13 : FVec F S4096x1024 .bf16 := shapeCast S4096x1024 v12 Facts₀.shapeCasts_S1x4096x1024_S4096x1024
  have v15 : FVec F S4096x1024 .bf16 := shapeCast S4096x1024 v14 Facts₀.shapeCasts_S1x4096x1024_S4096x1024
  have cst : FVec F S1024x1024 .f32 := constant S1024x1024 .f32 0x00000000#32
  have v16 : FVec F S1024x1024 .f32 := matmul dot_S4096x1024_S4096x1024_S1024x1024_0_0_1_1_n_n none v13 v15 cst
  have v17 : FVec F S1024x1024 .f32 := addf v11 v16
  have v20 : FVec F S1024x1024 .f32 := shapeCast S1024x1024 v17 Facts₀.shapeCasts_S1024x1024_S1024x1024
  v20

def k0_pay3 (v15 : Vec F S1024x1024 .f32) : FVec F S1x1024x1024 .bf16 :=
  have v16 : FVec F S1024x1024 .bf16 := truncf .bf16 v15 Facts₀.bitsLt_bf16_f32
  have v19 : FVec F S1x1024x1024 .bf16 := shapeCast S1x1024x1024 v16 Facts₀.shapeCasts_S1024x1024_S1x1024x1024
  v19

/-- `cc0_grad_w_in` as a skeleton of memory operations over payloads. -/
def cc0_grad_w_in_skel (i : grid0.Coords) (arg2 : Memref sig .tc .vmem S1x4096x1024 .bf16) (harg2 : arg2.IsWhole) (arg3 : Memref sig .tc .vmem S1x4096x1024 .bf16) (harg3 : arg3.IsWhole) (arg4 : Memref sig .tc .vmem S1x1024x1024 .bf16) (harg4 : arg4.IsWhole) (arg5 : Memref sig .tc .vmem S1024x1024 .f32) (harg5 : arg5.IsWhole) :
    Prog (TpuEff nD τ sig (Elt F) Λ₀ .tc) PUnit := do
  -- %arg0: i32, grid coordinate 0  — not in the skeleton
  let arg1 : BitVec 32 := BitVec.ofNat 32 (i 1).val                     -- %arg1: i32, grid coordinate 1
  let v0 : BitVec 1 := Scalar.cmpi .eq arg1 0#32
  let v1 : BitVec 32 := Scalar.extui v0
  let v2 : BitVec 1 := Scalar.cmpi .ne v1 0#32
  if k0_h1 : v2 = 1#1 then do
    let v11 : Vec F S1x4096x1024 .bf16 ← Prog.lift (.load arg2 (Rect.unit (s := S1x4096x1024) ![0, 0, 0] S1x4096x1024.size Facts₀.inb_S1x4096x1024_S1x4096x1024_0_0_0).toLoadRect (View.loadsAt_vmem Facts₀.h_S1x4096x1024))
    let v13 : Vec F S1x4096x1024 .bf16 ← Prog.lift (.load arg3 (Rect.unit (s := S1x4096x1024) ![0, 0, 0] S1x4096x1024.size Facts₀.inb_S1x4096x1024_S1x4096x1024_0_0_0).toLoadRect (View.loadsAt_vmem Facts₀.h_S1x4096x1024))
    let v16 : Vec F S1024x1024 .f32 ← Prog.lift (.load arg5 (Rect.unit (s := S1024x1024) ![0, 0] S1024x1024.size Facts₀.inb_S1024x1024_S1024x1024_0_0).toLoadRect (View.loadsAt_vmem Facts₀.h_S1024x1024))

    Prog.lift (.store arg5 (Rect.unit (s := S1024x1024) ![0, 0] S1024x1024.size Facts₀.inb_S1024x1024_S1024x1024_0_0) (k0_pay1 v11 v13) Finset.univ (View.stores_vmem_bits_univ Facts₀.h_S1024x1024 rfl) (.inl rfl))
    pure ⟨⟩
  else do
    pure ⟨⟩
  let v3 : BitVec 1 := Scalar.cmpi .sgt arg1 0#32
  let v4 : BitVec 1 := Scalar.cmpi .slt arg1 4#32
  let v5 : BitVec 1 := Scalar.andi v3 v4
  let v6 : BitVec 32 := Scalar.extui v5
  let v7 : BitVec 1 := Scalar.cmpi .ne v6 0#32
  if k0_h2 : v7 = 1#1 then do
    let v11 : Vec F S1024x1024 .f32 ← Prog.lift (.load arg5 (Rect.unit (s := S1024x1024) ![0, 0] S1024x1024.size Facts₀.inb_S1024x1024_S1024x1024_0_0).toLoadRect (View.loadsAt_vmem Facts₀.h_S1024x1024))
    let v12 : Vec F S1x4096x1024 .bf16 ← Prog.lift (.load arg2 (Rect.unit (s := S1x4096x1024) ![0, 0, 0] S1x4096x1024.size Facts₀.inb_S1x4096x1024_S1x4096x1024_0_0_0).toLoadRect (View.loadsAt_vmem Facts₀.h_S1x4096x1024))
    let v14 : Vec F S1x4096x1024 .bf16 ← Prog.lift (.load arg3 (Rect.unit (s := S1x4096x1024) ![0, 0, 0] S1x4096x1024.size Facts₀.inb_S1x4096x1024_S1x4096x1024_0_0_0).toLoadRect (View.loadsAt_vmem Facts₀.h_S1x4096x1024))
    let v18 : Vec F S1024x1024 .f32 ← Prog.lift (.load arg5 (Rect.unit (s := S1024x1024) ![0, 0] S1024x1024.size Facts₀.inb_S1024x1024_S1024x1024_0_0).toLoadRect (View.loadsAt_vmem Facts₀.h_S1024x1024))

    Prog.lift (.store arg5 (Rect.unit (s := S1024x1024) ![0, 0] S1024x1024.size Facts₀.inb_S1024x1024_S1024x1024_0_0) (k0_pay2 v11 v12 v14) Finset.univ (View.stores_vmem_bits_univ Facts₀.h_S1024x1024 rfl) (.inl rfl))
    pure ⟨⟩
  else do
    pure ⟨⟩

  if k0_h3 : k0_cond3 i = 1#1 then do

    let v15 : Vec F S1024x1024 .f32 ← Prog.lift (.load arg5 (Rect.unit (s := S1024x1024) (k0_off1 i) S1024x1024.size (Facts₀.k0_off1_inb i k0_h3)).toLoadRect (View.loadsAt_vmem Facts₀.h_S1024x1024))
    let v17 : Vec F S1x1024x1024 .bf16 ← Prog.lift (.load arg4 (Rect.unit (s := S1x1024x1024) ![0, 0, 0] S1x1024x1024.size Facts₀.inb_S1x1024x1024_S1x1024x1024_0_0_0).toLoadRect (View.loadsAt_vmem Facts₀.h_S1x1024x1024))

    Prog.lift (.store arg4 (Rect.unit (s := S1x1024x1024) ![0, 0, 0] S1x1024x1024.size Facts₀.inb_S1x1024x1024_S1x1024x1024_0_0_0) (k0_pay3 v15) Finset.univ (View.stores_vmem Facts₀.h_S1x1024x1024 (harg4.storeExact_slice rfl _ Facts₀.packedbf16_S1x1024x1024_S1x1024x1024_0_0_0) (fun _ => rfl)) (.inl rfl))
    pure ⟨⟩
  else do
    pure ⟨⟩
  pure ⟨⟩

set_option maxRecDepth 65536 in
/-- The printed `cc0_grad_w_in` is its skeleton: by definitional unfolding. -/
theorem cc0_grad_w_in_eq_skeleton : cc0_grad_w_in (F := F) = cc0_grad_w_in_skel (F := F) := rfl

end Cert.Kernel2Ideal.Gen

end
-- ==== Proof.Whole.lean ====
/-
  Loads and stores of whole staging buffers.
-/
module

public import Idealize.ShloMosaic.Lib.WholeRead
public import Idealize.ShloMosaic.Lib.Pipeline.Value

@[expose] public section

noncomputable section

namespace Cert.Whole

open Idealize.ShloMosaic Idealize.ShloMosaic.TcCoe

theorem off2 : (![0, 0] : Fin 2 → ℕ) = fun _ => 0 := funext fun a => match a with | 0 => rfl | 1 => rfl
theorem off3 : (![0, 0, 0] : Fin 3 → ℕ) = fun _ => 0 := funext fun a => match a with | 0 => rfl | 1 => rfl | 2 => rfl

variable {F : FTy → Type} [FloatOps F] {sig : RefSig} {S : Shape} {e : EltTy} {off : Fin S.rank → ℕ} (ho : off = fun _ => 0)

include ho in
/-- A load of a whole buffer reads what it holds. -/
theorem load_whole (M : Memref sig .tc .vmem S e) (h : M.IsWhole) (x : Vec F S e) (inb : ∀ a, off a + S.size a ≤ S.size a) :
    View.readAt (Elt F) M.view (Rect.unit off S.size inb).toLoadRect (h.unread x) = x :=
  funext fun y => (h.readAt_unread x _ y).trans (congrFun (View.ld_unit_zero ho inb x) y)

include ho in
/-- A store of a whole buffer leaves what it stores. -/
theorem stored_whole (v : View sig .tc .vmem S e) (f : v.ty.Contents (Elt F)) (inb : ∀ a, off a + S.size a ≤ S.size a) (w : Vec F S e) :
    v.read (Elt F) (v.writes (Elt F) f [⟨Rect.unit off S.size inb, w⟩]) = w :=
  (View.read_writes_eq_canon v f _ fun y => ⟨_, List.mem_singleton_self _, View.mem_set_unit_zero ho inb y⟩).trans
    (View.canon_unit_zero ho inb w)

end Cert.Whole

end
-- ==== Proof.TnFrame.lean ====
/-
  The gradient call of the projection's weights: the body's run, what the points leave, the run and the frame.
-/
module

public import proofs.«01_k».proof.Proof.TnFacts
public import proofs.«01_k».proof.Proof.Whole
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.ValueIdx

@[expose] public section

set_option maxRecDepth 16384

noncomputable section

namespace Cert.Kernel2Ideal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ
local notation "Acc" => Vec F S1024x1024 EltTy.f32

variable (m : (ℓ : Loc nD τ sig) → Buf (Elt F) ℓ) (ρ : Dev nD → PrngReg)

/-- Core `c` owns the buffer `M` with the contents `x`. -/
abbrev own {S : Shape} {e : EltTy} (c : Dev nD) (M : Memref sig .tc .vmem S e) (x : Vec F S e) : sProp 𝕄 := owns (c : Thread nD τ) M fullShare x

/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The arguments are as they were at the launch. -/
abbrev Kept (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- The conditions of the body's three `scf.if`s, from the grid coordinates. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := (Scalar.cmpi .ne (Scalar.extui (Scalar.andi (Scalar.cmpi .sgt (BitVec.ofNat 32 (i 1).val) 0#32) (Scalar.cmpi .slt (BitVec.ofNat 32 (i 1).val) 4#32))) 0#32) = 1#1
abbrev cond0_2 (i : grid0.Coords) : Prop := k0_cond3 i = 1#1

/-- The combinations that arise, and the row from which the sum's rows are written out. -/
theorem conds : ∀ i : grid0.Coords, (cond0_0 i ∧ ¬cond0_1 i ∧ ¬cond0_2 i) ∨ (¬cond0_0 i ∧ cond0_1 i ∧ ¬cond0_2 i)
    ∨ (¬cond0_0 i ∧ cond0_1 i ∧ cond0_2 i ∧ k0_off1 i = ![0, 0]) ∨ (¬cond0_0 i ∧ ¬cond0_1 i ∧ cond0_2 i) := by decide +kernel
theorem off_eq : ∀ i : grid0.Coords, cond0_2 i → k0_off1 i = ![0, 0] := by decide +kernel

/-- The same at a point, and where the result's window is idle and written back. -/
theorem cond_iff : ∀ t : Fin grid0.N, (cond0_0 (grid0.coords t) ↔ t.val % 4 = 0) ∧ (cond0_1 (grid0.coords t) ↔ 1 ≤ t.val % 4) ∧ (cond0_2 (grid0.coords t) ↔ t.val % 4 = 3) := by decide +kernel
theorem live2 : ∀ t : Fin grid0.N, cond0_2 (grid0.coords t) → cfg0.idle 2 (grid0.coords t) = false := by decide +kernel
theorem idle2 : ∀ t : Fin grid0.N, ¬cond0_2 (grid0.coords t) → cfg0.idle 2 (grid0.coords t) = true ∧ (cfg0.win 2).flush t = false := by decide +kernel

/-! ## The kernel body on any staging memrefs -/

/-- Each window's current staging memref at point `t`, spelled as the pipeline passes it (`bodyAt0`). -/
abbrev ms0_0 (t : Fin cfg0.N) : Memref sig .tc .vmem S1x4096x1024 .bf16 := win0_0.stage (cfg0.slots t 0)
abbrev ms0_1 (t : Fin cfg0.N) : Memref sig .tc .vmem S1x4096x1024 .bf16 := win0_1.stage (cfg0.slots t 1)
abbrev ms0_2 (t : Fin cfg0.N) : Memref sig .tc .vmem S1x1024x1024 .bf16 := win0_2.stage (cfg0.slots t 2)
/-- The carried sum's buffer. -/
abbrev scM0_0 : Memref sig .tc .vmem S1024x1024 .f32 := Memref.whole cc0_scratch0

/-- The frame kit's invariant with the carried sum's buffer owned at some contents. -/
theorem PhiA0_eq (c : Dev nD) : (Pipeline.ΦA spec0 c : sProp 𝕄) = iprop(iprop((∃ d, own c scM0_0 d)) ∗ (∃ r, prngReg c r)) := by
  unfold Pipeline.ΦA; rw [scopedRest0_eq]; simp only [scM0_0, own, owns_whole]; try rfl

/-- The block of 1024 rows of `x` from row `r0` on. -/
def rows (x : Acc) (r0 : ℕ) : Vec F S1024x1024 .f32 := fun y => x (ix2 ⟨(r0 + (y 0).val) % 1024, Nat.mod_lt _ (by decide)⟩ (y 1))

/-- The carried sum after a point, from the two blocks and the sum before. -/
def sumOf (i : grid0.Coords) (x0 : Vec F S1x4096x1024 .bf16) (x1 : Vec F S1x4096x1024 .bf16) (xs : Acc) : Acc :=
  if cond0_0 i then k0_pay1 x0 x1 else if cond0_1 i then k0_pay2 xs x0 x1 else xs
/-- The result's block after a point that leaves the sum `s`: rows of the sum at the points that write out. -/
def outOf (i : grid0.Coords) (y : Vec F S1x1024x1024 .bf16) (s : Acc) : Vec F S1x1024x1024 .bf16 :=
  if cond0_2 i then k0_pay3 (rows s (0)) else y

section Body
variable (c : Dev nD) (i : grid0.Coords) (arg2 : Memref sig .tc .vmem S1x4096x1024 .bf16) (harg2 : arg2.IsWhole) (arg3 : Memref sig .tc .vmem S1x4096x1024 .bf16) (harg3 : arg3.IsWhole) (arg4 : Memref sig .tc .vmem S1x1024x1024 .bf16) (harg4 : arg4.IsWhole) (arg5 : Memref sig .tc .vmem S1024x1024 .f32) (harg5 : arg5.IsWhole)
  (x0 : Vec F S1x4096x1024 .bf16) (x1 : Vec F S1x4096x1024 .bf16) (y : Vec F S1x1024x1024 .bf16) (xs : Vec F S1024x1024 .f32)

theorem ld_rows (x : Acc) {off : Fin 2 → ℕ} (r0 : ℕ) (h : off = ![r0, 0]) (inb : ∀ a, off a + S1024x1024.size a ≤ S1024x1024.size a) :
    View.ld x (Rect.unit (s := S1024x1024) off S1024x1024.size inb) = rows x r0 := by
  subst h
  have h0 : r0 + 1024 ≤ 1024 := inb 0
  refine funext fun y => congrArg x (funext fun a => Fin.ext ?_)
  have hy : (y 0).val < 1024 := (y 0).isLt
  match a with
  | 0 => show r0 + 1 * (y 0).val = (r0 + (y 0).val) % 1024; omega
  | 1 => show 0 + 1 * (y 1).val = (y 1).val; omega

/-- Load a block. -/
abbrev lB {e : EltTy} (M : Memref sig .tc .vmem S1x4096x1024 e) (h : M.IsWhole) (x : Vec F S1x4096x1024 e) : Vec F S1x4096x1024 e :=
  View.readAt (Elt F) M.view (Rect.unit ![0, 0, 0] S1x4096x1024.size Facts₀.inb_S1x4096x1024_S1x4096x1024_0_0_0).toLoadRect (h.unread x)
/-- Load the sum. -/
abbrev lS (M : Memref sig .tc .vmem S1024x1024 .f32) (h : M.IsWhole) (x : Acc) : Acc :=
  View.readAt (Elt F) M.view (Rect.unit ![0, 0] S1024x1024.size Facts₀.inb_S1024x1024_S1024x1024_0_0).toLoadRect (h.unread x)
/-- Store the sum. -/
abbrev stS (w : Acc) : List (View.Piece (Elt F) S1024x1024 .f32) := [⟨Rect.unit ![0, 0] S1024x1024.size Facts₀.inb_S1024x1024_S1024x1024_0_0, w⟩]

theorem lB_eq {e : EltTy} (M : Memref sig .tc .vmem S1x4096x1024 e) (h : M.IsWhole) (x : Vec F S1x4096x1024 e) : lB M h x = x := load_whole off3 M h x _
theorem lS_eq (M : Memref sig .tc .vmem S1024x1024 .f32) (h : M.IsWhole) (x : Acc) : lS M h x = x := load_whole off2 M h x _

/-- Rows of a sum just stored. -/
theorem readCov_rows (v : View sig .tc .vmem S1024x1024 .f32) (w : Acc) {off : Fin 2 → ℕ} (r0 : ℕ) (h : off = ![r0, 0]) (inb : ∀ a, off a + S1024x1024.size a ≤ S1024x1024.size a) :
    v.readCov (stS w) (Rect.unit (s := S1024x1024) off S1024x1024.size inb).toLoadRect = rows w r0 := by
  refine (View.readCov_eq_canon_ld v (stS w) _ fun y => ⟨_, List.mem_singleton_self _, View.mem_set_unit_zero off2 Facts₀.inb_S1024x1024_S1024x1024_0_0 y⟩).trans ?_
  exact (congrArg (fun z => View.ld z _) (View.canon_unit_zero off2 _ w)).trans (ld_rows w r0 h inb)

instance closedOff (i : grid0.Coords) [h : Fact (k0_off1 i = ![0, 0])] : ClosedOff (k0_off1 i) := ⟨![0, 0], h.out⟩

set_option maxHeartbeats 4000000 in
/-- One run of the body on whole staging memrefs: the inputs' stay as they were, the carried sum is the new one, and the result's block is that of the point. -/
theorem body_run (E : Set ℕ) (K : PUnit → sProp 𝕄) :
    iprop(own c arg2 x0 ∗ own c arg3 x1 ∗ own c arg4 y ∗ own c arg5 xs
        ∗ (iprop(own c arg2 x0 ∗ own c arg3 x1 ∗ own c arg4 (outOf i y (sumOf i x0 x1 xs)) ∗ own c arg5 (sumOf i x0 x1 xs)) -∗ K ⟨⟩))
      ⊢ wp frame (wpE (defs₀ (F := F)) Variants.none c none) E (cc0_grad_w_in i arg2 harg2 arg3 harg3 arg4 harg4 arg5 harg5) K := by
  have ho := off_eq i
  unfold own owns
  rcases conds i with ⟨h0, h1, h2⟩ | ⟨h0, h1, h2⟩ | ⟨h0, h1, h2, hz⟩ | ⟨h0, h1, h2⟩
  all_goals
    unfold sumOf outOf
    first | have e0 := eq_false h0 | have e0 := eq_true h0
    first | have e1 := eq_false h1 | have e1 := eq_true h1
    first | have e2 := eq_false h2 | have e2 := eq_true h2
    simp only [e0, e1, e2, if_true, if_false, cc0_grad_w_in_eq_skeleton]; unfold cc0_grad_w_in_skel
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    try haveI : Fact (k0_off1 i = ![0, 0]) := ⟨hz⟩
    sl_exec (disch := first | sl_exact h0 | sl_exact h1 | sl_exact h2)
    sl_step
    iapply Hk
    isplitl [H0]; · iexists _; isplitr; (ipureintro; exact harg2.read_unread _); iexact H0
    isplitl [H1]; · iexists _; isplitr; (ipureintro; exact harg3.read_unread _); iexact H1
    isplitl [H2]
    iexists _; isplitr; swap; iexact H2; ipureintro; rotate_left
    iexists _; isplitr; swap; iexact HS; ipureintro; rotate_left
  · exact harg4.read_unread _
  · exact (stored_whole off2 arg5.view _ _ (k0_pay1 (lB _ harg2 x0) (lB _ harg3 x1))).trans (by simp only [lB_eq])
  · exact harg4.read_unread _
  · exact (stored_whole off2 arg5.view _ _ (k0_pay2 (lS _ harg5 xs) (lB _ harg2 x0) (lB _ harg3 x1))).trans (by simp only [lB_eq, lS_eq])
  · exact (stored_whole off3 arg4.view _ _ (k0_pay3 (arg5.view.readCov (stS (k0_pay2 (lS _ harg5 xs) (lB _ harg2 x0) (lB _ harg3 x1)))
      (Rect.unit (s := S1024x1024) (k0_off1 i) S1024x1024.size (Facts₀.k0_off1_inb i h2)).toLoadRect))).trans (by rw [readCov_rows _ _ _ (ho h2)]; simp only [lB_eq, lS_eq])
  · exact (stored_whole off2 arg5.view _ _ (k0_pay2 (lS _ harg5 xs) (lB _ harg2 x0) (lB _ harg3 x1))).trans (by simp only [lB_eq, lS_eq])
  · refine (stored_whole off3 arg4.view _ _ (k0_pay3 (View.readAt (Elt F) arg5.view (Rect.unit (s := S1024x1024) (k0_off1 i) S1024x1024.size (Facts₀.k0_off1_inb i h2)).toLoadRect (harg5.unread xs)))).trans (congrArg k0_pay3 ?_)
    exact (funext fun y => harg5.readAt_unread xs _ y).trans (ld_rows xs _ (ho h2) _)
  · exact harg5.read_unread _

end Body

/-! ## What the points leave, and the pipeline's proof data -/

/-- The carried sum after point `n`. -/
def acc (c : Dev nD) : (n : ℕ) → n < cfg0.N → Acc
  | 0, h => k0_pay1 (iblk m c 0 ⟨0, h⟩) (iblk m c 1 ⟨0, h⟩)
  | n + 1, h => sumOf (grid0.coords ⟨n + 1, h⟩) (iblk m c 0 ⟨n + 1, h⟩) (iblk m c 1 ⟨n + 1, h⟩) (acc c n (Nat.lt_of_succ_lt h))

/-- The region invariant before position `n`: the carried sum, once a point has stored it. -/
def PhiS (c : Dev nD) : (n : ℕ) → n ≤ cfg0.N → sProp 𝕄
  | 0, _ => Pipeline.ΦA spec0 c
  | n + 1, hn => iprop(own c scM0_0 (acc m c n hn) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (rows (acc m c t.val t.isLt) (0))
  Φ t := PhiS m c t.val (Nat.le_of_lt_succ t.isLt)
  q _ := fullShare
  owed _ := 0

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay3 (rows (acc m c t.val t.isLt) (0)) := by dsimp only [dats]

/-- Each input's current staging buffer holds its block at every point, fetched there or not. -/
theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d

/-! ## The body obligation, at a generic point -/

theorem leaves0_0 (c : Dev nD) (t : Fin cfg0.N) : (dats m 0 c).leavesExact 0 t = own c (ms0_0 t) (iblk m c 0 t) := by
  unfold Dat.leavesExact; rw [show cfg0.idle 0 (grid0.coords t) = false from rfl, after0_0]
theorem leaves0_1 (c : Dev nD) (t : Fin cfg0.N) : (dats m 0 c).leavesExact 1 t = own c (ms0_1 t) (iblk m c 1 t) := by
  unfold Dat.leavesExact; rw [show cfg0.idle 1 (grid0.coords t) = false from rfl, after0_1]

/-- The result's block as the body leaves it is what the pipeline asks for. -/
theorem leaves0_2 (c : Dev nD) (t : Fin cfg0.N) (d) : own c (ms0_2 t) (outOf (grid0.coords t) ((dats m 0 c).before 2 t d) (acc m c t.val t.isLt)) ⊢ (dats m 0 c).leavesExact 2 t := by
  unfold outOf
  by_cases h : cond0_2 (grid0.coords t)
  · unfold Dat.leavesExact
    rw [live2 t h, after0_2, if_pos h]
  · rw [Dat.leavesExact_idle (dats m 0 c) 2 t (idle2 t h).1 (idle2 t h).2, if_neg h]
    iintro H; iexists _; iexact H

/-- Before any point the sum's buffer holds something from which the body makes the point's sum. -/
theorem Phi_open (c : Dev nD) (t : Fin cfg0.N) :
    (dats m 0 c).Φ t.castSucc ⊢ iprop(∃ xs, ⌜sumOf (grid0.coords t) (iblk m c 0 t) (iblk m c 1 t) xs = acc m c t.val t.isLt⌝ ∗ own c scM0_0 xs ∗ (∃ r, prngReg c r)) := by
  obtain ⟨n, hn⟩ := t
  cases n with
  | zero =>
    rw [show (dats m 0 c).Φ (Fin.castSucc ⟨0, hn⟩) = Pipeline.ΦA spec0 c from rfl, PhiA0_eq]
    iintro ⟨⟨%xs, HS⟩, Hg⟩
    iexists xs; isplitr
    · ipureintro; exact if_pos ((cond_iff ⟨0, hn⟩).1.mpr (Nat.zero_mod _))
    isplitl [HS]; · iexact HS
    iexact Hg
  | succ n =>
    rw [show (dats m 0 c).Φ (Fin.castSucc ⟨n + 1, hn⟩) = iprop(own c scM0_0 (acc m c n (Nat.lt_of_succ_lt hn)) ∗ (∃ r, prngReg c r)) from rfl]
    iintro ⟨HS, Hg⟩
    iexists _; isplitr
    · ipureintro; exact rfl
    isplitl [HS]; · iexact HS
    iexact Hg

/-- What the body is called with at point `t`, -/
def bodyPre (c : Dev nD) (t : Fin cfg0.N) : sProp 𝕄 :=
  iprop((dats m 0 c).Φ t.castSucc ∗ (dats m 0 c).owesAt () t.castSucc
    ∗ (∃ d, own c (ms0_0 t) ((dats m 0 c).before 0 t d))
    ∗ (∃ d, own c (ms0_1 t) ((dats m 0 c).before 1 t d))
    ∗ (∃ d, own c (ms0_2 t) ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    show (dats m 0 c).Φ t.succ = iprop(own c scM0_0 (acc m c t.val t.isLt) ∗ (∃ r, prngReg c r)) from rfl, leaves0_0, leaves0_1]
  refine (sep_mono_left (Phi_open m c t)).trans ?_
  iintro ⟨⟨%xs, %hx, HS, Hg⟩, Ho, ⟨%d0, H0⟩, ⟨%d1, H1⟩, ⟨%d2, H2⟩⟩
  iapply (body_run c (grid0.coords t) _ _ _ _ _ _ _ _ (iblk m c 0 t) (iblk m c 1 t) ((dats m 0 c).before 2 t d2) xs Set.univ _)
  rw [hx]
  isplitl [H0]; · iexact H0
  isplitl [H1]; · iexact H1
  isplitl [H2]; · iexact H2
  isplitl [HS]; · iexact HS
  iintro ⟨H0, H1, H2, HS⟩
  isplitl [HS Hg]
  · isplitl [HS]; · iexact HS
    iexact Hg
  isplitl [Ho]; · iexact Ho
  isplitl [H0]; · iexact H0
  isplitl [H1]; · iexact H1
  iapply (leaves0_2 m c t d2)
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = Pipeline.ΦA spec0 c from rfl]

/-- After the last point the invariant gives `ΦA` back: the sum is forgotten. -/
theorem hout (c : Dev nD) : (dats m 0 c).Φ (Fin.last cfg0.N) ⊢ Pipeline.ΦA spec0 c := by
  rw [show (dats m 0 c).Φ (Fin.last cfg0.N) = iprop(own c scM0_0 (acc m c 47 (by decide)) ∗ (∃ r, prngReg c r)) from rfl, PhiA0_eq]
  iintro ⟨HS, Hg⟩
  isplitl [HS]
  · iexists _; iexact HS
  iexact Hg

/-! ## The run and the frame -/

-- `θ_run_frame_track`'s implicit arguments are found by unifying its conclusion with this one, which takes unfolding plain
-- definitions in a metavariable's type
set_option backward.isDefEq.respectTransparency.types false in
/-- THE LAUNCH: the region's arrays at every final state, and every semaphore counter of the machine at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hin := hin m) (hout := hout m)

/-- THE FRAME. -/
theorem frame : θ_run defs (onTc (τ := τ) (main (F := F))) ⟨m, fun _ => 0, ρ⟩ (fun r => (∀ c : Dev nD, Kept m c r.2.mem) ∧ r.2.sem = fun _ => 0) :=
  (θ_run defs _ _).mono (fun _ h => ⟨fun c => ⟨(h.1 c).2 main_arg0 (Pipeline.mem_restRefs_of main_arg0 (by decide) (by decide)),
      ((h.1 c).1 1).trans ((dats m 0 c).arrAt_in 1 rfl _)⟩, h.2⟩) (run_main_quiescent m ρ)

end Cert.Kernel2Ideal.Gen

end
-- ==== Proof.TnVal.lean ====
/-
  The gradient call of the projection's weights: what each case leaves, read at an index, and the result array.
-/
module

public import proofs.«01_k».proof.Proof.TnFrame
public import Idealize.ShloMosaic.PureOps.Ideal.Laws

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic Idealize.ShloMosaic.ValueIdx Idealize.SL.Sem
open scoped BigOperators

/-! ## The payloads read at an index -/

abbrev dotT := dot_S4096x1024_S4096x1024_S1024x1024_0_0_1_1_n_n

theorem lhs0 (i : S1024x1024.Idx) (q : dotT.contr.Idx) : (dotT.lhsIdx i q 0).val = (q ⟨0, by decide⟩).val := dotT.lhsIdx_val_of_single rfl i q
theorem lhs1 (i : S1024x1024.Idx) (q : dotT.contr.Idx) : (dotT.lhsIdx i q 1).val = (i 0).val := by
  unfold DotDims.lhsIdx
  rw [dif_neg (show ¬(1 : Fin S4096x1024.rank) ∈ dotT.lhsBatch by decide), dif_pos (show (1 : Fin S4096x1024.rank) ∈ dotT.lhsNonContracting by decide)]
  rfl
theorem rhs0 (i : S1024x1024.Idx) (q : dotT.contr.Idx) : (dotT.rhsIdx i q 0).val = (q ⟨0, by decide⟩).val := dotT.rhsIdx_val_of_single rfl i q
theorem rhs1 (i : S1024x1024.Idx) (q : dotT.contr.Idx) : (dotT.rhsIdx i q 1).val = (i 1).val := by
  unfold DotDims.rhsIdx
  rw [dif_neg (show ¬(1 : Fin S4096x1024.rank) ∈ dotT.rhsBatch by decide), dif_pos (show (1 : Fin S4096x1024.rank) ∈ dotT.rhsNonContracting by decide)]
  rfl

theorem drop_apply (x : Vec Ideal S1x4096x1024 .bf16) (s : Fin 4096) (d : Fin 1024) :
    (shapeCast S4096x1024 x Facts₀.shapeCasts_S1x4096x1024_S4096x1024 : FVec Ideal S4096x1024 .bf16) (ix2 s d) = x (ix3 0 s d) := by
  refine (shapeCast_dropUnit_apply _ _ _ _).trans ?_
  exact congrArg x (funext fun a => match a with | 0 => rfl | 1 => rfl | 2 => rfl)

/-- The product of two blocks over their rows, at column `d` of the first and `e` of the second. -/
def prod (x0 x1 : Vec Ideal S1x4096x1024 .bf16) (d e : Fin 1024) : EReal := ∑ s : Fin 4096, x0 (ix3 0 s d) * x1 (ix3 0 s e)

theorem mm_apply (x0 x1 : Vec Ideal S1x4096x1024 .bf16) (d e : Fin 1024) :
    matmul dotT none (shapeCast S4096x1024 x0 Facts₀.shapeCasts_S1x4096x1024_S4096x1024 : FVec Ideal S4096x1024 .bf16)
      (shapeCast S4096x1024 x1 Facts₀.shapeCasts_S1x4096x1024_S4096x1024 : FVec Ideal S4096x1024 .bf16)
      (constant S1024x1024 .f32 0x00000000#32) (ix2 d e) = prod x0 x1 d e := by
  refine (Ideal.matmul_constant_zero_apply dotT none _ _ _).trans ?_
  rw [← Equiv.sum_comp (contrEquiv1 dotT 4096 rfl rfl).symm]
  refine Finset.sum_congr rfl fun s _ => ?_
  have hk := contrEquiv1_symm_val dotT 4096 rfl rfl s
  have el : dotT.lhsIdx (ix2 d e) ((contrEquiv1 dotT 4096 rfl rfl).symm s) = (ix2 s d : S4096x1024.Idx) := funext fun a => Fin.ext (by
    match a with
    | 0 => exact (lhs0 _ _).trans hk
    | 1 => exact lhs1 _ _)
  have er : dotT.rhsIdx (ix2 d e) ((contrEquiv1 dotT 4096 rfl rfl).symm s) = (ix2 s e : S4096x1024.Idx) := funext fun a => Fin.ext (by
    match a with
    | 0 => exact (rhs0 _ _).trans hk
    | 1 => exact rhs1 _ _)
  rw [el, er, drop_apply, drop_apply]

theorem pay1_apply (x0 x1 : Vec Ideal S1x4096x1024 .bf16) (d e : Fin 1024) : k0_pay1 x0 x1 (ix2 d e) = prod x0 x1 d e := by
  unfold k0_pay1
  rw [shapeCast_self]
  exact mm_apply x0 x1 d e

theorem pay2_apply (z : Vec Ideal S1024x1024 .f32) (x0 x1 : Vec Ideal S1x4096x1024 .bf16) (d e : Fin 1024) :
    k0_pay2 z x0 x1 (ix2 d e) = z (ix2 d e) + prod x0 x1 d e := by
  unfold k0_pay2
  rw [shapeCast_self]
  exact congrArg (fun y : EReal => z (ix2 d e) + y) (mm_apply x0 x1 d e)

theorem pay3_apply (z : Vec Ideal S1024x1024 .f32) (u : Fin 1) (d e : Fin 1024) : k0_pay3 (rows z 0) (ix3 u d e) = z (ix2 d e) := by
  unfold k0_pay3
  refine (shapeCast_addUnit_apply _ _ _ _).trans ?_
  exact congrArg z (funext fun a => match a with | 0 => Fin.ext ((congrArg (· % 1024) (Nat.zero_add _)).trans (Nat.mod_eq_of_lt d.isLt)) | 1 => rfl)

/-! ## The blocks as rows of the arrays -/

variable (m : (ℓ : Loc nD τ sig) → Buf (Elt Ideal) ℓ) (c : Dev nD)

/-- The arrays the call reads. -/
abbrev A0 : Vec Ideal S16384x1024 .bf16 := m ((c : Thread nD τ).loc main_arg0)
abbrev A1 : Vec Ideal S12x16384x1024 .bf16 := m ((c : Thread nD τ).loc main_arg1)

theorem lt48 (t : Fin cfg0.N) : t.val < 48 := Nat.lt_of_lt_of_eq t.isLt N_0

theorem ind0 : ∀ t : Fin grid0.N, win0_0.index t 0 = 0 ∧ win0_0.index t 1 = t.val % 4 ∧ win0_0.index t 2 = 0 := by decide +kernel
theorem ind1 : ∀ t : Fin grid0.N, win0_1.index t 0 = t.val / 4 ∧ win0_1.index t 1 = t.val % 4 ∧ win0_1.index t 2 = 0 := by decide +kernel
theorem ind2 : ∀ t : Fin grid0.N, win0_2.index t 0 = t.val / 4 / 3 ∧ win0_2.index t 1 = t.val / 4 % 3 ∧ win0_2.index t 2 = 0 := by decide +kernel

/-- Row `r` of the `k`-th block of rows. -/
def row (k : ℕ) (hk : k < 4) (r : Fin 4096) : Fin 16384 := ⟨4096 * k + r.val, by omega⟩

theorem V_v0 (s : Fin 16384) (d : Fin 1024) : V m c main_v0 (ix3 0 s d : S1x16384x1024.Idx) = A0 m c (ix2 s d) := by
  have h : V m c main_v0 = broadcastInDim S1x16384x1024 ![1, 2] Facts₀.bcast_S16384x1024_S1x16384x1024_1_2 (A0 m c) := rfl
  rw [h]
  exact broadcastInDim_apply _ Facts₀.bcast_S16384x1024_S1x16384x1024_1_2 (A0 m c) _ (ix2 s d) (fun a => match a with | 0 => rfl | 1 => rfl)

theorem iblk0_apply (t : Fin cfg0.N) (r : Fin 4096) (d : Fin 1024) :
    iblk m c 0 t (ix3 0 r d : S1x4096x1024.Idx) = A0 m c (ix2 (row (t.val % 4) (Nat.mod_lt _ (by decide)) r) d) := by
  obtain ⟨i0, i1, i2⟩ := ind0 t
  rw [← V_v0]
  show V m c main_v0 ((win0_0.rect t).emb (ix3 0 r d : S1x4096x1024.Idx)) = _
  refine congrArg (V m c main_v0) (funext fun a => Fin.ext ?_)
  match a with
  | 0 => exact (Pipeline.Window.rect_emb_val win0_0 t (ix3 0 r d : S1x4096x1024.Idx) 0).trans (by rw [i0]; rfl)
  | 1 => exact (Pipeline.Window.rect_emb_val win0_0 t (ix3 0 r d : S1x4096x1024.Idx) 1).trans (by
      rw [i1]; show t.val % 4 * 4096 + r.val = 4096 * (t.val % 4) + r.val; omega)
  | 2 => exact (Pipeline.Window.rect_emb_val win0_0 t (ix3 0 r d : S1x4096x1024.Idx) 2).trans (by rw [i2]; show 0 * 1024 + d.val = d.val; omega)

theorem iblk1_apply (t : Fin cfg0.N) (n : Fin 12) (h : t.val / 4 = n.val) (r : Fin 4096) (e : Fin 1024) :
    iblk m c 1 t (ix3 0 r e : S1x4096x1024.Idx) = A1 m c (ix3 n (row (t.val % 4) (Nat.mod_lt _ (by decide)) r) e) := by
  obtain ⟨i0, i1, i2⟩ := ind1 t
  rw [show A1 m c = V m c main_arg1 from rfl]
  show V m c main_arg1 ((win0_1.rect t).emb (ix3 0 r e : S1x4096x1024.Idx)) = _
  refine congrArg (V m c main_arg1) (funext fun a => Fin.ext ?_)
  match a with
  | 0 => exact (Pipeline.Window.rect_emb_val win0_1 t (ix3 0 r e : S1x4096x1024.Idx) 0).trans (by rw [i0, h]; show n.val * 1 + 0 = n.val; omega)
  | 1 => exact (Pipeline.Window.rect_emb_val win0_1 t (ix3 0 r e : S1x4096x1024.Idx) 1).trans (by
      rw [i1]; show t.val % 4 * 4096 + r.val = 4096 * (t.val % 4) + r.val; omega)
  | 2 => exact (Pipeline.Window.rect_emb_val win0_1 t (ix3 0 r e : S1x4096x1024.Idx) 2).trans (by rw [i2]; show 0 * 1024 + e.val = e.val; omega)

/-! ## The carried sum -/

/-- The product of rows `4096 k …` of the activations with slab `n` of the cotangents. -/
def part (n : Fin 12) (k : Fin 4) (d e : Fin 1024) : EReal :=
  ∑ r : Fin 4096, A0 m c (ix2 (row k.val k.isLt r) d) * A1 m c (ix3 n (row k.val k.isLt r) e)

theorem prod_eq (t : Fin cfg0.N) (n : Fin 12) (k : Fin 4) (hn : t.val / 4 = n.val) (hk : t.val % 4 = k.val) (d e : Fin 1024) :
    prod (iblk m c 0 t) (iblk m c 1 t) d e = part m c n k d e := by
  unfold prod part
  refine Finset.sum_congr rfl fun r _ => ?_
  rw [iblk0_apply, iblk1_apply m c t n hn]
  have : row (t.val % 4) (Nat.mod_lt _ (by decide)) r = row k.val k.isLt r := Fin.ext (by show 4096 * (t.val % 4) + r.val = _; rw [hk]; rfl)
  rw [this]

/-- A point's sum from the one before. -/
theorem acc_pos (t : Fin cfg0.N) (h : 0 < t.val) :
    acc m c t.val t.isLt = sumOf (grid0.coords t) (iblk m c 0 t) (iblk m c 1 t) (acc m c (t.val - 1) (Nat.lt_of_le_of_lt (Nat.sub_le _ _) t.isLt)) := by
  obtain ⟨n, hn⟩ := t
  cases n with
  | zero => exact absurd h (Nat.lt_irrefl 0)
  | succ n => rfl

theorem acc0 (t : Fin cfg0.N) (n : Fin 12) (h : t.val = 4 * n.val) (d e : Fin 1024) :
    acc m c t.val t.isLt (ix2 d e) = part m c n 0 d e := by
  have ea : acc m c t.val t.isLt = k0_pay1 (iblk m c 0 t) (iblk m c 1 t) := by
    by_cases hz : t.val = 0
    · obtain ⟨k, hk⟩ := t
      obtain rfl : k = 0 := hz
      rfl
    · exact (acc_pos m c t (Nat.pos_of_ne_zero hz)).trans (if_pos ((cond_iff t).1.mpr (by omega)))
  rw [ea, pay1_apply]
  exact prod_eq m c t n 0 (by omega) (by show _ = 0; omega) d e

theorem accS (t : Fin cfg0.N) (n : Fin 12) (k : Fin 4) (h : t.val = 4 * n.val + k.val) (h0 : 0 < k.val) (d e : Fin 1024) :
    acc m c t.val t.isLt (ix2 d e)
    = acc m c (t.val - 1) (Nat.lt_of_le_of_lt (Nat.sub_le _ _) t.isLt) (ix2 d e) + part m c n k d e := by
  rw [acc_pos m c t (by omega), sumOf, if_neg (mt (cond_iff t).1.mp (by omega)), if_pos ((cond_iff t).2.1.mpr (by omega)), pay2_apply, prod_eq m c t n k (by omega) (by omega)]

/-- The gradient of slab `n` at row `d`, column `e`. -/
def dw (n : Fin 12) (d e : Fin 1024) : EReal := ∑ s : Fin 16384, A0 m c (ix2 s d) * A1 m c (ix3 n s e)

theorem dw_eq (n : Fin 12) (d e : Fin 1024) : dw m c n d e = ∑ k : Fin 4, part m c n k d e := by
  unfold dw part
  rw [← Fintype.sum_equiv (finProdFinEquiv (m := 4) (n := 4096))
    (fun p => A0 m c (ix2 (finProdFinEquiv p) d) * A1 m c (ix3 n (finProdFinEquiv p) e))
    (fun s : Fin 16384 => A0 m c (ix2 s d) * A1 m c (ix3 n s e)) (fun _ => rfl), Fintype.sum_prod_type]
  refine Finset.sum_congr rfl fun k _ => Finset.sum_congr rfl fun r _ => ?_
  have : (finProdFinEquiv (k, r) : Fin 16384) = row k.val k.isLt r := Fin.ext (by show r.val + 4096 * k.val = 4096 * k.val + r.val; omega)
  rw [this]

theorem acc3 (t : Fin cfg0.N) (n : Fin 12) (h : t.val = 4 * n.val + 3) (d e : Fin 1024) :
    acc m c t.val t.isLt (ix2 d e) = dw m c n d e := by
  have ht := lt48 t
  have hN : cfg0.N = 48 := N_0
  have q (k : ℕ) (hk : k < 4) : 4 * n.val + k < cfg0.N := by omega
  have e0 := acc0 m c ⟨4 * n.val + 0, q 0 (by omega)⟩ n rfl d e
  have e1 := accS m c ⟨4 * n.val + 1, q 1 (by omega)⟩ n 1 rfl (by decide) d e
  have e2 := accS m c ⟨4 * n.val + 2, q 2 (by omega)⟩ n 2 rfl (by decide) d e
  have e3 := accS m c ⟨4 * n.val + 3, q 3 (by omega)⟩ n 3 rfl (by decide) d e
  have et : t = ⟨4 * n.val + 3, q 3 (by omega)⟩ := Fin.ext h
  rw [et, dw_eq, Fin.sum_univ_four]
  refine e3.trans (congrArg (· + part m c n 3 d e) ?_)
  refine Eq.trans ?_ (e2.trans (congrArg (· + part m c n 2 d e) ?_))
  · rfl
  refine Eq.trans ?_ (e1.trans (congrArg (· + part m c n 1 d e) ?_))
  · rfl
  exact e0

theorem out3 (t : Fin cfg0.N) (n : Fin 12) (h : t.val = 4 * n.val + 3) (u : Fin 1) (d e : Fin 1024) :
    (dats m 0 c).after 2 t (ix3 u d e) = dw m c n d e := by
  refine Eq.trans ?_ (acc3 m c t n h d e)
  rw [after0_2]
  exact pay3_apply _ u d e

/-! ## The result array -/

/-- The gradient over the result's rows: slab `3 a + b` in rows `1024 b …` of shard `a`; other rows, which the call leaves alone, read as zero. -/
def G : Vec Ideal S4x4224x1024 .bf16 := fun i =>
  if h : (i 1).val < 3072 then
    dw m c ⟨3 * (i 0).val + (i 1).val / 1024, by have h0 : (i 0).val < 4 := (i 0).isLt; omega⟩ ⟨(i 1).val % 1024, Nat.mod_lt _ (by decide)⟩ (i 2)
  else (0 : EReal)

theorem xs2 : ∀ t : Fin grid0.N, win0_2.xsize (grid0.coords t) 0 = 1 ∧ win0_2.xsize (grid0.coords t) 1 = 1024 ∧ win0_2.xsize (grid0.coords t) 2 = 1024 := by decide +kernel

/-- The index `(0, d, e)` of what point `t` writes back. -/
def at2 (t : Fin grid0.N) (d e : Fin 1024) : (win0_2.xblock (grid0.coords t)).Idx := fun a => match a with
  | ⟨0, _⟩ => ⟨0, Nat.lt_of_lt_of_eq Nat.one_pos (xs2 t).1.symm⟩
  | ⟨1, _⟩ => ⟨d.val, Nat.lt_of_lt_of_eq d.isLt (xs2 t).2.1.symm⟩
  | ⟨2, _⟩ => ⟨e.val, Nat.lt_of_lt_of_eq e.isLt (xs2 t).2.2.symm⟩
  | ⟨_ + 3, h⟩ => absurd h (Nat.not_lt.2 (Nat.le_add_left _ _))

theorem exists_at2 (t : Fin grid0.N) (y : (win0_2.xblock (grid0.coords t)).Idx) : ∃ d e : Fin 1024, at2 t d e = y := by
  have y0 : (y (0 : Fin 3)).val < 1 := Nat.lt_of_lt_of_eq (y (0 : Fin 3)).isLt (xs2 t).1
  have y1 : (y (1 : Fin 3)).val < 1024 := Nat.lt_of_lt_of_eq (y (1 : Fin 3)).isLt (xs2 t).2.1
  have y2 : (y (2 : Fin 3)).val < 1024 := Nat.lt_of_lt_of_eq (y (2 : Fin 3)).isLt (xs2 t).2.2
  have q : ∀ a : Fin 3, (at2 t ⟨(y (1 : Fin 3)).val, y1⟩ ⟨(y (2 : Fin 3)).val, y2⟩ a).val = (y a).val := fun a => match a with
    | ⟨0, _⟩ => (Nat.lt_one_iff.mp y0).symm
    | ⟨1, _⟩ => rfl
    | ⟨2, _⟩ => rfl
    | ⟨_ + 3, h⟩ => absurd h (Nat.not_lt.2 (Nat.le_add_left _ _))
  exact ⟨_, _, funext fun a => Fin.ext (q a)⟩

theorem cut2 (t : Fin grid0.N) (d e : Fin 1024) : (win0_2.xinj (grid0.coords t) (at2 t d e)) = (ix3 0 d e : S1x1024x1024.Idx) :=
  funext fun a => Fin.ext (match a with | ⟨0, _⟩ => rfl | ⟨1, _⟩ => rfl | ⟨2, _⟩ => rfl)

theorem emb2 (t : Fin grid0.N) (n : Fin 12) (h : t.val / 4 = n.val) (d e : Fin 1024) :
    (win0_2.rect t).emb (at2 t d e)
    = (ix3 ⟨n.val / 3, by omega⟩ ⟨1024 * (n.val % 3) + d.val, by omega⟩ e : S4x4224x1024.Idx) := by
  obtain ⟨i0, i1, i2⟩ := ind2 t
  refine funext fun a => Fin.ext ?_
  match a with
  | ⟨0, _⟩ => exact (Pipeline.Window.rect_emb_val win0_2 t (at2 t d e) 0).trans (by
      rw [i0, h]; show n.val / 3 * 1 + 0 = n.val / 3; omega)
  | ⟨1, _⟩ => exact (Pipeline.Window.rect_emb_val win0_2 t (at2 t d e) 1).trans (by
      rw [i1, h]; show n.val % 3 * 1024 + d.val = 1024 * (n.val % 3) + d.val; omega)
  | ⟨2, _⟩ => exact (Pipeline.Window.rect_emb_val win0_2 t (at2 t d e) 2).trans (by rw [i2]; show 0 * 1024 + e.val = e.val; omega)

theorem G_apply (n : Fin 12) (d e : Fin 1024) :
    G m c (ix3 ⟨n.val / 3, by omega⟩ ⟨1024 * (n.val % 3) + d.val, by omega⟩ e : S4x4224x1024.Idx) = dw m c n d e := by
  unfold G
  rw [dif_pos (show 1024 * (n.val % 3) + d.val < 3072 by omega)]
  have hn : (⟨3 * (n.val / 3) + (1024 * (n.val % 3) + d.val) / 1024, by omega⟩ : Fin 12) = n := Fin.ext (by show 3 * (n.val / 3) + (1024 * (n.val % 3) + d.val) / 1024 = n.val; omega)
  have hd : (⟨(1024 * (n.val % 3) + d.val) % 1024, Nat.mod_lt _ (by decide)⟩ : Fin 1024) = d := Fin.ext (by show (1024 * (n.val % 3) + d.val) % 1024 = d.val; omega)
  exact congrArg₂ (fun x y => dw m c x y e) hn hd

theorem flushed_eq (t : Fin cfg0.N) (hf : (cfg0.win 2).flush t = true) :
    (dats m 0 c).flushed 2 t = ((cfg0.win 2).blk t).view.read (Elt Ideal) (G m c) := by
  have h3 : t.val % 4 = 3 := (flush0_2 t).mp hf
  have ht := lt48 t
  have hn : t.val / 4 < 12 := by omega
  have hv (u : Fin 1) (d e : Fin 1024) := out3 m c t ⟨t.val / 4, hn⟩ (by show t.val = 4 * (t.val / 4) + 3; omega) u d e
  show (cfg0.win 2).cut (grid0.coords t) ((dats m 0 c).after 2 t) = _
  generalize (dats m 0 c).after 2 t = z at hv ⊢
  funext y
  obtain ⟨d, e, hy⟩ := exists_at2 t y
  subst hy
  show z (win0_2.xinj (grid0.coords t) (at2 t d e)) = G m c ((win0_2.rect t).emb (at2 t d e))
  rw [cut2, hv, emb2 t ⟨t.val / 4, hn⟩ rfl]
  exact (G_apply m c ⟨t.val / 4, hn⟩ d e).symm

/-- The result array where the call writes it. -/
theorem arr2 (i : S4x4224x1024.Idx) (h : (i 1).val < 3072) : (dats m 0 c).arrAt 2 cfg0.N i = G m c i := by
  obtain ⟨a, s, e, rfl⟩ : ∃ (a : Fin 4) (s : Fin 4224) (e : Fin 1024), (ix3 a s e : S4x4224x1024.Idx) = i := ⟨i 0, i 1, i 2, (eq_ix3 i).symm⟩
  have h : s.val < 3072 := h
  have hN : cfg0.N = 48 := N_0
  have ht : 4 * (3 * a.val + s.val / 1024) + 3 < cfg0.N := by omega
  refine (dats m 0 c).arrAt_apply_of_mem 2 (G m c) (flushed_eq m c) cfg0.N ⟨_, ht⟩ _ ht ((flush0_2 _).mpr (by show (4 * (3 * a.val + s.val / 1024) + 3) % 4 = 3; omega)) ?_
  have e2 : ((cfg0.win 2).blk ⟨_, ht⟩).view.emb (at2 ⟨_, ht⟩ ⟨s.val % 1024, Nat.mod_lt _ (by decide)⟩ e) = (ix3 a s e : S4x4224x1024.Idx) := by
    refine (emb2 ⟨_, ht⟩ ⟨3 * a.val + s.val / 1024, by omega⟩ (by show (4 * (3 * a.val + s.val / 1024) + 3) / 4 = 3 * a.val + s.val / 1024; omega) _ e).trans ?_
    refine funext fun b => Fin.ext ?_
    match b with
    | 0 => show (3 * a.val + s.val / 1024) / 3 = a.val; omega
    | 1 => show 1024 * ((3 * a.val + s.val / 1024) % 3) + s.val % 1024 = s.val; omega
    | 2 => rfl
  exact Eq.subst (motive := fun i => i ∈ ((cfg0.win 2).blk ⟨_, ht⟩).view.set) e2 (((cfg0.win 2).blk ⟨_, ht⟩).view.emb_mem_set _)

/-- The run's result, the arguments unchanged. -/
theorem run_results (ρ : Dev nD → PrngReg) : θ_run defs (onTc (τ := τ) (main (F := Ideal))) ⟨m, fun _ => 0, ρ⟩ fun r => ∀ c : Dev nD,
      (∀ i : S4x4224x1024.Idx, (i 1).val < 3072 → r.2.mem ((c.tc : Thread nD τ).loc main_v1) i = G m c i) ∧ Kept m c r.2.mem :=
  (θ_run defs _ _).mono (fun _ h c => ⟨fun i hi => (congrFun ((h.1.1 c).1 2) i).trans (arr2 m c i hi), h.2.1 c⟩) (θ_run_and (run_main_quiescent m ρ) (frame m ρ))

end Cert.Kernel2Ideal.Hand

end
-- ==== Proof.TnKFacts.lean ====
/-
  The gradient call of the projection's weights: the facts the call's program states.
-/
module

public import proofs.«01_k».proof.Kernel2
public import proofs.«01_k».proof.Proof.TnFacts
public import Idealize.ShloMosaic.Lib.Affine
public import Idealize.ShloMosaic.Lib.Decide
public import Idealize.ShloMosaic.Lib.Exec

@[expose] public section

-- a fact under nested conditions takes a `Decidable` instance one implication deeper per condition
set_option synthInstance.maxSize 4096

namespace Cert.Kernel2.Gen

open Idealize.ShloMosaic Idealize.SL.Sem
/-! ## The facts over the vocabulary (`Facts₀`) -/

/-- The program's facts over its vocabulary, proved. -/
instance facts₀ : Cert.Kernel2.Facts₀ := Cert.Kernel2Ideal.Gen.facts₀.casesOn (motive := fun _ => Cert.Kernel2.Facts₀) @Cert.Kernel2.Facts₀.mk

/-! ## The facts over the windows (`Facts`) -/

/-- Every fact the program states, proved. -/
instance facts : Cert.Kernel2.Facts where

end Cert.Kernel2.Gen
-- ==== Proof.TnRefRead.lean ====
/-
  The gradient call of the projection's weights: the reference's facts, its run, and its values read at an index.
-/
module

public import proofs.«01_k».proof.Reference2Ideal
public import Idealize.ShloMosaic.Lib.Affine
public import Idealize.ShloMosaic.Lib.Decide
public import Idealize.ShloMosaic.Lib.Exec
public import Idealize.ShloMosaic.Lib.StableHlo.Run
public import Idealize.ShloMosaic.Lib.Pipeline.Value
public import Idealize.ShloMosaic.Lib.ValueIdx
public import Idealize.ShloMosaic.PureOps.Ideal.Laws

@[expose] public section

set_option synthInstance.maxSize 4096

noncomputable section

namespace Cert.Reference2Ideal.Gen

open Idealize.ShloMosaic Idealize.SL.Sem
/-! ## The facts over the vocabulary (`Facts₀`) -/

/-- The program's facts over its vocabulary, proved. -/
instance facts₀ : Cert.Reference2Ideal.Facts₀ := by constructor <;> decide

/-! ## The facts over the windows (`Facts`) -/

/-- Every fact the program states, proved. -/
instance facts : Cert.Reference2Ideal.Facts where

end Cert.Reference2Ideal.Gen

namespace Cert.Reference2Ideal.Value

open Cert.Reference2Ideal Cert.Reference2Ideal.Gen Idealize.ShloMosaic Idealize.ShloMosaic.TcCoe Idealize.SL.Sem Idealize.ShloMosaic.StableHlo

variable {F : FTy → Type} [FloatOps F]

/-- @main's 14 operations, in order (a called function's operations stand in its call's place, spelt `TRef.…`). -/
abbrev ops : List (HloOp τ sig (Elt F)) :=
  [ nullary main_cst (constant S_ .f32 0x00000000#32),
    unary main_cst main_v0 (broadcastInDim S12x1024x1024 ![] Facts₀.bcast_S_S12x1024x1024 : (⟨S_, .f32⟩ : BufTy).Contents (Elt F) → (⟨S12x1024x1024, .f32⟩ : BufTy).Contents (Elt F)),
    unary main_arg0 main_v1 ((extf .f32 · Facts₀.bitsLt_bf16_f32) : (⟨S16384x1024, .bf16⟩ : BufTy).Contents (Elt F) → (⟨S16384x1024, .f32⟩ : BufTy).Contents (Elt F)),
    binary main_v0 main_v1 main_v2 ((fun l r => Host.dotGeneral dot_S12x1024x1024_S16384x1024_S12x1024x16384_1_1_02_0_n_n none l r) : (⟨S12x1024x1024, .f32⟩ : BufTy).Contents (Elt F) → (⟨S16384x1024, .f32⟩ : BufTy).Contents (Elt F) → (⟨S12x1024x16384, .f32⟩ : BufTy).Contents (Elt F)),
    unary main_v2 main_v3 ((transpose S12x16384x1024 [0, 2, 1] · Facts₀.transposes_S12x1024x16384_S12x16384x1024_0_2_1) : (⟨S12x1024x16384, .f32⟩ : BufTy).Contents (Elt F) → (⟨S12x16384x1024, .f32⟩ : BufTy).Contents (Elt F)),
    unary main_arg1 main_v4 ((extf .f32 · Facts₀.bitsLt_bf16_f32) : (⟨S12x16384x1024, .bf16⟩ : BufTy).Contents (Elt F) → (⟨S12x16384x1024, .f32⟩ : BufTy).Contents (Elt F)),
    unary main_v4 main_v5 ((transpose S12x1024x16384 [0, 2, 1] · Facts₀.transposes_S12x16384x1024_S12x1024x16384_0_2_1) : (⟨S12x16384x1024, .f32⟩ : BufTy).Contents (Elt F) → (⟨S12x1024x16384, .f32⟩ : BufTy).Contents (Elt F)),
    binary main_v5 main_v1 main_v6 ((fun l r => Host.dotGeneral dot_S12x1024x16384_S16384x1024_S12x1024x1024_2_0_01_1_n_n none l r) : (⟨S12x1024x16384, .f32⟩ : BufTy).Contents (Elt F) → (⟨S16384x1024, .f32⟩ : BufTy).Contents (Elt F) → (⟨S12x1024x1024, .f32⟩ : BufTy).Contents (Elt F)),
    unary main_v6 main_v7 ((transpose S12x1024x1024 [0, 2, 1] · Facts₀.transposes_S12x1024x1024_S12x1024x1024_0_2_1) : (⟨S12x1024x1024, .f32⟩ : BufTy).Contents (Elt F) → (⟨S12x1024x1024, .f32⟩ : BufTy).Contents (Elt F)),
    reshape main_v7 main_v8 (rfl : (.f32 : EltTy) = .f32) Facts₀.shapeCasts_S12x1024x1024_S4x3072x1024,
    unary main_v8 main_v9 ((truncf .bf16 · Facts₀.bitsLt_bf16_f32) : (⟨S4x3072x1024, .f32⟩ : BufTy).Contents (Elt F) → (⟨S4x3072x1024, .bf16⟩ : BufTy).Contents (Elt F)),
    nullary main_c (constantI S_ 32 0#32),
    TRef.unary (TRef.of (T := ⟨S_, .i32⟩) main_c) (TRef.of (T := ⟨S_, .bf16⟩) main_call0_v0) (sitofp .bf16),
    TRef.binary (TRef.of (T := ⟨S4x3072x1024, .bf16⟩) main_v9) (TRef.of (T := ⟨S_, .bf16⟩) main_call0_v0) (TRef.of (T := ⟨S4x4224x1024, .bf16⟩) main_v10) (fun x v => pad S4x4224x1024 ![0, 0, 0] ![0, 1152, 0] ![0, 0, 0] x v Facts₀.pads_S4x3072x1024_S4x4224x1024_000_011520_000 Facts₀.h_S_) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., reshape_bufs_sub .., unary_bufs_sub .., nullary_bufs_sub .., unary_bufs_sub .., binary_bufs_sub ..⟩

set_option maxHeartbeats 1400000 in
/-- On every device, for any float values, from any memory with zero counters: every weakly fair execution of @main terminates with each result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = pad S4x4224x1024 ![0, 0, 0] ![0, 1152, 0] ![0, 0, 0] (truncf .bf16 (shapeCast _ (transpose S12x1024x1024 [0, 2, 1] (Host.dotGeneral dot_S12x1024x16384_S16384x1024_S12x1024x1024_2_0_01_1_n_n none (transpose S12x1024x16384 [0, 2, 1] (extf .f32 (m ((c.tc : Thread nD τ).loc main_arg1)) Facts₀.bitsLt_bf16_f32) Facts₀.transposes_S12x16384x1024_S12x1024x16384_0_2_1) (extf .f32 (m ((c.tc : Thread nD τ).loc main_arg0)) Facts₀.bitsLt_bf16_f32)) Facts₀.transposes_S12x1024x1024_S12x1024x1024_0_2_1) Facts₀.shapeCasts_S12x1024x1024_S4x3072x1024) Facts₀.bitsLt_bf16_f32) (sitofp .bf16 (constantI S_ 32 0#32)) Facts₀.pads_S4x3072x1024_S4x4224x1024_000_011520_000 Facts₀.h_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (by simp only [ops, TRef.binary, TRef.unary, TRef.toBuf, TRef.ofBuf, cast_eq]; after_results <;> rfl),
      (h c main_arg0).trans (by simp only [ops, TRef.binary, TRef.unary, TRef.toBuf, TRef.ofBuf, cast_eq]; after_results <;> rfl),
      (h c main_arg1).trans (by simp only [ops, TRef.binary, TRef.unary, TRef.toBuf, TRef.ofBuf, cast_eq]; after_results <;> rfl)⟩)
    (run_seq scopedRefs_eq scopedSems_eq defs main (fun _ => ops) main_eq (fun _ => ops_sub) m ρ)

end Cert.Reference2Ideal.Value

namespace Cert.Reference2Ideal.Read

open Cert.Reference2Ideal Cert.Reference2Ideal.Gen Idealize.ShloMosaic Idealize.ShloMosaic.TcCoe Idealize.SL.Sem Idealize.ShloMosaic.StableHlo

variable {F : FTy → Type} [FloatOps F]

-- %1 = stablehlo.convert %arg0 : (tensor<16384x1024xbf16>) -> tensor<16384x1024xf32>
def val_main_v1 (x0 : (⟨S16384x1024, .bf16⟩ : BufTy).Contents (Elt F)) : (⟨S16384x1024, .f32⟩ : BufTy).Contents (Elt F) :=
  extf .f32 (x0) Facts₀.bitsLt_bf16_f32
-- %4 = stablehlo.convert %arg1 : (tensor<12x16384x1024xbf16>) -> tensor<12x16384x1024xf32>
def val_main_v4 (x1 : (⟨S12x16384x1024, .bf16⟩ : BufTy).Contents (Elt F)) : (⟨S12x16384x1024, .f32⟩ : BufTy).Contents (Elt F) :=
  extf .f32 (x1) Facts₀.bitsLt_bf16_f32
-- %5 = stablehlo.transpose %4, dims = [0, 2, 1] : (tensor<12x16384x1024xf32>) -> tensor<12x1024x16384xf32>
def val_main_v5 (x1 : (⟨S12x16384x1024, .bf16⟩ : BufTy).Contents (Elt F)) : (⟨S12x1024x16384, .f32⟩ : BufTy).Contents (Elt F) :=
  transpose S12x1024x16384 [0, 2, 1] (val_main_v4 (F := F) x1) Facts₀.transposes_S12x16384x1024_S12x1024x16384_0_2_1
abbrev idx_main_v5 (i : S12x1024x16384.Idx) : S12x16384x1024.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v5_apply (x1 : (⟨S12x16384x1024, .bf16⟩ : BufTy).Contents (Elt F)) (i : S12x1024x16384.Idx) :
    val_main_v5 (F := F) x1 i = val_main_v4 (F := F) x1 (idx_main_v5 i) := by
  unfold val_main_v5
  generalize val_main_v4 (F := F) x1 = y
  exact transpose_apply [0, 2, 1] y Facts₀.transposes_S12x16384x1024_S12x1024x16384_0_2_1 i (idx_main_v5 i) (fun b => match b with
    | ⟨0, _⟩ => rfl
    | ⟨1, _⟩ => rfl
    | ⟨2, _⟩ => rfl)

-- %6 = stablehlo.dot_general %5, %1, contracting_dims = [2] x [0], precision = [DEFAULT, DEFAULT] : (tensor<12x1024x16384xf32>, tensor<16384x1024xf32>) -> tensor<12x1024x1024xf32>
def val_main_v6 (x0 : (⟨S16384x1024, .bf16⟩ : BufTy).Contents (Elt F)) (x1 : (⟨S12x16384x1024, .bf16⟩ : BufTy).Contents (Elt F)) : (⟨S12x1024x1024, .f32⟩ : BufTy).Contents (Elt F) :=
  Host.dotGeneral dot_S12x1024x16384_S16384x1024_S12x1024x1024_2_0_01_1_n_n none (val_main_v5 (F := F) x1) (val_main_v1 (F := F) x0)
theorem lhs_main_v6_0 (i : S12x1024x1024.Idx) (q : dot_S12x1024x16384_S16384x1024_S12x1024x1024_2_0_01_1_n_n.contr.Idx) :
    (dot_S12x1024x16384_S16384x1024_S12x1024x1024_2_0_01_1_n_n.lhsIdx i q 0).val = (i 0).val := by
  unfold DotDims.lhsIdx
  rw [dif_neg (show ¬(0 : Fin S12x1024x16384.rank) ∈ dot_S12x1024x16384_S16384x1024_S12x1024x1024_2_0_01_1_n_n.lhsBatch by decide), dif_pos (show (0 : Fin S12x1024x16384.rank) ∈ dot_S12x1024x16384_S16384x1024_S12x1024x1024_2_0_01_1_n_n.lhsNonContracting by decide)]
  rfl
theorem lhs_main_v6_1 (i : S12x1024x1024.Idx) (q : dot_S12x1024x16384_S16384x1024_S12x1024x1024_2_0_01_1_n_n.contr.Idx) :
    (dot_S12x1024x16384_S16384x1024_S12x1024x1024_2_0_01_1_n_n.lhsIdx i q 1).val = (i 1).val := by
  unfold DotDims.lhsIdx
  rw [dif_neg (show ¬(1 : Fin S12x1024x16384.rank) ∈ dot_S12x1024x16384_S16384x1024_S12x1024x1024_2_0_01_1_n_n.lhsBatch by decide), dif_pos (show (1 : Fin S12x1024x16384.rank) ∈ dot_S12x1024x16384_S16384x1024_S12x1024x1024_2_0_01_1_n_n.lhsNonContracting by decide)]
  rfl
theorem lhs_main_v6_2 (i : S12x1024x1024.Idx) (q : dot_S12x1024x16384_S16384x1024_S12x1024x1024_2_0_01_1_n_n.contr.Idx) :
    (dot_S12x1024x16384_S16384x1024_S12x1024x1024_2_0_01_1_n_n.lhsIdx i q 2).val = (q ⟨0, by decide⟩).val :=
  dot_S12x1024x16384_S16384x1024_S12x1024x1024_2_0_01_1_n_n.lhsIdx_val_of_single rfl i q
theorem rhs_main_v6_0 (i : S12x1024x1024.Idx) (q : dot_S12x1024x16384_S16384x1024_S12x1024x1024_2_0_01_1_n_n.contr.Idx) :
    (dot_S12x1024x16384_S16384x1024_S12x1024x1024_2_0_01_1_n_n.rhsIdx i q 0).val = (q ⟨0, by decide⟩).val :=
  dot_S12x1024x16384_S16384x1024_S12x1024x1024_2_0_01_1_n_n.rhsIdx_val_of_single rfl i q
theorem rhs_main_v6_1 (i : S12x1024x1024.Idx) (q : dot_S12x1024x16384_S16384x1024_S12x1024x1024_2_0_01_1_n_n.contr.Idx) :
    (dot_S12x1024x16384_S16384x1024_S12x1024x1024_2_0_01_1_n_n.rhsIdx i q 1).val = (i 2).val := by
  unfold DotDims.rhsIdx
  rw [dif_neg (show ¬(1 : Fin S16384x1024.rank) ∈ dot_S12x1024x16384_S16384x1024_S12x1024x1024_2_0_01_1_n_n.rhsBatch by decide), dif_pos (show (1 : Fin S16384x1024.rank) ∈ dot_S12x1024x16384_S16384x1024_S12x1024x1024_2_0_01_1_n_n.rhsNonContracting by decide)]
  rfl
abbrev lidx_main_v6 (i : S12x1024x1024.Idx) (k : Fin 16384) : S12x1024x16384.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v6 (i : S12x1024x1024.Idx) (k : Fin 16384) : S16384x1024.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v6_apply (x0 : (⟨S16384x1024, .bf16⟩ : BufTy).Contents (Elt Ideal)) (x1 : (⟨S12x16384x1024, .bf16⟩ : BufTy).Contents (Elt Ideal)) (i : S12x1024x1024.Idx) :
    val_main_v6 (F := Ideal) x0 x1 i = ∑ k : Fin 16384, (val_main_v5 (F := Ideal) x1) (lidx_main_v6 i k) * (val_main_v1 (F := Ideal) x0) (ridx_main_v6 i k) := by
  unfold val_main_v6
  generalize val_main_v5 (F := Ideal) x1 = y0
  generalize val_main_v1 (F := Ideal) x0 = y1
  simp only [Host.dotGeneral]
  rw [Ideal.dotGeneral_apply, ← Equiv.sum_comp (ValueIdx.contrEquiv1 dot_S12x1024x16384_S16384x1024_S12x1024x1024_2_0_01_1_n_n 16384 rfl rfl).symm]
  refine Finset.sum_congr rfl fun k _ => ?_
  have hk := ValueIdx.contrEquiv1_symm_val dot_S12x1024x16384_S16384x1024_S12x1024x1024_2_0_01_1_n_n 16384 rfl rfl k
  have el : dot_S12x1024x16384_S16384x1024_S12x1024x1024_2_0_01_1_n_n.lhsIdx i ((ValueIdx.contrEquiv1 dot_S12x1024x16384_S16384x1024_S12x1024x1024_2_0_01_1_n_n 16384 rfl rfl).symm k) = lidx_main_v6 i k := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S12x1024x16384_S16384x1024_S12x1024x1024_2_0_01_1_n_n.rhsIdx i ((ValueIdx.contrEquiv1 dot_S12x1024x16384_S16384x1024_S12x1024x1024_2_0_01_1_n_n 16384 rfl rfl).symm k) = ridx_main_v6 i k := funext fun a => Fin.ext (by
    match a with
    | ⟨0, _⟩ => exact (rhs_main_v6_0 _ _).trans hk
    | ⟨1, _⟩ => exact rhs_main_v6_1 _ _)
  rw [el, er]

-- %7 = stablehlo.transpose %6, dims = [0, 2, 1] : (tensor<12x1024x1024xf32>) -> tensor<12x1024x1024xf32>
def val_main_v7 (x0 : (⟨S16384x1024, .bf16⟩ : BufTy).Contents (Elt F)) (x1 : (⟨S12x16384x1024, .bf16⟩ : BufTy).Contents (Elt F)) : (⟨S12x1024x1024, .f32⟩ : BufTy).Contents (Elt F) :=
  transpose S12x1024x1024 [0, 2, 1] (val_main_v6 (F := F) x0 x1) Facts₀.transposes_S12x1024x1024_S12x1024x1024_0_2_1
abbrev idx_main_v7 (i : S12x1024x1024.Idx) : S12x1024x1024.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v7_apply (x0 : (⟨S16384x1024, .bf16⟩ : BufTy).Contents (Elt F)) (x1 : (⟨S12x16384x1024, .bf16⟩ : BufTy).Contents (Elt F)) (i : S12x1024x1024.Idx) :
    val_main_v7 (F := F) x0 x1 i = val_main_v6 (F := F) x0 x1 (idx_main_v7 i) := by
  unfold val_main_v7
  generalize val_main_v6 (F := F) x0 x1 = y
  exact transpose_apply [0, 2, 1] y Facts₀.transposes_S12x1024x1024_S12x1024x1024_0_2_1 i (idx_main_v7 i) (fun b => match b with
    | ⟨0, _⟩ => rfl
    | ⟨1, _⟩ => rfl
    | ⟨2, _⟩ => rfl)

-- %8 = stablehlo.reshape %7 : (tensor<12x1024x1024xf32>) -> tensor<4x3072x1024xf32>
def val_main_v8 (x0 : (⟨S16384x1024, .bf16⟩ : BufTy).Contents (Elt F)) (x1 : (⟨S12x16384x1024, .bf16⟩ : BufTy).Contents (Elt F)) : (⟨S4x3072x1024, .f32⟩ : BufTy).Contents (Elt F) :=
  shapeCast _ (val_main_v7 (F := F) x0 x1) Facts₀.shapeCasts_S12x1024x1024_S4x3072x1024
set_option backward.proofsInPublic true in
abbrev idx_main_v8 (i : S4x3072x1024.Idx) : S12x1024x1024.Idx := fun a => match a with
  | ⟨0, _⟩ => ⟨(((i 0).val * 3072 + (i 1).val) * 1024 + (i 2).val) / 1048576, by have h0 : (i 0).val < 4 := (i 0).isLt; have h1 : (i 1).val < 3072 := (i 1).isLt; have h2 : (i 2).val < 1024 := (i 2).isLt; show (((i 0).val * 3072 + (i 1).val) * 1024 + (i 2).val) / 1048576 < 12; omega⟩
  | ⟨1, _⟩ => ⟨(((i 0).val * 3072 + (i 1).val) * 1024 + (i 2).val) / 1024 % 1024, by have h0 : (i 0).val < 4 := (i 0).isLt; have h1 : (i 1).val < 3072 := (i 1).isLt; have h2 : (i 2).val < 1024 := (i 2).isLt; show (((i 0).val * 3072 + (i 1).val) * 1024 + (i 2).val) / 1024 % 1024 < 1024; omega⟩
  | ⟨2, _⟩ => ⟨(((i 0).val * 3072 + (i 1).val) * 1024 + (i 2).val) % 1024, by have h0 : (i 0).val < 4 := (i 0).isLt; have h1 : (i 1).val < 3072 := (i 1).isLt; have h2 : (i 2).val < 1024 := (i 2).isLt; show (((i 0).val * 3072 + (i 1).val) * 1024 + (i 2).val) % 1024 < 1024; omega⟩
theorem val_main_v8_apply (x0 : (⟨S16384x1024, .bf16⟩ : BufTy).Contents (Elt F)) (x1 : (⟨S12x16384x1024, .bf16⟩ : BufTy).Contents (Elt F)) (i : S4x3072x1024.Idx) :
    val_main_v8 (F := F) x0 x1 i = val_main_v7 (F := F) x0 x1 (idx_main_v8 i) := by
  unfold val_main_v8
  generalize val_main_v7 (F := F) x0 x1 = y
  exact shapeCast_apply y Facts₀.shapeCasts_S12x1024x1024_S4x3072x1024 i (idx_main_v8 i)
    (by rewrite [Shape.rowMajor_val_three, Shape.rowMajor_val_three]; have h0 : (i 0).val < 4 := (i 0).isLt; have h1 : (i 1).val < 3072 := (i 1).isLt; have h2 : (i 2).val < 1024 := (i 2).isLt; show ((((i 0).val * 3072 + (i 1).val) * 1024 + (i 2).val) / 1048576 * 1024 + (((i 0).val * 3072 + (i 1).val) * 1024 + (i 2).val) / 1024 % 1024) * 1024 + (((i 0).val * 3072 + (i 1).val) * 1024 + (i 2).val) % 1024 = ((i 0).val * 3072 + (i 1).val) * 1024 + (i 2).val; omega)

-- %9 = stablehlo.convert %8 : (tensor<4x3072x1024xf32>) -> tensor<4x3072x1024xbf16>
def val_main_v9 (x0 : (⟨S16384x1024, .bf16⟩ : BufTy).Contents (Elt F)) (x1 : (⟨S12x16384x1024, .bf16⟩ : BufTy).Contents (Elt F)) : (⟨S4x3072x1024, .bf16⟩ : BufTy).Contents (Elt F) :=
  truncf .bf16 (val_main_v8 (F := F) x0 x1) Facts₀.bitsLt_bf16_f32
-- %c = stablehlo.constant dense<0> : tensor<i32>
def val_main_c : (⟨S_, .i32⟩ : BufTy).Contents (Elt F) :=
  constantI S_ 32 0#32
-- @_pad's %0 = stablehlo.convert %arg1 : (tensor<i32>) -> tensor<bf16>, in %10 = func.call @_pad(…) (record main_call0)
def val_main_call0_v0 : (⟨S_, .bf16⟩ : BufTy).Contents (Elt F) :=
  sitofp .bf16 (val_main_c (F := F))
-- %10 = func.call @_pad(…) (record main_call0) result 0: @_pad's %1 = stablehlo.pad %arg0, %0, low = [0, 0, 0], high = [0, 1152, 0], interior = [0, 0, 0] : (tensor<4x3072x1024xbf16>, tensor<bf16>) -> tensor<4x4224x1024xbf16>
def val_main_v10 (x0 : (⟨S16384x1024, .bf16⟩ : BufTy).Contents (Elt F)) (x1 : (⟨S12x16384x1024, .bf16⟩ : BufTy).Contents (Elt F)) : (⟨S4x4224x1024, .bf16⟩ : BufTy).Contents (Elt F) :=
  pad S4x4224x1024 ![0, 0, 0] ![0, 1152, 0] ![0, 0, 0] (val_main_v9 (F := F) x0 x1) (val_main_call0_v0 (F := F)) Facts₀.pads_S4x3072x1024_S4x4224x1024_000_011520_000 Facts₀.h_S_

/-- The term the Run module states for `main_v10` is the stage. -/
theorem val_main_v10_eq (x0 : (⟨S16384x1024, .bf16⟩ : BufTy).Contents (Elt F)) (x1 : (⟨S12x16384x1024, .bf16⟩ : BufTy).Contents (Elt F)) :
    pad S4x4224x1024 ![0, 0, 0] ![0, 1152, 0] ![0, 0, 0] (truncf .bf16 (shapeCast _ (transpose S12x1024x1024 [0, 2, 1] (Host.dotGeneral dot_S12x1024x16384_S16384x1024_S12x1024x1024_2_0_01_1_n_n none (transpose S12x1024x16384 [0, 2, 1] (extf .f32 (x1) Facts₀.bitsLt_bf16_f32) Facts₀.transposes_S12x16384x1024_S12x1024x16384_0_2_1) (extf .f32 (x0) Facts₀.bitsLt_bf16_f32)) Facts₀.transposes_S12x1024x1024_S12x1024x1024_0_2_1) Facts₀.shapeCasts_S12x1024x1024_S4x3072x1024) Facts₀.bitsLt_bf16_f32) (sitofp .bf16 (constantI S_ 32 0#32)) Facts₀.pads_S4x3072x1024_S4x4224x1024_000_011520_000 Facts₀.h_S_
      = val_main_v10 (F := F) x0 x1 := rfl

end Cert.Reference2Ideal.Read

end
-- ==== Proof.TnClaim.lean ====
/-
  The gradient call of the projection's weights computes the reference where it writes: the frames and the value claim.
-/
module

public import proofs.«01_k».proof.Defs
public import proofs.«01_k».proof.Proof.TnVal
public import proofs.«01_k».proof.Proof.TnKFacts
public import proofs.«01_k».proof.Proof.TnRefRead
public import Idealize.ShloMosaic.Lib.KernelVsHost
public import Idealize.ShloMosaic.Lib.Quiescent

@[expose] public section

set_option maxRecDepth 16384

noncomputable section

namespace Cert.Hand2

open Idealize.ShloMosaic Idealize.ShloMosaic.TcCoe Idealize.ShloMosaic.ValueIdx Idealize.SL.Sem
open Cert.Kernel2Ideal.Hand Cert.Reference2Ideal.Read
open scoped BigOperators

/-! ## The mask -/

theorem written_facts : Cert.On_written.Facts := ⟨by decide⟩

theorem written_lt [Cert.On_written.Facts] (x : FVec Ideal Cert.On_written.S16384x1024 .bf16) (y : FVec Ideal Cert.On_written.S12x16384x1024 .bf16)
    (i : Cert.On_written.S4x4224x1024.Idx) (h : Cert.On_written.fn (F := Ideal) x y i = 1#1) : (i 1).val < 3072 := by
  have h1 : (i 1).val < 4224 := (i 1).isLt
  have e : Cert.On_written.fn (F := Ideal) x y i = BitVec.ofBool ((BitVec.ofNat 32 (i 1).val).slt 3072#32) := rfl
  rw [e] at h
  by_contra hn
  have hf : (BitVec.ofNat 32 (i 1).val).slt 3072#32 = false := by
    rw [BitVec.slt, decide_eq_false_iff_not, BitVec.toInt_eq_toNat_of_lt (by rw [BitVec.toNat_ofNat]; omega), BitVec.toNat_ofNat]
    show ¬(((i 1).val % 2 ^ 32 : ℕ) : ℤ) < 3072
    omega
  rw [hf] at h
  exact absurd h (by decide)

/-! ## The reference's function -/

section Values
open Cert.Kernel2Ideal

variable (m : (ℓ : Loc nD τ sig) → Buf (Elt Ideal) ℓ) (c : Dev nD)

theorem v6_eq (n : Fin 12) (e d : Fin 1024) :
    val_main_v6 (F := Ideal) (A0 m c) (A1 m c) (ix3 n e d : Cert.Reference2Ideal.S12x1024x1024.Idx) = dw m c n d e := by
  refine (val_main_v6_apply (A0 m c) (A1 m c) _).trans ?_
  unfold dw
  refine Finset.sum_congr rfl fun k _ => ?_
  rw [val_main_v5_apply, mul_comm]
  have h0 : (ridx_main_v6 (ix3 n e d) k) = (ix2 k d : Cert.Reference2Ideal.S16384x1024.Idx) := funext fun a => Fin.ext (match a with | 0 => rfl | 1 => rfl)
  have h1 : idx_main_v5 (lidx_main_v6 (ix3 n e d) k) = (ix3 n k e : Cert.Reference2Ideal.S12x16384x1024.Idx) :=
    funext fun a => Fin.ext (match a with | 0 => rfl | 1 => rfl | 2 => rfl)
  rw [h0, h1]
  rfl

theorem v9_eq (a : Fin 4) (s : Fin 3072) (e : Fin 1024) :
    val_main_v9 (F := Ideal) (A0 m c) (A1 m c) (ix3 a s e : Cert.Reference2Ideal.S4x3072x1024.Idx)
    = dw m c ⟨3 * a.val + s.val / 1024, by omega⟩ ⟨s.val % 1024, Nat.mod_lt _ (by decide)⟩ e := by
  rw [← v6_eq m c]
  refine (val_main_v8_apply (F := Ideal) (A0 m c) (A1 m c) (ix3 a s e)).trans ((val_main_v7_apply (F := Ideal) (A0 m c) (A1 m c) _).trans ?_)
  refine congrArg (val_main_v6 (F := Ideal) (A0 m c) (A1 m c)) (funext fun b => Fin.ext ?_)
  match b with
  | 0 => show ((a.val * 3072 + s.val) * 1024 + e.val) / 1048576 = 3 * a.val + s.val / 1024; omega
  | 1 => show ((a.val * 3072 + s.val) * 1024 + e.val) % 1024 = e.val; omega
  | 2 => show ((a.val * 3072 + s.val) * 1024 + e.val) / 1024 % 1024 = s.val % 1024; omega

theorem v10_eq (i : Cert.Reference2Ideal.S4x4224x1024.Idx) (h : (i 1).val < 3072) :
    val_main_v10 (F := Ideal) (A0 m c) (A1 m c) i = G m c i := by
  have hv := v9_eq m c (i 0) ⟨(i 1).val, h⟩ (i 2)
  unfold G
  rw [dif_pos h]
  refine Eq.trans ?_ hv
  unfold val_main_v10
  refine pad_apply_of_inside _ _ _ _ _ _ _ i (ix3 (i 0) ⟨(i 1).val, h⟩ (i 2)) fun b => ?_
  match b with
  | 0 => show (i 0).val = 0 + (i 0).val * (0 + 1); omega
  | 1 => show (i 1).val = 0 + (i 1).val * (0 + 1); omega
  | 2 => show (i 2).val = 0 + (i 2).val * (0 + 1); omega

end Values

/-! ## The claims -/

/-- The two programs have one body table. -/
theorem defs_eq : @Cert.Kernel2.defs Bits _ Cert.Kernel2.Gen.facts = @Cert.Kernel2Ideal.defs Bits _ Cert.Kernel2Ideal.Gen.facts := by
  refine congrArg (Pipeline.defs (@Cert.Kernel2Ideal.pcfgs Bits Cert.Kernel2Ideal.Gen.facts)) ?_
  refine congrArg Defs.onTc (funext fun l => funext fun a => ?_)
  match l, a with
  | 0, (t, s) => rfl

theorem frame_kernel : Cert.quiescent_Kernel2 (hKernel2 := Cert.Kernel2.Gen.facts) := fun m ρ _ =>
  Eq.mpr (congrArg (fun d => θ_run d _ _ _) defs_eq) (Cert.Kernel2Ideal.Gen.frame (F := Bits) m ρ)

theorem frame_ideal : Cert.quiescent_Kernel2Ideal (hKernel2Ideal := Cert.Kernel2Ideal.Gen.facts) := fun m ρ _ =>
  Cert.Kernel2Ideal.Gen.frame m ρ

theorem frame_reference : Cert.quiescent_Reference2Ideal (hReference2Ideal := Cert.Reference2Ideal.Gen.facts) := fun m ρ _ =>
  (θ_run (Cert.Reference2Ideal.defs (F := Ideal)) _ _).mono
    (fun r h => ⟨fun c => (h c).2, sem_eq_zero_of_no_sems (by decide) r.2⟩) (Cert.Reference2Ideal.Value.run m ρ)

theorem algebraic : Cert.algebraic_Kernel2Ideal_Reference2Ideal_on_written (hKernel2Ideal := Cert.Kernel2Ideal.Gen.facts)
    (hReference2Ideal := Cert.Reference2Ideal.Gen.facts) (hOn_written := written_facts) := fun m g m' g' _ ha =>
  ⟨fun c => G m c,
    (θ_run (Cert.Kernel2Ideal.defs (F := Ideal)) _ _).mono (fun r h c =>
      ⟨fun i hi => (h c).1 i (@written_lt written_facts _ _ i hi), (h c).2⟩) (run_results m g),
    (θ_run (Cert.Reference2Ideal.defs (F := Ideal)) _ _).mono (fun r h c => by
      obtain ⟨a0, a1⟩ := ha c
      refine ⟨fun i hi => ?_, (h c).2⟩
      refine (congrFun ((h c).1.trans (val_main_v10_eq _ _)) i).trans ?_
      rw [a0, a1]
      exact v10_eq m c i (@written_lt written_facts _ _ i hi)) (Cert.Reference2Ideal.Value.run m' g')⟩

end Cert.Hand2

end
-- ==== Proof.BrFacts.lean ====
/-
  The gradient call of the branches' weights: the facts its idealized program states, the launch, and the body as memory operations over named values.
-/
module

public import proofs.«01_k».proof.Kernel3Ideal
public import Idealize.ShloMosaic.Lib.Affine
public import Idealize.ShloMosaic.Lib.Decide
public import Idealize.ShloMosaic.Lib.Exec
public import Idealize.ShloMosaic.Lib.Pipeline.Kit
public import Idealize.ShloMosaic.Lib.Pipeline.Regions

@[expose] public section

set_option synthInstance.maxSize 4096

noncomputable section

namespace Cert.Kernel3Ideal.Gen

open Idealize.ShloMosaic Idealize.SL.Sem
/-! ## The facts over the vocabulary (`Facts₀`) -/

/-- The program's facts over its vocabulary, proved. -/
instance facts₀ : Cert.Kernel3Ideal.Facts₀ := by
  constructor
  iterate 2 all_goals try first
    | exact Fin.forall_fin_two.2 ⟨Memref.isWhole_whole _, Memref.isWhole_whole _⟩
    | exact fun _ => .inl rfl
    | exact fun _ => .inr (Affine.block_words_dvd (of_decide_eq_true rfl) (by decide))
    | (intro i i' h; first
        | (unfold cc0_transform_0; rw [h 0 rfl, h 1 rfl])
        | (unfold cc0_transform_1; rw [h 0 rfl, h 1 rfl])
        | (unfold cc0_transform_3; rw [h 0 rfl, h 1 rfl]))
    | decide +kernel

/-! ## The facts over the windows (`Facts`) -/

/-- Every fact the program states, proved. -/
instance facts : Cert.Kernel3Ideal.Facts where

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs. -/
theorem winFacts0 : Pipeline.WinFacts spec0 := by decide
/-- No window's block is empty. -/
theorem block_pos0 : ∀ w : Fin 3, 0 < (spec0 w).block.numel := by decide
/-- The windows' arrays and the staging memrefs are whole buffers. -/
theorem arr_whole0 : ∀ w : Fin 3, (spec0 w).arr.IsWhole := fun | 0 => Memref.isWhole_whole _ | 1 => Memref.isWhole_whole _ | 2 => Memref.isWhole_whole _ | ⟨_ + 3, h⟩ => absurd h (Nat.not_lt.2 (Nat.le_add_left _ _))
theorem stage_whole0 : ∀ (w : Fin 3) (s : Fin (spec0 w).nbuf), ((spec0 w).stage s).IsWhole := fun | 0 => fun s => Facts₀.hstage0_0 (s.cast Facts₀.nbuf0_0) | 1 => fun s => Facts₀.hstage0_1 (s.cast Facts₀.nbuf0_1) | 2 => fun s => Facts₀.hstage0_2 (s.cast Facts₀.nbuf0_2) | ⟨_ + 3, h⟩ => absurd h (Nat.not_lt.2 (Nat.le_add_left _ _))
/-- The five, bundled. -/
theorem launch0 : Pipeline.LaunchFacts (nD := nD) (τ := τ) cfgs 0 := ⟨cellOf_inj, winFacts0, block_pos0, arr_whole0, stage_whole0⟩

/-- The grid has 33 points. -/
theorem N_0 : grid0.N = 33 := by decide

/-- The windows conjoined one by one. -/
theorem bigSep_W0 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ
/-- The core's scoped buffers that are no staging buffer of custom_call 0, each whole at some contents: `cc0_scratch0`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)) :=
  Pipeline.scopedRest_eq_of_list spec0 c [cc0_scratch0] (by decide) (by decide)
/-! ## @main as segments and as a chain of items -/

/-- 1 host operation of @main, in order. -/
abbrev hostOps0 : List (HloOp τ sig (Elt F)) :=
  [ StableHlo.unary main_arg2 main_v0 id ]
/-- Each touches TensorCore references only. -/
theorem hostOps0_sub : (hostOps0 : List (HloOp τ sig (Elt F))).Forall fun op => op.bufs ⊆ StableHlo.tcRefs τ sig :=
  StableHlo.unary_bufs_sub ..
/-- `main` is the chain of its items (`Pipeline.chain`). -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

open Idealize.SL Idealize.SL.Sem

/-! ## custom_call 0 -/

/-- The kernel body at point `t`, on what the pipeline calls it with (`defs₀`'s row at the slots). -/
abbrev bodyAt0 (t : Fin cfg0.N) : Prog (TpuEff nD τ sig (Elt F) Λ₀ .tc) PUnit :=
  cc0_grad_w_branch (grid0.coords t) (win0_0.stage (cfg0.slots t 0)) (Facts₀.hstage0_0 ((cfg0.slots t 0).cast Facts₀.nbuf0_0)) (win0_1.stage (cfg0.slots t 1)) (Facts₀.hstage0_1 ((cfg0.slots t 1).cast Facts₀.nbuf0_1)) (Memref.whole main_arg2) (Memref.isWhole_whole _) (win0_2.stage (cfg0.slots t 2)) (Facts₀.hstage0_2 ((cfg0.slots t 2).cast Facts₀.nbuf0_2)) (Memref.whole cc0_scratch0) (Memref.isWhole_whole _)

/-! ## `cc0_grad_w_branch` -/

/-- `%18` of the body. -/
def k0_pay1 (v11 : Vec F S1x2048x1024 .bf16) (v13 : Vec F S1x2048x1024 .bf16) : FVec F S1024x1024 .f32 :=
  have v12 : FVec F S2048x1024 .bf16 := shapeCast S2048x1024 v11 Facts₀.shapeCasts_S1x2048x1024_S2048x1024
  have v14 : FVec F S2048x1024 .bf16 := shapeCast S2048x1024 v13 Facts₀.shapeCasts_S1x2048x1024_S2048x1024
  have cst : FVec F S1024x1024 .f32 := constant S1024x1024 .f32 0x00000000#32
  have v15 : FVec F S1024x1024 .f32 := matmul dot_S2048x1024_S2048x1024_S1024x1024_0_0_1_1_n_n none v12 v14 cst
  have v18 : FVec F S1024x1024 .f32 := shapeCast S1024x1024 v15 Facts₀.shapeCasts_S1024x1024_S1024x1024
  v18

def k0_pay2 (v11 : Vec F S1024x1024 .f32) (v12 : Vec F S1x2048x1024 .bf16) (v14 : Vec F S1x2048x1024 .bf16) : FVec F S1024x1024 .f32 :=
  have v13 : FVec F S2048x1024 .bf16 := shapeCast S2048x1024 v12 Facts₀.shapeCasts_S1x2048x1024_S2048x1024
  have v15 : FVec F S2048x1024 .bf16 := shapeCast S2048x1024 v14 Facts₀.shapeCasts_S1x2048x1024_S2048x1024
  have cst : FVec F S1024x1024 .f32 := constant S1024x1024 .f32 0x00000000#32
  have v16 : FVec F S1024x1024 .f32 := matmul dot_S2048x1024_S2048x1024_S1024x1024_0_0_1_1_n_n none v13 v15 cst
  have v17 : FVec F S1024x1024 .f32 := addf v11 v16
  have v20 : FVec F S1024x1024 .f32 := shapeCast S1024x1024 v17 Facts₀.shapeCasts_S1024x1024_S1024x1024
  v20

def k0_pay3 (v15 : Vec F S256x1024 .f32) : FVec F S1x256x1024 .bf16 :=
  have v16 : FVec F S256x1024 .bf16 := truncf .bf16 v15 Facts₀.bitsLt_bf16_f32
  have v19 : FVec F S1x256x1024 .bf16 := shapeCast S1x256x1024 v16 Facts₀.shapeCasts_S256x1024_S1x256x1024
  v19

/-- `cc0_grad_w_branch` as a skeleton of memory operations over payloads. -/
def cc0_grad_w_branch_skel (i : grid0.Coords) (arg2 : Memref sig .tc .vmem S1x2048x1024 .bf16) (harg2 : arg2.IsWhole) (arg3 : Memref sig .tc .vmem S1x2048x1024 .bf16) (harg3 : arg3.IsWhole) (arg4 : Memref sig .tc .hbm S4x4224x1024 .bf16) (harg4 : arg4.IsWhole) (arg5 : Memref sig .tc .vmem S1x256x1024 .bf16) (harg5 : arg5.IsWhole) (arg6 : Memref sig .tc .vmem S1024x1024 .f32) (harg6 : arg6.IsWhole) :
    Prog (TpuEff nD τ sig (Elt F) Λ₀ .tc) PUnit := do
  -- %arg0: i32, grid coordinate 0  — not in the skeleton
  let arg1 : BitVec 32 := BitVec.ofNat 32 (i 1).val                     -- %arg1: i32, grid coordinate 1
  let v0 : BitVec 1 := Scalar.cmpi .eq arg1 0#32
  let v1 : BitVec 32 := Scalar.extui v0
  let v2 : BitVec 1 := Scalar.cmpi .ne v1 0#32
  if k0_h1 : v2 = 1#1 then do
    let v11 : Vec F S1x2048x1024 .bf16 ← Prog.lift (.load arg2 (Rect.unit (s := S1x2048x1024) ![0, 0, 0] S1x2048x1024.size Facts₀.inb_S1x2048x1024_S1x2048x1024_0_0_0).toLoadRect (View.loadsAt_vmem Facts₀.h_S1x2048x1024))
    let v13 : Vec F S1x2048x1024 .bf16 ← Prog.lift (.load arg3 (Rect.unit (s := S1x2048x1024) ![0, 0, 0] S1x2048x1024.size Facts₀.inb_S1x2048x1024_S1x2048x1024_0_0_0).toLoadRect (View.loadsAt_vmem Facts₀.h_S1x2048x1024))
    let v16 : Vec F S1024x1024 .f32 ← Prog.lift (.load arg6 (Rect.unit (s := S1024x1024) ![0, 0] S1024x1024.size Facts₀.inb_S1024x1024_S1024x1024_0_0).toLoadRect (View.loadsAt_vmem Facts₀.h_S1024x1024))

    Prog.lift (.store arg6 (Rect.unit (s := S1024x1024) ![0, 0] S1024x1024.size Facts₀.inb_S1024x1024_S1024x1024_0_0) (k0_pay1 v11 v13) Finset.univ (View.stores_vmem_bits_univ Facts₀.h_S1024x1024 rfl) (.inl rfl))
    pure ⟨⟩
  else do
    pure ⟨⟩
  let v3 : BitVec 1 := Scalar.cmpi .sgt arg1 0#32
  let v4 : BitVec 1 := Scalar.cmpi .slt arg1 8#32
  let v5 : BitVec 1 := Scalar.andi v3 v4
  let v6 : BitVec 32 := Scalar.extui v5
  let v7 : BitVec 1 := Scalar.cmpi .ne v6 0#32
  if k0_h2 : v7 = 1#1 then do
    let v11 : Vec F S1024x1024 .f32 ← Prog.lift (.load arg6 (Rect.unit (s := S1024x1024) ![0, 0] S1024x1024.size Facts₀.inb_S1024x1024_S1024x1024_0_0).toLoadRect (View.loadsAt_vmem Facts₀.h_S1024x1024))
    let v12 : Vec F S1x2048x1024 .bf16 ← Prog.lift (.load arg2 (Rect.unit (s := S1x2048x1024) ![0, 0, 0] S1x2048x1024.size Facts₀.inb_S1x2048x1024_S1x2048x1024_0_0_0).toLoadRect (View.loadsAt_vmem Facts₀.h_S1x2048x1024))
    let v14 : Vec F S1x2048x1024 .bf16 ← Prog.lift (.load arg3 (Rect.unit (s := S1x2048x1024) ![0, 0, 0] S1x2048x1024.size Facts₀.inb_S1x2048x1024_S1x2048x1024_0_0_0).toLoadRect (View.loadsAt_vmem Facts₀.h_S1x2048x1024))
    let v18 : Vec F S1024x1024 .f32 ← Prog.lift (.load arg6 (Rect.unit (s := S1024x1024) ![0, 0] S1024x1024.size Facts₀.inb_S1024x1024_S1024x1024_0_0).toLoadRect (View.loadsAt_vmem Facts₀.h_S1024x1024))

    Prog.lift (.store arg6 (Rect.unit (s := S1024x1024) ![0, 0] S1024x1024.size Facts₀.inb_S1024x1024_S1024x1024_0_0) (k0_pay2 v11 v12 v14) Finset.univ (View.stores_vmem_bits_univ Facts₀.h_S1024x1024 rfl) (.inl rfl))
    pure ⟨⟩
  else do
    pure ⟨⟩

  if k0_h3 : k0_cond3 i = 1#1 then do

    let v15 : Vec F S256x1024 .f32 ← Prog.lift (.load arg6 (Rect.unit (s := S1024x1024) (k0_off1 i) S256x1024.size (Facts₀.k0_off1_inb i k0_h3)).toLoadRect (View.loadsAt_vmem Facts₀.h_S256x1024))
    let v17 : Vec F S1x256x1024 .bf16 ← Prog.lift (.load arg5 (Rect.unit (s := S1x256x1024) ![0, 0, 0] S1x256x1024.size Facts₀.inb_S1x256x1024_S1x256x1024_0_0_0).toLoadRect (View.loadsAt_vmem Facts₀.h_S1x256x1024))

    Prog.lift (.store arg5 (Rect.unit (s := S1x256x1024) ![0, 0, 0] S1x256x1024.size Facts₀.inb_S1x256x1024_S1x256x1024_0_0_0) (k0_pay3 v15) Finset.univ (View.stores_vmem Facts₀.h_S1x256x1024 (harg5.storeExact_slice rfl _ Facts₀.packedbf16_S1x256x1024_S1x256x1024_0_0_0) (fun _ => rfl)) (.inl rfl))
    pure ⟨⟩
  else do
    pure ⟨⟩
  pure ⟨⟩

set_option maxRecDepth 65536 in
/-- The printed `cc0_grad_w_branch` is its skeleton: by definitional unfolding. -/
theorem cc0_grad_w_branch_eq_skeleton : cc0_grad_w_branch (F := F) = cc0_grad_w_branch_skel (F := F) := rfl

end Cert.Kernel3Ideal.Gen

end
-- ==== Proof.BrFrame.lean ====
/-
  The gradient call of the branches' weights: the body's run, what the points leave, the run and the frame.
-/
module

public import proofs.«01_k».proof.Proof.BrFacts
public import proofs.«01_k».proof.Proof.Whole
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.ValueIdx

@[expose] public section

set_option maxRecDepth 16384

noncomputable section

namespace Cert.Kernel3Ideal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ
local notation "Acc" => Vec F S1024x1024 EltTy.f32

variable (m : (ℓ : Loc nD τ sig) → Buf (Elt F) ℓ) (ρ : Dev nD → PrngReg)

/-- Core `c` owns the buffer `M` with the contents `x`. -/
abbrev own {S : Shape} {e : EltTy} (c : Dev nD) (M : Memref sig .tc .vmem S e) (x : Vec F S e) : sProp 𝕄 := owns (c : Thread nD τ) M fullShare x

/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The arguments are as they were at the launch. -/
abbrev Kept (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- The conditions of the body's three `scf.if`s, from the grid coordinates. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := (Scalar.cmpi .ne (Scalar.extui (Scalar.andi (Scalar.cmpi .sgt (BitVec.ofNat 32 (i 1).val) 0#32) (Scalar.cmpi .slt (BitVec.ofNat 32 (i 1).val) 8#32))) 0#32) = 1#1
abbrev cond0_2 (i : grid0.Coords) : Prop := k0_cond3 i = 1#1

/-- The combinations that arise, and the row from which the sum's rows are written out. -/
theorem conds : ∀ i : grid0.Coords, (cond0_0 i ∧ ¬cond0_1 i ∧ ¬cond0_2 i) ∨ (¬cond0_0 i ∧ cond0_1 i ∧ ¬cond0_2 i)
    ∨ (¬cond0_0 i ∧ cond0_1 i ∧ cond0_2 i ∧ k0_off1 i = ![0, 0]) ∨ (¬cond0_0 i ∧ ¬cond0_1 i ∧ cond0_2 i) := by decide +kernel
theorem off_eq : ∀ i : grid0.Coords, cond0_2 i → k0_off1 i = ![256 * ((i 1).val - 7), 0] := by decide +kernel

/-- The same at a point, and where the result's window is idle and written back. -/
theorem cond_iff : ∀ t : Fin grid0.N, (cond0_0 (grid0.coords t) ↔ t.val % 11 = 0) ∧ (cond0_1 (grid0.coords t) ↔ (1 ≤ t.val % 11 ∧ t.val % 11 ≤ 7)) ∧ (cond0_2 (grid0.coords t) ↔ 7 ≤ t.val % 11) := by decide +kernel
theorem live2 : ∀ t : Fin grid0.N, cond0_2 (grid0.coords t) → cfg0.idle 2 (grid0.coords t) = false := by decide +kernel
theorem idle2 : ∀ t : Fin grid0.N, ¬cond0_2 (grid0.coords t) → cfg0.idle 2 (grid0.coords t) = true ∧ (cfg0.win 2).flush t = false := by decide +kernel

/-! ## The kernel body on any staging memrefs -/

/-- Each window's current staging memref at point `t`, spelled as the pipeline passes it (`bodyAt0`). -/
abbrev ms0_0 (t : Fin cfg0.N) : Memref sig .tc .vmem S1x2048x1024 .bf16 := win0_0.stage (cfg0.slots t 0)
abbrev ms0_1 (t : Fin cfg0.N) : Memref sig .tc .vmem S1x2048x1024 .bf16 := win0_1.stage (cfg0.slots t 1)
abbrev ms0_2 (t : Fin cfg0.N) : Memref sig .tc .vmem S1x256x1024 .bf16 := win0_2.stage (cfg0.slots t 2)
/-- The carried sum's buffer. -/
abbrev scM0_0 : Memref sig .tc .vmem S1024x1024 .f32 := Memref.whole cc0_scratch0

/-- The frame kit's invariant with the carried sum's buffer owned at some contents. -/
theorem PhiA0_eq (c : Dev nD) : (Pipeline.ΦA spec0 c : sProp 𝕄) = iprop(iprop((∃ d, own c scM0_0 d)) ∗ (∃ r, prngReg c r)) := by
  unfold Pipeline.ΦA; rw [scopedRest0_eq]; simp only [scM0_0, own, owns_whole]; try rfl

/-- The block of 256 rows of `x` from row `r0` on. -/
def rows (x : Acc) (r0 : ℕ) : Vec F S256x1024 .f32 := fun y => x (ix2 ⟨(r0 + (y 0).val) % 1024, Nat.mod_lt _ (by decide)⟩ (y 1))

/-- The carried sum after a point, from the two blocks and the sum before. -/
def sumOf (i : grid0.Coords) (x0 : Vec F S1x2048x1024 .bf16) (x1 : Vec F S1x2048x1024 .bf16) (xs : Acc) : Acc :=
  if cond0_0 i then k0_pay1 x0 x1 else if cond0_1 i then k0_pay2 xs x0 x1 else xs
/-- The result's block after a point that leaves the sum `s`: rows of the sum at the points that write out. -/
def outOf (i : grid0.Coords) (y : Vec F S1x256x1024 .bf16) (s : Acc) : Vec F S1x256x1024 .bf16 :=
  if cond0_2 i then k0_pay3 (rows s (256 * ((i 1).val - 7))) else y

section Body
variable (c : Dev nD) (i : grid0.Coords) (arg2 : Memref sig .tc .vmem S1x2048x1024 .bf16) (harg2 : arg2.IsWhole) (arg3 : Memref sig .tc .vmem S1x2048x1024 .bf16) (harg3 : arg3.IsWhole) (arg5 : Memref sig .tc .vmem S1x256x1024 .bf16) (harg5 : arg5.IsWhole) (arg6 : Memref sig .tc .vmem S1024x1024 .f32) (harg6 : arg6.IsWhole)
  (x0 : Vec F S1x2048x1024 .bf16) (x1 : Vec F S1x2048x1024 .bf16) (y : Vec F S1x256x1024 .bf16) (xs : Vec F S1024x1024 .f32)

theorem ld_rows (x : Acc) {off : Fin 2 → ℕ} (r0 : ℕ) (h : off = ![r0, 0]) (inb : ∀ a, off a + S256x1024.size a ≤ S1024x1024.size a) :
    View.ld x (Rect.unit (s := S1024x1024) off S256x1024.size inb) = rows x r0 := by
  subst h
  have h0 : r0 + 256 ≤ 1024 := inb 0
  refine funext fun y => congrArg x (funext fun a => Fin.ext ?_)
  have hy : (y 0).val < 256 := (y 0).isLt
  match a with
  | 0 => show r0 + 1 * (y 0).val = (r0 + (y 0).val) % 1024; omega
  | 1 => show 0 + 1 * (y 1).val = (y 1).val; omega

/-- Load a block. -/
abbrev lB {e : EltTy} (M : Memref sig .tc .vmem S1x2048x1024 e) (h : M.IsWhole) (x : Vec F S1x2048x1024 e) : Vec F S1x2048x1024 e :=
  View.readAt (Elt F) M.view (Rect.unit ![0, 0, 0] S1x2048x1024.size Facts₀.inb_S1x2048x1024_S1x2048x1024_0_0_0).toLoadRect (h.unread x)
/-- Load the sum. -/
abbrev lS (M : Memref sig .tc .vmem S1024x1024 .f32) (h : M.IsWhole) (x : Acc) : Acc :=
  View.readAt (Elt F) M.view (Rect.unit ![0, 0] S1024x1024.size Facts₀.inb_S1024x1024_S1024x1024_0_0).toLoadRect (h.unread x)
/-- Store the sum. -/
abbrev stS (w : Acc) : List (View.Piece (Elt F) S1024x1024 .f32) := [⟨Rect.unit ![0, 0] S1024x1024.size Facts₀.inb_S1024x1024_S1024x1024_0_0, w⟩]

theorem lB_eq {e : EltTy} (M : Memref sig .tc .vmem S1x2048x1024 e) (h : M.IsWhole) (x : Vec F S1x2048x1024 e) : lB M h x = x := load_whole off3 M h x _
theorem lS_eq (M : Memref sig .tc .vmem S1024x1024 .f32) (h : M.IsWhole) (x : Acc) : lS M h x = x := load_whole off2 M h x _

/-- Rows of a sum just stored. -/
theorem readCov_rows (v : View sig .tc .vmem S1024x1024 .f32) (w : Acc) {off : Fin 2 → ℕ} (r0 : ℕ) (h : off = ![r0, 0]) (inb : ∀ a, off a + S256x1024.size a ≤ S1024x1024.size a) :
    v.readCov (stS w) (Rect.unit (s := S1024x1024) off S256x1024.size inb).toLoadRect = rows w r0 := by
  refine (View.readCov_eq_canon_ld v (stS w) _ fun y => ⟨_, List.mem_singleton_self _, View.mem_set_unit_zero off2 Facts₀.inb_S1024x1024_S1024x1024_0_0 y⟩).trans ?_
  exact (congrArg (fun z => View.ld z _) (View.canon_unit_zero off2 _ w)).trans (ld_rows w r0 h inb)

instance closedOff (i : grid0.Coords) [h : Fact (k0_off1 i = ![0, 0])] : ClosedOff (k0_off1 i) := ⟨![0, 0], h.out⟩

set_option maxHeartbeats 4000000 in
/-- One run of the body on whole staging memrefs: the inputs' stay as they were, the carried sum is the new one, and the result's block is that of the point. -/
theorem body_run (E : Set ℕ) (K : PUnit → sProp 𝕄) :
    iprop(own c arg2 x0 ∗ own c arg3 x1 ∗ own c arg5 y ∗ own c arg6 xs
        ∗ (iprop(own c arg2 x0 ∗ own c arg3 x1 ∗ own c arg5 (outOf i y (sumOf i x0 x1 xs)) ∗ own c arg6 (sumOf i x0 x1 xs)) -∗ K ⟨⟩))
      ⊢ wp frame (wpE (defs₀ (F := F)) Variants.none c none) E (cc0_grad_w_branch i arg2 harg2 arg3 harg3 (Memref.whole main_arg2) (Memref.isWhole_whole _) arg5 harg5 arg6 harg6) K := by
  have ho := off_eq i
  unfold own owns
  rcases conds i with ⟨h0, h1, h2⟩ | ⟨h0, h1, h2⟩ | ⟨h0, h1, h2, hz⟩ | ⟨h0, h1, h2⟩
  all_goals
    unfold sumOf outOf
    first | have e0 := eq_false h0 | have e0 := eq_true h0
    first | have e1 := eq_false h1 | have e1 := eq_true h1
    first | have e2 := eq_false h2 | have e2 := eq_true h2
    simp only [e0, e1, e2, if_true, if_false, cc0_grad_w_branch_eq_skeleton]; unfold cc0_grad_w_branch_skel
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg5.eq_unread hf2; obtain rfl := harg6.eq_unread hfs
    try haveI : Fact (k0_off1 i = ![0, 0]) := ⟨hz⟩
    sl_exec (disch := first | sl_exact h0 | sl_exact h1 | sl_exact h2)
    sl_step
    iapply Hk
    isplitl [H0]; · iexists _; isplitr; (ipureintro; exact harg2.read_unread _); iexact H0
    isplitl [H1]; · iexists _; isplitr; (ipureintro; exact harg3.read_unread _); iexact H1
    isplitl [H2]
    iexists _; isplitr; swap; iexact H2; ipureintro; rotate_left
    iexists _; isplitr; swap; iexact HS; ipureintro; rotate_left
  · exact harg5.read_unread _
  · exact (stored_whole off2 arg6.view _ _ (k0_pay1 (lB _ harg2 x0) (lB _ harg3 x1))).trans (by simp only [lB_eq])
  · exact harg5.read_unread _
  · exact (stored_whole off2 arg6.view _ _ (k0_pay2 (lS _ harg6 xs) (lB _ harg2 x0) (lB _ harg3 x1))).trans (by simp only [lB_eq, lS_eq])
  · exact (stored_whole off3 arg5.view _ _ (k0_pay3 (arg6.view.readCov (stS (k0_pay2 (lS _ harg6 xs) (lB _ harg2 x0) (lB _ harg3 x1)))
      (Rect.unit (s := S1024x1024) (k0_off1 i) S256x1024.size (Facts₀.k0_off1_inb i h2)).toLoadRect))).trans (by rw [readCov_rows _ _ _ (ho h2)]; simp only [lB_eq, lS_eq])
  · exact (stored_whole off2 arg6.view _ _ (k0_pay2 (lS _ harg6 xs) (lB _ harg2 x0) (lB _ harg3 x1))).trans (by simp only [lB_eq, lS_eq])
  · refine (stored_whole off3 arg5.view _ _ (k0_pay3 (View.readAt (Elt F) arg6.view (Rect.unit (s := S1024x1024) (k0_off1 i) S256x1024.size (Facts₀.k0_off1_inb i h2)).toLoadRect (harg6.unread xs)))).trans (congrArg k0_pay3 ?_)
    exact (funext fun y => harg6.readAt_unread xs _ y).trans (ld_rows xs _ (ho h2) _)
  · exact harg6.read_unread _

end Body

/-! ## What the points leave, and the pipeline's proof data -/

/-- The carried sum after point `n`. -/
def acc (c : Dev nD) : (n : ℕ) → n < cfg0.N → Acc
  | 0, h => k0_pay1 (iblk m c 0 ⟨0, h⟩) (iblk m c 1 ⟨0, h⟩)
  | n + 1, h => sumOf (grid0.coords ⟨n + 1, h⟩) (iblk m c 0 ⟨n + 1, h⟩) (iblk m c 1 ⟨n + 1, h⟩) (acc c n (Nat.lt_of_succ_lt h))

/-- The region invariant before position `n`: the carried sum, once a point has stored it. -/
def PhiS (c : Dev nD) : (n : ℕ) → n ≤ cfg0.N → sProp 𝕄
  | 0, _ => Pipeline.ΦA spec0 c
  | n + 1, hn => iprop(own c scM0_0 (acc m c n hn) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (rows (acc m c t.val t.isLt) (256 * (t.val % 11 - 7)))
  Φ t := PhiS m c t.val (Nat.le_of_lt_succ t.isLt)
  q _ := fullShare
  owed _ := 0

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay3 (rows (acc m c t.val t.isLt) (256 * (t.val % 11 - 7))) := by dsimp only [dats]

/-- Each input's current staging buffer holds its block at every point, fetched there or not. -/
theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d

/-! ## The body obligation, at a generic point -/

theorem leaves0_0 (c : Dev nD) (t : Fin cfg0.N) : (dats m 0 c).leavesExact 0 t = own c (ms0_0 t) (iblk m c 0 t) := by
  unfold Dat.leavesExact; rw [show cfg0.idle 0 (grid0.coords t) = false from rfl, after0_0]
theorem leaves0_1 (c : Dev nD) (t : Fin cfg0.N) : (dats m 0 c).leavesExact 1 t = own c (ms0_1 t) (iblk m c 1 t) := by
  unfold Dat.leavesExact; rw [show cfg0.idle 1 (grid0.coords t) = false from rfl, after0_1]

theorem row_eq : ∀ t : Fin grid0.N, 256 * ((grid0.coords t 1).val - 7) = 256 * (t.val % 11 - 7) := by decide +kernel

/-- The result's block as the body leaves it is what the pipeline asks for. -/
theorem leaves0_2 (c : Dev nD) (t : Fin cfg0.N) (d) : own c (ms0_2 t) (outOf (grid0.coords t) ((dats m 0 c).before 2 t d) (acc m c t.val t.isLt)) ⊢ (dats m 0 c).leavesExact 2 t := by
  unfold outOf
  by_cases h : cond0_2 (grid0.coords t)
  · unfold Dat.leavesExact
    rw [live2 t h, after0_2, if_pos h, row_eq]
  · rw [Dat.leavesExact_idle (dats m 0 c) 2 t (idle2 t h).1 (idle2 t h).2, if_neg h]
    iintro H; iexists _; iexact H

/-- Before any point the sum's buffer holds something from which the body makes the point's sum. -/
theorem Phi_open (c : Dev nD) (t : Fin cfg0.N) :
    (dats m 0 c).Φ t.castSucc ⊢ iprop(∃ xs, ⌜sumOf (grid0.coords t) (iblk m c 0 t) (iblk m c 1 t) xs = acc m c t.val t.isLt⌝ ∗ own c scM0_0 xs ∗ (∃ r, prngReg c r)) := by
  obtain ⟨n, hn⟩ := t
  cases n with
  | zero =>
    rw [show (dats m 0 c).Φ (Fin.castSucc ⟨0, hn⟩) = Pipeline.ΦA spec0 c from rfl, PhiA0_eq]
    iintro ⟨⟨%xs, HS⟩, Hg⟩
    iexists xs; isplitr
    · ipureintro; exact if_pos ((cond_iff ⟨0, hn⟩).1.mpr (Nat.zero_mod _))
    isplitl [HS]; · iexact HS
    iexact Hg
  | succ n =>
    rw [show (dats m 0 c).Φ (Fin.castSucc ⟨n + 1, hn⟩) = iprop(own c scM0_0 (acc m c n (Nat.lt_of_succ_lt hn)) ∗ (∃ r, prngReg c r)) from rfl]
    iintro ⟨HS, Hg⟩
    iexists _; isplitr
    · ipureintro; exact rfl
    isplitl [HS]; · iexact HS
    iexact Hg

/-- What the body is called with at point `t`, -/
def bodyPre (c : Dev nD) (t : Fin cfg0.N) : sProp 𝕄 :=
  iprop((dats m 0 c).Φ t.castSucc ∗ (dats m 0 c).owesAt () t.castSucc
    ∗ (∃ d, own c (ms0_0 t) ((dats m 0 c).before 0 t d))
    ∗ (∃ d, own c (ms0_1 t) ((dats m 0 c).before 1 t d))
    ∗ (∃ d, own c (ms0_2 t) ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    show (dats m 0 c).Φ t.succ = iprop(own c scM0_0 (acc m c t.val t.isLt) ∗ (∃ r, prngReg c r)) from rfl, leaves0_0, leaves0_1]
  refine (sep_mono_left (Phi_open m c t)).trans ?_
  iintro ⟨⟨%xs, %hx, HS, Hg⟩, Ho, ⟨%d0, H0⟩, ⟨%d1, H1⟩, ⟨%d2, H2⟩⟩
  iapply (body_run c (grid0.coords t) _ _ _ _ _ _ _ _ (iblk m c 0 t) (iblk m c 1 t) ((dats m 0 c).before 2 t d2) xs Set.univ _)
  rw [hx]
  isplitl [H0]; · iexact H0
  isplitl [H1]; · iexact H1
  isplitl [H2]; · iexact H2
  isplitl [HS]; · iexact HS
  iintro ⟨H0, H1, H2, HS⟩
  isplitl [HS Hg]
  · isplitl [HS]; · iexact HS
    iexact Hg
  isplitl [Ho]; · iexact Ho
  isplitl [H0]; · iexact H0
  isplitl [H1]; · iexact H1
  iapply (leaves0_2 m c t d2)
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = Pipeline.ΦA spec0 c from rfl]

/-- After the last point the invariant gives `ΦA` back: the sum is forgotten. -/
theorem hout (c : Dev nD) : (dats m 0 c).Φ (Fin.last cfg0.N) ⊢ Pipeline.ΦA spec0 c := by
  rw [show (dats m 0 c).Φ (Fin.last cfg0.N) = iprop(own c scM0_0 (acc m c 32 (by decide)) ∗ (∃ r, prngReg c r)) from rfl, PhiA0_eq]
  iintro ⟨HS, Hg⟩
  isplitl [HS]
  · iexists _; iexact HS
  iexact Hg

/-! ## The run and the frame -/

-- `θ_run_frame_track`'s implicit arguments are found by unifying its conclusion with this one, which takes unfolding plain
-- definitions in a metavariable's type
set_option backward.isDefEq.respectTransparency.types false in
/-- THE LAUNCH: the region's arrays at every final state, and every semaphore counter of the machine at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hin := hin m) (hout := hout m)

/-- THE FRAME. -/
theorem frame : θ_run defs (onTc (τ := τ) (main (F := F))) ⟨m, fun _ => 0, ρ⟩ (fun r => (∀ c : Dev nD, Kept m c r.2.mem) ∧ r.2.sem = fun _ => 0) :=
  (θ_run defs _ _).mono (fun _ h => ⟨fun c => ⟨((h.1 c).1 0).trans ((dats m 0 c).arrAt_in 0 rfl _),
      ((h.1 c).1 1).trans ((dats m 0 c).arrAt_in 1 rfl _),
      (h.1 c).2 main_arg2 (Pipeline.mem_restRefs_of main_arg2 (by decide) (by decide))⟩, h.2⟩) (run_main_quiescent m ρ)

end Cert.Kernel3Ideal.Gen

end
-- ==== Proof.BrVal.lean ====
/-
  The gradient call of the branches' weights: what each case leaves, read at an index, and the result array.
-/
module

public import proofs.«01_k».proof.Proof.BrFrame
public import Idealize.ShloMosaic.PureOps.Ideal.Laws

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic Idealize.ShloMosaic.ValueIdx Idealize.SL.Sem
open scoped BigOperators

/-! ## The payloads read at an index -/

abbrev dotT := dot_S2048x1024_S2048x1024_S1024x1024_0_0_1_1_n_n

theorem lhs0 (i : S1024x1024.Idx) (q : dotT.contr.Idx) : (dotT.lhsIdx i q 0).val = (q ⟨0, by decide⟩).val := dotT.lhsIdx_val_of_single rfl i q
theorem lhs1 (i : S1024x1024.Idx) (q : dotT.contr.Idx) : (dotT.lhsIdx i q 1).val = (i 0).val := by
  unfold DotDims.lhsIdx
  rw [dif_neg (show ¬(1 : Fin S2048x1024.rank) ∈ dotT.lhsBatch by decide), dif_pos (show (1 : Fin S2048x1024.rank) ∈ dotT.lhsNonContracting by decide)]
  rfl
theorem rhs0 (i : S1024x1024.Idx) (q : dotT.contr.Idx) : (dotT.rhsIdx i q 0).val = (q ⟨0, by decide⟩).val := dotT.rhsIdx_val_of_single rfl i q
theorem rhs1 (i : S1024x1024.Idx) (q : dotT.contr.Idx) : (dotT.rhsIdx i q 1).val = (i 1).val := by
  unfold DotDims.rhsIdx
  rw [dif_neg (show ¬(1 : Fin S2048x1024.rank) ∈ dotT.rhsBatch by decide), dif_pos (show (1 : Fin S2048x1024.rank) ∈ dotT.rhsNonContracting by decide)]
  rfl

theorem drop_apply (x : Vec Ideal S1x2048x1024 .bf16) (s : Fin 2048) (d : Fin 1024) :
    (shapeCast S2048x1024 x Facts₀.shapeCasts_S1x2048x1024_S2048x1024 : FVec Ideal S2048x1024 .bf16) (ix2 s d) = x (ix3 0 s d) := by
  refine (shapeCast_dropUnit_apply _ _ _ _).trans ?_
  exact congrArg x (funext fun a => match a with | 0 => rfl | 1 => rfl | 2 => rfl)

/-- The product of two blocks over their rows, at column `d` of the first and `e` of the second. -/
def prod (x0 x1 : Vec Ideal S1x2048x1024 .bf16) (d e : Fin 1024) : EReal := ∑ s : Fin 2048, x0 (ix3 0 s d) * x1 (ix3 0 s e)

theorem mm_apply (x0 x1 : Vec Ideal S1x2048x1024 .bf16) (d e : Fin 1024) :
    matmul dotT none (shapeCast S2048x1024 x0 Facts₀.shapeCasts_S1x2048x1024_S2048x1024 : FVec Ideal S2048x1024 .bf16)
      (shapeCast S2048x1024 x1 Facts₀.shapeCasts_S1x2048x1024_S2048x1024 : FVec Ideal S2048x1024 .bf16)
      (constant S1024x1024 .f32 0x00000000#32) (ix2 d e) = prod x0 x1 d e := by
  refine (Ideal.matmul_constant_zero_apply dotT none _ _ _).trans ?_
  rw [← Equiv.sum_comp (contrEquiv1 dotT 2048 rfl rfl).symm]
  refine Finset.sum_congr rfl fun s _ => ?_
  have hk := contrEquiv1_symm_val dotT 2048 rfl rfl s
  have el : dotT.lhsIdx (ix2 d e) ((contrEquiv1 dotT 2048 rfl rfl).symm s) = (ix2 s d : S2048x1024.Idx) := funext fun a => Fin.ext (by
    match a with
    | 0 => exact (lhs0 _ _).trans hk
    | 1 => exact lhs1 _ _)
  have er : dotT.rhsIdx (ix2 d e) ((contrEquiv1 dotT 2048 rfl rfl).symm s) = (ix2 s e : S2048x1024.Idx) := funext fun a => Fin.ext (by
    match a with
    | 0 => exact (rhs0 _ _).trans hk
    | 1 => exact rhs1 _ _)
  rw [el, er, drop_apply, drop_apply]

theorem pay1_apply (x0 x1 : Vec Ideal S1x2048x1024 .bf16) (d e : Fin 1024) : k0_pay1 x0 x1 (ix2 d e) = prod x0 x1 d e := by
  unfold k0_pay1
  rw [shapeCast_self]
  exact mm_apply x0 x1 d e

theorem pay2_apply (z : Vec Ideal S1024x1024 .f32) (x0 x1 : Vec Ideal S1x2048x1024 .bf16) (d e : Fin 1024) :
    k0_pay2 z x0 x1 (ix2 d e) = z (ix2 d e) + prod x0 x1 d e := by
  unfold k0_pay2
  rw [shapeCast_self]
  exact congrArg (fun y : EReal => z (ix2 d e) + y) (mm_apply x0 x1 d e)

theorem pay3_apply (z : Vec Ideal S1024x1024 .f32) (r0 : ℕ) (hr : r0 + 256 ≤ 1024) (u : Fin 1) (d : Fin 256) (e : Fin 1024) :
    k0_pay3 (rows z r0) (ix3 u d e) = z (ix2 ⟨r0 + d.val, by omega⟩ e) := by
  unfold k0_pay3
  refine (shapeCast_addUnit_apply _ _ _ _).trans ?_
  exact congrArg z (funext fun a => match a with | 0 => Fin.ext (Nat.mod_eq_of_lt (show r0 + d.val < 1024 by omega)) | 1 => rfl)

/-! ## The blocks as rows of the arrays -/

variable (m : (ℓ : Loc nD τ sig) → Buf (Elt Ideal) ℓ) (c : Dev nD)

/-- The arrays the call reads. -/
abbrev A0 : Vec Ideal S3x16384x1024 .bf16 := m ((c : Thread nD τ).loc main_arg0)
abbrev A1 : Vec Ideal S3x16384x1024 .bf16 := m ((c : Thread nD τ).loc main_arg1)
/-- The gradients whose rows the call replaces. -/
abbrev A2 : Vec Ideal S4x4224x1024 .bf16 := m ((c : Thread nD τ).loc main_arg2)

theorem lt33 (t : Fin cfg0.N) : t.val < 33 := Nat.lt_of_lt_of_eq t.isLt N_0

theorem ind0 : ∀ t : Fin grid0.N, win0_0.index t 0 = t.val / 11 ∧ win0_0.index t 1 = min (t.val % 11) 7 ∧ win0_0.index t 2 = 0 := by decide +kernel
theorem ind1 : ∀ t : Fin grid0.N, win0_1.index t 0 = t.val / 11 ∧ win0_1.index t 1 = min (t.val % 11) 7 ∧ win0_1.index t 2 = 0 := by decide +kernel
theorem ind2 : ∀ t : Fin grid0.N, win0_2.index t 0 = t.val % 11 - 7 ∧ win0_2.index t 1 = 12 + t.val / 11 ∧ win0_2.index t 2 = 0 := by decide +kernel
theorem flush2 : ∀ t : Fin cfg0.N, (cfg0.win 2).flush t = true ↔ 7 ≤ t.val % 11 := by decide +kernel

/-- Row `r` of the `k`-th block of rows. -/
def row (k : Fin 8) (r : Fin 2048) : Fin 16384 := ⟨2048 * k.val + r.val, by omega⟩

theorem iblk0_apply (t : Fin cfg0.N) (n : Fin 3) (k : Fin 8) (h : t.val = 11 * n.val + k.val) (r : Fin 2048) (d : Fin 1024) :
    iblk m c 0 t (ix3 0 r d : S1x2048x1024.Idx) = A0 m c (ix3 n (row k r) d) := by
  obtain ⟨i0, i1, i2⟩ := ind0 t
  rw [show A0 m c = V m c main_arg0 from rfl]
  show V m c main_arg0 ((win0_0.rect t).emb (ix3 0 r d : S1x2048x1024.Idx)) = _
  refine congrArg (V m c main_arg0) (funext fun a => Fin.ext ?_)
  match a with
  | 0 => exact (Pipeline.Window.rect_emb_val win0_0 t (ix3 0 r d : S1x2048x1024.Idx) 0).trans (by rw [i0]; show t.val / 11 * 1 + 0 = n.val; omega)
  | 1 => exact (Pipeline.Window.rect_emb_val win0_0 t (ix3 0 r d : S1x2048x1024.Idx) 1).trans (by
      rw [i1]; show min (t.val % 11) 7 * 2048 + r.val = 2048 * k.val + r.val; omega)
  | 2 => exact (Pipeline.Window.rect_emb_val win0_0 t (ix3 0 r d : S1x2048x1024.Idx) 2).trans (by rw [i2]; show 0 * 1024 + d.val = d.val; omega)

theorem iblk1_apply (t : Fin cfg0.N) (n : Fin 3) (k : Fin 8) (h : t.val = 11 * n.val + k.val) (r : Fin 2048) (d : Fin 1024) :
    iblk m c 1 t (ix3 0 r d : S1x2048x1024.Idx) = A1 m c (ix3 n (row k r) d) := by
  obtain ⟨i0, i1, i2⟩ := ind1 t
  rw [show A1 m c = V m c main_arg1 from rfl]
  show V m c main_arg1 ((win0_1.rect t).emb (ix3 0 r d : S1x2048x1024.Idx)) = _
  refine congrArg (V m c main_arg1) (funext fun a => Fin.ext ?_)
  match a with
  | 0 => exact (Pipeline.Window.rect_emb_val win0_1 t (ix3 0 r d : S1x2048x1024.Idx) 0).trans (by rw [i0]; show t.val / 11 * 1 + 0 = n.val; omega)
  | 1 => exact (Pipeline.Window.rect_emb_val win0_1 t (ix3 0 r d : S1x2048x1024.Idx) 1).trans (by
      rw [i1]; show min (t.val % 11) 7 * 2048 + r.val = 2048 * k.val + r.val; omega)
  | 2 => exact (Pipeline.Window.rect_emb_val win0_1 t (ix3 0 r d : S1x2048x1024.Idx) 2).trans (by rw [i2]; show 0 * 1024 + d.val = d.val; omega)

/-! ## The carried sum -/

/-- The product of rows `2048 k …` of the branch's activations with those of its cotangents. -/
def part (n : Fin 3) (k : Fin 8) (d e : Fin 1024) : EReal :=
  ∑ r : Fin 2048, A0 m c (ix3 n (row k r) d) * A1 m c (ix3 n (row k r) e)

theorem prod_eq (t : Fin cfg0.N) (n : Fin 3) (k : Fin 8) (h : t.val = 11 * n.val + k.val) (d e : Fin 1024) :
    prod (iblk m c 0 t) (iblk m c 1 t) d e = part m c n k d e := by
  unfold prod part
  refine Finset.sum_congr rfl fun r _ => ?_
  rw [iblk0_apply m c t n k h, iblk1_apply m c t n k h]

/-- A point's sum from the one before. -/
theorem acc_pos (t : Fin cfg0.N) (h : 0 < t.val) :
    acc m c t.val t.isLt = sumOf (grid0.coords t) (iblk m c 0 t) (iblk m c 1 t) (acc m c (t.val - 1) (Nat.lt_of_le_of_lt (Nat.sub_le _ _) t.isLt)) := by
  obtain ⟨n, hn⟩ := t
  cases n with
  | zero => exact absurd h (Nat.lt_irrefl 0)
  | succ n => rfl

theorem acc0 (t : Fin cfg0.N) (n : Fin 3) (h : t.val = 11 * n.val) (d e : Fin 1024) :
    acc m c t.val t.isLt (ix2 d e) = part m c n 0 d e := by
  have ea : acc m c t.val t.isLt = k0_pay1 (iblk m c 0 t) (iblk m c 1 t) := by
    by_cases hz : t.val = 0
    · obtain ⟨k, hk⟩ := t
      obtain rfl : k = 0 := hz
      rfl
    · exact (acc_pos m c t (Nat.pos_of_ne_zero hz)).trans (if_pos ((cond_iff t).1.mpr (by omega)))
  rw [ea, pay1_apply]
  exact prod_eq m c t n 0 h d e

theorem accS (t : Fin cfg0.N) (n : Fin 3) (k : Fin 8) (h : t.val = 11 * n.val + k.val) (h0 : 0 < k.val) (d e : Fin 1024) :
    acc m c t.val t.isLt (ix2 d e)
    = acc m c (t.val - 1) (Nat.lt_of_le_of_lt (Nat.sub_le _ _) t.isLt) (ix2 d e) + part m c n k d e := by
  rw [acc_pos m c t (by omega), sumOf, if_neg (mt (cond_iff t).1.mp (by omega)), if_pos ((cond_iff t).2.1.mpr (by omega)), pay2_apply, prod_eq m c t n k h]

theorem accSum (n : Fin 3) (d e : Fin 1024) : ∀ (k : ℕ) (hk : k < 8) (h : 11 * n.val + k < cfg0.N),
    acc m c (11 * n.val + k) h (ix2 d e) = ∑ j : Fin (k + 1), part m c n ⟨j.val, by omega⟩ d e
  | 0, _, h => (acc0 m c ⟨11 * n.val + 0, h⟩ n rfl d e).trans (Fin.sum_univ_one (fun j : Fin 1 => part m c n ⟨j.val, by omega⟩ d e)).symm
  | k + 1, hk, h => by
    rw [Fin.sum_univ_castSucc]
    exact (accS m c ⟨11 * n.val + (k + 1), h⟩ n ⟨k + 1, hk⟩ rfl (Nat.succ_pos k) d e).trans
      (congrArg (fun y : EReal => y + part m c n ⟨k + 1, hk⟩ d e) (accSum n d e k (by omega) (by omega)))

/-- The gradient of the weights of branch `n` at row `d`, column `e`. -/
def dw (n : Fin 3) (d e : Fin 1024) : EReal := ∑ s : Fin 16384, A0 m c (ix3 n s d) * A1 m c (ix3 n s e)

theorem dw_eq (n : Fin 3) (d e : Fin 1024) : dw m c n d e = ∑ k : Fin 8, part m c n k d e := by
  unfold dw part
  rw [← Fintype.sum_equiv (finProdFinEquiv (m := 8) (n := 2048))
    (fun p => A0 m c (ix3 n (finProdFinEquiv p) d) * A1 m c (ix3 n (finProdFinEquiv p) e))
    (fun s : Fin 16384 => A0 m c (ix3 n s d) * A1 m c (ix3 n s e)) (fun _ => rfl), Fintype.sum_prod_type]
  refine Finset.sum_congr rfl fun k _ => Finset.sum_congr rfl fun r _ => ?_
  have : (finProdFinEquiv (k, r) : Fin 16384) = row k r := Fin.ext (by show r.val + 2048 * k.val = 2048 * k.val + r.val; omega)
  rw [this]

theorem accD (t : Fin cfg0.N) (h : 8 ≤ t.val % 11) (d e : Fin 1024) :
    acc m c t.val t.isLt (ix2 d e) = acc m c (t.val - 1) (Nat.lt_of_le_of_lt (Nat.sub_le _ _) t.isLt) (ix2 d e) := by
  rw [acc_pos m c t (by omega), sumOf, if_neg (mt (cond_iff t).1.mp (by omega)), if_neg (mt (cond_iff t).2.1.mp (by omega))]

/-- From the eighth point of a branch on, the sum is the gradient. -/
theorem accEnd (n : Fin 3) (d e : Fin 1024) : ∀ (s : ℕ) (hs : s < 4) (h : 11 * n.val + 7 + s < cfg0.N),
    acc m c (11 * n.val + 7 + s) h (ix2 d e) = dw m c n d e
  | 0, _, h => (accSum m c n d e 7 (by decide) h).trans (dw_eq m c n d e).symm
  | s + 1, hs, h => by
    exact (accD m c ⟨11 * n.val + 7 + (s + 1), h⟩ (by show 8 ≤ (11 * n.val + 7 + (s + 1)) % 11; omega) d e).trans (accEnd n d e s (by omega) (by omega))

theorem out2 (t : Fin cfg0.N) (n : Fin 3) (s : Fin 4) (h : t.val = 11 * n.val + 7 + s.val) (u : Fin 1) (d : Fin 256) (e : Fin 1024) :
    (dats m 0 c).after 2 t (ix3 u d e) = dw m c n ⟨256 * s.val + d.val, by omega⟩ e := by
  have hN : cfg0.N = 33 := N_0
  have ht := lt33 t
  have hs (k : ℕ) (hk : k < cfg0.N) (e1 : t.val = k) (d : Fin 1024) : acc m c t.val t.isLt (ix2 d e) = acc m c k hk (ix2 d e) := by
    subst e1; rfl
  have ha := (hs (11 * n.val + 7 + s.val) (by omega) h ⟨256 * s.val + d.val, by omega⟩).trans (accEnd m c n _ e s.val s.isLt _)
  rw [after0_2, show t.val % 11 - 7 = s.val by omega, pay3_apply _ _ (by omega)]
  exact ha

/-! ## The result array -/

/-- The result: the gradient of branch `n` in rows `3072 + 256 n …`, its row `256 a + r` in shard `a`; the other rows as they were. -/
def G : Vec Ideal S4x4224x1024 .bf16 := fun i =>
  if h : 3072 ≤ (i 1).val ∧ (i 1).val < 3840 then
    dw m c ⟨((i 1).val - 3072) / 256, by omega⟩ ⟨256 * (i 0).val + (i 1).val % 256, by have h0 : (i 0).val < 4 := (i 0).isLt; omega⟩ (i 2)
  else A2 m c i

theorem xs2 : ∀ t : Fin grid0.N, win0_2.xsize (grid0.coords t) 0 = 1 ∧ win0_2.xsize (grid0.coords t) 1 = 256 ∧ win0_2.xsize (grid0.coords t) 2 = 1024 := by decide +kernel

/-- The index `(0, d, e)` of what point `t` writes back. -/
def at2 (t : Fin grid0.N) (d : Fin 256) (e : Fin 1024) : (win0_2.xblock (grid0.coords t)).Idx := fun a => match a with
  | ⟨0, _⟩ => ⟨0, Nat.lt_of_lt_of_eq Nat.one_pos (xs2 t).1.symm⟩
  | ⟨1, _⟩ => ⟨d.val, Nat.lt_of_lt_of_eq d.isLt (xs2 t).2.1.symm⟩
  | ⟨2, _⟩ => ⟨e.val, Nat.lt_of_lt_of_eq e.isLt (xs2 t).2.2.symm⟩
  | ⟨_ + 3, h⟩ => absurd h (Nat.not_lt.2 (Nat.le_add_left _ _))

theorem exists_at2 (t : Fin grid0.N) (y : (win0_2.xblock (grid0.coords t)).Idx) : ∃ (d : Fin 256) (e : Fin 1024), at2 t d e = y := by
  have y0 : (y (0 : Fin 3)).val < 1 := Nat.lt_of_lt_of_eq (y (0 : Fin 3)).isLt (xs2 t).1
  have y1 : (y (1 : Fin 3)).val < 256 := Nat.lt_of_lt_of_eq (y (1 : Fin 3)).isLt (xs2 t).2.1
  have y2 : (y (2 : Fin 3)).val < 1024 := Nat.lt_of_lt_of_eq (y (2 : Fin 3)).isLt (xs2 t).2.2
  have q : ∀ a : Fin 3, (at2 t ⟨(y (1 : Fin 3)).val, y1⟩ ⟨(y (2 : Fin 3)).val, y2⟩ a).val = (y a).val := fun a => match a with
    | ⟨0, _⟩ => (Nat.lt_one_iff.mp y0).symm
    | ⟨1, _⟩ => rfl
    | ⟨2, _⟩ => rfl
    | ⟨_ + 3, h⟩ => absurd h (Nat.not_lt.2 (Nat.le_add_left _ _))
  exact ⟨_, _, funext fun a => Fin.ext (q a)⟩

theorem cut2 (t : Fin grid0.N) (d : Fin 256) (e : Fin 1024) : (win0_2.xinj (grid0.coords t) (at2 t d e)) = (ix3 0 d e : S1x256x1024.Idx) :=
  funext fun a => Fin.ext (match a with | ⟨0, _⟩ => rfl | ⟨1, _⟩ => rfl | ⟨2, _⟩ => rfl)

/-- Where the rows that point `11 n + 7 + s` writes back lie. -/
theorem emb2 (t : Fin grid0.N) (n : Fin 3) (s : Fin 4) (h : t.val = 11 * n.val + 7 + s.val) (d : Fin 256) (e : Fin 1024) :
    (win0_2.rect t).emb (at2 t d e) = (ix3 s ⟨3072 + 256 * n.val + d.val, by omega⟩ e : S4x4224x1024.Idx) := by
  obtain ⟨i0, i1, i2⟩ := ind2 t
  refine funext fun a => Fin.ext ?_
  match a with
  | ⟨0, _⟩ => exact (Pipeline.Window.rect_emb_val win0_2 t (at2 t d e) 0).trans (by
      rw [i0]; show (t.val % 11 - 7) * 1 + 0 = s.val; omega)
  | ⟨1, _⟩ => exact (Pipeline.Window.rect_emb_val win0_2 t (at2 t d e) 1).trans (by
      rw [i1]; show (12 + t.val / 11) * 256 + d.val = 3072 + 256 * n.val + d.val; omega)
  | ⟨2, _⟩ => exact (Pipeline.Window.rect_emb_val win0_2 t (at2 t d e) 2).trans (by rw [i2]; show 0 * 1024 + e.val = e.val; omega)

theorem G_apply (n : Fin 3) (s : Fin 4) (d : Fin 256) (e : Fin 1024) :
    G m c (ix3 s ⟨3072 + 256 * n.val + d.val, by omega⟩ e : S4x4224x1024.Idx) = dw m c n ⟨256 * s.val + d.val, by omega⟩ e := by
  unfold G
  rw [dif_pos (show 3072 ≤ 3072 + 256 * n.val + d.val ∧ 3072 + 256 * n.val + d.val < 3840 by omega)]
  have hn : (⟨(3072 + 256 * n.val + d.val - 3072) / 256, by omega⟩ : Fin 3) = n := Fin.ext (by show (3072 + 256 * n.val + d.val - 3072) / 256 = n.val; omega)
  have hd : (⟨256 * s.val + (3072 + 256 * n.val + d.val) % 256, by omega⟩ : Fin 1024) = ⟨256 * s.val + d.val, by omega⟩ := Fin.ext (by
    show 256 * s.val + (3072 + 256 * n.val + d.val) % 256 = 256 * s.val + d.val; omega)
  exact congrArg₂ (fun x y => dw m c x y e) hn hd

theorem flushed_eq (t : Fin cfg0.N) (hf : (cfg0.win 2).flush t = true) :
    (dats m 0 c).flushed 2 t = ((cfg0.win 2).blk t).view.read (Elt Ideal) (G m c) := by
  have h7 : 7 ≤ t.val % 11 := (flush2 t).mp hf
  have ht := lt33 t
  obtain ⟨n, s, hts⟩ : ∃ (n : Fin 3) (s : Fin 4), t.val = 11 * n.val + 7 + s.val :=
    ⟨⟨t.val / 11, by omega⟩, ⟨t.val % 11 - 7, by omega⟩, by show t.val = 11 * (t.val / 11) + 7 + (t.val % 11 - 7); omega⟩
  have hv (u : Fin 1) (d : Fin 256) (e : Fin 1024) := out2 m c t n s hts u d e
  show (cfg0.win 2).cut (grid0.coords t) ((dats m 0 c).after 2 t) = _
  generalize (dats m 0 c).after 2 t = z at hv ⊢
  funext y
  obtain ⟨d, e, hy⟩ := exists_at2 t y
  subst hy
  show z (win0_2.xinj (grid0.coords t) (at2 t d e)) = G m c ((win0_2.rect t).emb (at2 t d e))
  rw [cut2, hv, emb2 t n s hts]
  exact (G_apply m c n s d e).symm

theorem V_v0 : V m c main_v0 = A2 m c := rfl

/-- The result array. -/
theorem arr2 : (dats m 0 c).arrAt 2 cfg0.N = G m c := by
  funext i
  obtain ⟨a, r, e, rfl⟩ : ∃ (a : Fin 4) (r : Fin 4224) (e : Fin 1024), (ix3 a r e : S4x4224x1024.Idx) = i := ⟨i 0, i 1, i 2, (eq_ix3 i).symm⟩
  have hN : cfg0.N = 33 := N_0
  by_cases h : 3072 ≤ r.val ∧ r.val < 3840
  · have ht : 11 * ((r.val - 3072) / 256) + 7 + a.val < cfg0.N := by omega
    refine (dats m 0 c).arrAt_apply_of_mem 2 (G m c) (flushed_eq m c) cfg0.N ⟨_, ht⟩ _ ht ((flush2 _).mpr (by dsimp only; omega)) ?_
    have e2 : ((cfg0.win 2).blk ⟨_, ht⟩).view.emb (at2 ⟨_, ht⟩ ⟨r.val % 256, Nat.mod_lt _ (by decide)⟩ e) = (ix3 a r e : S4x4224x1024.Idx) := by
      refine (emb2 ⟨_, ht⟩ ⟨(r.val - 3072) / 256, by omega⟩ a rfl _ e).trans ?_
      refine funext fun b => Fin.ext ?_
      match b with
      | 0 => rfl
      | 1 => show 3072 + 256 * ((r.val - 3072) / 256) + r.val % 256 = r.val; omega
      | 2 => rfl
    exact Eq.subst (motive := fun i => i ∈ ((cfg0.win 2).blk ⟨_, ht⟩).view.set) e2 (((cfg0.win 2).blk ⟨_, ht⟩).view.emb_mem_set _)
  · refine ((dats m 0 c).arrAt_apply_of_forall_not_mem 2 cfg0.N _ fun t _ hf hm => h ?_).trans ?_
    · have h7 : 7 ≤ t.val % 11 := (flush2 t).mp hf
      have ht := lt33 t
      obtain ⟨y, hy⟩ := View.exists_emb_of_mem_set _ hm
      obtain ⟨d, e', rfl⟩ := exists_at2 t y
      have hy := (emb2 t ⟨t.val / 11, by omega⟩ ⟨t.val % 11 - 7, by omega⟩
        (by show t.val = 11 * (t.val / 11) + 7 + (t.val % 11 - 7); omega) d e').symm.trans hy
      have h1 : 3072 + 256 * (t.val / 11) + d.val = r.val := congrArg (fun i : S4x4224x1024.Idx => (i 1).val) hy
      omega
    · unfold G
      rw [dif_neg h]
      exact congrFun (V_v0 m c) _

/-- The run's result, the arguments unchanged. -/
theorem run_results (ρ : Dev nD → PrngReg) : θ_run defs (onTc (τ := τ) (main (F := Ideal))) ⟨m, fun _ => 0, ρ⟩ fun r => ∀ c : Dev nD,
      r.2.mem ((c.tc : Thread nD τ).loc main_v0) = G m c ∧ Kept m c r.2.mem :=
  (θ_run defs _ _).mono (fun _ h c => ⟨((h.1.1 c).1 2).trans (arr2 m c), h.2.1 c⟩) (θ_run_and (run_main_quiescent m ρ) (frame m ρ))

end Cert.Kernel3Ideal.Hand

end
-- ==== Proof.BrKFacts.lean ====
/-
  The gradient call of the branches' weights: the facts the call's program states.
-/
module

public import proofs.«01_k».proof.Kernel3
public import proofs.«01_k».proof.Proof.BrFacts
public import Idealize.ShloMosaic.Lib.Affine
public import Idealize.ShloMosaic.Lib.Decide
public import Idealize.ShloMosaic.Lib.Exec

@[expose] public section

-- a fact under nested conditions takes a `Decidable` instance one implication deeper per condition
set_option synthInstance.maxSize 4096

namespace Cert.Kernel3.Gen

open Idealize.ShloMosaic Idealize.SL.Sem
/-! ## The facts over the vocabulary (`Facts₀`) -/

/-- The program's facts over its vocabulary, proved. -/
instance facts₀ : Cert.Kernel3.Facts₀ := Cert.Kernel3Ideal.Gen.facts₀.casesOn (motive := fun _ => Cert.Kernel3.Facts₀) @Cert.Kernel3.Facts₀.mk

/-! ## The facts over the windows (`Facts`) -/

/-- Every fact the program states, proved. -/
instance facts : Cert.Kernel3.Facts where

end Cert.Kernel3.Gen
-- ==== Proof.BrRefRead.lean ====
/-
  The gradient call of the branches' weights: the reference's facts, its run, and its values read at an index.
-/
module

public import proofs.«01_k».proof.Reference3Ideal
public import Idealize.ShloMosaic.Lib.Affine
public import Idealize.ShloMosaic.Lib.Decide
public import Idealize.ShloMosaic.Lib.Exec
public import Idealize.ShloMosaic.Lib.StableHlo.Run
public import Idealize.ShloMosaic.Lib.Pipeline.Value
public import Idealize.ShloMosaic.Lib.ValueIdx
public import Idealize.ShloMosaic.PureOps.Ideal.Laws

@[expose] public section

set_option synthInstance.maxSize 4096

noncomputable section

namespace Cert.Reference3Ideal.Gen

open Idealize.ShloMosaic Idealize.SL.Sem
/-! ## The facts over the vocabulary (`Facts₀`) -/

/-- The program's facts over its vocabulary, proved. -/
instance facts₀ : Cert.Reference3Ideal.Facts₀ := by constructor <;> decide

/-! ## The facts over the windows (`Facts`) -/

/-- Every fact the program states, proved. -/
instance facts : Cert.Reference3Ideal.Facts where

end Cert.Reference3Ideal.Gen

namespace Cert.Reference3Ideal.Value

open Cert.Reference3Ideal Cert.Reference3Ideal.Gen Idealize.ShloMosaic Idealize.ShloMosaic.TcCoe Idealize.SL.Sem Idealize.ShloMosaic.StableHlo

variable {F : FTy → Type} [FloatOps F]

/-- @main's 14 operations, in order. -/
abbrev ops : List (HloOp τ sig (Elt F)) :=
  [ nullary main_cst (constant S_ .f32 0x00000000#32),
    unary main_cst main_v0 (broadcastInDim S3x1024x1024 ![] Facts₀.bcast_S_S3x1024x1024 : (⟨S_, .f32⟩ : BufTy).Contents (Elt F) → (⟨S3x1024x1024, .f32⟩ : BufTy).Contents (Elt F)),
    unary main_arg0 main_v1 ((extf .f32 · Facts₀.bitsLt_bf16_f32) : (⟨S3x16384x1024, .bf16⟩ : BufTy).Contents (Elt F) → (⟨S3x16384x1024, .f32⟩ : BufTy).Contents (Elt F)),
    binary main_v1 main_v0 main_v2 ((fun l r => Host.dotGeneral dot_S3x16384x1024_S3x1024x1024_S3x16384x1024_2_1_1_2_0_0 none l r) : (⟨S3x16384x1024, .f32⟩ : BufTy).Contents (Elt F) → (⟨S3x1024x1024, .f32⟩ : BufTy).Contents (Elt F) → (⟨S3x16384x1024, .f32⟩ : BufTy).Contents (Elt F)),
    unary main_arg1 main_v3 ((extf .f32 · Facts₀.bitsLt_bf16_f32) : (⟨S3x16384x1024, .bf16⟩ : BufTy).Contents (Elt F) → (⟨S3x16384x1024, .f32⟩ : BufTy).Contents (Elt F)),
    binary main_v3 main_v1 main_v4 ((fun l r => Host.dotGeneral dot_S3x16384x1024_S3x16384x1024_S3x1024x1024_1_1_2_2_0_0 none l r) : (⟨S3x16384x1024, .f32⟩ : BufTy).Contents (Elt F) → (⟨S3x16384x1024, .f32⟩ : BufTy).Contents (Elt F) → (⟨S3x1024x1024, .f32⟩ : BufTy).Contents (Elt F)),
    unary main_v4 main_v5 ((transpose S3x1024x1024 [0, 2, 1] · Facts₀.transposes_S3x1024x1024_S3x1024x1024_0_2_1) : (⟨S3x1024x1024, .f32⟩ : BufTy).Contents (Elt F) → (⟨S3x1024x1024, .f32⟩ : BufTy).Contents (Elt F)),
    reshape main_v5 main_v6 (rfl : (.f32 : EltTy) = .f32) Facts₀.shapeCasts_S3x1024x1024_S3x4x256x1024,
    unary main_v6 main_v7 ((transpose S4x3x256x1024 [1, 0, 2, 3] · Facts₀.transposes_S3x4x256x1024_S4x3x256x1024_1_0_2_3) : (⟨S3x4x256x1024, .f32⟩ : BufTy).Contents (Elt F) → (⟨S4x3x256x1024, .f32⟩ : BufTy).Contents (Elt F)),
    reshape main_v7 main_v8 (rfl : (.f32 : EltTy) = .f32) Facts₀.shapeCasts_S4x3x256x1024_S4x768x1024,
    unary main_v8 main_v9 ((truncf .bf16 · Facts₀.bitsLt_bf16_f32) : (⟨S4x768x1024, .f32⟩ : BufTy).Contents (Elt F) → (⟨S4x768x1024, .bf16⟩ : BufTy).Contents (Elt F)),
    unary main_arg2 main_v10 ((extractStridedSlice S4x3072x1024 ![0, 0, 0] · Facts₀.slices_S4x4224x1024_S4x3072x1024_0_0_0) : (⟨S4x4224x1024, .bf16⟩ : BufTy).Contents (Elt F) → (⟨S4x3072x1024, .bf16⟩ : BufTy).Contents (Elt F)),
    unary main_arg2 main_v11 ((extractStridedSlice S4x384x1024 ![0, 3840, 0] · Facts₀.slices_S4x4224x1024_S4x384x1024_0_3840_0) : (⟨S4x4224x1024, .bf16⟩ : BufTy).Contents (Elt F) → (⟨S4x384x1024, .bf16⟩ : BufTy).Contents (Elt F)),
    nary ![main_v10, main_v9, main_v11] main_v12 (fun u => (concatenate S4x4224x1024 1 [⟨S4x3072x1024, (u 0 : (⟨S4x3072x1024, .bf16⟩ : BufTy).Contents (Elt F))⟩, ⟨S4x768x1024, (u 1 : (⟨S4x768x1024, .bf16⟩ : BufTy).Contents (Elt F))⟩, ⟨S4x384x1024, (u 2 : (⟨S4x384x1024, .bf16⟩ : BufTy).Contents (Elt F))⟩] Facts₀.concatenates_S4x3072x1024_S4x768x1024_S4x384x1024_S4x4224x1024_d1 : (⟨S4x4224x1024, .bf16⟩ : BufTy).Contents (Elt F))) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., unary_bufs_sub .., binary_bufs_sub .., unary_bufs_sub .., reshape_bufs_sub .., unary_bufs_sub .., reshape_bufs_sub .., unary_bufs_sub .., unary_bufs_sub .., unary_bufs_sub .., nary_bufs_sub ..⟩

set_option maxHeartbeats 1400000 in
/-- On every device, for any float values, from any memory with zero counters: every weakly fair execution of @main terminates with each result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = (concatenate S4x4224x1024 1 [⟨S4x3072x1024, ((extractStridedSlice S4x3072x1024 ![0, 0, 0] (m ((c.tc : Thread nD τ).loc main_arg2)) Facts₀.slices_S4x4224x1024_S4x3072x1024_0_0_0) : (⟨S4x3072x1024, .bf16⟩ : BufTy).Contents (Elt F))⟩, ⟨S4x768x1024, ((truncf .bf16 (shapeCast _ (transpose S4x3x256x1024 [1, 0, 2, 3] (shapeCast _ (transpose S3x1024x1024 [0, 2, 1] (Host.dotGeneral dot_S3x16384x1024_S3x16384x1024_S3x1024x1024_1_1_2_2_0_0 none (extf .f32 (m ((c.tc : Thread nD τ).loc main_arg1)) Facts₀.bitsLt_bf16_f32) (extf .f32 (m ((c.tc : Thread nD τ).loc main_arg0)) Facts₀.bitsLt_bf16_f32)) Facts₀.transposes_S3x1024x1024_S3x1024x1024_0_2_1) Facts₀.shapeCasts_S3x1024x1024_S3x4x256x1024) Facts₀.transposes_S3x4x256x1024_S4x3x256x1024_1_0_2_3) Facts₀.shapeCasts_S4x3x256x1024_S4x768x1024) Facts₀.bitsLt_bf16_f32) : (⟨S4x768x1024, .bf16⟩ : BufTy).Contents (Elt F))⟩, ⟨S4x384x1024, ((extractStridedSlice S4x384x1024 ![0, 3840, 0] (m ((c.tc : Thread nD τ).loc main_arg2)) Facts₀.slices_S4x4224x1024_S4x384x1024_0_3840_0) : (⟨S4x384x1024, .bf16⟩ : BufTy).Contents (Elt F))⟩] Facts₀.concatenates_S4x3072x1024_S4x768x1024_S4x384x1024_S4x4224x1024_d1 : (⟨S4x4224x1024, .bf16⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v12).trans (by after_results <;> rfl),
      (h c main_arg0).trans (by after_results <;> rfl),
      (h c main_arg1).trans (by after_results <;> rfl),
      (h c main_arg2).trans (by after_results <;> rfl)⟩)
    (run_seq scopedRefs_eq scopedSems_eq defs main (fun _ => ops) main_eq (fun _ => ops_sub) m ρ)

end Cert.Reference3Ideal.Value

namespace Cert.Reference3Ideal.Read

open Cert.Reference3Ideal Cert.Reference3Ideal.Gen Idealize.ShloMosaic Idealize.ShloMosaic.TcCoe Idealize.SL.Sem Idealize.ShloMosaic.StableHlo

variable {F : FTy → Type} [FloatOps F]

-- %1 = stablehlo.convert %arg0 : (tensor<3x16384x1024xbf16>) -> tensor<3x16384x1024xf32>
def val_main_v1 (x0 : (⟨S3x16384x1024, .bf16⟩ : BufTy).Contents (Elt F)) : (⟨S3x16384x1024, .f32⟩ : BufTy).Contents (Elt F) :=
  extf .f32 (x0) Facts₀.bitsLt_bf16_f32
-- %3 = stablehlo.convert %arg1 : (tensor<3x16384x1024xbf16>) -> tensor<3x16384x1024xf32>
def val_main_v3 (x1 : (⟨S3x16384x1024, .bf16⟩ : BufTy).Contents (Elt F)) : (⟨S3x16384x1024, .f32⟩ : BufTy).Contents (Elt F) :=
  extf .f32 (x1) Facts₀.bitsLt_bf16_f32
-- %4 = stablehlo.dot_general %3, %1, batching_dims = [0] x [0], contracting_dims = [1] x [1], precision = [DEFAULT, DEFAULT] : (tensor<3x16384x1024xf32>, tensor<3x16384x1024xf32>) -> tensor<3x1024x1024xf32>
def val_main_v4 (x0 x1 : (⟨S3x16384x1024, .bf16⟩ : BufTy).Contents (Elt F)) : (⟨S3x1024x1024, .f32⟩ : BufTy).Contents (Elt F) :=
  Host.dotGeneral dot_S3x16384x1024_S3x16384x1024_S3x1024x1024_1_1_2_2_0_0 none (val_main_v3 (F := F) x1) (val_main_v1 (F := F) x0)
theorem lhs_main_v4_0 (i : S3x1024x1024.Idx) (q : dot_S3x16384x1024_S3x16384x1024_S3x1024x1024_1_1_2_2_0_0.contr.Idx) :
    (dot_S3x16384x1024_S3x16384x1024_S3x1024x1024_1_1_2_2_0_0.lhsIdx i q 0).val = (i 0).val := by
  unfold DotDims.lhsIdx
  rw [dif_pos (show (0 : Fin S3x16384x1024.rank) ∈ dot_S3x16384x1024_S3x16384x1024_S3x1024x1024_1_1_2_2_0_0.lhsBatch by decide)]
  rfl
theorem lhs_main_v4_1 (i : S3x1024x1024.Idx) (q : dot_S3x16384x1024_S3x16384x1024_S3x1024x1024_1_1_2_2_0_0.contr.Idx) :
    (dot_S3x16384x1024_S3x16384x1024_S3x1024x1024_1_1_2_2_0_0.lhsIdx i q 1).val = (q ⟨0, by decide⟩).val :=
  dot_S3x16384x1024_S3x16384x1024_S3x1024x1024_1_1_2_2_0_0.lhsIdx_val_of_single rfl i q
theorem lhs_main_v4_2 (i : S3x1024x1024.Idx) (q : dot_S3x16384x1024_S3x16384x1024_S3x1024x1024_1_1_2_2_0_0.contr.Idx) :
    (dot_S3x16384x1024_S3x16384x1024_S3x1024x1024_1_1_2_2_0_0.lhsIdx i q 2).val = (i 1).val := by
  unfold DotDims.lhsIdx
  rw [dif_neg (show ¬(2 : Fin S3x16384x1024.rank) ∈ dot_S3x16384x1024_S3x16384x1024_S3x1024x1024_1_1_2_2_0_0.lhsBatch by decide), dif_pos (show (2 : Fin S3x16384x1024.rank) ∈ dot_S3x16384x1024_S3x16384x1024_S3x1024x1024_1_1_2_2_0_0.lhsNonContracting by decide)]
  rfl
theorem rhs_main_v4_0 (i : S3x1024x1024.Idx) (q : dot_S3x16384x1024_S3x16384x1024_S3x1024x1024_1_1_2_2_0_0.contr.Idx) :
    (dot_S3x16384x1024_S3x16384x1024_S3x1024x1024_1_1_2_2_0_0.rhsIdx i q 0).val = (i 0).val := by
  unfold DotDims.rhsIdx
  rw [dif_pos (show (0 : Fin S3x16384x1024.rank) ∈ dot_S3x16384x1024_S3x16384x1024_S3x1024x1024_1_1_2_2_0_0.rhsBatch by decide)]
  rfl
theorem rhs_main_v4_1 (i : S3x1024x1024.Idx) (q : dot_S3x16384x1024_S3x16384x1024_S3x1024x1024_1_1_2_2_0_0.contr.Idx) :
    (dot_S3x16384x1024_S3x16384x1024_S3x1024x1024_1_1_2_2_0_0.rhsIdx i q 1).val = (q ⟨0, by decide⟩).val :=
  dot_S3x16384x1024_S3x16384x1024_S3x1024x1024_1_1_2_2_0_0.rhsIdx_val_of_single rfl i q
theorem rhs_main_v4_2 (i : S3x1024x1024.Idx) (q : dot_S3x16384x1024_S3x16384x1024_S3x1024x1024_1_1_2_2_0_0.contr.Idx) :
    (dot_S3x16384x1024_S3x16384x1024_S3x1024x1024_1_1_2_2_0_0.rhsIdx i q 2).val = (i 2).val := by
  unfold DotDims.rhsIdx
  rw [dif_neg (show ¬(2 : Fin S3x16384x1024.rank) ∈ dot_S3x16384x1024_S3x16384x1024_S3x1024x1024_1_1_2_2_0_0.rhsBatch by decide), dif_pos (show (2 : Fin S3x16384x1024.rank) ∈ dot_S3x16384x1024_S3x16384x1024_S3x1024x1024_1_1_2_2_0_0.rhsNonContracting by decide)]
  rfl
abbrev lidx_main_v4 (i : S3x1024x1024.Idx) (k : Fin 16384) : S3x16384x1024.Idx := fun a => match a with
  | ⟨0, _⟩ => ⟨(i 0).val, (i 0).isLt⟩
  | ⟨1, _⟩ => ⟨k.val, k.isLt⟩
  | ⟨2, _⟩ => ⟨(i 1).val, (i 1).isLt⟩
abbrev ridx_main_v4 (i : S3x1024x1024.Idx) (k : Fin 16384) : S3x16384x1024.Idx := fun a => match a with
  | ⟨0, _⟩ => ⟨(i 0).val, (i 0).isLt⟩
  | ⟨1, _⟩ => ⟨k.val, k.isLt⟩
  | ⟨2, _⟩ => ⟨(i 2).val, (i 2).isLt⟩
/-- Stated at `F := Ideal`, where the host's `dot_general` is this sum; at a bit-exact instance it is an opaque function of its operands. -/
theorem val_main_v4_apply (x0 x1 : (⟨S3x16384x1024, .bf16⟩ : BufTy).Contents (Elt Ideal)) (i : S3x1024x1024.Idx) :
    val_main_v4 (F := Ideal) x0 x1 i = ∑ k : Fin 16384, (val_main_v3 (F := Ideal) x1) (lidx_main_v4 i k) * (val_main_v1 (F := Ideal) x0) (ridx_main_v4 i k) := by
  unfold val_main_v4
  generalize val_main_v3 (F := Ideal) x1 = y0
  generalize val_main_v1 (F := Ideal) x0 = y1
  simp only [Host.dotGeneral]
  rw [Ideal.dotGeneral_apply, ← Equiv.sum_comp (ValueIdx.contrEquiv1 dot_S3x16384x1024_S3x16384x1024_S3x1024x1024_1_1_2_2_0_0 16384 rfl rfl).symm]
  refine Finset.sum_congr rfl fun k _ => ?_
  have hk := ValueIdx.contrEquiv1_symm_val dot_S3x16384x1024_S3x16384x1024_S3x1024x1024_1_1_2_2_0_0 16384 rfl rfl k
  have el : dot_S3x16384x1024_S3x16384x1024_S3x1024x1024_1_1_2_2_0_0.lhsIdx i ((ValueIdx.contrEquiv1 dot_S3x16384x1024_S3x16384x1024_S3x1024x1024_1_1_2_2_0_0 16384 rfl rfl).symm k) = lidx_main_v4 i k := funext fun a => Fin.ext (by
    match a with
    | ⟨0, _⟩ => exact lhs_main_v4_0 _ _
    | ⟨1, _⟩ => exact (lhs_main_v4_1 _ _).trans hk
    | ⟨2, _⟩ => exact lhs_main_v4_2 _ _)
  have er : dot_S3x16384x1024_S3x16384x1024_S3x1024x1024_1_1_2_2_0_0.rhsIdx i ((ValueIdx.contrEquiv1 dot_S3x16384x1024_S3x16384x1024_S3x1024x1024_1_1_2_2_0_0 16384 rfl rfl).symm k) = ridx_main_v4 i k := funext fun a => Fin.ext (by
    match a with
    | ⟨0, _⟩ => exact rhs_main_v4_0 _ _
    | ⟨1, _⟩ => exact (rhs_main_v4_1 _ _).trans hk
    | ⟨2, _⟩ => exact rhs_main_v4_2 _ _)
  rw [el, er]

-- %5 = stablehlo.transpose %4, dims = [0, 2, 1] : (tensor<3x1024x1024xf32>) -> tensor<3x1024x1024xf32>
def val_main_v5 (x0 x1 : (⟨S3x16384x1024, .bf16⟩ : BufTy).Contents (Elt F)) : (⟨S3x1024x1024, .f32⟩ : BufTy).Contents (Elt F) :=
  transpose S3x1024x1024 [0, 2, 1] (val_main_v4 (F := F) x0 x1) Facts₀.transposes_S3x1024x1024_S3x1024x1024_0_2_1
abbrev idx_main_v5 (i : S3x1024x1024.Idx) : S3x1024x1024.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v5_apply (x0 x1 : (⟨S3x16384x1024, .bf16⟩ : BufTy).Contents (Elt F)) (i : S3x1024x1024.Idx) :
    val_main_v5 (F := F) x0 x1 i = val_main_v4 (F := F) x0 x1 (idx_main_v5 i) := by
  unfold val_main_v5
  generalize val_main_v4 (F := F) x0 x1 = y
  exact transpose_apply [0, 2, 1] y Facts₀.transposes_S3x1024x1024_S3x1024x1024_0_2_1 i (idx_main_v5 i) (fun b => match b with
    | ⟨0, _⟩ => rfl
    | ⟨1, _⟩ => rfl
    | ⟨2, _⟩ => rfl)

-- %6 = stablehlo.reshape %5 : (tensor<3x1024x1024xf32>) -> tensor<3x4x256x1024xf32>
def val_main_v6 (x0 x1 : (⟨S3x16384x1024, .bf16⟩ : BufTy).Contents (Elt F)) : (⟨S3x4x256x1024, .f32⟩ : BufTy).Contents (Elt F) :=
  shapeCast _ (val_main_v5 (F := F) x0 x1) Facts₀.shapeCasts_S3x1024x1024_S3x4x256x1024
set_option backward.proofsInPublic true in
abbrev idx_main_v6 (i : S3x4x256x1024.Idx) : S3x1024x1024.Idx := fun a => match a with
  | ⟨0, _⟩ => ⟨((((i 0).val * 4 + (i 1).val) * 256 + (i 2).val) * 1024 + (i 3).val) / 1048576, by have h0 : (i 0).val < 3 := (i 0).isLt; have h1 : (i 1).val < 4 := (i 1).isLt; have h2 : (i 2).val < 256 := (i 2).isLt; have h3 : (i 3).val < 1024 := (i 3).isLt; show ((((i 0).val * 4 + (i 1).val) * 256 + (i 2).val) * 1024 + (i 3).val) / 1048576 < 3; omega⟩
  | ⟨1, _⟩ => ⟨((((i 0).val * 4 + (i 1).val) * 256 + (i 2).val) * 1024 + (i 3).val) / 1024 % 1024, by have h0 : (i 0).val < 3 := (i 0).isLt; have h1 : (i 1).val < 4 := (i 1).isLt; have h2 : (i 2).val < 256 := (i 2).isLt; have h3 : (i 3).val < 1024 := (i 3).isLt; show ((((i 0).val * 4 + (i 1).val) * 256 + (i 2).val) * 1024 + (i 3).val) / 1024 % 1024 < 1024; omega⟩
  | ⟨2, _⟩ => ⟨((((i 0).val * 4 + (i 1).val) * 256 + (i 2).val) * 1024 + (i 3).val) % 1024, by have h0 : (i 0).val < 3 := (i 0).isLt; have h1 : (i 1).val < 4 := (i 1).isLt; have h2 : (i 2).val < 256 := (i 2).isLt; have h3 : (i 3).val < 1024 := (i 3).isLt; show ((((i 0).val * 4 + (i 1).val) * 256 + (i 2).val) * 1024 + (i 3).val) % 1024 < 1024; omega⟩
theorem val_main_v6_apply (x0 x1 : (⟨S3x16384x1024, .bf16⟩ : BufTy).Contents (Elt F)) (i : S3x4x256x1024.Idx) :
    val_main_v6 (F := F) x0 x1 i = val_main_v5 (F := F) x0 x1 (idx_main_v6 i) := by
  unfold val_main_v6
  generalize val_main_v5 (F := F) x0 x1 = y
  exact shapeCast_apply y Facts₀.shapeCasts_S3x1024x1024_S3x4x256x1024 i (idx_main_v6 i)
    (by rewrite [Shape.rowMajor_val_three, Shape.rowMajor_val_four]; have h0 : (i 0).val < 3 := (i 0).isLt; have h1 : (i 1).val < 4 := (i 1).isLt; have h2 : (i 2).val < 256 := (i 2).isLt; have h3 : (i 3).val < 1024 := (i 3).isLt; show (((((i 0).val * 4 + (i 1).val) * 256 + (i 2).val) * 1024 + (i 3).val) / 1048576 * 1024 + ((((i 0).val * 4 + (i 1).val) * 256 + (i 2).val) * 1024 + (i 3).val) / 1024 % 1024) * 1024 + ((((i 0).val * 4 + (i 1).val) * 256 + (i 2).val) * 1024 + (i 3).val) % 1024 = (((i 0).val * 4 + (i 1).val) * 256 + (i 2).val) * 1024 + (i 3).val; omega)

-- %7 = stablehlo.transpose %6, dims = [1, 0, 2, 3] : (tensor<3x4x256x1024xf32>) -> tensor<4x3x256x1024xf32>
def val_main_v7 (x0 x1 : (⟨S3x16384x1024, .bf16⟩ : BufTy).Contents (Elt F)) : (⟨S4x3x256x1024, .f32⟩ : BufTy).Contents (Elt F) :=
  transpose S4x3x256x1024 [1, 0, 2, 3] (val_main_v6 (F := F) x0 x1) Facts₀.transposes_S3x4x256x1024_S4x3x256x1024_1_0_2_3
abbrev idx_main_v7 (i : S4x3x256x1024.Idx) : S3x4x256x1024.Idx := fun a => match a with
  | ⟨0, _⟩ => ⟨(i 1).val, (i 1).isLt⟩
  | ⟨1, _⟩ => ⟨(i 0).val, (i 0).isLt⟩
  | ⟨2, _⟩ => ⟨(i 2).val, (i 2).isLt⟩
  | ⟨3, _⟩ => ⟨(i 3).val, (i 3).isLt⟩
theorem val_main_v7_apply (x0 x1 : (⟨S3x16384x1024, .bf16⟩ : BufTy).Contents (Elt F)) (i : S4x3x256x1024.Idx) :
    val_main_v7 (F := F) x0 x1 i = val_main_v6 (F := F) x0 x1 (idx_main_v7 i) := by
  unfold val_main_v7
  generalize val_main_v6 (F := F) x0 x1 = y
  exact transpose_apply [1, 0, 2, 3] y Facts₀.transposes_S3x4x256x1024_S4x3x256x1024_1_0_2_3 i (idx_main_v7 i) (fun b => match b with
    | ⟨0, _⟩ => rfl
    | ⟨1, _⟩ => rfl
    | ⟨2, _⟩ => rfl
    | ⟨3, _⟩ => rfl)

-- %8 = stablehlo.reshape %7 : (tensor<4x3x256x1024xf32>) -> tensor<4x768x1024xf32>
def val_main_v8 (x0 x1 : (⟨S3x16384x1024, .bf16⟩ : BufTy).Contents (Elt F)) : (⟨S4x768x1024, .f32⟩ : BufTy).Contents (Elt F) :=
  shapeCast _ (val_main_v7 (F := F) x0 x1) Facts₀.shapeCasts_S4x3x256x1024_S4x768x1024
set_option backward.proofsInPublic true in
abbrev idx_main_v8 (i : S4x768x1024.Idx) : S4x3x256x1024.Idx := fun a => match a with
  | ⟨0, _⟩ => ⟨(((i 0).val * 768 + (i 1).val) * 1024 + (i 2).val) / 786432, by have h0 : (i 0).val < 4 := (i 0).isLt; have h1 : (i 1).val < 768 := (i 1).isLt; have h2 : (i 2).val < 1024 := (i 2).isLt; show (((i 0).val * 768 + (i 1).val) * 1024 + (i 2).val) / 786432 < 4; omega⟩
  | ⟨1, _⟩ => ⟨(((i 0).val * 768 + (i 1).val) * 1024 + (i 2).val) / 262144 % 3, by have h0 : (i 0).val < 4 := (i 0).isLt; have h1 : (i 1).val < 768 := (i 1).isLt; have h2 : (i 2).val < 1024 := (i 2).isLt; show (((i 0).val * 768 + (i 1).val) * 1024 + (i 2).val) / 262144 % 3 < 3; omega⟩
  | ⟨2, _⟩ => ⟨(((i 0).val * 768 + (i 1).val) * 1024 + (i 2).val) / 1024 % 256, by have h0 : (i 0).val < 4 := (i 0).isLt; have h1 : (i 1).val < 768 := (i 1).isLt; have h2 : (i 2).val < 1024 := (i 2).isLt; show (((i 0).val * 768 + (i 1).val) * 1024 + (i 2).val) / 1024 % 256 < 256; omega⟩
  | ⟨3, _⟩ => ⟨(((i 0).val * 768 + (i 1).val) * 1024 + (i 2).val) % 1024, by have h0 : (i 0).val < 4 := (i 0).isLt; have h1 : (i 1).val < 768 := (i 1).isLt; have h2 : (i 2).val < 1024 := (i 2).isLt; show (((i 0).val * 768 + (i 1).val) * 1024 + (i 2).val) % 1024 < 1024; omega⟩
theorem val_main_v8_apply (x0 x1 : (⟨S3x16384x1024, .bf16⟩ : BufTy).Contents (Elt F)) (i : S4x768x1024.Idx) :
    val_main_v8 (F := F) x0 x1 i = val_main_v7 (F := F) x0 x1 (idx_main_v8 i) := by
  unfold val_main_v8
  generalize val_main_v7 (F := F) x0 x1 = y
  exact shapeCast_apply y Facts₀.shapeCasts_S4x3x256x1024_S4x768x1024 i (idx_main_v8 i)
    (by rewrite [Shape.rowMajor_val_four, Shape.rowMajor_val_three]; have h0 : (i 0).val < 4 := (i 0).isLt; have h1 : (i 1).val < 768 := (i 1).isLt; have h2 : (i 2).val < 1024 := (i 2).isLt; show (((((i 0).val * 768 + (i 1).val) * 1024 + (i 2).val) / 786432 * 3 + (((i 0).val * 768 + (i 1).val) * 1024 + (i 2).val) / 262144 % 3) * 256 + (((i 0).val * 768 + (i 1).val) * 1024 + (i 2).val) / 1024 % 256) * 1024 + (((i 0).val * 768 + (i 1).val) * 1024 + (i 2).val) % 1024 = ((i 0).val * 768 + (i 1).val) * 1024 + (i 2).val; omega)

-- %9 = stablehlo.convert %8 : (tensor<4x768x1024xf32>) -> tensor<4x768x1024xbf16>
def val_main_v9 (x0 x1 : (⟨S3x16384x1024, .bf16⟩ : BufTy).Contents (Elt F)) : (⟨S4x768x1024, .bf16⟩ : BufTy).Contents (Elt F) :=
  truncf .bf16 (val_main_v8 (F := F) x0 x1) Facts₀.bitsLt_bf16_f32
-- %10 = stablehlo.slice %arg2 [0:4, 0:3072, 0:1024] : (tensor<4x4224x1024xbf16>) -> tensor<4x3072x1024xbf16>
def val_main_v10 (x2 : (⟨S4x4224x1024, .bf16⟩ : BufTy).Contents (Elt F)) : (⟨S4x3072x1024, .bf16⟩ : BufTy).Contents (Elt F) :=
  extractStridedSlice S4x3072x1024 ![0, 0, 0] (x2) Facts₀.slices_S4x4224x1024_S4x3072x1024_0_0_0
set_option backward.proofsInPublic true in
abbrev idx_main_v10 (i : S4x3072x1024.Idx) : S4x4224x1024.Idx := fun a => match a with
  | ⟨0, _⟩ => ⟨(i 0).val, (i 0).isLt⟩
  | ⟨1, _⟩ => ⟨(i 1).val, by have h1 : (i 1).val < 3072 := (i 1).isLt; show (i 1).val < 4224; omega⟩
  | ⟨2, _⟩ => ⟨(i 2).val, (i 2).isLt⟩
theorem val_main_v10_apply (x2 : (⟨S4x4224x1024, .bf16⟩ : BufTy).Contents (Elt F)) (i : S4x3072x1024.Idx) :
    val_main_v10 (F := F) x2 i = x2 (idx_main_v10 i) := by
  unfold val_main_v10
  exact extractStridedSlice_apply ![0, 0, 0] x2 Facts₀.slices_S4x4224x1024_S4x3072x1024_0_0_0 i (idx_main_v10 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %11 = stablehlo.slice %arg2 [0:4, 3840:4224, 0:1024] : (tensor<4x4224x1024xbf16>) -> tensor<4x384x1024xbf16>
def val_main_v11 (x2 : (⟨S4x4224x1024, .bf16⟩ : BufTy).Contents (Elt F)) : (⟨S4x384x1024, .bf16⟩ : BufTy).Contents (Elt F) :=
  extractStridedSlice S4x384x1024 ![0, 3840, 0] (x2) Facts₀.slices_S4x4224x1024_S4x384x1024_0_3840_0
set_option backward.proofsInPublic true in
abbrev idx_main_v11 (i : S4x384x1024.Idx) : S4x4224x1024.Idx := fun a => match a with
  | ⟨0, _⟩ => ⟨(i 0).val, (i 0).isLt⟩
  | ⟨1, _⟩ => ⟨3840 + (i 1).val, by have h1 : (i 1).val < 384 := (i 1).isLt; show 3840 + (i 1).val < 4224; omega⟩
  | ⟨2, _⟩ => ⟨(i 2).val, (i 2).isLt⟩
theorem val_main_v11_apply (x2 : (⟨S4x4224x1024, .bf16⟩ : BufTy).Contents (Elt F)) (i : S4x384x1024.Idx) :
    val_main_v11 (F := F) x2 i = x2 (idx_main_v11 i) := by
  unfold val_main_v11
  exact extractStridedSlice_apply ![0, 3840, 0] x2 Facts₀.slices_S4x4224x1024_S4x384x1024_0_3840_0 i (idx_main_v11 i) (fun a => match a with
    | ⟨0, _⟩ => by show (i 0).val = 0 + (i 0).val; omega
    | ⟨1, _⟩ => by show 3840 + (i 1).val = 3840 + (i 1).val; omega
    | ⟨2, _⟩ => by show (i 2).val = 0 + (i 2).val; omega)

-- %12 = stablehlo.concatenate %10, %9, %11, dim = 1 : (tensor<4x3072x1024xbf16>, tensor<4x768x1024xbf16>, tensor<4x384x1024xbf16>) -> tensor<4x4224x1024xbf16>
def val_main_v12 (x0 x1 : (⟨S3x16384x1024, .bf16⟩ : BufTy).Contents (Elt F)) (x2 : (⟨S4x4224x1024, .bf16⟩ : BufTy).Contents (Elt F)) : (⟨S4x4224x1024, .bf16⟩ : BufTy).Contents (Elt F) :=
  (concatenate S4x4224x1024 1 [⟨S4x3072x1024, ((val_main_v10 (F := F) x2) : (⟨S4x3072x1024, .bf16⟩ : BufTy).Contents (Elt F))⟩, ⟨S4x768x1024, ((val_main_v9 (F := F) x0 x1) : (⟨S4x768x1024, .bf16⟩ : BufTy).Contents (Elt F))⟩, ⟨S4x384x1024, ((val_main_v11 (F := F) x2) : (⟨S4x384x1024, .bf16⟩ : BufTy).Contents (Elt F))⟩] Facts₀.concatenates_S4x3072x1024_S4x768x1024_S4x384x1024_S4x4224x1024_d1 : (⟨S4x4224x1024, .bf16⟩ : BufTy).Contents (Elt F))

/-- The term the Run module states for `main_v12` is the stage. -/
theorem val_main_v12_eq (x0 x1 : (⟨S3x16384x1024, .bf16⟩ : BufTy).Contents (Elt F)) (x2 : (⟨S4x4224x1024, .bf16⟩ : BufTy).Contents (Elt F)) :
    (concatenate S4x4224x1024 1 [⟨S4x3072x1024, ((extractStridedSlice S4x3072x1024 ![0, 0, 0] (x2) Facts₀.slices_S4x4224x1024_S4x3072x1024_0_0_0) : (⟨S4x3072x1024, .bf16⟩ : BufTy).Contents (Elt F))⟩, ⟨S4x768x1024, ((truncf .bf16 (shapeCast _ (transpose S4x3x256x1024 [1, 0, 2, 3] (shapeCast _ (transpose S3x1024x1024 [0, 2, 1] (Host.dotGeneral dot_S3x16384x1024_S3x16384x1024_S3x1024x1024_1_1_2_2_0_0 none (extf .f32 (x1) Facts₀.bitsLt_bf16_f32) (extf .f32 (x0) Facts₀.bitsLt_bf16_f32)) Facts₀.transposes_S3x1024x1024_S3x1024x1024_0_2_1) Facts₀.shapeCasts_S3x1024x1024_S3x4x256x1024) Facts₀.transposes_S3x4x256x1024_S4x3x256x1024_1_0_2_3) Facts₀.shapeCasts_S4x3x256x1024_S4x768x1024) Facts₀.bitsLt_bf16_f32) : (⟨S4x768x1024, .bf16⟩ : BufTy).Contents (Elt F))⟩, ⟨S4x384x1024, ((extractStridedSlice S4x384x1024 ![0, 3840, 0] (x2) Facts₀.slices_S4x4224x1024_S4x384x1024_0_3840_0) : (⟨S4x384x1024, .bf16⟩ : BufTy).Contents (Elt F))⟩] Facts₀.concatenates_S4x3072x1024_S4x768x1024_S4x384x1024_S4x4224x1024_d1 : (⟨S4x4224x1024, .bf16⟩ : BufTy).Contents (Elt F))
      = val_main_v12 (F := F) x0 x1 x2 := rfl

end Cert.Reference3Ideal.Read

end
-- ==== Proof.BrClaim.lean ====
/-
  The gradient call of the branches' weights computes the reference: the frames and the value claim.
-/
module

public import proofs.«01_k».proof.Defs
public import proofs.«01_k».proof.Proof.BrVal
public import proofs.«01_k».proof.Proof.BrKFacts
public import proofs.«01_k».proof.Proof.BrRefRead
public import Idealize.ShloMosaic.Lib.KernelVsHost
public import Idealize.ShloMosaic.Lib.Quiescent

@[expose] public section

set_option maxRecDepth 16384

noncomputable section

namespace Cert.Hand3

open Idealize.ShloMosaic Idealize.ShloMosaic.TcCoe Idealize.ShloMosaic.ValueIdx Idealize.SL.Sem
open Cert.Kernel3Ideal.Hand Cert.Reference3Ideal.Read
open scoped BigOperators

/-! ## The reference's function -/

section Values
open Cert.Kernel3Ideal

variable (m : (ℓ : Loc nD τ sig) → Buf (Elt Ideal) ℓ) (c : Dev nD)

theorem v4_eq (n : Fin 3) (e d : Fin 1024) :
    val_main_v4 (F := Ideal) (A0 m c) (A1 m c) (ix3 n e d : Cert.Reference3Ideal.S3x1024x1024.Idx) = dw m c n d e := by
  refine (val_main_v4_apply (A0 m c) (A1 m c) _).trans ?_
  unfold dw
  refine Finset.sum_congr rfl fun k _ => ?_
  rw [mul_comm]
  have h0 : (ridx_main_v4 (ix3 n e d) k) = (ix3 n k d : Cert.Reference3Ideal.S3x16384x1024.Idx) := funext fun a => Fin.ext (match a with | 0 => rfl | 1 => rfl | 2 => rfl)
  have h1 : (lidx_main_v4 (ix3 n e d) k) = (ix3 n k e : Cert.Reference3Ideal.S3x16384x1024.Idx) := funext fun a => Fin.ext (match a with | 0 => rfl | 1 => rfl | 2 => rfl)
  rw [h0, h1]
  rfl

theorem v9_eq (a : Fin 4) (r : Fin 768) (e : Fin 1024) :
    val_main_v9 (F := Ideal) (A0 m c) (A1 m c) (ix3 a r e : Cert.Reference3Ideal.S4x768x1024.Idx)
    = dw m c ⟨r.val / 256, by omega⟩ ⟨256 * a.val + r.val % 256, by omega⟩ e := by
  rw [← v4_eq m c]
  refine (val_main_v8_apply (F := Ideal) (A0 m c) (A1 m c) (ix3 a r e)).trans ((val_main_v7_apply (F := Ideal) (A0 m c) (A1 m c) _).trans
    ((val_main_v6_apply (F := Ideal) (A0 m c) (A1 m c) _).trans ((val_main_v5_apply (F := Ideal) (A0 m c) (A1 m c) _).trans ?_)))
  have e8 : idx_main_v7 (idx_main_v8 (ix3 a r e)) = (ix4 ⟨r.val / 256, by omega⟩ a ⟨r.val % 256, Nat.mod_lt _ (by decide)⟩ e : Cert.Reference3Ideal.S3x4x256x1024.Idx) :=
    funext fun b => Fin.ext (by
      match b with
      | 0 => show ((a.val * 768 + r.val) * 1024 + e.val) / 262144 % 3 = r.val / 256; omega
      | 1 => show ((a.val * 768 + r.val) * 1024 + e.val) / 786432 = a.val; omega
      | 2 => show ((a.val * 768 + r.val) * 1024 + e.val) / 1024 % 256 = r.val % 256; omega
      | 3 => show ((a.val * 768 + r.val) * 1024 + e.val) % 1024 = e.val; omega)
  rw [e8]
  refine congrArg (val_main_v4 (F := Ideal) (A0 m c) (A1 m c)) (funext fun b => Fin.ext ?_)
  match b with
  | 0 => show (((r.val / 256 * 4 + a.val) * 256 + r.val % 256) * 1024 + e.val) / 1048576 = r.val / 256; omega
  | 1 => show (((r.val / 256 * 4 + a.val) * 256 + r.val % 256) * 1024 + e.val) % 1024 = e.val; omega
  | 2 => show (((r.val / 256 * 4 + a.val) * 256 + r.val % 256) * 1024 + e.val) / 1024 % 1024 = 256 * a.val + r.val % 256; omega

theorem v12_eq : val_main_v12 (F := Ideal) (A0 m c) (A1 m c) (A2 m c) = G m c := by
  funext i
  obtain ⟨a, r, e, rfl⟩ : ∃ (a : Fin 4) (r : Fin 4224) (e : Fin 1024), (ix3 a r e : Cert.Reference3Ideal.S4x4224x1024.Idx) = i := ⟨i 0, i 1, i 2, (eq_ix3 i).symm⟩
  have h9 := v9_eq m c
  have h10 := val_main_v10_apply (F := Ideal) (A2 m c)
  have h11 := val_main_v11_apply (F := Ideal) (A2 m c)
  unfold val_main_v12 G
  generalize val_main_v9 (F := Ideal) (A0 m c) (A1 m c) = y at h9 ⊢
  generalize val_main_v10 (F := Ideal) (A2 m c) = x at h10 ⊢
  generalize val_main_v11 (F := Ideal) (A2 m c) = z at h11 ⊢
  by_cases h : 3072 ≤ r.val ∧ r.val < 3840
  · rw [dif_pos (show 3072 ≤ ((ix3 a r e : Cert.Kernel3Ideal.S4x4224x1024.Idx) 1).val ∧ ((ix3 a r e : Cert.Kernel3Ideal.S4x4224x1024.Idx) 1).val < 3840 from h)]
    refine (concatenate_apply_piece (t := Cert.Reference3Ideal.S4x4224x1024) 1 [⟨Cert.Reference3Ideal.S4x3072x1024, x⟩, ⟨Cert.Reference3Ideal.S4x768x1024, y⟩, ⟨Cert.Reference3Ideal.S4x384x1024, z⟩] _ _
      1 (show 1 < 3 by decide) Cert.Reference3Ideal.S4x768x1024 y rfl rfl 3072 rfl
      (ix3 a ⟨r.val - 3072, by omega⟩ e) (fun b hb => ?_) ?_).trans ((h9 a ⟨r.val - 3072, by omega⟩ e).trans ?_)
    · match b, hb with
      | 0, _ => rfl
      | 1, hb => exact absurd rfl hb
      | 2, _ => rfl
    · show 3072 + (r.val - 3072) = r.val; omega
    · refine congrArg (fun d => dw m c _ d e) (Fin.ext ?_)
      show 256 * a.val + (r.val - 3072) % 256 = 256 * a.val + r.val % 256; omega
  · rw [dif_neg (show ¬(3072 ≤ ((ix3 a r e : Cert.Kernel3Ideal.S4x4224x1024.Idx) 1).val ∧ ((ix3 a r e : Cert.Kernel3Ideal.S4x4224x1024.Idx) 1).val < 3840) from h)]
    by_cases hl : r.val < 3072
    · refine (concatenate_apply_piece (t := Cert.Reference3Ideal.S4x4224x1024) 1 [⟨Cert.Reference3Ideal.S4x3072x1024, x⟩, ⟨Cert.Reference3Ideal.S4x768x1024, y⟩, ⟨Cert.Reference3Ideal.S4x384x1024, z⟩] _ _
      0 (show 0 < 3 by decide) Cert.Reference3Ideal.S4x3072x1024 x rfl rfl 0 rfl
        (ix3 a ⟨r.val, hl⟩ e) (fun b hb => ?_) ?_).trans ((h10 _).trans (congrArg (A2 m c) (funext fun b => Fin.ext ?_)))
      · match b, hb with
        | 0, _ => rfl
        | 1, hb => exact absurd rfl hb
        | 2, _ => rfl
      · show 0 + r.val = r.val; omega
      · match b with
        | 0 => rfl
        | 1 => rfl
        | 2 => rfl
    · refine (concatenate_apply_piece (t := Cert.Reference3Ideal.S4x4224x1024) 1 [⟨Cert.Reference3Ideal.S4x3072x1024, x⟩, ⟨Cert.Reference3Ideal.S4x768x1024, y⟩, ⟨Cert.Reference3Ideal.S4x384x1024, z⟩] _ _
      2 (show 2 < 3 by decide) Cert.Reference3Ideal.S4x384x1024 z rfl rfl 3840 rfl
        (ix3 a ⟨r.val - 3840, by omega⟩ e) (fun b hb => ?_) ?_).trans ((h11 _).trans (congrArg (A2 m c) (funext fun b => Fin.ext ?_)))
      · match b, hb with
        | 0, _ => rfl
        | 1, hb => exact absurd rfl hb
        | 2, _ => rfl
      · show 3840 + (r.val - 3840) = r.val; omega
      · match b with
        | 0 => rfl
        | 1 => show 3840 + (r.val - 3840) = r.val; omega
        | 2 => rfl

end Values

/-! ## The claims -/

/-- The two programs have one body table. -/
theorem defs_eq : @Cert.Kernel3.defs Bits _ Cert.Kernel3.Gen.facts = @Cert.Kernel3Ideal.defs Bits _ Cert.Kernel3Ideal.Gen.facts := by
  refine congrArg (Pipeline.defs (@Cert.Kernel3Ideal.pcfgs Bits Cert.Kernel3Ideal.Gen.facts)) ?_
  refine congrArg Defs.onTc (funext fun l => funext fun a => ?_)
  match l, a with
  | 0, (t, s) => rfl

theorem frame_kernel : Cert.quiescent_Kernel3 (hKernel3 := Cert.Kernel3.Gen.facts) := fun m ρ _ =>
  Eq.mpr (congrArg (fun d => θ_run d _ _ _) defs_eq) (Cert.Kernel3Ideal.Gen.frame (F := Bits) m ρ)

theorem frame_ideal : Cert.quiescent_Kernel3Ideal (hKernel3Ideal := Cert.Kernel3Ideal.Gen.facts) := fun m ρ _ =>
  Cert.Kernel3Ideal.Gen.frame m ρ

theorem frame_reference : Cert.quiescent_Reference3Ideal (hReference3Ideal := Cert.Reference3Ideal.Gen.facts) := fun m ρ _ =>
  (θ_run (Cert.Reference3Ideal.defs (F := Ideal)) _ _).mono
    (fun r h => ⟨fun c => (h c).2, sem_eq_zero_of_no_sems (by decide) r.2⟩) (Cert.Reference3Ideal.Value.run m ρ)

theorem algebraic : Cert.algebraic_Kernel3Ideal_Reference3Ideal (hKernel3Ideal := Cert.Kernel3Ideal.Gen.facts)
    (hReference3Ideal := Cert.Reference3Ideal.Gen.facts) := fun m g m' g' _ ha =>
  ⟨fun c => G m c,
    run_results m g,
    (θ_run (Cert.Reference3Ideal.defs (F := Ideal)) _ _).mono (fun r h c => by
      obtain ⟨a0, a1, a2⟩ := ha c
      refine ⟨((h c).1.trans (val_main_v12_eq _ _ _)).trans ?_, (h c).2⟩
      rw [a0, a1, a2]
      exact v12_eq m c) (Cert.Reference3Ideal.Value.run m' g')⟩

end Cert.Hand3

end
-- ==== Proof.WoFacts.lean ====
/-
  The gradient call of the output's weights: the facts its idealized program states, the launch, and the body as memory operations over named values.
-/
module

public import proofs.«01_k».proof.Kernel4Ideal
public import Idealize.ShloMosaic.Lib.Affine
public import Idealize.ShloMosaic.Lib.Decide
public import Idealize.ShloMosaic.Lib.Exec
public import Idealize.ShloMosaic.Lib.Pipeline.Kit
public import Idealize.ShloMosaic.Lib.Pipeline.Regions

@[expose] public section

set_option synthInstance.maxSize 4096

noncomputable section

namespace Cert.Kernel4Ideal.Gen

open Idealize.ShloMosaic Idealize.SL.Sem
/-! ## The facts over the vocabulary (`Facts₀`) -/

/-- The program's facts over its vocabulary, proved. -/
instance facts₀ : Cert.Kernel4Ideal.Facts₀ := by
  constructor
  iterate 2 all_goals try first
    | exact Fin.forall_fin_two.2 ⟨Memref.isWhole_whole _, Memref.isWhole_whole _⟩
    | exact fun _ => .inl rfl
    | exact fun _ => .inr (Affine.block_words_dvd (of_decide_eq_true rfl) (by decide))
    | (intro i i' h; first
        | (unfold cc0_transform_0; rw [h 1 rfl])
        | (unfold cc0_transform_1; rw [h 0 rfl, h 1 rfl])
        | (unfold cc0_transform_3; rw [h 1 rfl]))
    | decide +kernel

/-! ## The facts over the windows (`Facts`) -/

/-- Every fact the program states, proved. -/
instance facts : Cert.Kernel4Ideal.Facts where

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs. -/
theorem winFacts0 : Pipeline.WinFacts spec0 := by decide
/-- No window's block is empty. -/
theorem block_pos0 : ∀ w : Fin 3, 0 < (spec0 w).block.numel := by decide
/-- The windows' arrays and the staging memrefs are whole buffers. -/
theorem arr_whole0 : ∀ w : Fin 3, (spec0 w).arr.IsWhole := fun | 0 => Memref.isWhole_whole _ | 1 => Memref.isWhole_whole _ | 2 => Memref.isWhole_whole _ | ⟨_ + 3, h⟩ => absurd h (Nat.not_lt.2 (Nat.le_add_left _ _))
theorem stage_whole0 : ∀ (w : Fin 3) (s : Fin (spec0 w).nbuf), ((spec0 w).stage s).IsWhole := fun | 0 => fun s => Facts₀.hstage0_0 (s.cast Facts₀.nbuf0_0) | 1 => fun s => Facts₀.hstage0_1 (s.cast Facts₀.nbuf0_1) | 2 => fun s => Facts₀.hstage0_2 (s.cast Facts₀.nbuf0_2) | ⟨_ + 3, h⟩ => absurd h (Nat.not_lt.2 (Nat.le_add_left _ _))
/-- The five, bundled. -/
theorem launch0 : Pipeline.LaunchFacts (nD := nD) (τ := τ) cfgs 0 := ⟨cellOf_inj, winFacts0, block_pos0, arr_whole0, stage_whole0⟩

/-- The grid has 11 points. -/
theorem N_0 : grid0.N = 11 := by decide
/-- The windows conjoined one by one. -/
theorem bigSep_W0 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ
/-- The core's scoped buffers that are no staging buffer of custom_call 0, each whole at some contents: `cc0_scratch0`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)) :=
  Pipeline.scopedRest_eq_of_list spec0 c [cc0_scratch0] (by decide) (by decide)
/-! ## @main as segments and as a chain of items -/

/-- 3 host operations of @main, in order. -/
abbrev hostOps0 : List (HloOp τ sig (Elt F)) :=
  [ StableHlo.unary main_arg0 main_v0 (broadcastInDim S1x16384x1024 ![1, 2] Facts₀.bcast_S16384x1024_S1x16384x1024_1_2 : (⟨S16384x1024, .bf16⟩ : BufTy).Contents (Elt F) → (⟨S1x16384x1024, .bf16⟩ : BufTy).Contents (Elt F)),
    StableHlo.unary main_arg1 main_v1 (broadcastInDim S1x16384x1024 ![1, 2] Facts₀.bcast_S16384x1024_S1x16384x1024_1_2 : (⟨S16384x1024, .f32⟩ : BufTy).Contents (Elt F) → (⟨S1x16384x1024, .f32⟩ : BufTy).Contents (Elt F)),
    StableHlo.unary main_arg2 main_v2 id ]
/-- Each touches TensorCore references only. -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub ..⟩
/-- `main` is the chain of its items (`Pipeline.chain`). -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

open Idealize.SL Idealize.SL.Sem

/-! ## custom_call 0 -/

/-- The kernel body at point `t`, on what the pipeline calls it with (`defs₀`'s row at the slots). -/
abbrev bodyAt0 (t : Fin cfg0.N) : Prog (TpuEff nD τ sig (Elt F) Λ₀ .tc) PUnit :=
  cc0_grad_w_out (grid0.coords t) (win0_0.stage (cfg0.slots t 0)) (Facts₀.hstage0_0 ((cfg0.slots t 0).cast Facts₀.nbuf0_0)) (win0_1.stage (cfg0.slots t 1)) (Facts₀.hstage0_1 ((cfg0.slots t 1).cast Facts₀.nbuf0_1)) (Memref.whole main_arg2) (Memref.isWhole_whole _) (win0_2.stage (cfg0.slots t 2)) (Facts₀.hstage0_2 ((cfg0.slots t 2).cast Facts₀.nbuf0_2)) (Memref.whole cc0_scratch0) (Memref.isWhole_whole _)

/-! ## `cc0_grad_w_out` -/

/-- `%19` of the body. -/
def k0_pay1 (v11 : Vec F S1x2048x1024 .bf16) (v13 : Vec F S1x2048x1024 .f32) : FVec F S1024x1024 .f32 :=
  have v12 : FVec F S2048x1024 .bf16 := shapeCast S2048x1024 v11 Facts₀.shapeCasts_S1x2048x1024_S2048x1024
  have v14 : FVec F S2048x1024 .f32 := shapeCast S2048x1024 v13 Facts₀.shapeCasts_S1x2048x1024_S2048x1024
  have v15 : FVec F S2048x1024 .bf16 := truncf .bf16 v14 Facts₀.bitsLt_bf16_f32
  have cst : FVec F S1024x1024 .f32 := constant S1024x1024 .f32 0x00000000#32
  have v16 : FVec F S1024x1024 .f32 := matmul dot_S2048x1024_S2048x1024_S1024x1024_0_0_1_1_n_n none v12 v15 cst
  have v19 : FVec F S1024x1024 .f32 := shapeCast S1024x1024 v16 Facts₀.shapeCasts_S1024x1024_S1024x1024
  v19

def k0_pay2 (v11 : Vec F S1024x1024 .f32) (v12 : Vec F S1x2048x1024 .bf16) (v14 : Vec F S1x2048x1024 .f32) : FVec F S1024x1024 .f32 :=
  have v13 : FVec F S2048x1024 .bf16 := shapeCast S2048x1024 v12 Facts₀.shapeCasts_S1x2048x1024_S2048x1024
  have v15 : FVec F S2048x1024 .f32 := shapeCast S2048x1024 v14 Facts₀.shapeCasts_S1x2048x1024_S2048x1024
  have v16 : FVec F S2048x1024 .bf16 := truncf .bf16 v15 Facts₀.bitsLt_bf16_f32
  have cst : FVec F S1024x1024 .f32 := constant S1024x1024 .f32 0x00000000#32
  have v17 : FVec F S1024x1024 .f32 := matmul dot_S2048x1024_S2048x1024_S1024x1024_0_0_1_1_n_n none v13 v16 cst
  have v18 : FVec F S1024x1024 .f32 := addf v11 v17
  have v21 : FVec F S1024x1024 .f32 := shapeCast S1024x1024 v18 Facts₀.shapeCasts_S1024x1024_S1024x1024
  v21

def k0_pay3 (v15 : Vec F S256x1024 .f32) : FVec F S1x256x1024 .bf16 :=
  have v16 : FVec F S256x1024 .bf16 := truncf .bf16 v15 Facts₀.bitsLt_bf16_f32
  have v19 : FVec F S1x256x1024 .bf16 := shapeCast S1x256x1024 v16 Facts₀.shapeCasts_S256x1024_S1x256x1024
  v19

/-- `cc0_grad_w_out` as a skeleton of memory operations over payloads. -/
def cc0_grad_w_out_skel (i : grid0.Coords) (arg2 : Memref sig .tc .vmem S1x2048x1024 .bf16) (harg2 : arg2.IsWhole) (arg3 : Memref sig .tc .vmem S1x2048x1024 .f32) (harg3 : arg3.IsWhole) (arg4 : Memref sig .tc .hbm S4x4224x1024 .bf16) (harg4 : arg4.IsWhole) (arg5 : Memref sig .tc .vmem S1x256x1024 .bf16) (harg5 : arg5.IsWhole) (arg6 : Memref sig .tc .vmem S1024x1024 .f32) (harg6 : arg6.IsWhole) :
    Prog (TpuEff nD τ sig (Elt F) Λ₀ .tc) PUnit := do
  -- %arg0: i32, grid coordinate 0  — not in the skeleton
  let arg1 : BitVec 32 := BitVec.ofNat 32 (i 1).val                     -- %arg1: i32, grid coordinate 1
  let v0 : BitVec 1 := Scalar.cmpi .eq arg1 0#32
  let v1 : BitVec 32 := Scalar.extui v0
  let v2 : BitVec 1 := Scalar.cmpi .ne v1 0#32
  if k0_h1 : v2 = 1#1 then do
    let v11 : Vec F S1x2048x1024 .bf16 ← Prog.lift (.load arg2 (Rect.unit (s := S1x2048x1024) ![0, 0, 0] S1x2048x1024.size Facts₀.inb_S1x2048x1024_S1x2048x1024_0_0_0).toLoadRect (View.loadsAt_vmem Facts₀.h_S1x2048x1024))
    let v13 : Vec F S1x2048x1024 .f32 ← Prog.lift (.load arg3 (Rect.unit (s := S1x2048x1024) ![0, 0, 0] S1x2048x1024.size Facts₀.inb_S1x2048x1024_S1x2048x1024_0_0_0).toLoadRect (View.loadsAt_vmem Facts₀.h_S1x2048x1024))
    let v17 : Vec F S1024x1024 .f32 ← Prog.lift (.load arg6 (Rect.unit (s := S1024x1024) ![0, 0] S1024x1024.size Facts₀.inb_S1024x1024_S1024x1024_0_0).toLoadRect (View.loadsAt_vmem Facts₀.h_S1024x1024))

    Prog.lift (.store arg6 (Rect.unit (s := S1024x1024) ![0, 0] S1024x1024.size Facts₀.inb_S1024x1024_S1024x1024_0_0) (k0_pay1 v11 v13) Finset.univ (View.stores_vmem_bits_univ Facts₀.h_S1024x1024 rfl) (.inl rfl))
    pure ⟨⟩
  else do
    pure ⟨⟩
  let v3 : BitVec 1 := Scalar.cmpi .sgt arg1 0#32
  let v4 : BitVec 1 := Scalar.cmpi .slt arg1 8#32
  let v5 : BitVec 1 := Scalar.andi v3 v4
  let v6 : BitVec 32 := Scalar.extui v5
  let v7 : BitVec 1 := Scalar.cmpi .ne v6 0#32
  if k0_h2 : v7 = 1#1 then do
    let v11 : Vec F S1024x1024 .f32 ← Prog.lift (.load arg6 (Rect.unit (s := S1024x1024) ![0, 0] S1024x1024.size Facts₀.inb_S1024x1024_S1024x1024_0_0).toLoadRect (View.loadsAt_vmem Facts₀.h_S1024x1024))
    let v12 : Vec F S1x2048x1024 .bf16 ← Prog.lift (.load arg2 (Rect.unit (s := S1x2048x1024) ![0, 0, 0] S1x2048x1024.size Facts₀.inb_S1x2048x1024_S1x2048x1024_0_0_0).toLoadRect (View.loadsAt_vmem Facts₀.h_S1x2048x1024))
    let v14 : Vec F S1x2048x1024 .f32 ← Prog.lift (.load arg3 (Rect.unit (s := S1x2048x1024) ![0, 0, 0] S1x2048x1024.size Facts₀.inb_S1x2048x1024_S1x2048x1024_0_0_0).toLoadRect (View.loadsAt_vmem Facts₀.h_S1x2048x1024))
    let v19 : Vec F S1024x1024 .f32 ← Prog.lift (.load arg6 (Rect.unit (s := S1024x1024) ![0, 0] S1024x1024.size Facts₀.inb_S1024x1024_S1024x1024_0_0).toLoadRect (View.loadsAt_vmem Facts₀.h_S1024x1024))

    Prog.lift (.store arg6 (Rect.unit (s := S1024x1024) ![0, 0] S1024x1024.size Facts₀.inb_S1024x1024_S1024x1024_0_0) (k0_pay2 v11 v12 v14) Finset.univ (View.stores_vmem_bits_univ Facts₀.h_S1024x1024 rfl) (.inl rfl))
    pure ⟨⟩
  else do
    pure ⟨⟩

  if k0_h3 : k0_cond3 i = 1#1 then do

    let v15 : Vec F S256x1024 .f32 ← Prog.lift (.load arg6 (Rect.unit (s := S1024x1024) (k0_off1 i) S256x1024.size (Facts₀.k0_off1_inb i k0_h3)).toLoadRect (View.loadsAt_vmem Facts₀.h_S256x1024))
    let v17 : Vec F S1x256x1024 .bf16 ← Prog.lift (.load arg5 (Rect.unit (s := S1x256x1024) ![0, 0, 0] S1x256x1024.size Facts₀.inb_S1x256x1024_S1x256x1024_0_0_0).toLoadRect (View.loadsAt_vmem Facts₀.h_S1x256x1024))

    Prog.lift (.store arg5 (Rect.unit (s := S1x256x1024) ![0, 0, 0] S1x256x1024.size Facts₀.inb_S1x256x1024_S1x256x1024_0_0_0) (k0_pay3 v15) Finset.univ (View.stores_vmem Facts₀.h_S1x256x1024 (harg5.storeExact_slice rfl _ Facts₀.packedbf16_S1x256x1024_S1x256x1024_0_0_0) (fun _ => rfl)) (.inl rfl))
    pure ⟨⟩
  else do
    pure ⟨⟩
  pure ⟨⟩

set_option maxRecDepth 65536 in
/-- The printed `cc0_grad_w_out` is its skeleton: by definitional unfolding. -/
theorem cc0_grad_w_out_eq_skeleton : cc0_grad_w_out (F := F) = cc0_grad_w_out_skel (F := F) := rfl

end Cert.Kernel4Ideal.Gen

end
-- ==== Proof.WoFrame.lean ====
/-
  The gradient call of the output's weights: the body's run, what the points leave, the run and the frame.
-/
module

public import proofs.«01_k».proof.Proof.WoFacts
public import proofs.«01_k».proof.Proof.Whole
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.ValueIdx

@[expose] public section

set_option maxRecDepth 16384

noncomputable section

namespace Cert.Kernel4Ideal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ
local notation "Acc" => Vec F S1024x1024 EltTy.f32

variable (m : (ℓ : Loc nD τ sig) → Buf (Elt F) ℓ) (ρ : Dev nD → PrngReg)

/-- Core `c` owns the buffer `M` with the contents `x`. -/
abbrev own {S : Shape} {e : EltTy} (c : Dev nD) (M : Memref sig .tc .vmem S e) (x : Vec F S e) : sProp 𝕄 := owns (c : Thread nD τ) M fullShare x

/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The arguments are as they were at the launch. -/
abbrev Kept (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- The conditions of the body's three `scf.if`s, from the grid coordinates. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := (Scalar.cmpi .ne (Scalar.extui (Scalar.andi (Scalar.cmpi .sgt (BitVec.ofNat 32 (i 1).val) 0#32) (Scalar.cmpi .slt (BitVec.ofNat 32 (i 1).val) 8#32))) 0#32) = 1#1
abbrev cond0_2 (i : grid0.Coords) : Prop := k0_cond3 i = 1#1

/-- The combinations that arise, and the row from which the sum's rows are written out. -/
theorem conds : ∀ i : grid0.Coords, (cond0_0 i ∧ ¬cond0_1 i ∧ ¬cond0_2 i) ∨ (¬cond0_0 i ∧ cond0_1 i ∧ ¬cond0_2 i)
    ∨ (¬cond0_0 i ∧ cond0_1 i ∧ cond0_2 i ∧ k0_off1 i = ![0, 0]) ∨ (¬cond0_0 i ∧ ¬cond0_1 i ∧ cond0_2 i) := by decide +kernel
theorem off_eq : ∀ i : grid0.Coords, cond0_2 i → k0_off1 i = ![256 * ((i 1).val - 7), 0] := by decide +kernel

/-- The same at a point, and where the result's window is idle and written back. -/
theorem cond_iff : ∀ t : Fin grid0.N, (cond0_0 (grid0.coords t) ↔ t.val % 11 = 0) ∧ (cond0_1 (grid0.coords t) ↔ (1 ≤ t.val % 11 ∧ t.val % 11 ≤ 7)) ∧ (cond0_2 (grid0.coords t) ↔ 7 ≤ t.val) := by decide +kernel
theorem live2 : ∀ t : Fin grid0.N, cond0_2 (grid0.coords t) → cfg0.idle 2 (grid0.coords t) = false := by decide +kernel
theorem idle2 : ∀ t : Fin grid0.N, ¬cond0_2 (grid0.coords t) → cfg0.idle 2 (grid0.coords t) = true ∧ (cfg0.win 2).flush t = false := by decide +kernel

/-! ## The kernel body on any staging memrefs -/

/-- Each window's current staging memref at point `t`, spelled as the pipeline passes it (`bodyAt0`). -/
abbrev ms0_0 (t : Fin cfg0.N) : Memref sig .tc .vmem S1x2048x1024 .bf16 := win0_0.stage (cfg0.slots t 0)
abbrev ms0_1 (t : Fin cfg0.N) : Memref sig .tc .vmem S1x2048x1024 .f32 := win0_1.stage (cfg0.slots t 1)
abbrev ms0_2 (t : Fin cfg0.N) : Memref sig .tc .vmem S1x256x1024 .bf16 := win0_2.stage (cfg0.slots t 2)
/-- The carried sum's buffer. -/
abbrev scM0_0 : Memref sig .tc .vmem S1024x1024 .f32 := Memref.whole cc0_scratch0

/-- The frame kit's invariant with the carried sum's buffer owned at some contents. -/
theorem PhiA0_eq (c : Dev nD) : (Pipeline.ΦA spec0 c : sProp 𝕄) = iprop(iprop((∃ d, own c scM0_0 d)) ∗ (∃ r, prngReg c r)) := by
  unfold Pipeline.ΦA; rw [scopedRest0_eq]; simp only [scM0_0, own, owns_whole]; try rfl

/-- The block of 256 rows of `x` from row `r0` on. -/
def rows (x : Acc) (r0 : ℕ) : Vec F S256x1024 .f32 := fun y => x (ix2 ⟨(r0 + (y 0).val) % 1024, Nat.mod_lt _ (by decide)⟩ (y 1))

/-- The carried sum after a point, from the two blocks and the sum before. -/
def sumOf (i : grid0.Coords) (x0 : Vec F S1x2048x1024 .bf16) (x1 : Vec F S1x2048x1024 .f32) (xs : Acc) : Acc :=
  if cond0_0 i then k0_pay1 x0 x1 else if cond0_1 i then k0_pay2 xs x0 x1 else xs
/-- The result's block after a point that leaves the sum `s`: rows of the sum at the points that write out. -/
def outOf (i : grid0.Coords) (y : Vec F S1x256x1024 .bf16) (s : Acc) : Vec F S1x256x1024 .bf16 :=
  if cond0_2 i then k0_pay3 (rows s (256 * ((i 1).val - 7))) else y

section Body
variable (c : Dev nD) (i : grid0.Coords) (arg2 : Memref sig .tc .vmem S1x2048x1024 .bf16) (harg2 : arg2.IsWhole) (arg3 : Memref sig .tc .vmem S1x2048x1024 .f32) (harg3 : arg3.IsWhole) (arg5 : Memref sig .tc .vmem S1x256x1024 .bf16) (harg5 : arg5.IsWhole) (arg6 : Memref sig .tc .vmem S1024x1024 .f32) (harg6 : arg6.IsWhole)
  (x0 : Vec F S1x2048x1024 .bf16) (x1 : Vec F S1x2048x1024 .f32) (y : Vec F S1x256x1024 .bf16) (xs : Vec F S1024x1024 .f32)

theorem ld_rows (x : Acc) {off : Fin 2 → ℕ} (r0 : ℕ) (h : off = ![r0, 0]) (inb : ∀ a, off a + S256x1024.size a ≤ S1024x1024.size a) :
    View.ld x (Rect.unit (s := S1024x1024) off S256x1024.size inb) = rows x r0 := by
  subst h
  have h0 : r0 + 256 ≤ 1024 := inb 0
  refine funext fun y => congrArg x (funext fun a => Fin.ext ?_)
  have hy : (y 0).val < 256 := (y 0).isLt
  match a with
  | 0 => show r0 + 1 * (y 0).val = (r0 + (y 0).val) % 1024; omega
  | 1 => show 0 + 1 * (y 1).val = (y 1).val; omega

/-- Load a block. -/
abbrev lB {e : EltTy} (M : Memref sig .tc .vmem S1x2048x1024 e) (h : M.IsWhole) (x : Vec F S1x2048x1024 e) : Vec F S1x2048x1024 e :=
  View.readAt (Elt F) M.view (Rect.unit ![0, 0, 0] S1x2048x1024.size Facts₀.inb_S1x2048x1024_S1x2048x1024_0_0_0).toLoadRect (h.unread x)
/-- Load the sum. -/
abbrev lS (M : Memref sig .tc .vmem S1024x1024 .f32) (h : M.IsWhole) (x : Acc) : Acc :=
  View.readAt (Elt F) M.view (Rect.unit ![0, 0] S1024x1024.size Facts₀.inb_S1024x1024_S1024x1024_0_0).toLoadRect (h.unread x)
/-- Store the sum. -/
abbrev stS (w : Acc) : List (View.Piece (Elt F) S1024x1024 .f32) := [⟨Rect.unit ![0, 0] S1024x1024.size Facts₀.inb_S1024x1024_S1024x1024_0_0, w⟩]

theorem lB_eq {e : EltTy} (M : Memref sig .tc .vmem S1x2048x1024 e) (h : M.IsWhole) (x : Vec F S1x2048x1024 e) : lB M h x = x := load_whole off3 M h x _
theorem lS_eq (M : Memref sig .tc .vmem S1024x1024 .f32) (h : M.IsWhole) (x : Acc) : lS M h x = x := load_whole off2 M h x _

/-- Rows of a sum just stored. -/
theorem readCov_rows (v : View sig .tc .vmem S1024x1024 .f32) (w : Acc) {off : Fin 2 → ℕ} (r0 : ℕ) (h : off = ![r0, 0]) (inb : ∀ a, off a + S256x1024.size a ≤ S1024x1024.size a) :
    v.readCov (stS w) (Rect.unit (s := S1024x1024) off S256x1024.size inb).toLoadRect = rows w r0 := by
  refine (View.readCov_eq_canon_ld v (stS w) _ fun y => ⟨_, List.mem_singleton_self _, View.mem_set_unit_zero off2 Facts₀.inb_S1024x1024_S1024x1024_0_0 y⟩).trans ?_
  exact (congrArg (fun z => View.ld z _) (View.canon_unit_zero off2 _ w)).trans (ld_rows w r0 h inb)

instance closedOff (i : grid0.Coords) [h : Fact (k0_off1 i = ![0, 0])] : ClosedOff (k0_off1 i) := ⟨![0, 0], h.out⟩

set_option maxHeartbeats 4000000 in
/-- One run of the body on whole staging memrefs: the inputs' stay as they were, the carried sum is the new one, and the result's block is that of the point. -/
theorem body_run (E : Set ℕ) (K : PUnit → sProp 𝕄) :
    iprop(own c arg2 x0 ∗ own c arg3 x1 ∗ own c arg5 y ∗ own c arg6 xs
        ∗ (iprop(own c arg2 x0 ∗ own c arg3 x1 ∗ own c arg5 (outOf i y (sumOf i x0 x1 xs)) ∗ own c arg6 (sumOf i x0 x1 xs)) -∗ K ⟨⟩))
      ⊢ wp frame (wpE (defs₀ (F := F)) Variants.none c none) E (cc0_grad_w_out i arg2 harg2 arg3 harg3 (Memref.whole main_arg2) (Memref.isWhole_whole _) arg5 harg5 arg6 harg6) K := by
  have ho := off_eq i
  unfold own owns
  rcases conds i with ⟨h0, h1, h2⟩ | ⟨h0, h1, h2⟩ | ⟨h0, h1, h2, hz⟩ | ⟨h0, h1, h2⟩
  all_goals
    unfold sumOf outOf
    first | have e0 := eq_false h0 | have e0 := eq_true h0
    first | have e1 := eq_false h1 | have e1 := eq_true h1
    first | have e2 := eq_false h2 | have e2 := eq_true h2
    simp only [e0, e1, e2, if_true, if_false, cc0_grad_w_out_eq_skeleton]; unfold cc0_grad_w_out_skel
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg5.eq_unread hf2; obtain rfl := harg6.eq_unread hfs
    try haveI : Fact (k0_off1 i = ![0, 0]) := ⟨hz⟩
    sl_exec (disch := first | sl_exact h0 | sl_exact h1 | sl_exact h2)
    sl_step
    iapply Hk
    isplitl [H0]; · iexists _; isplitr; (ipureintro; exact harg2.read_unread _); iexact H0
    isplitl [H1]; · iexists _; isplitr; (ipureintro; exact harg3.read_unread _); iexact H1
    isplitl [H2]
    iexists _; isplitr; swap; iexact H2; ipureintro; rotate_left
    iexists _; isplitr; swap; iexact HS; ipureintro; rotate_left
  · exact harg5.read_unread _
  · exact (stored_whole off2 arg6.view _ _ (k0_pay1 (lB _ harg2 x0) (lB _ harg3 x1))).trans (by simp only [lB_eq])
  · exact harg5.read_unread _
  · exact (stored_whole off2 arg6.view _ _ (k0_pay2 (lS _ harg6 xs) (lB _ harg2 x0) (lB _ harg3 x1))).trans (by simp only [lB_eq, lS_eq])
  · exact (stored_whole off3 arg5.view _ _ (k0_pay3 (arg6.view.readCov (stS (k0_pay2 (lS _ harg6 xs) (lB _ harg2 x0) (lB _ harg3 x1)))
      (Rect.unit (s := S1024x1024) (k0_off1 i) S256x1024.size (Facts₀.k0_off1_inb i h2)).toLoadRect))).trans (by rw [readCov_rows _ _ _ (ho h2)]; simp only [lB_eq, lS_eq])
  · exact (stored_whole off2 arg6.view _ _ (k0_pay2 (lS _ harg6 xs) (lB _ harg2 x0) (lB _ harg3 x1))).trans (by simp only [lB_eq, lS_eq])
  · refine (stored_whole off3 arg5.view _ _ (k0_pay3 (View.readAt (Elt F) arg6.view (Rect.unit (s := S1024x1024) (k0_off1 i) S256x1024.size (Facts₀.k0_off1_inb i h2)).toLoadRect (harg6.unread xs)))).trans (congrArg k0_pay3 ?_)
    exact (funext fun y => harg6.readAt_unread xs _ y).trans (ld_rows xs _ (ho h2) _)
  · exact harg6.read_unread _

end Body

/-! ## What the points leave, and the pipeline's proof data -/

/-- The carried sum after point `n`. -/
def acc (c : Dev nD) : (n : ℕ) → n < cfg0.N → Acc
  | 0, h => k0_pay1 (iblk m c 0 ⟨0, h⟩) (iblk m c 1 ⟨0, h⟩)
  | n + 1, h => sumOf (grid0.coords ⟨n + 1, h⟩) (iblk m c 0 ⟨n + 1, h⟩) (iblk m c 1 ⟨n + 1, h⟩) (acc c n (Nat.lt_of_succ_lt h))

/-- The region invariant before position `n`: the carried sum, once a point has stored it. -/
def PhiS (c : Dev nD) : (n : ℕ) → n ≤ cfg0.N → sProp 𝕄
  | 0, _ => Pipeline.ΦA spec0 c
  | n + 1, hn => iprop(own c scM0_0 (acc m c n hn) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (rows (acc m c t.val t.isLt) (256 * (t.val - 7)))
  Φ t := PhiS m c t.val (Nat.le_of_lt_succ t.isLt)
  q _ := fullShare
  owed _ := 0

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay3 (rows (acc m c t.val t.isLt) (256 * (t.val - 7))) := by dsimp only [dats]

/-- Each input's current staging buffer holds its block at every point, fetched there or not. -/
theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d

/-! ## The body obligation, at a generic point -/

theorem leaves0_0 (c : Dev nD) (t : Fin cfg0.N) : (dats m 0 c).leavesExact 0 t = own c (ms0_0 t) (iblk m c 0 t) := by
  unfold Dat.leavesExact; rw [show cfg0.idle 0 (grid0.coords t) = false from rfl, after0_0]
theorem leaves0_1 (c : Dev nD) (t : Fin cfg0.N) : (dats m 0 c).leavesExact 1 t = own c (ms0_1 t) (iblk m c 1 t) := by
  unfold Dat.leavesExact; rw [show cfg0.idle 1 (grid0.coords t) = false from rfl, after0_1]

theorem row_eq : ∀ t : Fin grid0.N, 256 * ((grid0.coords t 1).val - 7) = 256 * (t.val - 7) := by decide +kernel

/-- The result's block as the body leaves it is what the pipeline asks for. -/
theorem leaves0_2 (c : Dev nD) (t : Fin cfg0.N) (d) : own c (ms0_2 t) (outOf (grid0.coords t) ((dats m 0 c).before 2 t d) (acc m c t.val t.isLt)) ⊢ (dats m 0 c).leavesExact 2 t := by
  unfold outOf
  by_cases h : cond0_2 (grid0.coords t)
  · unfold Dat.leavesExact
    rw [live2 t h, after0_2, if_pos h, row_eq]
  · rw [Dat.leavesExact_idle (dats m 0 c) 2 t (idle2 t h).1 (idle2 t h).2, if_neg h]
    iintro H; iexists _; iexact H

/-- Before any point the sum's buffer holds something from which the body makes the point's sum. -/
theorem Phi_open (c : Dev nD) (t : Fin cfg0.N) :
    (dats m 0 c).Φ t.castSucc ⊢ iprop(∃ xs, ⌜sumOf (grid0.coords t) (iblk m c 0 t) (iblk m c 1 t) xs = acc m c t.val t.isLt⌝ ∗ own c scM0_0 xs ∗ (∃ r, prngReg c r)) := by
  obtain ⟨n, hn⟩ := t
  cases n with
  | zero =>
    rw [show (dats m 0 c).Φ (Fin.castSucc ⟨0, hn⟩) = Pipeline.ΦA spec0 c from rfl, PhiA0_eq]
    iintro ⟨⟨%xs, HS⟩, Hg⟩
    iexists xs; isplitr
    · ipureintro; exact if_pos ((cond_iff ⟨0, hn⟩).1.mpr (Nat.zero_mod _))
    isplitl [HS]; · iexact HS
    iexact Hg
  | succ n =>
    rw [show (dats m 0 c).Φ (Fin.castSucc ⟨n + 1, hn⟩) = iprop(own c scM0_0 (acc m c n (Nat.lt_of_succ_lt hn)) ∗ (∃ r, prngReg c r)) from rfl]
    iintro ⟨HS, Hg⟩
    iexists _; isplitr
    · ipureintro; exact rfl
    isplitl [HS]; · iexact HS
    iexact Hg

/-- What the body is called with at point `t`, -/
def bodyPre (c : Dev nD) (t : Fin cfg0.N) : sProp 𝕄 :=
  iprop((dats m 0 c).Φ t.castSucc ∗ (dats m 0 c).owesAt () t.castSucc
    ∗ (∃ d, own c (ms0_0 t) ((dats m 0 c).before 0 t d))
    ∗ (∃ d, own c (ms0_1 t) ((dats m 0 c).before 1 t d))
    ∗ (∃ d, own c (ms0_2 t) ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    show (dats m 0 c).Φ t.succ = iprop(own c scM0_0 (acc m c t.val t.isLt) ∗ (∃ r, prngReg c r)) from rfl, leaves0_0, leaves0_1]
  refine (sep_mono_left (Phi_open m c t)).trans ?_
  iintro ⟨⟨%xs, %hx, HS, Hg⟩, Ho, ⟨%d0, H0⟩, ⟨%d1, H1⟩, ⟨%d2, H2⟩⟩
  iapply (body_run c (grid0.coords t) _ _ _ _ _ _ _ _ (iblk m c 0 t) (iblk m c 1 t) ((dats m 0 c).before 2 t d2) xs Set.univ _)
  rw [hx]
  isplitl [H0]; · iexact H0
  isplitl [H1]; · iexact H1
  isplitl [H2]; · iexact H2
  isplitl [HS]; · iexact HS
  iintro ⟨H0, H1, H2, HS⟩
  isplitl [HS Hg]
  · isplitl [HS]; · iexact HS
    iexact Hg
  isplitl [Ho]; · iexact Ho
  isplitl [H0]; · iexact H0
  isplitl [H1]; · iexact H1
  iapply (leaves0_2 m c t d2)
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = Pipeline.ΦA spec0 c from rfl]

/-- After the last point the invariant gives `ΦA` back: the sum is forgotten. -/
theorem hout (c : Dev nD) : (dats m 0 c).Φ (Fin.last cfg0.N) ⊢ Pipeline.ΦA spec0 c := by
  rw [show (dats m 0 c).Φ (Fin.last cfg0.N) = iprop(own c scM0_0 (acc m c 10 (by decide)) ∗ (∃ r, prngReg c r)) from rfl, PhiA0_eq]
  iintro ⟨HS, Hg⟩
  isplitl [HS]
  · iexists _; iexact HS
  iexact Hg

/-! ## The run and the frame -/

-- `θ_run_frame_track`'s implicit arguments are found by unifying its conclusion with this one, which takes unfolding plain
-- definitions in a metavariable's type
set_option backward.isDefEq.respectTransparency.types false in
/-- THE LAUNCH: the region's arrays at every final state, and every semaphore counter of the machine at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hin := hin m) (hout := hout m)

/-- THE FRAME. -/
theorem frame : θ_run defs (onTc (τ := τ) (main (F := F))) ⟨m, fun _ => 0, ρ⟩ (fun r => (∀ c : Dev nD, Kept m c r.2.mem) ∧ r.2.sem = fun _ => 0) :=
  (θ_run defs _ _).mono (fun _ h => ⟨fun c => ⟨(h.1 c).2 main_arg0 (Pipeline.mem_restRefs_of main_arg0 (by decide) (by decide)),
      (h.1 c).2 main_arg1 (Pipeline.mem_restRefs_of main_arg1 (by decide) (by decide)),
      (h.1 c).2 main_arg2 (Pipeline.mem_restRefs_of main_arg2 (by decide) (by decide))⟩, h.2⟩) (run_main_quiescent m ρ)

end Cert.Kernel4Ideal.Gen

end
-- ==== Proof.WoVal.lean ====
/-
  The gradient call of the output's weights: what each case leaves, read at an index, and the result array.
-/
module

public import proofs.«01_k».proof.Proof.WoFrame
public import Idealize.ShloMosaic.PureOps.Ideal.Laws

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic Idealize.ShloMosaic.ValueIdx Idealize.SL.Sem
open scoped BigOperators

/-! ## The payloads read at an index -/

abbrev dotT := dot_S2048x1024_S2048x1024_S1024x1024_0_0_1_1_n_n

theorem lhs0 (i : S1024x1024.Idx) (q : dotT.contr.Idx) : (dotT.lhsIdx i q 0).val = (q ⟨0, by decide⟩).val := dotT.lhsIdx_val_of_single rfl i q
theorem lhs1 (i : S1024x1024.Idx) (q : dotT.contr.Idx) : (dotT.lhsIdx i q 1).val = (i 0).val := by
  unfold DotDims.lhsIdx
  rw [dif_neg (show ¬(1 : Fin S2048x1024.rank) ∈ dotT.lhsBatch by decide), dif_pos (show (1 : Fin S2048x1024.rank) ∈ dotT.lhsNonContracting by decide)]
  rfl
theorem rhs0 (i : S1024x1024.Idx) (q : dotT.contr.Idx) : (dotT.rhsIdx i q 0).val = (q ⟨0, by decide⟩).val := dotT.rhsIdx_val_of_single rfl i q
theorem rhs1 (i : S1024x1024.Idx) (q : dotT.contr.Idx) : (dotT.rhsIdx i q 1).val = (i 1).val := by
  unfold DotDims.rhsIdx
  rw [dif_neg (show ¬(1 : Fin S2048x1024.rank) ∈ dotT.rhsBatch by decide), dif_pos (show (1 : Fin S2048x1024.rank) ∈ dotT.rhsNonContracting by decide)]
  rfl

theorem drop_apply {e : FTy} (x : FVec Ideal S1x2048x1024 e) (s : Fin 2048) (d : Fin 1024) :
    (shapeCast S2048x1024 x Facts₀.shapeCasts_S1x2048x1024_S2048x1024 : FVec Ideal S2048x1024 e) (ix2 s d) = x (ix3 0 s d) := by
  refine (shapeCast_dropUnit_apply _ _ _ _).trans ?_
  exact congrArg x (funext fun a => match a with | 0 => rfl | 1 => rfl | 2 => rfl)

/-- The product of two blocks over their rows, at column `d` of the first and `e` of the second. -/
def prod (x0 : Vec Ideal S1x2048x1024 .bf16) (x1 : Vec Ideal S1x2048x1024 .f32) (d e : Fin 1024) : EReal := ∑ s : Fin 2048, x0 (ix3 0 s d) * x1 (ix3 0 s e)

theorem mm_apply (x0 : Vec Ideal S1x2048x1024 .bf16) (x1 : Vec Ideal S1x2048x1024 .f32) (d e : Fin 1024) :
    matmul dotT none (shapeCast S2048x1024 x0 Facts₀.shapeCasts_S1x2048x1024_S2048x1024 : FVec Ideal S2048x1024 .bf16)
      (truncf .bf16 (shapeCast S2048x1024 x1 Facts₀.shapeCasts_S1x2048x1024_S2048x1024 : FVec Ideal S2048x1024 .f32) Facts₀.bitsLt_bf16_f32)
      (constant S1024x1024 .f32 0x00000000#32) (ix2 d e) = prod x0 x1 d e := by
  refine (Ideal.matmul_constant_zero_apply dotT none _ _ _).trans ?_
  rw [← Equiv.sum_comp (contrEquiv1 dotT 2048 rfl rfl).symm]
  refine Finset.sum_congr rfl fun s _ => ?_
  have hk := contrEquiv1_symm_val dotT 2048 rfl rfl s
  have el : dotT.lhsIdx (ix2 d e) ((contrEquiv1 dotT 2048 rfl rfl).symm s) = (ix2 s d : S2048x1024.Idx) := funext fun a => Fin.ext (by
    match a with
    | 0 => exact (lhs0 _ _).trans hk
    | 1 => exact lhs1 _ _)
  have er : dotT.rhsIdx (ix2 d e) ((contrEquiv1 dotT 2048 rfl rfl).symm s) = (ix2 s e : S2048x1024.Idx) := funext fun a => Fin.ext (by
    match a with
    | 0 => exact (rhs0 _ _).trans hk
    | 1 => exact rhs1 _ _)
  rw [el, er, drop_apply]
  exact congrArg (fun y : EReal => x0 (ix3 0 s d) * y) (drop_apply (e := .f32) x1 s e)

theorem pay1_apply (x0 : Vec Ideal S1x2048x1024 .bf16) (x1 : Vec Ideal S1x2048x1024 .f32) (d e : Fin 1024) : k0_pay1 x0 x1 (ix2 d e) = prod x0 x1 d e := by
  unfold k0_pay1
  rw [shapeCast_self]
  exact mm_apply x0 x1 d e

theorem pay2_apply (z : Vec Ideal S1024x1024 .f32) (x0 : Vec Ideal S1x2048x1024 .bf16) (x1 : Vec Ideal S1x2048x1024 .f32) (d e : Fin 1024) :
    k0_pay2 z x0 x1 (ix2 d e) = z (ix2 d e) + prod x0 x1 d e := by
  unfold k0_pay2
  rw [shapeCast_self]
  exact congrArg (fun y : EReal => z (ix2 d e) + y) (mm_apply x0 x1 d e)

theorem pay3_apply (z : Vec Ideal S1024x1024 .f32) (r0 : ℕ) (hr : r0 + 256 ≤ 1024) (u : Fin 1) (d : Fin 256) (e : Fin 1024) :
    k0_pay3 (rows z r0) (ix3 u d e) = z (ix2 ⟨r0 + d.val, by omega⟩ e) := by
  unfold k0_pay3
  refine (shapeCast_addUnit_apply _ _ _ _).trans ?_
  exact congrArg z (funext fun a => match a with | 0 => Fin.ext (Nat.mod_eq_of_lt (show r0 + d.val < 1024 by omega)) | 1 => rfl)

/-! ## The blocks as rows of the arrays -/

variable (m : (ℓ : Loc nD τ sig) → Buf (Elt Ideal) ℓ) (c : Dev nD)

/-- The arrays the call reads. -/
abbrev A0 : Vec Ideal S16384x1024 .bf16 := m ((c : Thread nD τ).loc main_arg0)
abbrev A1 : Vec Ideal S16384x1024 .f32 := m ((c : Thread nD τ).loc main_arg1)
/-- The gradients whose rows the call replaces. -/
abbrev A2 : Vec Ideal S4x4224x1024 .bf16 := m ((c : Thread nD τ).loc main_arg2)

theorem lt11 (t : Fin cfg0.N) : t.val < 11 := Nat.lt_of_lt_of_eq t.isLt N_0

theorem ind0 : ∀ t : Fin grid0.N, win0_0.index t 0 = 0 ∧ win0_0.index t 1 = min t.val 7 ∧ win0_0.index t 2 = 0 := by decide +kernel
theorem ind1 : ∀ t : Fin grid0.N, win0_1.index t 0 = 0 ∧ win0_1.index t 1 = min t.val 7 ∧ win0_1.index t 2 = 0 := by decide +kernel
theorem ind2 : ∀ t : Fin grid0.N, win0_2.index t 0 = t.val - 7 ∧ win0_2.index t 1 = 15 ∧ win0_2.index t 2 = 0 := by decide +kernel
theorem flush2 : ∀ t : Fin cfg0.N, (cfg0.win 2).flush t = true ↔ 7 ≤ t.val := by decide +kernel

/-- Row `r` of the `k`-th block of rows. -/
def row (k : Fin 8) (r : Fin 2048) : Fin 16384 := ⟨2048 * k.val + r.val, by omega⟩

theorem V_v0 (s : Fin 16384) (d : Fin 1024) : V m c main_v0 (ix3 0 s d : S1x16384x1024.Idx) = A0 m c (ix2 s d) := by
  have h : V m c main_v0 = broadcastInDim S1x16384x1024 ![1, 2] Facts₀.bcast_S16384x1024_S1x16384x1024_1_2 (A0 m c) := rfl
  rw [h]
  exact broadcastInDim_apply _ Facts₀.bcast_S16384x1024_S1x16384x1024_1_2 (A0 m c) _ (ix2 s d) (fun a => match a with | 0 => rfl | 1 => rfl)

theorem V_v1 (s : Fin 16384) (d : Fin 1024) : V m c main_v1 (ix3 0 s d : S1x16384x1024.Idx) = A1 m c (ix2 s d) := by
  have h : V m c main_v1 = broadcastInDim S1x16384x1024 ![1, 2] Facts₀.bcast_S16384x1024_S1x16384x1024_1_2 (A1 m c) := rfl
  rw [h]
  exact broadcastInDim_apply _ Facts₀.bcast_S16384x1024_S1x16384x1024_1_2 (A1 m c) _ (ix2 s d) (fun a => match a with | 0 => rfl | 1 => rfl)

theorem iblk0_apply (t : Fin cfg0.N) (k : Fin 8) (h : t.val = k.val) (r : Fin 2048) (d : Fin 1024) :
    iblk m c 0 t (ix3 0 r d : S1x2048x1024.Idx) = A0 m c (ix2 (row k r) d) := by
  obtain ⟨i0, i1, i2⟩ := ind0 t
  rw [← V_v0]
  show V m c main_v0 ((win0_0.rect t).emb (ix3 0 r d : S1x2048x1024.Idx)) = _
  refine congrArg (V m c main_v0) (funext fun a => Fin.ext ?_)
  match a with
  | 0 => exact (Pipeline.Window.rect_emb_val win0_0 t (ix3 0 r d : S1x2048x1024.Idx) 0).trans (by rw [i0]; rfl)
  | 1 => exact (Pipeline.Window.rect_emb_val win0_0 t (ix3 0 r d : S1x2048x1024.Idx) 1).trans (by
      rw [i1]; show min t.val 7 * 2048 + r.val = 2048 * k.val + r.val; omega)
  | 2 => exact (Pipeline.Window.rect_emb_val win0_0 t (ix3 0 r d : S1x2048x1024.Idx) 2).trans (by rw [i2]; show 0 * 1024 + d.val = d.val; omega)

theorem iblk1_apply (t : Fin cfg0.N) (k : Fin 8) (h : t.val = k.val) (r : Fin 2048) (d : Fin 1024) :
    iblk m c 1 t (ix3 0 r d : S1x2048x1024.Idx) = A1 m c (ix2 (row k r) d) := by
  obtain ⟨i0, i1, i2⟩ := ind1 t
  rw [← V_v1]
  show V m c main_v1 ((win0_1.rect t).emb (ix3 0 r d : S1x2048x1024.Idx)) = _
  refine congrArg (V m c main_v1) (funext fun a => Fin.ext ?_)
  match a with
  | 0 => exact (Pipeline.Window.rect_emb_val win0_1 t (ix3 0 r d : S1x2048x1024.Idx) 0).trans (by rw [i0]; rfl)
  | 1 => exact (Pipeline.Window.rect_emb_val win0_1 t (ix3 0 r d : S1x2048x1024.Idx) 1).trans (by
      rw [i1]; show min t.val 7 * 2048 + r.val = 2048 * k.val + r.val; omega)
  | 2 => exact (Pipeline.Window.rect_emb_val win0_1 t (ix3 0 r d : S1x2048x1024.Idx) 2).trans (by rw [i2]; show 0 * 1024 + d.val = d.val; omega)

/-! ## The carried sum -/

/-- The product of rows `2048 k …` of the merged branches with those of the cotangents. -/
def part (k : Fin 8) (d e : Fin 1024) : EReal := ∑ r : Fin 2048, A0 m c (ix2 (row k r) d) * A1 m c (ix2 (row k r) e)

theorem prod_eq (t : Fin cfg0.N) (k : Fin 8) (h : t.val = k.val) (d e : Fin 1024) :
    prod (iblk m c 0 t) (iblk m c 1 t) d e = part m c k d e := by
  unfold prod part
  refine Finset.sum_congr rfl fun r _ => ?_
  rw [iblk0_apply m c t k h, iblk1_apply m c t k h]

/-- A point's sum from the one before. -/
theorem acc_pos (t : Fin cfg0.N) (h : 0 < t.val) :
    acc m c t.val t.isLt = sumOf (grid0.coords t) (iblk m c 0 t) (iblk m c 1 t) (acc m c (t.val - 1) (Nat.lt_of_le_of_lt (Nat.sub_le _ _) t.isLt)) := by
  obtain ⟨n, hn⟩ := t
  cases n with
  | zero => exact absurd h (Nat.lt_irrefl 0)
  | succ n => rfl

theorem acc0 (t : Fin cfg0.N) (h : t.val = 0) (d e : Fin 1024) :
    acc m c t.val t.isLt (ix2 d e) = part m c 0 d e := by
  have ea : acc m c t.val t.isLt = k0_pay1 (iblk m c 0 t) (iblk m c 1 t) := by
    by_cases hz : t.val = 0
    · obtain ⟨k, hk⟩ := t
      obtain rfl : k = 0 := hz
      rfl
    · exact (acc_pos m c t (Nat.pos_of_ne_zero hz)).trans (if_pos ((cond_iff t).1.mpr (by omega)))
  rw [ea, pay1_apply]
  exact prod_eq m c t 0 h d e

theorem accS (t : Fin cfg0.N) (k : Fin 8) (h : t.val = k.val) (h0 : 0 < k.val) (d e : Fin 1024) :
    acc m c t.val t.isLt (ix2 d e)
    = acc m c (t.val - 1) (Nat.lt_of_le_of_lt (Nat.sub_le _ _) t.isLt) (ix2 d e) + part m c k d e := by
  rw [acc_pos m c t (by omega), sumOf, if_neg (mt (cond_iff t).1.mp (by omega)), if_pos ((cond_iff t).2.1.mpr (by omega)), pay2_apply, prod_eq m c t k h]

theorem accSum (d e : Fin 1024) : ∀ (k : ℕ) (hk : k < 8) (h : k < cfg0.N),
    acc m c k h (ix2 d e) = ∑ j : Fin (k + 1), part m c ⟨j.val, by omega⟩ d e
  | 0, _, h => (acc0 m c ⟨0, h⟩ rfl d e).trans (Fin.sum_univ_one (fun j : Fin 1 => part m c ⟨j.val, by omega⟩ d e)).symm
  | k + 1, hk, h => by
    rw [Fin.sum_univ_castSucc]
    exact (accS m c ⟨k + 1, h⟩ ⟨k + 1, hk⟩ rfl (Nat.succ_pos k) d e).trans
      (congrArg (fun y : EReal => y + part m c ⟨k + 1, hk⟩ d e) (accSum d e k (by omega) (by omega)))

/-- The gradient of the output's weights at row `d`, column `e`. -/
def dw (d e : Fin 1024) : EReal := ∑ s : Fin 16384, A0 m c (ix2 s d) * A1 m c (ix2 s e)

theorem dw_eq (d e : Fin 1024) : dw m c d e = ∑ k : Fin 8, part m c k d e := by
  unfold dw part
  rw [← Fintype.sum_equiv (finProdFinEquiv (m := 8) (n := 2048))
    (fun p => A0 m c (ix2 (finProdFinEquiv p) d) * A1 m c (ix2 (finProdFinEquiv p) e))
    (fun s : Fin 16384 => A0 m c (ix2 s d) * A1 m c (ix2 s e)) (fun _ => rfl), Fintype.sum_prod_type]
  refine Finset.sum_congr rfl fun k _ => Finset.sum_congr rfl fun r _ => ?_
  have : (finProdFinEquiv (k, r) : Fin 16384) = row k r := Fin.ext (by show r.val + 2048 * k.val = 2048 * k.val + r.val; omega)
  rw [this]

theorem accD (t : Fin cfg0.N) (h : 8 ≤ t.val) (d e : Fin 1024) :
    acc m c t.val t.isLt (ix2 d e) = acc m c (t.val - 1) (Nat.lt_of_le_of_lt (Nat.sub_le _ _) t.isLt) (ix2 d e) := by
  have ht := lt11 t
  rw [acc_pos m c t (by omega), sumOf, if_neg (mt (cond_iff t).1.mp (by omega)), if_neg (mt (cond_iff t).2.1.mp (by omega))]

/-- From the eighth point on, the sum is the gradient. -/
theorem accEnd (d e : Fin 1024) : ∀ (s : ℕ) (hs : s < 4) (h : 7 + s < cfg0.N), acc m c (7 + s) h (ix2 d e) = dw m c d e
  | 0, _, h => (accSum m c d e 7 (by decide) h).trans (dw_eq m c d e).symm
  | s + 1, hs, h =>
    (accD m c ⟨7 + (s + 1), h⟩ (by show 8 ≤ 7 + (s + 1); omega) d e).trans (accEnd d e s (by omega) (by omega))

theorem out2 (t : Fin cfg0.N) (s : Fin 4) (h : t.val = 7 + s.val) (u : Fin 1) (d : Fin 256) (e : Fin 1024) :
    (dats m 0 c).after 2 t (ix3 u d e) = dw m c ⟨256 * s.val + d.val, by omega⟩ e := by
  have hN : cfg0.N = 11 := N_0
  have hs (k : ℕ) (hk : k < cfg0.N) (e1 : t.val = k) (d : Fin 1024) : acc m c t.val t.isLt (ix2 d e) = acc m c k hk (ix2 d e) := by
    subst e1; rfl
  have ha := (hs (7 + s.val) (by omega) h ⟨256 * s.val + d.val, by omega⟩).trans (accEnd m c _ e s.val s.isLt _)
  rw [after0_2, show t.val - 7 = s.val by omega, pay3_apply _ _ (by omega)]
  exact ha

/-! ## The result array -/

/-- The result: the gradient in rows `3840 …`, its row `256 a + r` in shard `a`; the other rows as they were. -/
def G : Vec Ideal S4x4224x1024 .bf16 := fun i =>
  if h : 3840 ≤ (i 1).val ∧ (i 1).val < 4096 then
    dw m c ⟨256 * (i 0).val + ((i 1).val - 3840), by have h0 : (i 0).val < 4 := (i 0).isLt; omega⟩ (i 2)
  else A2 m c i

theorem xs2 : ∀ t : Fin grid0.N, win0_2.xsize (grid0.coords t) 0 = 1 ∧ win0_2.xsize (grid0.coords t) 1 = 256 ∧ win0_2.xsize (grid0.coords t) 2 = 1024 := by decide +kernel

/-- The index `(0, d, e)` of what point `t` writes back. -/
def at2 (t : Fin grid0.N) (d : Fin 256) (e : Fin 1024) : (win0_2.xblock (grid0.coords t)).Idx := fun a => match a with
  | ⟨0, _⟩ => ⟨0, Nat.lt_of_lt_of_eq Nat.one_pos (xs2 t).1.symm⟩
  | ⟨1, _⟩ => ⟨d.val, Nat.lt_of_lt_of_eq d.isLt (xs2 t).2.1.symm⟩
  | ⟨2, _⟩ => ⟨e.val, Nat.lt_of_lt_of_eq e.isLt (xs2 t).2.2.symm⟩
  | ⟨_ + 3, h⟩ => absurd h (Nat.not_lt.2 (Nat.le_add_left _ _))

theorem exists_at2 (t : Fin grid0.N) (y : (win0_2.xblock (grid0.coords t)).Idx) : ∃ (d : Fin 256) (e : Fin 1024), at2 t d e = y := by
  have y0 : (y (0 : Fin 3)).val < 1 := Nat.lt_of_lt_of_eq (y (0 : Fin 3)).isLt (xs2 t).1
  have y1 : (y (1 : Fin 3)).val < 256 := Nat.lt_of_lt_of_eq (y (1 : Fin 3)).isLt (xs2 t).2.1
  have y2 : (y (2 : Fin 3)).val < 1024 := Nat.lt_of_lt_of_eq (y (2 : Fin 3)).isLt (xs2 t).2.2
  have q : ∀ a : Fin 3, (at2 t ⟨(y (1 : Fin 3)).val, y1⟩ ⟨(y (2 : Fin 3)).val, y2⟩ a).val = (y a).val := fun a => match a with
    | ⟨0, _⟩ => (Nat.lt_one_iff.mp y0).symm
    | ⟨1, _⟩ => rfl
    | ⟨2, _⟩ => rfl
    | ⟨_ + 3, h⟩ => absurd h (Nat.not_lt.2 (Nat.le_add_left _ _))
  exact ⟨_, _, funext fun a => Fin.ext (q a)⟩

theorem cut2 (t : Fin grid0.N) (d : Fin 256) (e : Fin 1024) : (win0_2.xinj (grid0.coords t) (at2 t d e)) = (ix3 0 d e : S1x256x1024.Idx) :=
  funext fun a => Fin.ext (match a with | ⟨0, _⟩ => rfl | ⟨1, _⟩ => rfl | ⟨2, _⟩ => rfl)

/-- Where the rows that point `7 + s` writes back lie. -/
theorem emb2 (t : Fin grid0.N) (s : Fin 4) (h : t.val = 7 + s.val) (d : Fin 256) (e : Fin 1024) :
    (win0_2.rect t).emb (at2 t d e) = (ix3 s ⟨3840 + d.val, by omega⟩ e : S4x4224x1024.Idx) := by
  obtain ⟨i0, i1, i2⟩ := ind2 t
  refine funext fun a => Fin.ext ?_
  match a with
  | ⟨0, _⟩ => exact (Pipeline.Window.rect_emb_val win0_2 t (at2 t d e) 0).trans (by
      rw [i0]; show (t.val - 7) * 1 + 0 = s.val; omega)
  | ⟨1, _⟩ => exact (Pipeline.Window.rect_emb_val win0_2 t (at2 t d e) 1).trans (by
      rw [i1]; rfl)
  | ⟨2, _⟩ => exact (Pipeline.Window.rect_emb_val win0_2 t (at2 t d e) 2).trans (by rw [i2]; show 0 * 1024 + e.val = e.val; omega)

theorem G_apply (s : Fin 4) (d : Fin 256) (e : Fin 1024) :
    G m c (ix3 s ⟨3840 + d.val, by omega⟩ e : S4x4224x1024.Idx) = dw m c ⟨256 * s.val + d.val, by omega⟩ e := by
  unfold G
  rw [dif_pos (show 3840 ≤ 3840 + d.val ∧ 3840 + d.val < 4096 by omega)]
  exact congrArg (fun x => dw m c x e) (Fin.ext (by show 256 * s.val + (3840 + d.val - 3840) = 256 * s.val + d.val; omega))

theorem flushed_eq (t : Fin cfg0.N) (hf : (cfg0.win 2).flush t = true) :
    (dats m 0 c).flushed 2 t = ((cfg0.win 2).blk t).view.read (Elt Ideal) (G m c) := by
  have h7 : 7 ≤ t.val := (flush2 t).mp hf
  have ht := lt11 t
  obtain ⟨s, hts⟩ : ∃ (s : Fin 4), t.val = 7 + s.val := ⟨⟨t.val - 7, by omega⟩, by show t.val = 7 + (t.val - 7); omega⟩
  have hv (u : Fin 1) (d : Fin 256) (e : Fin 1024) := out2 m c t s hts u d e
  show (cfg0.win 2).cut (grid0.coords t) ((dats m 0 c).after 2 t) = _
  generalize (dats m 0 c).after 2 t = z at hv ⊢
  funext y
  obtain ⟨d, e, hy⟩ := exists_at2 t y
  subst hy
  show z (win0_2.xinj (grid0.coords t) (at2 t d e)) = G m c ((win0_2.rect t).emb (at2 t d e))
  rw [cut2, hv, emb2 t s hts]
  exact (G_apply m c s d e).symm

theorem V_v2 : V m c main_v2 = A2 m c := rfl

/-- The result array. -/
theorem arr2 : (dats m 0 c).arrAt 2 cfg0.N = G m c := by
  funext i
  obtain ⟨a, r, e, rfl⟩ : ∃ (a : Fin 4) (r : Fin 4224) (e : Fin 1024), (ix3 a r e : S4x4224x1024.Idx) = i := ⟨i 0, i 1, i 2, (eq_ix3 i).symm⟩
  have hN : cfg0.N = 11 := N_0
  by_cases h : 3840 ≤ r.val ∧ r.val < 4096
  · have ht : 7 + a.val < cfg0.N := by omega
    refine (dats m 0 c).arrAt_apply_of_mem 2 (G m c) (flushed_eq m c) cfg0.N ⟨_, ht⟩ _ ht ((flush2 _).mpr (by dsimp only; omega)) ?_
    have e2 : ((cfg0.win 2).blk ⟨_, ht⟩).view.emb (at2 ⟨_, ht⟩ ⟨r.val - 3840, by omega⟩ e) = (ix3 a r e : S4x4224x1024.Idx) := by
      refine (emb2 ⟨_, ht⟩ a rfl _ e).trans ?_
      refine funext fun b => Fin.ext ?_
      match b with
      | 0 => rfl
      | 1 => show 3840 + (r.val - 3840) = r.val; omega
      | 2 => rfl
    exact Eq.subst (motive := fun i => i ∈ ((cfg0.win 2).blk ⟨_, ht⟩).view.set) e2 (((cfg0.win 2).blk ⟨_, ht⟩).view.emb_mem_set _)
  · refine ((dats m 0 c).arrAt_apply_of_forall_not_mem 2 cfg0.N _ fun t _ hf hm => h ?_).trans ?_
    · have h7 : 7 ≤ t.val := (flush2 t).mp hf
      have ht := lt11 t
      obtain ⟨y, hy⟩ := View.exists_emb_of_mem_set _ hm
      obtain ⟨d, e', rfl⟩ := exists_at2 t y
      have hy := (emb2 t ⟨t.val - 7, by omega⟩ (by show t.val = 7 + (t.val - 7); omega) d e').symm.trans hy
      have h1 : 3840 + d.val = r.val := congrArg (fun i : S4x4224x1024.Idx => (i 1).val) hy
      omega
    · unfold G
      rw [dif_neg h]
      exact congrFun (V_v2 m c) _

/-- The run's result, the arguments unchanged. -/
theorem run_results (ρ : Dev nD → PrngReg) : θ_run defs (onTc (τ := τ) (main (F := Ideal))) ⟨m, fun _ => 0, ρ⟩ fun r => ∀ c : Dev nD,
      r.2.mem ((c.tc : Thread nD τ).loc main_v2) = G m c ∧ Kept m c r.2.mem :=
  (θ_run defs _ _).mono (fun _ h c => ⟨((h.1.1 c).1 2).trans (arr2 m c), h.2.1 c⟩) (θ_run_and (run_main_quiescent m ρ) (frame m ρ))

end Cert.Kernel4Ideal.Hand

end
-- ==== Proof.WoKFacts.lean ====
/-
  The gradient call of the output's weights: the facts the call's program states.
-/
module

public import proofs.«01_k».proof.Kernel4
public import proofs.«01_k».proof.Proof.WoFacts
public import Idealize.ShloMosaic.Lib.Affine
public import Idealize.ShloMosaic.Lib.Decide
public import Idealize.ShloMosaic.Lib.Exec

@[expose] public section

-- a fact under nested conditions takes a `Decidable` instance one implication deeper per condition
set_option synthInstance.maxSize 4096

namespace Cert.Kernel4.Gen

open Idealize.ShloMosaic Idealize.SL.Sem
/-! ## The facts over the vocabulary (`Facts₀`) -/

/-- The program's facts over its vocabulary, proved. -/
instance facts₀ : Cert.Kernel4.Facts₀ := Cert.Kernel4Ideal.Gen.facts₀.casesOn (motive := fun _ => Cert.Kernel4.Facts₀) @Cert.Kernel4.Facts₀.mk

/-! ## The facts over the windows (`Facts`) -/

/-- Every fact the program states, proved. -/
instance facts : Cert.Kernel4.Facts where

end Cert.Kernel4.Gen
-- ==== Proof.WoRefRead.lean ====
/-
  The gradient call of the output's weights: the reference's facts, its run, and its values read at an index.
-/
module

public import proofs.«01_k».proof.Reference4Ideal
public import Idealize.ShloMosaic.Lib.Affine
public import Idealize.ShloMosaic.Lib.Decide
public import Idealize.ShloMosaic.Lib.Exec
public import Idealize.ShloMosaic.Lib.StableHlo.Run
public import Idealize.ShloMosaic.Lib.Pipeline.Value
public import Idealize.ShloMosaic.Lib.ValueIdx
public import Idealize.ShloMosaic.PureOps.Ideal.Laws

@[expose] public section

set_option synthInstance.maxSize 4096

noncomputable section

namespace Cert.Reference4Ideal.Gen

open Idealize.ShloMosaic Idealize.SL.Sem
/-! ## The facts over the vocabulary (`Facts₀`) -/

/-- The program's facts over its vocabulary, proved. -/
instance facts₀ : Cert.Reference4Ideal.Facts₀ := by constructor <;> decide

/-! ## The facts over the windows (`Facts`) -/

/-- Every fact the program states, proved. -/
instance facts : Cert.Reference4Ideal.Facts where

end Cert.Reference4Ideal.Gen

namespace Cert.Reference4Ideal.Value

open Cert.Reference4Ideal Cert.Reference4Ideal.Gen Idealize.ShloMosaic Idealize.ShloMosaic.TcCoe Idealize.SL.Sem Idealize.ShloMosaic.StableHlo

variable {F : FTy → Type} [FloatOps F]

/-- @main's 11 operations, in order. -/
abbrev ops : List (HloOp τ sig (Elt F)) :=
  [ nullary main_cst (constant S_ .f32 0x00000000#32),
    unary main_cst main_v0 (broadcastInDim S1024x1024 ![] Facts₀.bcast_S_S1024x1024 : (⟨S_, .f32⟩ : BufTy).Contents (Elt F) → (⟨S1024x1024, .f32⟩ : BufTy).Contents (Elt F)),
    unary main_arg0 main_v1 ((extf .f32 · Facts₀.bitsLt_bf16_f32) : (⟨S16384x1024, .bf16⟩ : BufTy).Contents (Elt F) → (⟨S16384x1024, .f32⟩ : BufTy).Contents (Elt F)),
    binary main_v1 main_v0 main_v2 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    binary main_arg1 main_v1 main_v3 ((fun l r => Host.dotGeneral dot_S16384x1024_S16384x1024_S1024x1024_0_0_1_1_n_n none l r) : (⟨S16384x1024, .f32⟩ : BufTy).Contents (Elt F) → (⟨S16384x1024, .f32⟩ : BufTy).Contents (Elt F) → (⟨S1024x1024, .f32⟩ : BufTy).Contents (Elt F)),
    unary main_v3 main_v4 ((transpose S1024x1024 [1, 0] · Facts₀.transposes_S1024x1024_S1024x1024_1_0) : (⟨S1024x1024, .f32⟩ : BufTy).Contents (Elt F) → (⟨S1024x1024, .f32⟩ : BufTy).Contents (Elt F)),
    reshape main_v4 main_v5 (rfl : (.f32 : EltTy) = .f32) Facts₀.shapeCasts_S1024x1024_S4x256x1024,
    unary main_v5 main_v6 ((truncf .bf16 · Facts₀.bitsLt_bf16_f32) : (⟨S4x256x1024, .f32⟩ : BufTy).Contents (Elt F) → (⟨S4x256x1024, .bf16⟩ : BufTy).Contents (Elt F)),
    unary main_arg2 main_v7 ((extractStridedSlice S4x3840x1024 ![0, 0, 0] · Facts₀.slices_S4x4224x1024_S4x3840x1024_0_0_0) : (⟨S4x4224x1024, .bf16⟩ : BufTy).Contents (Elt F) → (⟨S4x3840x1024, .bf16⟩ : BufTy).Contents (Elt F)),
    unary main_arg2 main_v8 ((extractStridedSlice S4x128x1024 ![0, 4096, 0] · Facts₀.slices_S4x4224x1024_S4x128x1024_0_4096_0) : (⟨S4x4224x1024, .bf16⟩ : BufTy).Contents (Elt F) → (⟨S4x128x1024, .bf16⟩ : BufTy).Contents (Elt F)),
    nary ![main_v7, main_v6, main_v8] main_v9 (fun u => (concatenate S4x4224x1024 1 [⟨S4x3840x1024, (u 0 : (⟨S4x3840x1024, .bf16⟩ : BufTy).Contents (Elt F))⟩, ⟨S4x256x1024, (u 1 : (⟨S4x256x1024, .bf16⟩ : BufTy).Contents (Elt F))⟩, ⟨S4x128x1024, (u 2 : (⟨S4x128x1024, .bf16⟩ : BufTy).Contents (Elt F))⟩] Facts₀.concatenates_S4x3840x1024_S4x256x1024_S4x128x1024_S4x4224x1024_d1 : (⟨S4x4224x1024, .bf16⟩ : BufTy).Contents (Elt F))) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., binary_bufs_sub .., unary_bufs_sub .., reshape_bufs_sub .., unary_bufs_sub .., unary_bufs_sub .., unary_bufs_sub .., nary_bufs_sub ..⟩

set_option maxHeartbeats 1100000 in
/-- On every device, for any float values, from any memory with zero counters. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = (concatenate S4x4224x1024 1 [⟨S4x3840x1024, ((extractStridedSlice S4x3840x1024 ![0, 0, 0] (m ((c.tc : Thread nD τ).loc main_arg2)) Facts₀.slices_S4x4224x1024_S4x3840x1024_0_0_0) : (⟨S4x3840x1024, .bf16⟩ : BufTy).Contents (Elt F))⟩, ⟨S4x256x1024, ((truncf .bf16 (shapeCast _ (transpose S1024x1024 [1, 0] (Host.dotGeneral dot_S16384x1024_S16384x1024_S1024x1024_0_0_1_1_n_n none (m ((c.tc : Thread nD τ).loc main_arg1)) (extf .f32 (m ((c.tc : Thread nD τ).loc main_arg0)) Facts₀.bitsLt_bf16_f32)) Facts₀.transposes_S1024x1024_S1024x1024_1_0) Facts₀.shapeCasts_S1024x1024_S4x256x1024) Facts₀.bitsLt_bf16_f32) : (⟨S4x256x1024, .bf16⟩ : BufTy).Contents (Elt F))⟩, ⟨S4x128x1024, ((extractStridedSlice S4x128x1024 ![0, 4096, 0] (m ((c.tc : Thread nD τ).loc main_arg2)) Facts₀.slices_S4x4224x1024_S4x128x1024_0_4096_0) : (⟨S4x128x1024, .bf16⟩ : BufTy).Contents (Elt F))⟩] Facts₀.concatenates_S4x3840x1024_S4x256x1024_S4x128x1024_S4x4224x1024_d1 : (⟨S4x4224x1024, .bf16⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v9).trans (by after_results <;> rfl),
      (h c main_arg0).trans (by after_results <;> rfl),
      (h c main_arg1).trans (by after_results <;> rfl),
      (h c main_arg2).trans (by after_results <;> rfl)⟩)
    (run_seq scopedRefs_eq scopedSems_eq defs main (fun _ => ops) main_eq (fun _ => ops_sub) m ρ)

end Cert.Reference4Ideal.Value

namespace Cert.Reference4Ideal.Read

open Cert.Reference4Ideal Cert.Reference4Ideal.Gen Idealize.ShloMosaic Idealize.ShloMosaic.TcCoe Idealize.SL.Sem Idealize.ShloMosaic.StableHlo

variable {F : FTy → Type} [FloatOps F]

-- %1 = stablehlo.convert %arg0 : (tensor<16384x1024xbf16>) -> tensor<16384x1024xf32>
def val_main_v1 (x0 : (⟨S16384x1024, .bf16⟩ : BufTy).Contents (Elt F)) : (⟨S16384x1024, .f32⟩ : BufTy).Contents (Elt F) :=
  extf .f32 (x0) Facts₀.bitsLt_bf16_f32
-- %3 = stablehlo.dot_general %arg1, %1, contracting_dims = [0] x [0], precision = [DEFAULT, DEFAULT] : (tensor<16384x1024xf32>, tensor<16384x1024xf32>) -> tensor<1024x1024xf32>
def val_main_v3 (x0 : (⟨S16384x1024, .bf16⟩ : BufTy).Contents (Elt F)) (x1 : (⟨S16384x1024, .f32⟩ : BufTy).Contents (Elt F)) : (⟨S1024x1024, .f32⟩ : BufTy).Contents (Elt F) :=
  Host.dotGeneral dot_S16384x1024_S16384x1024_S1024x1024_0_0_1_1_n_n none (x1) (val_main_v1 (F := F) x0)
theorem lhs_main_v3_0 (i : S1024x1024.Idx) (q : dot_S16384x1024_S16384x1024_S1024x1024_0_0_1_1_n_n.contr.Idx) :
    (dot_S16384x1024_S16384x1024_S1024x1024_0_0_1_1_n_n.lhsIdx i q 0).val = (q ⟨0, by decide⟩).val :=
  dot_S16384x1024_S16384x1024_S1024x1024_0_0_1_1_n_n.lhsIdx_val_of_single rfl i q
theorem lhs_main_v3_1 (i : S1024x1024.Idx) (q : dot_S16384x1024_S16384x1024_S1024x1024_0_0_1_1_n_n.contr.Idx) :
    (dot_S16384x1024_S16384x1024_S1024x1024_0_0_1_1_n_n.lhsIdx i q 1).val = (i 0).val := by
  unfold DotDims.lhsIdx
  rw [dif_neg (show ¬(1 : Fin S16384x1024.rank) ∈ dot_S16384x1024_S16384x1024_S1024x1024_0_0_1_1_n_n.lhsBatch by decide), dif_pos (show (1 : Fin S16384x1024.rank) ∈ dot_S16384x1024_S16384x1024_S1024x1024_0_0_1_1_n_n.lhsNonContracting by decide)]
  rfl
theorem rhs_main_v3_0 (i : S1024x1024.Idx) (q : dot_S16384x1024_S16384x1024_S1024x1024_0_0_1_1_n_n.contr.Idx) :
    (dot_S16384x1024_S16384x1024_S1024x1024_0_0_1_1_n_n.rhsIdx i q 0).val = (q ⟨0, by decide⟩).val :=
  dot_S16384x1024_S16384x1024_S1024x1024_0_0_1_1_n_n.rhsIdx_val_of_single rfl i q
theorem rhs_main_v3_1 (i : S1024x1024.Idx) (q : dot_S16384x1024_S16384x1024_S1024x1024_0_0_1_1_n_n.contr.Idx) :
    (dot_S16384x1024_S16384x1024_S1024x1024_0_0_1_1_n_n.rhsIdx i q 1).val = (i 1).val := by
  unfold DotDims.rhsIdx
  rw [dif_neg (show ¬(1 : Fin S16384x1024.rank) ∈ dot_S16384x1024_S16384x1024_S1024x1024_0_0_1_1_n_n.rhsBatch by decide), dif_pos (show (1 : Fin S16384x1024.rank) ∈ dot_S16384x1024_S16384x1024_S1024x1024_0_0_1_1_n_n.rhsNonContracting by decide)]
  rfl
abbrev lidx_main_v3 (i : S1024x1024.Idx) (k : Fin 16384) : S16384x1024.Idx := fun a => match a with
  | ⟨0, _⟩ => ⟨k.val, k.isLt⟩
  | ⟨1, _⟩ => ⟨(i 0).val, (i 0).isLt⟩
abbrev ridx_main_v3 (i : S1024x1024.Idx) (k : Fin 16384) : S16384x1024.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v3_apply (x0 : (⟨S16384x1024, .bf16⟩ : BufTy).Contents (Elt Ideal)) (x1 : (⟨S16384x1024, .f32⟩ : BufTy).Contents (Elt Ideal)) (i : S1024x1024.Idx) :
    val_main_v3 (F := Ideal) x0 x1 i = ∑ k : Fin 16384, x1 (lidx_main_v3 i k) * (val_main_v1 (F := Ideal) x0) (ridx_main_v3 i k) := by
  unfold val_main_v3
  generalize val_main_v1 (F := Ideal) x0 = y0
  simp only [Host.dotGeneral]
  rw [Ideal.dotGeneral_apply, ← Equiv.sum_comp (ValueIdx.contrEquiv1 dot_S16384x1024_S16384x1024_S1024x1024_0_0_1_1_n_n 16384 rfl rfl).symm]
  refine Finset.sum_congr rfl fun k _ => ?_
  have hk := ValueIdx.contrEquiv1_symm_val dot_S16384x1024_S16384x1024_S1024x1024_0_0_1_1_n_n 16384 rfl rfl k
  have el : dot_S16384x1024_S16384x1024_S1024x1024_0_0_1_1_n_n.lhsIdx i ((ValueIdx.contrEquiv1 dot_S16384x1024_S16384x1024_S1024x1024_0_0_1_1_n_n 16384 rfl rfl).symm k) = lidx_main_v3 i k := funext fun a => Fin.ext (by
    match a with
    | ⟨0, _⟩ => exact (lhs_main_v3_0 _ _).trans hk
    | ⟨1, _⟩ => exact lhs_main_v3_1 _ _)
  have er : dot_S16384x1024_S16384x1024_S1024x1024_0_0_1_1_n_n.rhsIdx i ((ValueIdx.contrEquiv1 dot_S16384x1024_S16384x1024_S1024x1024_0_0_1_1_n_n 16384 rfl rfl).symm k) = ridx_main_v3 i k := funext fun a => Fin.ext (by
    match a with
    | ⟨0, _⟩ => exact (rhs_main_v3_0 _ _).trans hk
    | ⟨1, _⟩ => exact rhs_main_v3_1 _ _)
  rw [el, er]

-- %4 = stablehlo.transpose %3, dims = [1, 0] : (tensor<1024x1024xf32>) -> tensor<1024x1024xf32>
def val_main_v4 (x0 : (⟨S16384x1024, .bf16⟩ : BufTy).Contents (Elt F)) (x1 : (⟨S16384x1024, .f32⟩ : BufTy).Contents (Elt F)) : (⟨S1024x1024, .f32⟩ : BufTy).Contents (Elt F) :=
  transpose S1024x1024 [1, 0] (val_main_v3 (F := F) x0 x1) Facts₀.transposes_S1024x1024_S1024x1024_1_0
abbrev idx_main_v4 (i : S1024x1024.Idx) : S1024x1024.Idx := fun a => match a with
  | ⟨0, _⟩ => ⟨(i 1).val, (i 1).isLt⟩
  | ⟨1, _⟩ => ⟨(i 0).val, (i 0).isLt⟩
theorem val_main_v4_apply (x0 : (⟨S16384x1024, .bf16⟩ : BufTy).Contents (Elt F)) (x1 : (⟨S16384x1024, .f32⟩ : BufTy).Contents (Elt F)) (i : S1024x1024.Idx) :
    val_main_v4 (F := F) x0 x1 i = val_main_v3 (F := F) x0 x1 (idx_main_v4 i) := by
  unfold val_main_v4
  generalize val_main_v3 (F := F) x0 x1 = y
  exact transpose_apply [1, 0] y Facts₀.transposes_S1024x1024_S1024x1024_1_0 i (idx_main_v4 i) (fun b => match b with
    | ⟨0, _⟩ => rfl
    | ⟨1, _⟩ => rfl)

-- %5 = stablehlo.reshape %4 : (tensor<1024x1024xf32>) -> tensor<4x256x1024xf32>
def val_main_v5 (x0 : (⟨S16384x1024, .bf16⟩ : BufTy).Contents (Elt F)) (x1 : (⟨S16384x1024, .f32⟩ : BufTy).Contents (Elt F)) : (⟨S4x256x1024, .f32⟩ : BufTy).Contents (Elt F) :=
  shapeCast _ (val_main_v4 (F := F) x0 x1) Facts₀.shapeCasts_S1024x1024_S4x256x1024
set_option backward.proofsInPublic true in
abbrev idx_main_v5 (i : S4x256x1024.Idx) : S1024x1024.Idx := fun a => match a with
  | ⟨0, _⟩ => ⟨(((i 0).val * 256 + (i 1).val) * 1024 + (i 2).val) / 1024, by have h0 : (i 0).val < 4 := (i 0).isLt; have h1 : (i 1).val < 256 := (i 1).isLt; have h2 : (i 2).val < 1024 := (i 2).isLt; show (((i 0).val * 256 + (i 1).val) * 1024 + (i 2).val) / 1024 < 1024; omega⟩
  | ⟨1, _⟩ => ⟨(((i 0).val * 256 + (i 1).val) * 1024 + (i 2).val) % 1024, by have h0 : (i 0).val < 4 := (i 0).isLt; have h1 : (i 1).val < 256 := (i 1).isLt; have h2 : (i 2).val < 1024 := (i 2).isLt; show (((i 0).val * 256 + (i 1).val) * 1024 + (i 2).val) % 1024 < 1024; omega⟩
theorem val_main_v5_apply (x0 : (⟨S16384x1024, .bf16⟩ : BufTy).Contents (Elt F)) (x1 : (⟨S16384x1024, .f32⟩ : BufTy).Contents (Elt F)) (i : S4x256x1024.Idx) :
    val_main_v5 (F := F) x0 x1 i = val_main_v4 (F := F) x0 x1 (idx_main_v5 i) := by
  unfold val_main_v5
  generalize val_main_v4 (F := F) x0 x1 = y
  exact shapeCast_apply y Facts₀.shapeCasts_S1024x1024_S4x256x1024 i (idx_main_v5 i)
    (by rewrite [Shape.rowMajor_val_two, Shape.rowMajor_val_three]; have h0 : (i 0).val < 4 := (i 0).isLt; have h1 : (i 1).val < 256 := (i 1).isLt; have h2 : (i 2).val < 1024 := (i 2).isLt; show (((i 0).val * 256 + (i 1).val) * 1024 + (i 2).val) / 1024 * 1024 + (((i 0).val * 256 + (i 1).val) * 1024 + (i 2).val) % 1024 = ((i 0).val * 256 + (i 1).val) * 1024 + (i 2).val; omega)

-- %6 = stablehlo.convert %5 : (tensor<4x256x1024xf32>) -> tensor<4x256x1024xbf16>
def val_main_v6 (x0 : (⟨S16384x1024, .bf16⟩ : BufTy).Contents (Elt F)) (x1 : (⟨S16384x1024, .f32⟩ : BufTy).Contents (Elt F)) : (⟨S4x256x1024, .bf16⟩ : BufTy).Contents (Elt F) :=
  truncf .bf16 (val_main_v5 (F := F) x0 x1) Facts₀.bitsLt_bf16_f32
-- %7 = stablehlo.slice %arg2 [0:4, 0:3840, 0:1024] : (tensor<4x4224x1024xbf16>) -> tensor<4x3840x1024xbf16>
def val_main_v7 (x2 : (⟨S4x4224x1024, .bf16⟩ : BufTy).Contents (Elt F)) : (⟨S4x3840x1024, .bf16⟩ : BufTy).Contents (Elt F) :=
  extractStridedSlice S4x3840x1024 ![0, 0, 0] (x2) Facts₀.slices_S4x4224x1024_S4x3840x1024_0_0_0
set_option backward.proofsInPublic true in
abbrev idx_main_v7 (i : S4x3840x1024.Idx) : S4x4224x1024.Idx := fun a => match a with
  | ⟨0, _⟩ => ⟨(i 0).val, (i 0).isLt⟩
  | ⟨1, _⟩ => ⟨(i 1).val, by have h1 : (i 1).val < 3840 := (i 1).isLt; show (i 1).val < 4224; omega⟩
  | ⟨2, _⟩ => ⟨(i 2).val, (i 2).isLt⟩
theorem val_main_v7_apply (x2 : (⟨S4x4224x1024, .bf16⟩ : BufTy).Contents (Elt F)) (i : S4x3840x1024.Idx) :
    val_main_v7 (F := F) x2 i = x2 (idx_main_v7 i) := by
  unfold val_main_v7
  exact extractStridedSlice_apply ![0, 0, 0] x2 Facts₀.slices_S4x4224x1024_S4x3840x1024_0_0_0 i (idx_main_v7 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %8 = stablehlo.slice %arg2 [0:4, 4096:4224, 0:1024] : (tensor<4x4224x1024xbf16>) -> tensor<4x128x1024xbf16>
def val_main_v8 (x2 : (⟨S4x4224x1024, .bf16⟩ : BufTy).Contents (Elt F)) : (⟨S4x128x1024, .bf16⟩ : BufTy).Contents (Elt F) :=
  extractStridedSlice S4x128x1024 ![0, 4096, 0] (x2) Facts₀.slices_S4x4224x1024_S4x128x1024_0_4096_0
set_option backward.proofsInPublic true in
abbrev idx_main_v8 (i : S4x128x1024.Idx) : S4x4224x1024.Idx := fun a => match a with
  | ⟨0, _⟩ => ⟨(i 0).val, (i 0).isLt⟩
  | ⟨1, _⟩ => ⟨4096 + (i 1).val, by have h1 : (i 1).val < 128 := (i 1).isLt; show 4096 + (i 1).val < 4224; omega⟩
  | ⟨2, _⟩ => ⟨(i 2).val, (i 2).isLt⟩
theorem val_main_v8_apply (x2 : (⟨S4x4224x1024, .bf16⟩ : BufTy).Contents (Elt F)) (i : S4x128x1024.Idx) :
    val_main_v8 (F := F) x2 i = x2 (idx_main_v8 i) := by
  unfold val_main_v8
  exact extractStridedSlice_apply ![0, 4096, 0] x2 Facts₀.slices_S4x4224x1024_S4x128x1024_0_4096_0 i (idx_main_v8 i) (fun a => match a with
    | ⟨0, _⟩ => by show (i 0).val = 0 + (i 0).val; omega
    | ⟨1, _⟩ => by show 4096 + (i 1).val = 4096 + (i 1).val; omega
    | ⟨2, _⟩ => by show (i 2).val = 0 + (i 2).val; omega)

-- %9 = stablehlo.concatenate %7, %6, %8, dim = 1 : (tensor<4x3840x1024xbf16>, tensor<4x256x1024xbf16>, tensor<4x128x1024xbf16>) -> tensor<4x4224x1024xbf16>
def val_main_v9 (x0 : (⟨S16384x1024, .bf16⟩ : BufTy).Contents (Elt F)) (x1 : (⟨S16384x1024, .f32⟩ : BufTy).Contents (Elt F)) (x2 : (⟨S4x4224x1024, .bf16⟩ : BufTy).Contents (Elt F)) : (⟨S4x4224x1024, .bf16⟩ : BufTy).Contents (Elt F) :=
  (concatenate S4x4224x1024 1 [⟨S4x3840x1024, ((val_main_v7 (F := F) x2) : (⟨S4x3840x1024, .bf16⟩ : BufTy).Contents (Elt F))⟩, ⟨S4x256x1024, ((val_main_v6 (F := F) x0 x1) : (⟨S4x256x1024, .bf16⟩ : BufTy).Contents (Elt F))⟩, ⟨S4x128x1024, ((val_main_v8 (F := F) x2) : (⟨S4x128x1024, .bf16⟩ : BufTy).Contents (Elt F))⟩] Facts₀.concatenates_S4x3840x1024_S4x256x1024_S4x128x1024_S4x4224x1024_d1 : (⟨S4x4224x1024, .bf16⟩ : BufTy).Contents (Elt F))

/-- The term the Run module states for `main_v9` is the stage. -/
theorem val_main_v9_eq (x0 : (⟨S16384x1024, .bf16⟩ : BufTy).Contents (Elt F)) (x1 : (⟨S16384x1024, .f32⟩ : BufTy).Contents (Elt F)) (x2 : (⟨S4x4224x1024, .bf16⟩ : BufTy).Contents (Elt F)) :
    (concatenate S4x4224x1024 1 [⟨S4x3840x1024, ((extractStridedSlice S4x3840x1024 ![0, 0, 0] (x2) Facts₀.slices_S4x4224x1024_S4x3840x1024_0_0_0) : (⟨S4x3840x1024, .bf16⟩ : BufTy).Contents (Elt F))⟩, ⟨S4x256x1024, ((truncf .bf16 (shapeCast _ (transpose S1024x1024 [1, 0] (Host.dotGeneral dot_S16384x1024_S16384x1024_S1024x1024_0_0_1_1_n_n none (x1) (extf .f32 (x0) Facts₀.bitsLt_bf16_f32)) Facts₀.transposes_S1024x1024_S1024x1024_1_0) Facts₀.shapeCasts_S1024x1024_S4x256x1024) Facts₀.bitsLt_bf16_f32) : (⟨S4x256x1024, .bf16⟩ : BufTy).Contents (Elt F))⟩, ⟨S4x128x1024, ((extractStridedSlice S4x128x1024 ![0, 4096, 0] (x2) Facts₀.slices_S4x4224x1024_S4x128x1024_0_4096_0) : (⟨S4x128x1024, .bf16⟩ : BufTy).Contents (Elt F))⟩] Facts₀.concatenates_S4x3840x1024_S4x256x1024_S4x128x1024_S4x4224x1024_d1 : (⟨S4x4224x1024, .bf16⟩ : BufTy).Contents (Elt F))
      = val_main_v9 (F := F) x0 x1 x2 := rfl

end Cert.Reference4Ideal.Read

end
-- ==== Proof.WoClaim.lean ====
/-
  The gradient call of the output's weights computes the reference: the frames and the value claim.
-/
module

public import proofs.«01_k».proof.Defs
public import proofs.«01_k».proof.Proof.WoVal
public import proofs.«01_k».proof.Proof.WoKFacts
public import proofs.«01_k».proof.Proof.WoRefRead
public import Idealize.ShloMosaic.Lib.KernelVsHost
public import Idealize.ShloMosaic.Lib.Quiescent

@[expose] public section

set_option maxRecDepth 16384

noncomputable section

namespace Cert.Hand4

open Idealize.ShloMosaic Idealize.ShloMosaic.TcCoe Idealize.ShloMosaic.ValueIdx Idealize.SL.Sem
open Cert.Kernel4Ideal.Hand Cert.Reference4Ideal.Read
open scoped BigOperators

/-! ## The reference's function -/

section Values
open Cert.Kernel4Ideal

variable (m : (ℓ : Loc nD τ sig) → Buf (Elt Ideal) ℓ) (c : Dev nD)

theorem v3_eq (e d : Fin 1024) :
    val_main_v3 (F := Ideal) (A0 m c) (A1 m c) (ix2 e d : Cert.Reference4Ideal.S1024x1024.Idx) = dw m c d e := by
  refine (val_main_v3_apply (A0 m c) (A1 m c) _).trans ?_
  unfold dw
  refine Finset.sum_congr rfl fun k _ => ?_
  rw [mul_comm]
  have h0 : (ridx_main_v3 (ix2 e d) k) = (ix2 k d : Cert.Reference4Ideal.S16384x1024.Idx) := funext fun a => Fin.ext (match a with | 0 => rfl | 1 => rfl)
  have h1 : (lidx_main_v3 (ix2 e d) k) = (ix2 k e : Cert.Reference4Ideal.S16384x1024.Idx) := funext fun a => Fin.ext (match a with | 0 => rfl | 1 => rfl)
  rw [h0, h1]
  rfl

theorem v6_eq (a : Fin 4) (r : Fin 256) (e : Fin 1024) :
    val_main_v6 (F := Ideal) (A0 m c) (A1 m c) (ix3 a r e : Cert.Reference4Ideal.S4x256x1024.Idx) = dw m c ⟨256 * a.val + r.val, by omega⟩ e := by
  rw [← v3_eq m c]
  refine (val_main_v5_apply (F := Ideal) (A0 m c) (A1 m c) (ix3 a r e)).trans ((val_main_v4_apply (F := Ideal) (A0 m c) (A1 m c) _).trans ?_)
  refine congrArg (val_main_v3 (F := Ideal) (A0 m c) (A1 m c)) (funext fun b => Fin.ext ?_)
  match b with
  | 0 => show ((a.val * 256 + r.val) * 1024 + e.val) % 1024 = e.val; omega
  | 1 => show ((a.val * 256 + r.val) * 1024 + e.val) / 1024 = 256 * a.val + r.val; omega

theorem v9_eq : val_main_v9 (F := Ideal) (A0 m c) (A1 m c) (A2 m c) = G m c := by
  funext i
  obtain ⟨a, r, e, rfl⟩ : ∃ (a : Fin 4) (r : Fin 4224) (e : Fin 1024), (ix3 a r e : Cert.Reference4Ideal.S4x4224x1024.Idx) = i := ⟨i 0, i 1, i 2, (eq_ix3 i).symm⟩
  have h6 := v6_eq m c
  have h7 := val_main_v7_apply (F := Ideal) (A2 m c)
  have h8 := val_main_v8_apply (F := Ideal) (A2 m c)
  unfold val_main_v9 G
  generalize val_main_v6 (F := Ideal) (A0 m c) (A1 m c) = y at h6 ⊢
  generalize val_main_v7 (F := Ideal) (A2 m c) = x at h7 ⊢
  generalize val_main_v8 (F := Ideal) (A2 m c) = z at h8 ⊢
  by_cases h : 3840 ≤ r.val ∧ r.val < 4096
  · rw [dif_pos (show 3840 ≤ ((ix3 a r e : Cert.Kernel4Ideal.S4x4224x1024.Idx) 1).val ∧ ((ix3 a r e : Cert.Kernel4Ideal.S4x4224x1024.Idx) 1).val < 4096 from h)]
    refine (concatenate_apply_piece (t := Cert.Reference4Ideal.S4x4224x1024) 1 [⟨Cert.Reference4Ideal.S4x3840x1024, x⟩, ⟨Cert.Reference4Ideal.S4x256x1024, y⟩, ⟨Cert.Reference4Ideal.S4x128x1024, z⟩] _ _
      1 (show 1 < 3 by decide) Cert.Reference4Ideal.S4x256x1024 y rfl rfl 3840 rfl
      (ix3 a ⟨r.val - 3840, by omega⟩ e) (fun b hb => ?_) ?_).trans ((h6 a ⟨r.val - 3840, by omega⟩ e).trans ?_)
    · match b, hb with
      | 0, _ => rfl
      | 1, hb => exact absurd rfl hb
      | 2, _ => rfl
    · show 3840 + (r.val - 3840) = r.val; omega
    · rfl
  · rw [dif_neg (show ¬(3840 ≤ ((ix3 a r e : Cert.Kernel4Ideal.S4x4224x1024.Idx) 1).val ∧ ((ix3 a r e : Cert.Kernel4Ideal.S4x4224x1024.Idx) 1).val < 4096) from h)]
    by_cases hl : r.val < 3840
    · refine (concatenate_apply_piece (t := Cert.Reference4Ideal.S4x4224x1024) 1 [⟨Cert.Reference4Ideal.S4x3840x1024, x⟩, ⟨Cert.Reference4Ideal.S4x256x1024, y⟩, ⟨Cert.Reference4Ideal.S4x128x1024, z⟩] _ _
      0 (show 0 < 3 by decide) Cert.Reference4Ideal.S4x3840x1024 x rfl rfl 0 rfl
        (ix3 a ⟨r.val, hl⟩ e) (fun b hb => ?_) ?_).trans ((h7 _).trans (congrArg (A2 m c) (funext fun b => Fin.ext ?_)))
      · match b, hb with
        | 0, _ => rfl
        | 1, hb => exact absurd rfl hb
        | 2, _ => rfl
      · show 0 + r.val = r.val; omega
      · match b with
        | 0 => rfl
        | 1 => rfl
        | 2 => rfl
    · refine (concatenate_apply_piece (t := Cert.Reference4Ideal.S4x4224x1024) 1 [⟨Cert.Reference4Ideal.S4x3840x1024, x⟩, ⟨Cert.Reference4Ideal.S4x256x1024, y⟩, ⟨Cert.Reference4Ideal.S4x128x1024, z⟩] _ _
      2 (show 2 < 3 by decide) Cert.Reference4Ideal.S4x128x1024 z rfl rfl 4096 rfl
        (ix3 a ⟨r.val - 4096, by omega⟩ e) (fun b hb => ?_) ?_).trans ((h8 _).trans (congrArg (A2 m c) (funext fun b => Fin.ext ?_)))
      · match b, hb with
        | 0, _ => rfl
        | 1, hb => exact absurd rfl hb
        | 2, _ => rfl
      · show 4096 + (r.val - 4096) = r.val; omega
      · match b with
        | 0 => rfl
        | 1 => show 4096 + (r.val - 4096) = r.val; omega
        | 2 => rfl

end Values

/-! ## The claims -/

/-- The two programs have one body table. -/
theorem defs_eq : @Cert.Kernel4.defs Bits _ Cert.Kernel4.Gen.facts = @Cert.Kernel4Ideal.defs Bits _ Cert.Kernel4Ideal.Gen.facts := by
  refine congrArg (Pipeline.defs (@Cert.Kernel4Ideal.pcfgs Bits Cert.Kernel4Ideal.Gen.facts)) ?_
  refine congrArg Defs.onTc (funext fun l => funext fun a => ?_)
  match l, a with
  | 0, (t, s) => rfl

theorem frame_kernel : Cert.quiescent_Kernel4 (hKernel4 := Cert.Kernel4.Gen.facts) := fun m ρ _ =>
  Eq.mpr (congrArg (fun d => θ_run d _ _ _) defs_eq) (Cert.Kernel4Ideal.Gen.frame (F := Bits) m ρ)

theorem frame_ideal : Cert.quiescent_Kernel4Ideal (hKernel4Ideal := Cert.Kernel4Ideal.Gen.facts) := fun m ρ _ =>
  Cert.Kernel4Ideal.Gen.frame m ρ

theorem frame_reference : Cert.quiescent_Reference4Ideal (hReference4Ideal := Cert.Reference4Ideal.Gen.facts) := fun m ρ _ =>
  (θ_run (Cert.Reference4Ideal.defs (F := Ideal)) _ _).mono
    (fun r h => ⟨fun c => (h c).2, sem_eq_zero_of_no_sems (by decide) r.2⟩) (Cert.Reference4Ideal.Value.run m ρ)

theorem algebraic : Cert.algebraic_Kernel4Ideal_Reference4Ideal (hKernel4Ideal := Cert.Kernel4Ideal.Gen.facts)
    (hReference4Ideal := Cert.Reference4Ideal.Gen.facts) := fun m g m' g' _ ha =>
  ⟨fun c => G m c,
    run_results m g,
    (θ_run (Cert.Reference4Ideal.defs (F := Ideal)) _ _).mono (fun r h c => by
      obtain ⟨a0, a1, a2⟩ := ha c
      refine ⟨((h c).1.trans (val_main_v9_eq _ _ _)).trans ?_, (h c).2⟩
      rw [a0, a1, a2]
      exact v9_eq m c) (Cert.Reference4Ideal.Value.run m' g')⟩

end Cert.Hand4

end
-- ==== Proof.AdFacts.lean ====
/-
  The optimiser's call for the small parameters: the facts its idealized program states, the launch, and the body as memory operations over named values.
-/
module

public import proofs.«01_k».proof.Kernel5Ideal
public import Idealize.ShloMosaic.Lib.Affine
public import Idealize.ShloMosaic.Lib.Decide
public import Idealize.ShloMosaic.Lib.Exec
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option synthInstance.maxSize 4096

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The program's facts over its vocabulary, proved. -/
instance facts₀ : Cert.Kernel5Ideal.Facts₀ := by
  constructor
  all_goals first
    | exact Fin.forall_fin_two.2 ⟨Memref.isWhole_whole _, Memref.isWhole_whole _⟩
    | exact fun _ => .inl rfl
    | exact fun _ => .inr (Affine.block_words_dvd (of_decide_eq_true rfl) (by decide))
    | (intro i i' h; first
        | (unfold cc0_transform_0; rw [h 0 rfl])
        | (unfold cc0_transform_1; rw [h 0 rfl])
        | (unfold cc0_transform_2; rw [h 0 rfl])
        | (unfold cc0_transform_3; rw [h 0 rfl])
        | (unfold cc0_transform_8; rw [h 0 rfl])
        | (unfold cc0_transform_9; rw [h 0 rfl])
        | (unfold cc0_transform_10; rw [h 0 rfl])
        | (unfold cc0_transform_11; rw [h 0 rfl]))
    | decide +kernel

/-- Every fact the program states, proved. -/
instance facts : Cert.Kernel5Ideal.Facts where

variable {F : FTy → Type} [FloatOps F]

/-- One staging buffer. -/
abbrev Stg := Memref sig .tc .vmem S192x1024 .f32
/-- A tile of 192 rows. -/
abbrev Tile (F : FTy → Type) := Vec F S192x1024 .f32

/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs. -/
theorem winFacts0 : Pipeline.WinFacts spec0 := by decide
/-- No window's block is empty. -/
theorem block_pos0 : ∀ w : Fin 8, 0 < (spec0 w).block.numel := by decide
/-- The windows' arrays and the staging memrefs are whole buffers. -/
theorem arr_whole0 : ∀ w : Fin 8, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | ⟨_ + 8, h⟩ => absurd h (Nat.not_lt.2 (Nat.le_add_left _ _))
theorem stage_whole0 : ∀ (w : Fin 8) (s : Fin (spec0 w).nbuf), ((spec0 w).stage s).IsWhole := fun | 0 => fun s => Facts₀.hstage0_0 (s.cast Facts₀.nbuf0_0) | 1 => fun s => Facts₀.hstage0_1 (s.cast Facts₀.nbuf0_1) | 2 => fun s => Facts₀.hstage0_2 (s.cast Facts₀.nbuf0_2) | 3 => fun s => Facts₀.hstage0_3 (s.cast Facts₀.nbuf0_3) | 4 => fun s => Facts₀.hstage0_4 (s.cast Facts₀.nbuf0_4) | 5 => fun s => Facts₀.hstage0_5 (s.cast Facts₀.nbuf0_5) | 6 => fun s => Facts₀.hstage0_6 (s.cast Facts₀.nbuf0_6) | 7 => fun s => Facts₀.hstage0_7 (s.cast Facts₀.nbuf0_7) | ⟨_ + 8, h⟩ => absurd h (Nat.not_lt.2 (Nat.le_add_left _ _))
/-- The five, bundled. -/
theorem launch0 : Pipeline.LaunchFacts (nD := nD) (τ := τ) cfgs 0 := ⟨cellOf_inj, winFacts0, block_pos0, arr_whole0, stage_whole0⟩

/-- The windows conjoined one by one. -/
theorem bigSep_W0 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

/-! ## @main as segments and as a chain of items -/

/-- 4 host operations of @main, in order. -/
abbrev hostOps0 : List (HloOp τ sig (Elt F)) :=
  [ StableHlo.unary main_arg4 main_v0_0 id,
    StableHlo.unary main_arg5 main_v0_1 id,
    StableHlo.unary main_arg6 main_v0_2 id,
    StableHlo.unary main_arg7 main_v0_3 id ]
/-- Each touches TensorCore references only. -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
/-- `main` is the chain of its items (`Pipeline.chain`). -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-! ## `cc0_adamw` -/

/-- `%6` of the body. -/
def k0_pay1 (v0 v1 : Tile F) : Tile F :=
  have cst : F .f32 := Scalar.ofBits .f32 0x3F666666#32
  have v2 : Tile F := broadcast S192x1024 cst
  have v3 : Tile F := mulf v2 v1
  have cst_3 : F .f32 := Scalar.ofBits .f32 0x3DCCCCCD#32
  have v4 : Tile F := broadcast S192x1024 cst_3
  have v5 : Tile F := mulf v4 v0
  have v6 : Tile F := addf v3 v5
  v6

def k0_pay2 (v0 v7 : Tile F) : Tile F :=
  have cst_6 : F .f32 := Scalar.ofBits .f32 0x3F7FBE77#32
  have v8 : Tile F := broadcast S192x1024 cst_6
  have v9 : Tile F := mulf v8 v7
  have v10 : Tile F := mulf v0 v0
  have cst_7 : F .f32 := Scalar.ofBits .f32 0x3A83126F#32
  have v11 : Tile F := broadcast S192x1024 cst_7
  have v12 : Tile F := mulf v11 v10
  have v13 : Tile F := addf v9 v12
  v13

/-- `%30` of the body. -/
def k0_pay3 (v0 v1 v7 v25 : Tile F) : Tile F :=
  have cst_14 : F .f32 := Scalar.ofBits .f32 0x3F26BD02#32
  have v17 : Tile F := broadcast S192x1024 cst_14
  have v18 : Tile F := divf (k0_pay1 v0 v1) v17
  have cst_15 : F .f32 := Scalar.ofBits .f32 0x3C231ACC#32
  have v19 : Tile F := broadcast S192x1024 cst_15
  have v20 : Tile F := divf (k0_pay2 v0 v7) v19
  have v21 : Tile F := sqrt v20
  have cst_16 : F .f32 := Scalar.ofBits .f32 0x322BCC77#32
  have v22 : Tile F := broadcast S192x1024 cst_16
  have v23 : Tile F := addf v21 v22
  have v24 : Tile F := divf v18 v23
  have cst_19 : F .f32 := Scalar.ofBits .f32 0x3C23D70A#32
  have v26 : Tile F := broadcast S192x1024 cst_19
  have v27 : Tile F := mulf v26 v25
  have v28 : Tile F := addf v24 v27
  have cst_20 : F .f32 := Scalar.ofBits .f32 0xBA83126F#32
  have v29 : Tile F := broadcast S192x1024 cst_20
  have v30 : Tile F := mulf v29 v28
  v30

/-- `cc0_adamw` as a skeleton of memory operations over payloads. -/
def cc0_adamw_skel (i : grid0.Coords) (arg1 : Stg) (harg1 : arg1.IsWhole) (arg2 : Stg) (harg2 : arg2.IsWhole) (arg3 : Stg) (harg3 : arg3.IsWhole) (arg4 : Stg) (harg4 : arg4.IsWhole) (arg5 : Memref sig .tc .hbm S576x1024 .f32) (harg5 : arg5.IsWhole) (arg6 : Memref sig .tc .hbm S576x1024 .f32) (harg6 : arg6.IsWhole) (arg7 : Memref sig .tc .hbm S576x1024 .f32) (harg7 : arg7.IsWhole) (arg8 : Memref sig .tc .hbm S576x1024 .f32) (harg8 : arg8.IsWhole) (arg9 : Stg) (harg9 : arg9.IsWhole) (arg10 : Stg) (harg10 : arg10.IsWhole) (arg11 : Stg) (harg11 : arg11.IsWhole) (arg12 : Stg) (harg12 : arg12.IsWhole) :
    Prog (TpuEff nD τ sig (Elt F) Λ₀ .tc) PUnit := do
  let v30 : Tile F ← k0_part1 i arg1 harg1 arg2 harg2 arg3 harg3 arg4 harg4 arg5 harg5 arg6 harg6 arg7 harg7 arg8 harg8 arg9 harg9 arg10 harg10 arg11 harg11 arg12 harg12
  let v31 : Tile F ← Prog.lift (.load arg10 (Rect.unit (s := S192x1024) ![0, 0] S192x1024.size Facts₀.inb_S192x1024_S192x1024_0_0).toLoadRect (View.loadsAt_vmem Facts₀.h_S192x1024))
  Prog.lift (.store arg10 (Rect.unit (s := S192x1024) ![0, 0] S192x1024.size Facts₀.inb_S192x1024_S192x1024_0_0) v30 Finset.univ (View.stores_vmem_bits_univ Facts₀.h_S192x1024 rfl) (.inl rfl))
  pure ⟨⟩

set_option maxRecDepth 65536 in
/-- The printed `cc0_adamw` is its skeleton: by definitional unfolding. -/
theorem cc0_adamw_eq_skeleton : cc0_adamw (F := F) = cc0_adamw_skel (F := F) := rfl

def k0_part1_skel (i : grid0.Coords) (arg1 : Stg) (harg1 : arg1.IsWhole) (arg2 : Stg) (harg2 : arg2.IsWhole) (arg3 : Stg) (harg3 : arg3.IsWhole) (arg4 : Stg) (harg4 : arg4.IsWhole) (arg5 : Memref sig .tc .hbm S576x1024 .f32) (harg5 : arg5.IsWhole) (arg6 : Memref sig .tc .hbm S576x1024 .f32) (harg6 : arg6.IsWhole) (arg7 : Memref sig .tc .hbm S576x1024 .f32) (harg7 : arg7.IsWhole) (arg8 : Memref sig .tc .hbm S576x1024 .f32) (harg8 : arg8.IsWhole) (arg9 : Stg) (harg9 : arg9.IsWhole) (arg10 : Stg) (harg10 : arg10.IsWhole) (arg11 : Stg) (harg11 : arg11.IsWhole) (arg12 : Stg) (harg12 : arg12.IsWhole) :
    Prog (TpuEff nD τ sig (Elt F) Λ₀ .tc) (Tile F) := do
  let v0 : Tile F ← Prog.lift (.load arg1 (Rect.unit (s := S192x1024) ![0, 0] S192x1024.size Facts₀.inb_S192x1024_S192x1024_0_0).toLoadRect (View.loadsAt_vmem Facts₀.h_S192x1024))
  let v1 : Tile F ← Prog.lift (.load arg3 (Rect.unit (s := S192x1024) ![0, 0] S192x1024.size Facts₀.inb_S192x1024_S192x1024_0_0).toLoadRect (View.loadsAt_vmem Facts₀.h_S192x1024))
  let v7 : Tile F ← Prog.lift (.load arg4 (Rect.unit (s := S192x1024) ![0, 0] S192x1024.size Facts₀.inb_S192x1024_S192x1024_0_0).toLoadRect (View.loadsAt_vmem Facts₀.h_S192x1024))
  let v14 : Tile F ← Prog.lift (.load arg9 (Rect.unit (s := S192x1024) ![0, 0] S192x1024.size Facts₀.inb_S192x1024_S192x1024_0_0).toLoadRect (View.loadsAt_vmem Facts₀.h_S192x1024))
  Prog.lift (.store arg9 (Rect.unit (s := S192x1024) ![0, 0] S192x1024.size Facts₀.inb_S192x1024_S192x1024_0_0) v0 Finset.univ (View.stores_vmem_bits_univ Facts₀.h_S192x1024 rfl) (.inl rfl))
  let v15 : Tile F ← Prog.lift (.load arg11 (Rect.unit (s := S192x1024) ![0, 0] S192x1024.size Facts₀.inb_S192x1024_S192x1024_0_0).toLoadRect (View.loadsAt_vmem Facts₀.h_S192x1024))
  Prog.lift (.store arg11 (Rect.unit (s := S192x1024) ![0, 0] S192x1024.size Facts₀.inb_S192x1024_S192x1024_0_0) (k0_pay1 v0 v1) Finset.univ (View.stores_vmem_bits_univ Facts₀.h_S192x1024 rfl) (.inl rfl))
  let v16 : Tile F ← Prog.lift (.load arg12 (Rect.unit (s := S192x1024) ![0, 0] S192x1024.size Facts₀.inb_S192x1024_S192x1024_0_0).toLoadRect (View.loadsAt_vmem Facts₀.h_S192x1024))
  Prog.lift (.store arg12 (Rect.unit (s := S192x1024) ![0, 0] S192x1024.size Facts₀.inb_S192x1024_S192x1024_0_0) (k0_pay2 v0 v7) Finset.univ (View.stores_vmem_bits_univ Facts₀.h_S192x1024 rfl) (.inl rfl))
  let v25 : Tile F ← Prog.lift (.load arg2 (Rect.unit (s := S192x1024) ![0, 0] S192x1024.size Facts₀.inb_S192x1024_S192x1024_0_0).toLoadRect (View.loadsAt_vmem Facts₀.h_S192x1024))
  pure (k0_pay3 v0 v1 v7 v25)

set_option maxRecDepth 65536 in
/-- The printed `k0_part1` is its skeleton: by definitional unfolding. -/
theorem k0_part1_eq_skeleton : k0_part1 (F := F) = k0_part1_skel (F := F) := rfl

/-- The kernel body at point `t`, on what the pipeline calls it with (`defs₀`'s row at the slots). -/
abbrev bodyAt0 (t : Fin cfg0.N) : Prog (TpuEff nD τ sig (Elt F) Λ₀ .tc) PUnit :=
  cc0_adamw (grid0.coords t) (win0_0.stage (cfg0.slots t 0)) (Facts₀.hstage0_0 ((cfg0.slots t 0).cast Facts₀.nbuf0_0)) (win0_1.stage (cfg0.slots t 1)) (Facts₀.hstage0_1 ((cfg0.slots t 1).cast Facts₀.nbuf0_1)) (win0_2.stage (cfg0.slots t 2)) (Facts₀.hstage0_2 ((cfg0.slots t 2).cast Facts₀.nbuf0_2)) (win0_3.stage (cfg0.slots t 3)) (Facts₀.hstage0_3 ((cfg0.slots t 3).cast Facts₀.nbuf0_3)) (Memref.whole main_arg4) (Memref.isWhole_whole _) (Memref.whole main_arg5) (Memref.isWhole_whole _) (Memref.whole main_arg6) (Memref.isWhole_whole _) (Memref.whole main_arg7) (Memref.isWhole_whole _) (win0_4.stage (cfg0.slots t 4)) (Facts₀.hstage0_4 ((cfg0.slots t 4).cast Facts₀.nbuf0_4)) (win0_5.stage (cfg0.slots t 5)) (Facts₀.hstage0_5 ((cfg0.slots t 5).cast Facts₀.nbuf0_5)) (win0_6.stage (cfg0.slots t 6)) (Facts₀.hstage0_6 ((cfg0.slots t 6).cast Facts₀.nbuf0_6)) (win0_7.stage (cfg0.slots t 7)) (Facts₀.hstage0_7 ((cfg0.slots t 7).cast Facts₀.nbuf0_7))

end Cert.Kernel5Ideal.Gen

end
-- ==== Proof.AdFrame.lean ====
/-
  The optimiser's call for the small parameters: the body's run, what the points leave, the run and the frame.
-/
module

public import proofs.«01_k».proof.Proof.AdFacts
public import proofs.«01_k».proof.Proof.Whole
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole (off2 off3 load_whole stored_whole)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c` owns the buffer `M` with the contents `x`. -/
abbrev own {S : Shape} {e : EltTy} (c : Dev nD) (M : Memref sig .tc .vmem S e) (x : Vec F S e) : sProp 𝕄 := owns (c : Thread nD τ) M fullShare x

/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The arguments are as they were at the launch. -/
abbrev Kept (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The kernel body on any staging memrefs -/

/-- Each window's current staging memref at point `t`, spelled as the pipeline passes it (`bodyAt0`), and its wholeness. -/
abbrev ms0_0 (t : Fin cfg0.N) : Stg := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Stg := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Stg := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Stg := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Stg := win0_4.stage (cfg0.slots t 4)
abbrev hs0_4 (t : Fin cfg0.N) : (ms0_4 t).IsWhole := Facts₀.hstage0_4 ((cfg0.slots t 4).cast Facts₀.nbuf0_4)
abbrev ms0_5 (t : Fin cfg0.N) : Stg := win0_5.stage (cfg0.slots t 5)
abbrev hs0_5 (t : Fin cfg0.N) : (ms0_5 t).IsWhole := Facts₀.hstage0_5 ((cfg0.slots t 5).cast Facts₀.nbuf0_5)
abbrev ms0_6 (t : Fin cfg0.N) : Stg := win0_6.stage (cfg0.slots t 6)
abbrev hs0_6 (t : Fin cfg0.N) : (ms0_6 t).IsWhole := Facts₀.hstage0_6 ((cfg0.slots t 6).cast Facts₀.nbuf0_6)
abbrev ms0_7 (t : Fin cfg0.N) : Stg := win0_7.stage (cfg0.slots t 7)
abbrev hs0_7 (t : Fin cfg0.N) : (ms0_7 t).IsWhole := Facts₀.hstage0_7 ((cfg0.slots t 7).cast Facts₀.nbuf0_7)

section Body
variable (c : Dev nD) (i : grid0.Coords) (arg1 : Stg) (harg1 : arg1.IsWhole) (arg2 : Stg) (harg2 : arg2.IsWhole) (arg3 : Stg) (harg3 : arg3.IsWhole) (arg4 : Stg) (harg4 : arg4.IsWhole) (arg9 : Stg) (harg9 : arg9.IsWhole) (arg10 : Stg) (harg10 : arg10.IsWhole) (arg11 : Stg) (harg11 : arg11.IsWhole) (arg12 : Stg) (harg12 : arg12.IsWhole)
  (x0 x1 x2 x3 : Tile F)

/-- Load a tile. -/
abbrev ld (M : Stg) (h : M.IsWhole) (x : Tile F) : Tile F :=
  View.readAt (Elt F) M.view (Rect.unit ![0, 0] S192x1024.size Facts₀.inb_S192x1024_S192x1024_0_0).toLoadRect (h.unread x)
theorem ld_eq (M : Stg) (h : M.IsWhole) (x : Tile F) : ld M h x = x := load_whole off2 M h x _

set_option maxHeartbeats 1000000 in
/-- One run of the body on whole staging memrefs: the inputs' stay as they were, and each output's holds its value of the inputs' contents. -/
theorem body_run (E : Set ℕ) (K : PUnit → sProp 𝕄) :
    iprop(own c arg1 x0 ∗ own c arg2 x1 ∗ own c arg3 x2 ∗ own c arg4 x3
        ∗ (∃ d, own c arg9 d) ∗ (∃ d, own c arg10 d) ∗ (∃ d, own c arg11 d) ∗ (∃ d, own c arg12 d)
        ∗ (iprop(own c arg1 x0 ∗ own c arg2 x1 ∗ own c arg3 x2 ∗ own c arg4 x3
          ∗ own c arg9 (x0) ∗ own c arg10 (k0_pay3 x0 x2 x3 x1) ∗ own c arg11 (k0_pay1 x0 x2) ∗ own c arg12 (k0_pay2 x0 x3)) -∗ K ⟨⟩))
      ⊢ wp frame (wpE (defs₀ (F := F)) Variants.none c none) E (cc0_adamw i arg1 harg1 arg2 harg2 arg3 harg3 arg4 harg4 (Memref.whole main_arg4) (Memref.isWhole_whole _) (Memref.whole main_arg5) (Memref.isWhole_whole _) (Memref.whole main_arg6) (Memref.isWhole_whole _) (Memref.whole main_arg7) (Memref.isWhole_whole _) arg9 harg9 arg10 harg10 arg11 harg11 arg12 harg12) K := by
  simp only [cc0_adamw_eq_skeleton]; unfold cc0_adamw_skel
  simp only [k0_part1_eq_skeleton]
  unfold own owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3
  sl_exec
  sl_step
  iapply Hk
  isplitl [H0]; · iexists _; isplitr; (ipureintro; exact harg1.read_unread _); iexact H0
  isplitl [H1]; · iexists _; isplitr; (ipureintro; exact harg2.read_unread _); iexact H1
  isplitl [H2]; · iexists _; isplitr; (ipureintro; exact harg3.read_unread _); iexact H2
  isplitl [H3]; · iexists _; isplitr; (ipureintro; exact harg4.read_unread _); iexact H3
  isplitl [H4]; · iexists _; isplitr; swap; (iexact H4); ipureintro; exact (stored_whole off2 arg9.view _ _ ((ld _ harg1 x0))).trans (by simp only [ld_eq])
  isplitl [H5]; · iexists _; isplitr; swap; (iexact H5); ipureintro; exact (stored_whole off2 arg10.view _ _ (k0_pay3 (ld _ harg1 x0) (ld _ harg3 x2) (ld _ harg4 x3) (ld _ harg2 x1))).trans (by simp only [ld_eq])
  isplitl [H6]; · iexists _; isplitr; swap; (iexact H6); ipureintro; exact (stored_whole off2 arg11.view _ _ (k0_pay1 (ld _ harg1 x0) (ld _ harg3 x2))).trans (by simp only [ld_eq])
  iexists _; isplitr; swap; (iexact H7); ipureintro; exact (stored_whole off2 arg12.view _ _ (k0_pay2 (ld _ harg1 x0) (ld _ harg4 x3))).trans (by simp only [ld_eq])

end Body

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (iblk m c 0 t)
    | ⟨5, _⟩ => k0_pay3 (iblk m c 0 t) (iblk m c 2 t) (iblk m c 3 t) (iblk m c 1 t)
    | ⟨6, _⟩ => k0_pay1 (iblk m c 0 t) (iblk m c 2 t)
    | ⟨7, _⟩ => k0_pay2 (iblk m c 0 t) (iblk m c 3 t)
  Φ _ := Pipeline.ΦA spec0 c
  q _ := fullShare
  owed _ := 0

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (iblk m c 0 t) := by dsimp only [dats]
theorem after0_5 (c : Dev nD) (t : Fin cfg0.N) : (dats m 0 c).after 5 t = k0_pay3 (iblk m c 0 t) (iblk m c 2 t) (iblk m c 3 t) (iblk m c 1 t) := by dsimp only [dats]
theorem after0_6 (c : Dev nD) (t : Fin cfg0.N) : (dats m 0 c).after 6 t = k0_pay1 (iblk m c 0 t) (iblk m c 2 t) := by dsimp only [dats]
theorem after0_7 (c : Dev nD) (t : Fin cfg0.N) : (dats m 0 c).after 7 t = k0_pay2 (iblk m c 0 t) (iblk m c 3 t) := by dsimp only [dats]

/-- Each input's current staging buffer holds its block at every point, fetched there or not. -/
theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d
theorem before0_3 (c : Dev nD) (t : Fin cfg0.N) (d) : (dats m 0 c).before 3 t d = iblk m c 3 t :=
  (dats m 0 c).before_in_eq_fetched 3 rfl (fun _ => rfl) (fun _ _ _ => rfl) (fun _ => rfl) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, own c (ms0_0 t) ((dats m 0 c).before 0 t d))
    ∗ (∃ d, own c (ms0_1 t) ((dats m 0 c).before 1 t d))
    ∗ (∃ d, own c (ms0_2 t) ((dats m 0 c).before 2 t d))
    ∗ (∃ d, own c (ms0_3 t) ((dats m 0 c).before 3 t d))
    ∗ (∃ d, own c (ms0_4 t) ((dats m 0 c).before 4 t d))
    ∗ (∃ d, own c (ms0_5 t) ((dats m 0 c).before 5 t d))
    ∗ (∃ d, own c (ms0_6 t) ((dats m 0 c).before 6 t d))
    ∗ (∃ d, own c (ms0_7 t) ((dats m 0 c).before 7 t d)))

/-- and what it returns. -/
def bodyPost (c : Dev nD) (t : Fin cfg0.N) : sProp 𝕄 :=
  iprop((dats m 0 c).Φ t.succ ∗ (dats m 0 c).owesAt () t.succ
    ∗ own c (ms0_0 t) ((dats m 0 c).after 0 t)
    ∗ own c (ms0_1 t) ((dats m 0 c).after 1 t)
    ∗ own c (ms0_2 t) ((dats m 0 c).after 2 t)
    ∗ own c (ms0_3 t) ((dats m 0 c).after 3 t)
    ∗ own c (ms0_4 t) ((dats m 0 c).after 4 t)
    ∗ own c (ms0_5 t) ((dats m 0 c).after 5 t)
    ∗ own c (ms0_6 t) ((dats m 0 c).after 6 t)
    ∗ own c (ms0_7 t) ((dats m 0 c).after 7 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- THE FRAME. -/
theorem frame : θ_run defs (onTc (τ := τ) (main (F := F))) ⟨m, fun _ => 0, ρ⟩ (fun r => (∀ c : Dev nD, Kept m c r.2.mem) ∧ r.2.sem = fun _ => 0) :=
  (θ_run defs _ _).mono (fun _ h => ⟨fun c => ⟨((h.1 c).1 0).trans ((dats m 0 c).arrAt_in 0 rfl _),
      ((h.1 c).1 1).trans ((dats m 0 c).arrAt_in 1 rfl _),
      ((h.1 c).1 2).trans ((dats m 0 c).arrAt_in 2 rfl _),
      ((h.1 c).1 3).trans ((dats m 0 c).arrAt_in 3 rfl _),
      (h.1 c).2 main_arg4 (Pipeline.mem_restRefs_of main_arg4 (by decide) (by decide)),
      (h.1 c).2 main_arg5 (Pipeline.mem_restRefs_of main_arg5 (by decide) (by decide)),
      (h.1 c).2 main_arg6 (Pipeline.mem_restRefs_of main_arg6 (by decide) (by decide)),
      (h.1 c).2 main_arg7 (Pipeline.mem_restRefs_of main_arg7 (by decide) (by decide))⟩, h.2⟩) (run_main_quiescent m ρ)

end Cert.Kernel5Ideal.Gen

end
-- ==== Proof.AdVal.lean ====
/-
  The optimiser's call for the small parameters: the result arrays.
-/
module

public import proofs.«01_k».proof.Proof.AdFrame
public import Idealize.ShloMosaic.Lib.ValueIdx
public import Idealize.ShloMosaic.PureOps.Ideal.Laws

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic Idealize.ShloMosaic.ValueIdx
open Idealize.SL.Sem

/-! ## The values -/

/-- The first moment after a step, from the gradient and the moment before. -/
def newM (g m : Ideal .f32) : Ideal .f32 :=
  FloatOps.addf (FloatOps.mulf (FloatOps.ofBits .f32 0x3F666666#32) m) (FloatOps.mulf (FloatOps.ofBits .f32 0x3DCCCCCD#32) g)
/-- The second moment after a step. -/
def newV (g v : Ideal .f32) : Ideal .f32 :=
  FloatOps.addf (FloatOps.mulf (FloatOps.ofBits .f32 0x3F7FBE77#32) v) (FloatOps.mulf (FloatOps.ofBits .f32 0x3A83126F#32) (FloatOps.mulf g g))
/-- The change of the parameter, from the gradient, the parameter and the moments before. -/
def delta (g w m v : Ideal .f32) : Ideal .f32 :=
  FloatOps.mulf (FloatOps.ofBits .f32 0xBA83126F#32) (FloatOps.addf
    (FloatOps.divf (FloatOps.divf (newM g m) (FloatOps.ofBits .f32 0x3F26BD02#32))
      (FloatOps.addf (FloatOps.sqrt (FloatOps.divf (newV g v) (FloatOps.ofBits .f32 0x3C231ACC#32))) (FloatOps.ofBits .f32 0x322BCC77#32)))
    (FloatOps.mulf (FloatOps.ofBits .f32 0x3C23D70A#32) w))

theorem pay1_apply (x0 x2 : Tile Ideal) (y : S192x1024.Idx) : k0_pay1 x0 x2 y = newM (x0 y) (x2 y) := rfl
theorem pay2_apply (x0 x3 : Tile Ideal) (y : S192x1024.Idx) : k0_pay2 x0 x3 y = newV (x0 y) (x3 y) := rfl
theorem pay3_apply (x0 x2 x3 x1 : Tile Ideal) (y : S192x1024.Idx) : k0_pay3 x0 x2 x3 x1 y = delta (x0 y) (x1 y) (x2 y) (x3 y) := rfl

variable (m : (ℓ : Loc nD τ sig) → Buf (Elt Ideal) ℓ) (c : Dev nD)

/-- The summed gradients, the parameters and their moments. -/
abbrev A0 : Vec Ideal S576x1024 .f32 := m ((c : Thread nD τ).loc main_arg0)
abbrev A1 : Vec Ideal S576x1024 .f32 := m ((c : Thread nD τ).loc main_arg1)
abbrev A2 : Vec Ideal S576x1024 .f32 := m ((c : Thread nD τ).loc main_arg2)
abbrev A3 : Vec Ideal S576x1024 .f32 := m ((c : Thread nD τ).loc main_arg3)

/-- The results. -/
def G4 : Vec Ideal S576x1024 .f32 := A0 m c
def G5 : Vec Ideal S576x1024 .f32 := fun i => delta (A0 m c i) (A1 m c i) (A2 m c i) (A3 m c i)
def G6 : Vec Ideal S576x1024 .f32 := fun i => newM (A0 m c i) (A2 m c i)
def G7 : Vec Ideal S576x1024 .f32 := fun i => newV (A0 m c i) (A3 m c i)

/-! ## The blocks as rows of the arrays -/

/-- The index of the arrays at index `y` of block `t`. -/
abbrev at_ (t : Fin cfg0.N) (y : S192x1024.Idx) : S576x1024.Idx := (win0_0.rect t).emb y

theorem iblk0_apply (t : Fin cfg0.N) (y : S192x1024.Idx) : iblk m c 0 t y = A0 m c (at_ t y) := rfl
theorem iblk1_apply (t : Fin cfg0.N) (y : S192x1024.Idx) : iblk m c 1 t y = A1 m c (at_ t y) := rfl
theorem iblk2_apply (t : Fin cfg0.N) (y : S192x1024.Idx) : iblk m c 2 t y = A2 m c (at_ t y) := rfl
theorem iblk3_apply (t : Fin cfg0.N) (y : S192x1024.Idx) : iblk m c 3 t y = A3 m c (at_ t y) := rfl

theorem ind0 : ∀ t : Fin grid0.N, win0_0.index t 0 = t.val ∧ win0_0.index t 1 = 0 := by decide +kernel

/-- Every index lies in a block. -/
theorem exists_at (i : S576x1024.Idx) : ∃ (t : Fin cfg0.N) (y : S192x1024.Idx), at_ t y = i := by
  obtain ⟨r, d, rfl⟩ : ∃ (r : Fin 576) (d : Fin 1024), (ix2 r d : S576x1024.Idx) = i := ⟨i 0, i 1, (eq_ix2 i).symm⟩
  have ht : r.val / 192 < cfg0.N := show r.val / 192 < 3 by omega
  obtain ⟨i0, i1⟩ := ind0 ⟨r.val / 192, ht⟩
  refine ⟨⟨r.val / 192, ht⟩, (ix2 ⟨r.val % 192, Nat.mod_lt _ (by decide)⟩ d : S192x1024.Idx), funext fun a => Fin.ext ?_⟩
  match a with
  | 0 => exact (Pipeline.Window.rect_emb_val win0_0 _ _ 0).trans (by rw [i0]; show r.val / 192 * 192 + r.val % 192 = r.val; omega)
  | 1 => exact (Pipeline.Window.rect_emb_val win0_0 _ _ 1).trans (by rw [i1]; show 0 * 1024 + d.val = d.val; omega)

/-- The body leaves the results' parts. -/
theorem left (t : Fin cfg0.N) (y : S192x1024.Idx) :
    (dats m 0 c).after 4 t y = G4 m c (at_ t y) ∧ (dats m 0 c).after 5 t y = G5 m c (at_ t y)
    ∧ (dats m 0 c).after 6 t y = G6 m c (at_ t y) ∧ (dats m 0 c).after 7 t y = G7 m c (at_ t y) := by
  rw [after0_4, after0_5, after0_6, after0_7, pay3_apply, pay1_apply, pay2_apply, iblk0_apply, iblk1_apply, iblk2_apply, iblk3_apply]
  exact ⟨rfl, rfl, rfl, rfl⟩

theorem flush_out : ∀ w : Fin 8, 4 ≤ w → ∀ t : Fin grid0.N, (cfg0.win w).flush t = true := by decide +kernel

/-- The results' arrays, block by block. -/
theorem arrs : (dats m 0 c).arrAt 4 cfg0.N = G4 m c ∧ (dats m 0 c).arrAt 5 cfg0.N = G5 m c
    ∧ (dats m 0 c).arrAt 6 cfg0.N = G6 m c ∧ (dats m 0 c).arrAt 7 cfg0.N = G7 m c := by
  refine ⟨funext fun i => ?_, funext fun i => ?_, funext fun i => ?_, funext fun i => ?_⟩ <;> obtain ⟨t, y, rfl⟩ := exists_at i
  all_goals
    refine (dats m 0 c).arrAt_apply_of_mem _ _ (fun t _ => funext fun y => ?_) cfg0.N t _ t.isLt (flush_out _ (by decide) t) (View.emb_mem_set _ y)
    first | exact (left m c t y).1 | exact (left m c t y).2.1 | exact (left m c t y).2.2.1 | exact (left m c t y).2.2.2

/-- The run's results, the arguments unchanged. -/
theorem run_results (ρ : Dev nD → PrngReg) : θ_run defs (onTc (τ := τ) (main (F := Ideal))) ⟨m, fun _ => 0, ρ⟩ fun r => ∀ c : Dev nD,
      r.2.mem ((c.tc : Thread nD τ).loc main_v0_0) = G4 m c
      ∧ r.2.mem ((c.tc : Thread nD τ).loc main_v0_1) = G5 m c
      ∧ r.2.mem ((c.tc : Thread nD τ).loc main_v0_2) = G6 m c
      ∧ r.2.mem ((c.tc : Thread nD τ).loc main_v0_3) = G7 m c
      ∧ Kept m c r.2.mem :=
  (θ_run defs _ _).mono (fun _ h c => ⟨((h.1.1 c).1 4).trans (arrs m c).1, ((h.1.1 c).1 5).trans (arrs m c).2.1, ((h.1.1 c).1 6).trans (arrs m c).2.2.1, ((h.1.1 c).1 7).trans (arrs m c).2.2.2, h.2.1 c⟩)
    (θ_run_and (run_main_quiescent m ρ) (frame m ρ))

end Cert.Kernel5Ideal.Hand

end
-- ==== Proof.AdKFacts.lean ====
/-
  The optimiser's call for the small parameters: the facts the call's program states.
-/
module

public import proofs.«01_k».proof.Kernel5
public import proofs.«01_k».proof.Proof.AdFacts
public import Idealize.ShloMosaic.Lib.Affine
public import Idealize.ShloMosaic.Lib.Decide
public import Idealize.ShloMosaic.Lib.Exec

@[expose] public section

-- a fact under nested conditions takes a `Decidable` instance one implication deeper per condition
set_option synthInstance.maxSize 4096

namespace Cert.Kernel5.Gen

open Idealize.ShloMosaic Idealize.SL.Sem
/-! ## The facts over the vocabulary (`Facts₀`) -/

/-- The program's facts over its vocabulary, proved. -/
instance facts₀ : Cert.Kernel5.Facts₀ := Cert.Kernel5Ideal.Gen.facts₀.casesOn (motive := fun _ => Cert.Kernel5.Facts₀) @Cert.Kernel5.Facts₀.mk

/-! ## The facts over the windows (`Facts`) -/

/-- Every fact the program states, proved. -/
instance facts : Cert.Kernel5.Facts where

end Cert.Kernel5.Gen
-- ==== Proof.AdRefRun.lean ====
/-
  The optimiser's call for the small parameters: the reference's facts and its run.
-/
module

public import proofs.«01_k».proof.Reference5Ideal
public import Idealize.ShloMosaic.Lib.Affine
public import Idealize.ShloMosaic.Lib.Decide
public import Idealize.ShloMosaic.Lib.Exec
public import Idealize.ShloMosaic.Lib.StableHlo.Run

@[expose] public section

set_option synthInstance.maxSize 4096

noncomputable section

namespace Cert.Reference5Ideal.Gen

open Idealize.ShloMosaic Idealize.SL.Sem
/-! ## The facts over the vocabulary (`Facts₀`) -/

theorem bcast_S_S576x1024 : S_.BroadcastsInDim S576x1024 (![] : Fin 0 → Fin S576x1024.rank) := by decide

/-- The program's facts over its vocabulary, proved. -/
instance facts₀ : Cert.Reference5Ideal.Facts₀ :=
  { bcast_S_S576x1024 }

/-! ## The facts over the windows (`Facts`) -/

/-- Every fact the program states, proved. -/
instance facts : Cert.Reference5Ideal.Facts where

end Cert.Reference5Ideal.Gen

namespace Cert.Reference5Ideal.Value

open Cert.Reference5Ideal Cert.Reference5Ideal.Gen Idealize.ShloMosaic Idealize.ShloMosaic.TcCoe Idealize.SL.Sem Idealize.ShloMosaic.StableHlo

variable {F : FTy → Type} [FloatOps F]

/-- @main's 33 operations, in order. -/
abbrev ops : List (HloOp τ sig (Elt F)) :=
  [ nullary main_cst (constant S_ .f32 0x3F666666#32),
    unary main_cst main_v0 (broadcastInDim S576x1024 ![] bcast_S_S576x1024 : (⟨S_, .f32⟩ : BufTy).Contents (Elt F) → (⟨S576x1024, .f32⟩ : BufTy).Contents (Elt F)),
    binary main_v0 main_arg2 main_v1 (mulf : (⟨S576x1024, .f32⟩ : BufTy).Contents (Elt F) → (⟨S576x1024, .f32⟩ : BufTy).Contents (Elt F) → (⟨S576x1024, .f32⟩ : BufTy).Contents (Elt F)),
    nullary main_cst_0 (constant S_ .f32 0x3DCCCCCD#32),
    unary main_cst_0 main_v2 (broadcastInDim S576x1024 ![] bcast_S_S576x1024 : (⟨S_, .f32⟩ : BufTy).Contents (Elt F) → (⟨S576x1024, .f32⟩ : BufTy).Contents (Elt F)),
    binary main_v2 main_arg0 main_v3 (mulf : (⟨S576x1024, .f32⟩ : BufTy).Contents (Elt F) → (⟨S576x1024, .f32⟩ : BufTy).Contents (Elt F) → (⟨S576x1024, .f32⟩ : BufTy).Contents (Elt F)),
    binary main_v1 main_v3 main_v4 (addf : (⟨S576x1024, .f32⟩ : BufTy).Contents (Elt F) → (⟨S576x1024, .f32⟩ : BufTy).Contents (Elt F) → (⟨S576x1024, .f32⟩ : BufTy).Contents (Elt F)),
    nullary main_cst_1 (constant S_ .f32 0x3F7FBE77#32),
    unary main_cst_1 main_v5 (broadcastInDim S576x1024 ![] bcast_S_S576x1024 : (⟨S_, .f32⟩ : BufTy).Contents (Elt F) → (⟨S576x1024, .f32⟩ : BufTy).Contents (Elt F)),
    binary main_v5 main_arg3 main_v6 (mulf : (⟨S576x1024, .f32⟩ : BufTy).Contents (Elt F) → (⟨S576x1024, .f32⟩ : BufTy).Contents (Elt F) → (⟨S576x1024, .f32⟩ : BufTy).Contents (Elt F)),
    binary main_arg0 main_arg0 main_v7 (mulf : (⟨S576x1024, .f32⟩ : BufTy).Contents (Elt F) → (⟨S576x1024, .f32⟩ : BufTy).Contents (Elt F) → (⟨S576x1024, .f32⟩ : BufTy).Contents (Elt F)),
    nullary main_cst_2 (constant S_ .f32 0x3A83126F#32),
    unary main_cst_2 main_v8 (broadcastInDim S576x1024 ![] bcast_S_S576x1024 : (⟨S_, .f32⟩ : BufTy).Contents (Elt F) → (⟨S576x1024, .f32⟩ : BufTy).Contents (Elt F)),
    binary main_v8 main_v7 main_v9 (mulf : (⟨S576x1024, .f32⟩ : BufTy).Contents (Elt F) → (⟨S576x1024, .f32⟩ : BufTy).Contents (Elt F) → (⟨S576x1024, .f32⟩ : BufTy).Contents (Elt F)),
    binary main_v6 main_v9 main_v10 (addf : (⟨S576x1024, .f32⟩ : BufTy).Contents (Elt F) → (⟨S576x1024, .f32⟩ : BufTy).Contents (Elt F) → (⟨S576x1024, .f32⟩ : BufTy).Contents (Elt F)),
    nullary main_cst_3 (constant S_ .f32 0x3F26BD02#32),
    unary main_cst_3 main_v11 (broadcastInDim S576x1024 ![] bcast_S_S576x1024 : (⟨S_, .f32⟩ : BufTy).Contents (Elt F) → (⟨S576x1024, .f32⟩ : BufTy).Contents (Elt F)),
    binary main_v4 main_v11 main_v12 (Host.divf : (⟨S576x1024, .f32⟩ : BufTy).Contents (Elt F) → (⟨S576x1024, .f32⟩ : BufTy).Contents (Elt F) → (⟨S576x1024, .f32⟩ : BufTy).Contents (Elt F)),
    nullary main_cst_4 (constant S_ .f32 0x3C231ACC#32),
    unary main_cst_4 main_v13 (broadcastInDim S576x1024 ![] bcast_S_S576x1024 : (⟨S_, .f32⟩ : BufTy).Contents (Elt F) → (⟨S576x1024, .f32⟩ : BufTy).Contents (Elt F)),
    binary main_v10 main_v13 main_v14 (Host.divf : (⟨S576x1024, .f32⟩ : BufTy).Contents (Elt F) → (⟨S576x1024, .f32⟩ : BufTy).Contents (Elt F) → (⟨S576x1024, .f32⟩ : BufTy).Contents (Elt F)),
    unary main_v14 main_v15 (Host.sqrt : (⟨S576x1024, .f32⟩ : BufTy).Contents (Elt F) → (⟨S576x1024, .f32⟩ : BufTy).Contents (Elt F)),
    nullary main_cst_5 (constant S_ .f32 0x322BCC77#32),
    unary main_cst_5 main_v16 (broadcastInDim S576x1024 ![] bcast_S_S576x1024 : (⟨S_, .f32⟩ : BufTy).Contents (Elt F) → (⟨S576x1024, .f32⟩ : BufTy).Contents (Elt F)),
    binary main_v15 main_v16 main_v17 (addf : (⟨S576x1024, .f32⟩ : BufTy).Contents (Elt F) → (⟨S576x1024, .f32⟩ : BufTy).Contents (Elt F) → (⟨S576x1024, .f32⟩ : BufTy).Contents (Elt F)),
    binary main_v12 main_v17 main_v18 (Host.divf : (⟨S576x1024, .f32⟩ : BufTy).Contents (Elt F) → (⟨S576x1024, .f32⟩ : BufTy).Contents (Elt F) → (⟨S576x1024, .f32⟩ : BufTy).Contents (Elt F)),
    nullary main_cst_6 (constant S_ .f32 0x3C23D70A#32),
    unary main_cst_6 main_v19 (broadcastInDim S576x1024 ![] bcast_S_S576x1024 : (⟨S_, .f32⟩ : BufTy).Contents (Elt F) → (⟨S576x1024, .f32⟩ : BufTy).Contents (Elt F)),
    binary main_v19 main_arg1 main_v20 (mulf : (⟨S576x1024, .f32⟩ : BufTy).Contents (Elt F) → (⟨S576x1024, .f32⟩ : BufTy).Contents (Elt F) → (⟨S576x1024, .f32⟩ : BufTy).Contents (Elt F)),
    binary main_v18 main_v20 main_v21 (addf : (⟨S576x1024, .f32⟩ : BufTy).Contents (Elt F) → (⟨S576x1024, .f32⟩ : BufTy).Contents (Elt F) → (⟨S576x1024, .f32⟩ : BufTy).Contents (Elt F)),
    nullary main_cst_7 (constant S_ .f32 0xBA83126F#32),
    unary main_cst_7 main_v22 (broadcastInDim S576x1024 ![] bcast_S_S576x1024 : (⟨S_, .f32⟩ : BufTy).Contents (Elt F) → (⟨S576x1024, .f32⟩ : BufTy).Contents (Elt F)),
    binary main_v22 main_v21 main_v23 (mulf : (⟨S576x1024, .f32⟩ : BufTy).Contents (Elt F) → (⟨S576x1024, .f32⟩ : BufTy).Contents (Elt F) → (⟨S576x1024, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

set_option maxHeartbeats 2000000 in
/-- On every device, for any float values, from any memory with zero counters: every weakly fair execution of @main terminates with each result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v23) = mulf (broadcastInDim S576x1024 ![] bcast_S_S576x1024 (constant S_ .f32 0xBA83126F#32)) (addf (Host.divf (Host.divf (addf (mulf (broadcastInDim S576x1024 ![] bcast_S_S576x1024 (constant S_ .f32 0x3F666666#32)) (m ((c.tc : Thread nD τ).loc main_arg2))) (mulf (broadcastInDim S576x1024 ![] bcast_S_S576x1024 (constant S_ .f32 0x3DCCCCCD#32)) (m ((c.tc : Thread nD τ).loc main_arg0)))) (broadcastInDim S576x1024 ![] bcast_S_S576x1024 (constant S_ .f32 0x3F26BD02#32))) (addf (Host.sqrt (Host.divf (addf (mulf (broadcastInDim S576x1024 ![] bcast_S_S576x1024 (constant S_ .f32 0x3F7FBE77#32)) (m ((c.tc : Thread nD τ).loc main_arg3))) (mulf (broadcastInDim S576x1024 ![] bcast_S_S576x1024 (constant S_ .f32 0x3A83126F#32)) (mulf (m ((c.tc : Thread nD τ).loc main_arg0)) (m ((c.tc : Thread nD τ).loc main_arg0))))) (broadcastInDim S576x1024 ![] bcast_S_S576x1024 (constant S_ .f32 0x3C231ACC#32)))) (broadcastInDim S576x1024 ![] bcast_S_S576x1024 (constant S_ .f32 0x322BCC77#32)))) (mulf (broadcastInDim S576x1024 ![] bcast_S_S576x1024 (constant S_ .f32 0x3C23D70A#32)) (m ((c.tc : Thread nD τ).loc main_arg1))))
      ∧ r.2.mem ((c.tc : Thread nD τ).loc main_v4) = addf (mulf (broadcastInDim S576x1024 ![] bcast_S_S576x1024 (constant S_ .f32 0x3F666666#32)) (m ((c.tc : Thread nD τ).loc main_arg2))) (mulf (broadcastInDim S576x1024 ![] bcast_S_S576x1024 (constant S_ .f32 0x3DCCCCCD#32)) (m ((c.tc : Thread nD τ).loc main_arg0)))
      ∧ r.2.mem ((c.tc : Thread nD τ).loc main_v10) = addf (mulf (broadcastInDim S576x1024 ![] bcast_S_S576x1024 (constant S_ .f32 0x3F7FBE77#32)) (m ((c.tc : Thread nD τ).loc main_arg3))) (mulf (broadcastInDim S576x1024 ![] bcast_S_S576x1024 (constant S_ .f32 0x3A83126F#32)) (mulf (m ((c.tc : Thread nD τ).loc main_arg0)) (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_arg0).trans (by after_results_simp),
      (h c main_v23).trans (by after_results_simp),
      (h c main_v4).trans (by after_results_simp),
      (h c main_v10).trans (by after_results_simp),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp)⟩)
    (run_seq scopedRefs_eq scopedSems_eq defs main (fun _ => ops) main_eq (fun _ => ops_sub) m ρ)

end Cert.Reference5Ideal.Value

end
-- ==== Proof.AdClaim.lean ====
/-
  The optimiser's call for the small parameters computes the reference: the frames and the value claim.
-/
module

public import proofs.«01_k».proof.Defs
public import proofs.«01_k».proof.Proof.AdVal
public import proofs.«01_k».proof.Proof.AdKFacts
public import proofs.«01_k».proof.Proof.AdRefRun
public import Idealize.ShloMosaic.Lib.KernelVsHost
public import Idealize.ShloMosaic.Lib.Quiescent

@[expose] public section

set_option maxRecDepth 16384

noncomputable section

namespace Cert.Hand5

open Idealize.ShloMosaic Idealize.ShloMosaic.TcCoe Idealize.SL.Sem
open Cert.Kernel5Ideal.Hand

/-- The two programs have one body table. -/
theorem defs_eq : @Cert.Kernel5.defs Bits _ Cert.Kernel5.Gen.facts = @Cert.Kernel5Ideal.defs Bits _ Cert.Kernel5Ideal.Gen.facts := by
  refine congrArg (Pipeline.defs (@Cert.Kernel5Ideal.pcfgs Bits Cert.Kernel5Ideal.Gen.facts)) ?_
  refine congrArg Defs.onTc (funext fun l => funext fun a => ?_)
  match l, a with
  | 0, (t, s) => rfl

theorem frame_kernel : Cert.quiescent_Kernel5 (hKernel5 := Cert.Kernel5.Gen.facts) := fun m ρ _ =>
  Eq.mpr (congrArg (fun d => θ_run d _ _ _) defs_eq) (Cert.Kernel5Ideal.Gen.frame (F := Bits) m ρ)

theorem frame_ideal : Cert.quiescent_Kernel5Ideal (hKernel5Ideal := Cert.Kernel5Ideal.Gen.facts) := fun m ρ _ =>
  Cert.Kernel5Ideal.Gen.frame m ρ

theorem frame_reference : Cert.quiescent_Reference5Ideal (hReference5Ideal := Cert.Reference5Ideal.Gen.facts) := fun m ρ _ =>
  (θ_run (Cert.Reference5Ideal.defs (F := Ideal)) _ _).mono
    (fun r h => ⟨fun c => (h c).2.2.2.2, sem_eq_zero_of_no_sems (by decide) r.2⟩) (Cert.Reference5Ideal.Value.run m ρ)

theorem algebraic : Cert.algebraic_Kernel5Ideal_Reference5Ideal (hKernel5Ideal := Cert.Kernel5Ideal.Gen.facts)
    (hReference5Ideal := Cert.Reference5Ideal.Gen.facts) := fun m g m' g' _ ha =>
  ⟨fun c => G4 m c, fun c => G5 m c, fun c => G6 m c, fun c => G7 m c, run_results m g,
    (θ_run (Cert.Reference5Ideal.defs (F := Ideal)) _ _).mono (fun r h c => by
      obtain ⟨a0, a1, a2, a3, -⟩ := ha c
      refine ⟨(h c).1.trans ?_, (h c).2.1.trans ?_, (h c).2.2.1.trans ?_, (h c).2.2.2.1.trans ?_, (h c).2.2.2.2⟩
      · exact a0
      · rw [a0, a1, a2, a3]
        rfl
      · rw [a0, a2]
        rfl
      · rw [a0, a3]
        rfl) (Cert.Reference5Ideal.Value.run m' g')⟩

end Cert.Hand5

end
-- ==== Proof.AwFacts.lean ====
/-
  The optimiser's call for the input weights: the facts its idealized program states, the launch, and the body as memory operations over named values.
-/
module

public import proofs.«01_k».proof.Kernel6Ideal
public import Idealize.ShloMosaic.Lib.Affine
public import Idealize.ShloMosaic.Lib.Decide
public import Idealize.ShloMosaic.Lib.Exec
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option synthInstance.maxSize 4096

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The program's facts over its vocabulary, proved. -/
instance facts₀ : Cert.Kernel6Ideal.Facts₀ := by
  constructor
  all_goals first
    | exact Fin.forall_fin_two.2 ⟨Memref.isWhole_whole _, Memref.isWhole_whole _⟩
    | exact fun _ => .inl rfl
    | exact fun _ => .inr (Affine.block_words_dvd (of_decide_eq_true rfl) (by decide))
    | (intro i i' h; first
        | (unfold cc0_transform_0; rw [h 0 rfl, h 1 rfl])
        | (unfold cc0_transform_1; rw [h 0 rfl, h 1 rfl])
        | (unfold cc0_transform_2; rw [h 0 rfl, h 1 rfl])
        | (unfold cc0_transform_3; rw [h 0 rfl, h 1 rfl])
        | (unfold cc0_transform_4; rw [h 0 rfl, h 1 rfl])
        | (unfold cc0_transform_9; rw [h 0 rfl, h 1 rfl])
        | (unfold cc0_transform_10; rw [h 0 rfl, h 1 rfl])
        | (unfold cc0_transform_11; rw [h 0 rfl, h 1 rfl])
        | (unfold cc0_transform_12; rw [h 0 rfl, h 1 rfl]))
    | decide +kernel

/-- Every fact the program states, proved. -/
instance facts : Cert.Kernel6Ideal.Facts where

variable {F : FTy → Type} [FloatOps F]

/-- One staging buffer. -/
abbrev Stg := Memref sig .tc .vmem S1x128x1024 .f32
/-- A tile of 128 rows of an array of the parameters' shape. -/
abbrev Tile (F : FTy → Type) := Vec F S1x128x1024 .f32
/-- A staging buffer of a sum's rows, and 128 of them. -/
abbrev GStg := Memref sig .tc .vmem S128x1024 .bf16
abbrev GTile (F : FTy → Type) := Vec F S128x1024 .bf16
/-- 128 rows of the computation. -/
abbrev Rows (F : FTy → Type) := FVec F S128x1024 .f32

/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs. -/
theorem winFacts0 : Pipeline.WinFacts spec0 := by decide
/-- No window's block is empty. -/
theorem block_pos0 : ∀ w : Fin 9, 0 < (spec0 w).block.numel := by decide
/-- The windows' arrays and the staging memrefs are whole buffers. -/
theorem arr_whole0 : ∀ w : Fin 9, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | ⟨_ + 9, h⟩ => absurd h (Nat.not_lt.2 (Nat.le_add_left _ _))
theorem stage_whole0 : ∀ (w : Fin 9) (s : Fin (spec0 w).nbuf), ((spec0 w).stage s).IsWhole := fun | 0 => fun s => Facts₀.hstage0_0 (s.cast Facts₀.nbuf0_0) | 1 => fun s => Facts₀.hstage0_1 (s.cast Facts₀.nbuf0_1) | 2 => fun s => Facts₀.hstage0_2 (s.cast Facts₀.nbuf0_2) | 3 => fun s => Facts₀.hstage0_3 (s.cast Facts₀.nbuf0_3) | 4 => fun s => Facts₀.hstage0_4 (s.cast Facts₀.nbuf0_4) | 5 => fun s => Facts₀.hstage0_5 (s.cast Facts₀.nbuf0_5) | 6 => fun s => Facts₀.hstage0_6 (s.cast Facts₀.nbuf0_6) | 7 => fun s => Facts₀.hstage0_7 (s.cast Facts₀.nbuf0_7) | 8 => fun s => Facts₀.hstage0_8 (s.cast Facts₀.nbuf0_8) | ⟨_ + 9, h⟩ => absurd h (Nat.not_lt.2 (Nat.le_add_left _ _))
/-- The five, bundled. -/
theorem launch0 : Pipeline.LaunchFacts (nD := nD) (τ := τ) cfgs 0 := ⟨cellOf_inj, winFacts0, block_pos0, arr_whole0, stage_whole0⟩

/-- The grid has 24 points. -/
theorem N_0 : grid0.N = 24 := by decide

/-- The windows conjoined one by one. -/
theorem bigSep_W0 {M : Type} [URA M] (Φ : Fin 9 → sProp M) : bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ

/-! ## @main as segments and as a chain of items -/

/-- 4 host operations of @main, in order. -/
abbrev hostOps0 : List (HloOp τ sig (Elt F)) :=
  [ StableHlo.unary main_arg5 main_v0_0 id,
    StableHlo.unary main_arg6 main_v0_1 id,
    StableHlo.unary main_arg7 main_v0_2 id,
    StableHlo.unary main_arg8 main_v0_3 id ]
/-- Each touches TensorCore references only. -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
/-- `main` is the chain of its items (`Pipeline.chain`). -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-! ## `cc0_adamw` -/

/-- `%46` of the body. -/
def k0_pay1 (v19 : Rows F) (v30 : Rows F) (v37 : Tile F) : Tile F :=
  have cst_22 : F .f32 := Scalar.ofBits .f32 0x3C231ACC#32
  have v31 : Rows F := broadcast S128x1024 cst_22
  have v32 : Rows F := divf v19 v31
  have v33 : Rows F := sqrt v32
  have cst_23 : F .f32 := Scalar.ofBits .f32 0x322BCC77#32
  have v34 : Rows F := broadcast S128x1024 cst_23
  have v35 : Rows F := addf v33 v34
  have v36 : Rows F := divf v30 v35
  have v38 : Rows F := shapeCast S128x1024 v37 Facts₀.shapeCasts_S1x128x1024_S128x1024
  have cst_27 : F .f32 := Scalar.ofBits .f32 0x3C23D70A#32
  have v39 : Rows F := broadcast S128x1024 cst_27
  have v40 : Rows F := mulf v39 v38
  have v41 : Rows F := addf v36 v40
  have cst_28 : F .f32 := Scalar.ofBits .f32 0xBA83126F#32
  have v42 : Rows F := broadcast S128x1024 cst_28
  have v43 : Rows F := mulf v42 v41
  have v46 : Tile F := shapeCast S1x128x1024 v43 Facts₀.shapeCasts_S128x1024_S1x128x1024
  v46

/-- `%4` of the body. -/
def k0_pay2 (v0 v2 : GTile F) : Rows F :=
  have v1 : Rows F := extf .f32 v0 Facts₀.bitsLt_bf16_f32
  have v3 : Rows F := extf .f32 v2 Facts₀.bitsLt_bf16_f32
  have v4 : Rows F := addf v1 v3
  v4

/-- `%11` of the body. -/
def k0_pay3 (v0 v2 : GTile F) (v5 : Tile F) : Rows F :=
  have v6 : Rows F := shapeCast S128x1024 v5 Facts₀.shapeCasts_S1x128x1024_S128x1024
  have cst : F .f32 := Scalar.ofBits .f32 0x3F666666#32
  have v7 : Rows F := broadcast S128x1024 cst
  have v8 : Rows F := mulf v7 v6
  have cst_6 : F .f32 := Scalar.ofBits .f32 0x3DCCCCCD#32
  have v9 : Rows F := broadcast S128x1024 cst_6
  have v10 : Rows F := mulf v9 (k0_pay2 v0 v2)
  have v11 : Rows F := addf v8 v10
  v11

/-- `%19` of the body. -/
def k0_pay4 (v0 v2 : GTile F) (v12 : Tile F) : Rows F :=
  have v13 : Rows F := shapeCast S128x1024 v12 Facts₀.shapeCasts_S1x128x1024_S128x1024
  have cst_10 : F .f32 := Scalar.ofBits .f32 0x3F7FBE77#32
  have v14 : Rows F := broadcast S128x1024 cst_10
  have v15 : Rows F := mulf v14 v13
  have v16 : Rows F := mulf (k0_pay2 v0 v2) (k0_pay2 v0 v2)
  have cst_11 : F .f32 := Scalar.ofBits .f32 0x3A83126F#32
  have v17 : Rows F := broadcast S128x1024 cst_11
  have v18 : Rows F := mulf v17 v16
  have v19 : Rows F := addf v15 v18
  v19

/-- `%22` of the body. -/
def k0_pay5 (v0 v2 : GTile F) : Tile F :=
  have v22 : Tile F := shapeCast S1x128x1024 (k0_pay2 v0 v2) Facts₀.shapeCasts_S128x1024_S1x128x1024
  v22

/-- `%25` of the body. -/
def k0_pay6 (v0 v2 : GTile F) (v5 : Tile F) : Tile F :=
  have v25 : Tile F := shapeCast S1x128x1024 (k0_pay3 v0 v2 v5) Facts₀.shapeCasts_S128x1024_S1x128x1024
  v25

/-- `%28` of the body. -/
def k0_pay7 (v0 v2 : GTile F) (v12 : Tile F) : Tile F :=
  have v28 : Tile F := shapeCast S1x128x1024 (k0_pay4 v0 v2 v12) Facts₀.shapeCasts_S128x1024_S1x128x1024
  v28

/-- `%30` of the body. -/
def k0_pay8 (v0 v2 : GTile F) (v5 : Tile F) : Rows F :=
  have cst_21 : F .f32 := Scalar.ofBits .f32 0x3F26BD02#32
  have v29 : Rows F := broadcast S128x1024 cst_21
  have v30 : Rows F := divf (k0_pay3 v0 v2 v5) v29
  v30

/-- A whole tile. -/
abbrev allRect : Rect S1x128x1024 := Rect.unit (s := S1x128x1024) ![0, 0, 0] S1x128x1024.size Facts₀.inb_S1x128x1024_S1x128x1024_0_0_0

/-- `cc0_adamw` as a skeleton of memory operations over payloads. -/
def cc0_adamw_skel (i : grid0.Coords) (arg2 : GStg) (harg2 : arg2.IsWhole) (arg3 : GStg) (harg3 : arg3.IsWhole) (arg4 : Stg) (harg4 : arg4.IsWhole) (arg5 : Stg) (harg5 : arg5.IsWhole) (arg6 : Stg) (harg6 : arg6.IsWhole) (arg7 : Memref sig .tc .hbm S4x1024x3072 .f32) (harg7 : arg7.IsWhole) (arg8 : Memref sig .tc .hbm S4x1024x3072 .f32) (harg8 : arg8.IsWhole) (arg9 : Memref sig .tc .hbm S4x1024x3072 .f32) (harg9 : arg9.IsWhole) (arg10 : Memref sig .tc .hbm S4x1024x3072 .f32) (harg10 : arg10.IsWhole) (arg11 : Stg) (harg11 : arg11.IsWhole) (arg12 : Stg) (harg12 : arg12.IsWhole) (arg13 : Stg) (harg13 : arg13.IsWhole) (arg14 : Stg) (harg14 : arg14.IsWhole) :
    Prog (TpuEff nD τ sig (Elt F) Λ₀ .tc) PUnit := do
  let ⟨v19, v30⟩ : Σ' (v19 : Rows F), Rows F ← k0_part1 i arg2 harg2 arg3 harg3 arg4 harg4 arg5 harg5 arg6 harg6 arg7 harg7 arg8 harg8 arg9 harg9 arg10 harg10 arg11 harg11 arg12 harg12 arg13 harg13 arg14 harg14
  let v37 : Tile F ← Prog.lift (.load arg4 allRect.toLoadRect (View.loadsAt_vmem Facts₀.h_S1x128x1024))
  let v44 : Tile F ← Prog.lift (.load arg12 allRect.toLoadRect (View.loadsAt_vmem Facts₀.h_S1x128x1024))
  Prog.lift (.store arg12 allRect (k0_pay1 v19 v30 v37) Finset.univ (View.stores_vmem_bits_univ Facts₀.h_S1x128x1024 rfl) (.inl rfl))
  pure ⟨⟩

set_option maxRecDepth 65536 in
/-- The printed `cc0_adamw` is its skeleton: by definitional unfolding. -/
theorem cc0_adamw_eq_skeleton : cc0_adamw (F := F) = cc0_adamw_skel (F := F) := rfl

/-- `k0_part1` as a skeleton of memory operations over payloads. -/
def k0_part1_skel (i : grid0.Coords) (arg2 : GStg) (harg2 : arg2.IsWhole) (arg3 : GStg) (harg3 : arg3.IsWhole) (arg4 : Stg) (harg4 : arg4.IsWhole) (arg5 : Stg) (harg5 : arg5.IsWhole) (arg6 : Stg) (harg6 : arg6.IsWhole) (arg7 : Memref sig .tc .hbm S4x1024x3072 .f32) (harg7 : arg7.IsWhole) (arg8 : Memref sig .tc .hbm S4x1024x3072 .f32) (harg8 : arg8.IsWhole) (arg9 : Memref sig .tc .hbm S4x1024x3072 .f32) (harg9 : arg9.IsWhole) (arg10 : Memref sig .tc .hbm S4x1024x3072 .f32) (harg10 : arg10.IsWhole) (arg11 : Stg) (harg11 : arg11.IsWhole) (arg12 : Stg) (harg12 : arg12.IsWhole) (arg13 : Stg) (harg13 : arg13.IsWhole) (arg14 : Stg) (harg14 : arg14.IsWhole) :
    Prog (TpuEff nD τ sig (Elt F) Λ₀ .tc) (Σ' (v19 : Rows F), Rows F) := do
  let v0 : GTile F ← Prog.lift (.load arg2 (Rect.unit (s := S128x1024) ![0, 0] S128x1024.size Facts₀.inb_S128x1024_S128x1024_0_0).toLoadRect (View.loadsAt_vmem Facts₀.h_S128x1024))
  let v2 : GTile F ← Prog.lift (.load arg3 (Rect.unit (s := S128x1024) ![0, 0] S128x1024.size Facts₀.inb_S128x1024_S128x1024_0_0).toLoadRect (View.loadsAt_vmem Facts₀.h_S128x1024))
  let v5 : Tile F ← Prog.lift (.load arg5 allRect.toLoadRect (View.loadsAt_vmem Facts₀.h_S1x128x1024))
  let v12 : Tile F ← Prog.lift (.load arg6 allRect.toLoadRect (View.loadsAt_vmem Facts₀.h_S1x128x1024))
  let v20 : Tile F ← Prog.lift (.load arg11 allRect.toLoadRect (View.loadsAt_vmem Facts₀.h_S1x128x1024))
  Prog.lift (.store arg11 allRect (k0_pay5 v0 v2) Finset.univ (View.stores_vmem_bits_univ Facts₀.h_S1x128x1024 rfl) (.inl rfl))
  let v23 : Tile F ← Prog.lift (.load arg13 allRect.toLoadRect (View.loadsAt_vmem Facts₀.h_S1x128x1024))
  Prog.lift (.store arg13 allRect (k0_pay6 v0 v2 v5) Finset.univ (View.stores_vmem_bits_univ Facts₀.h_S1x128x1024 rfl) (.inl rfl))
  let v26 : Tile F ← Prog.lift (.load arg14 allRect.toLoadRect (View.loadsAt_vmem Facts₀.h_S1x128x1024))
  Prog.lift (.store arg14 allRect (k0_pay7 v0 v2 v12) Finset.univ (View.stores_vmem_bits_univ Facts₀.h_S1x128x1024 rfl) (.inl rfl))
  pure ⟨k0_pay4 v0 v2 v12, k0_pay8 v0 v2 v5⟩

set_option maxRecDepth 65536 in
/-- The printed `k0_part1` is its skeleton: by definitional unfolding. -/
theorem k0_part1_eq_skeleton : k0_part1 (F := F) = k0_part1_skel (F := F) := rfl

/-- The kernel body at point `t`, on what the pipeline calls it with (`defs₀`'s row at the slots). -/
abbrev bodyAt0 (t : Fin cfg0.N) : Prog (TpuEff nD τ sig (Elt F) Λ₀ .tc) PUnit :=
  cc0_adamw (grid0.coords t) (win0_0.stage (cfg0.slots t 0)) (Facts₀.hstage0_0 ((cfg0.slots t 0).cast Facts₀.nbuf0_0)) (win0_1.stage (cfg0.slots t 1)) (Facts₀.hstage0_1 ((cfg0.slots t 1).cast Facts₀.nbuf0_1)) (win0_2.stage (cfg0.slots t 2)) (Facts₀.hstage0_2 ((cfg0.slots t 2).cast Facts₀.nbuf0_2)) (win0_3.stage (cfg0.slots t 3)) (Facts₀.hstage0_3 ((cfg0.slots t 3).cast Facts₀.nbuf0_3)) (win0_4.stage (cfg0.slots t 4)) (Facts₀.hstage0_4 ((cfg0.slots t 4).cast Facts₀.nbuf0_4)) (Memref.whole main_arg5) (Memref.isWhole_whole _) (Memref.whole main_arg6) (Memref.isWhole_whole _) (Memref.whole main_arg7) (Memref.isWhole_whole _) (Memref.whole main_arg8) (Memref.isWhole_whole _) (win0_5.stage (cfg0.slots t 5)) (Facts₀.hstage0_5 ((cfg0.slots t 5).cast Facts₀.nbuf0_5)) (win0_6.stage (cfg0.slots t 6)) (Facts₀.hstage0_6 ((cfg0.slots t 6).cast Facts₀.nbuf0_6)) (win0_7.stage (cfg0.slots t 7)) (Facts₀.hstage0_7 ((cfg0.slots t 7).cast Facts₀.nbuf0_7)) (win0_8.stage (cfg0.slots t 8)) (Facts₀.hstage0_8 ((cfg0.slots t 8).cast Facts₀.nbuf0_8))

end Cert.Kernel6Ideal.Gen

end
-- ==== Proof.AwFrame.lean ====
/-
  The optimiser's call for the input weights: the body's run, what the points leave, the run and the frame.
-/
module

public import proofs.«01_k».proof.Proof.AwFacts
public import proofs.«01_k».proof.Proof.Whole
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole (off2 off3 load_whole stored_whole)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c` owns the buffer `M` with the contents `x`. -/
abbrev own {S : Shape} {e : EltTy} (c : Dev nD) (M : Memref sig .tc .vmem S e) (x : Vec F S e) : sProp 𝕄 := owns (c : Thread nD τ) M fullShare x

/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The arguments are as they were at the launch. -/
abbrev Kept (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The kernel body on any staging memrefs -/

/-- Each window's current staging memref at point `t`, spelled as the pipeline passes it (`bodyAt0`), and its wholeness. -/
abbrev ms0_0 (t : Fin cfg0.N) : GStg := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : GStg := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Stg := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Stg := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Stg := win0_4.stage (cfg0.slots t 4)
abbrev hs0_4 (t : Fin cfg0.N) : (ms0_4 t).IsWhole := Facts₀.hstage0_4 ((cfg0.slots t 4).cast Facts₀.nbuf0_4)
abbrev ms0_5 (t : Fin cfg0.N) : Stg := win0_5.stage (cfg0.slots t 5)
abbrev hs0_5 (t : Fin cfg0.N) : (ms0_5 t).IsWhole := Facts₀.hstage0_5 ((cfg0.slots t 5).cast Facts₀.nbuf0_5)
abbrev ms0_6 (t : Fin cfg0.N) : Stg := win0_6.stage (cfg0.slots t 6)
abbrev hs0_6 (t : Fin cfg0.N) : (ms0_6 t).IsWhole := Facts₀.hstage0_6 ((cfg0.slots t 6).cast Facts₀.nbuf0_6)
abbrev ms0_7 (t : Fin cfg0.N) : Stg := win0_7.stage (cfg0.slots t 7)
abbrev hs0_7 (t : Fin cfg0.N) : (ms0_7 t).IsWhole := Facts₀.hstage0_7 ((cfg0.slots t 7).cast Facts₀.nbuf0_7)
abbrev ms0_8 (t : Fin cfg0.N) : Stg := win0_8.stage (cfg0.slots t 8)
abbrev hs0_8 (t : Fin cfg0.N) : (ms0_8 t).IsWhole := Facts₀.hstage0_8 ((cfg0.slots t 8).cast Facts₀.nbuf0_8)

section Body
variable (c : Dev nD) (i : grid0.Coords) (arg2 : GStg) (harg2 : arg2.IsWhole) (arg3 : GStg) (harg3 : arg3.IsWhole) (arg4 : Stg) (harg4 : arg4.IsWhole) (arg5 : Stg) (harg5 : arg5.IsWhole) (arg6 : Stg) (harg6 : arg6.IsWhole) (arg11 : Stg) (harg11 : arg11.IsWhole) (arg12 : Stg) (harg12 : arg12.IsWhole) (arg13 : Stg) (harg13 : arg13.IsWhole) (arg14 : Stg) (harg14 : arg14.IsWhole)
  (x0 x1 : GTile F) (x2 x3 x4 : Tile F)

/-- Load a tile, or a sum's rows. -/
abbrev ld (M : Stg) (h : M.IsWhole) (x : Tile F) : Tile F :=
  View.readAt (Elt F) M.view (Rect.unit ![0, 0, 0] S1x128x1024.size Facts₀.inb_S1x128x1024_S1x128x1024_0_0_0).toLoadRect (h.unread x)
abbrev ldg (M : GStg) (h : M.IsWhole) (x : GTile F) : GTile F :=
  View.readAt (Elt F) M.view (Rect.unit ![0, 0] S128x1024.size Facts₀.inb_S128x1024_S128x1024_0_0).toLoadRect (h.unread x)
theorem ld_eq (M : Stg) (h : M.IsWhole) (x : Tile F) : ld M h x = x := load_whole off3 M h x _
theorem ldg_eq (M : GStg) (h : M.IsWhole) (x : GTile F) : ldg M h x = x := load_whole off2 M h x _

set_option maxHeartbeats 1000000 in
/-- One run of the body on whole staging memrefs: the inputs' stay as they were, and each output's holds its value of the inputs' contents. -/
theorem body_run (E : Set ℕ) (K : PUnit → sProp 𝕄) :
    iprop(own c arg2 x0 ∗ own c arg3 x1 ∗ own c arg4 x2 ∗ own c arg5 x3 ∗ own c arg6 x4
        ∗ (∃ d, own c arg11 d) ∗ (∃ d, own c arg12 d) ∗ (∃ d, own c arg13 d) ∗ (∃ d, own c arg14 d)
        ∗ (iprop(own c arg2 x0 ∗ own c arg3 x1 ∗ own c arg4 x2 ∗ own c arg5 x3 ∗ own c arg6 x4
          ∗ own c arg11 (k0_pay5 x0 x1) ∗ own c arg12 (k0_pay1 (k0_pay4 x0 x1 x4) (k0_pay8 x0 x1 x3) x2) ∗ own c arg13 (k0_pay6 x0 x1 x3) ∗ own c arg14 (k0_pay7 x0 x1 x4)) -∗ K ⟨⟩))
      ⊢ wp frame (wpE (defs₀ (F := F)) Variants.none c none) E (cc0_adamw i arg2 harg2 arg3 harg3 arg4 harg4 arg5 harg5 arg6 harg6 (Memref.whole main_arg5) (Memref.isWhole_whole _) (Memref.whole main_arg6) (Memref.isWhole_whole _) (Memref.whole main_arg7) (Memref.isWhole_whole _) (Memref.whole main_arg8) (Memref.isWhole_whole _) arg11 harg11 arg12 harg12 arg13 harg13 arg14 harg14) K := by
  simp only [cc0_adamw_eq_skeleton]; unfold cc0_adamw_skel
  simp only [k0_part1_eq_skeleton]
  unfold own owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]; · iexists _; isplitr; (ipureintro; exact harg2.read_unread _); iexact H0
  isplitl [H1]; · iexists _; isplitr; (ipureintro; exact harg3.read_unread _); iexact H1
  isplitl [H2]; · iexists _; isplitr; (ipureintro; exact harg4.read_unread _); iexact H2
  isplitl [H3]; · iexists _; isplitr; (ipureintro; exact harg5.read_unread _); iexact H3
  isplitl [H4]; · iexists _; isplitr; (ipureintro; exact harg6.read_unread _); iexact H4
  isplitl [H5]; · iexists _; isplitr; swap; (iexact H5); ipureintro; exact (stored_whole off3 arg11.view _ _ (k0_pay5 (ldg _ harg2 x0) (ldg _ harg3 x1))).trans (by simp only [ld_eq, ldg_eq])
  isplitl [H6]; · iexists _; isplitr; swap; (iexact H6); ipureintro; exact (stored_whole off3 arg12.view _ _ (k0_pay1 (k0_pay4 (ldg _ harg2 x0) (ldg _ harg3 x1) (ld _ harg6 x4)) (k0_pay8 (ldg _ harg2 x0) (ldg _ harg3 x1) (ld _ harg5 x3)) (ld _ harg4 x2))).trans (by simp only [ld_eq, ldg_eq])
  isplitl [H7]; · iexists _; isplitr; swap; (iexact H7); ipureintro; exact (stored_whole off3 arg13.view _ _ (k0_pay6 (ldg _ harg2 x0) (ldg _ harg3 x1) (ld _ harg5 x3))).trans (by simp only [ld_eq, ldg_eq])
  iexists _; isplitr; swap; (iexact H8); ipureintro; exact (stored_whole off3 arg14.view _ _ (k0_pay7 (ldg _ harg2 x0) (ldg _ harg3 x1) (ld _ harg6 x4))).trans (by simp only [ld_eq, ldg_eq])

end Body

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay5 (iblk m c 0 t) (iblk m c 1 t)
    | ⟨6, _⟩ => k0_pay1 (k0_pay4 (iblk m c 0 t) (iblk m c 1 t) (iblk m c 4 t)) (k0_pay8 (iblk m c 0 t) (iblk m c 1 t) (iblk m c 3 t)) (iblk m c 2 t)
    | ⟨7, _⟩ => k0_pay6 (iblk m c 0 t) (iblk m c 1 t) (iblk m c 3 t)
    | ⟨8, _⟩ => k0_pay7 (iblk m c 0 t) (iblk m c 1 t) (iblk m c 4 t)
  Φ _ := Pipeline.ΦA spec0 c
  q _ := fullShare
  owed _ := 0

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay5 (iblk m c 0 t) (iblk m c 1 t) := by dsimp only [dats]
theorem after0_6 (c : Dev nD) (t : Fin cfg0.N) : (dats m 0 c).after 6 t = k0_pay1 (k0_pay4 (iblk m c 0 t) (iblk m c 1 t) (iblk m c 4 t)) (k0_pay8 (iblk m c 0 t) (iblk m c 1 t) (iblk m c 3 t)) (iblk m c 2 t) := by dsimp only [dats]
theorem after0_7 (c : Dev nD) (t : Fin cfg0.N) : (dats m 0 c).after 7 t = k0_pay6 (iblk m c 0 t) (iblk m c 1 t) (iblk m c 3 t) := by dsimp only [dats]
theorem after0_8 (c : Dev nD) (t : Fin cfg0.N) : (dats m 0 c).after 8 t = k0_pay7 (iblk m c 0 t) (iblk m c 1 t) (iblk m c 4 t) := by dsimp only [dats]

/-- Each input's current staging buffer holds its block at every point, fetched there or not. -/
theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d
theorem before0_3 (c : Dev nD) (t : Fin cfg0.N) (d) : (dats m 0 c).before 3 t d = iblk m c 3 t :=
  (dats m 0 c).before_in_eq_fetched 3 rfl (fun _ => rfl) (fun _ _ _ => rfl) (fun _ => rfl) t d
theorem before0_4 (c : Dev nD) (t : Fin cfg0.N) (d) : (dats m 0 c).before 4 t d = iblk m c 4 t :=
  (dats m 0 c).before_in_eq_fetched 4 rfl (fun _ => rfl) (fun _ _ _ => rfl) (fun _ => rfl) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, own c (ms0_0 t) ((dats m 0 c).before 0 t d))
    ∗ (∃ d, own c (ms0_1 t) ((dats m 0 c).before 1 t d))
    ∗ (∃ d, own c (ms0_2 t) ((dats m 0 c).before 2 t d))
    ∗ (∃ d, own c (ms0_3 t) ((dats m 0 c).before 3 t d))
    ∗ (∃ d, own c (ms0_4 t) ((dats m 0 c).before 4 t d))
    ∗ (∃ d, own c (ms0_5 t) ((dats m 0 c).before 5 t d))
    ∗ (∃ d, own c (ms0_6 t) ((dats m 0 c).before 6 t d))
    ∗ (∃ d, own c (ms0_7 t) ((dats m 0 c).before 7 t d))
    ∗ (∃ d, own c (ms0_8 t) ((dats m 0 c).before 8 t d)))

/-- and what it returns. -/
def bodyPost (c : Dev nD) (t : Fin cfg0.N) : sProp 𝕄 :=
  iprop((dats m 0 c).Φ t.succ ∗ (dats m 0 c).owesAt () t.succ
    ∗ own c (ms0_0 t) ((dats m 0 c).after 0 t)
    ∗ own c (ms0_1 t) ((dats m 0 c).after 1 t)
    ∗ own c (ms0_2 t) ((dats m 0 c).after 2 t)
    ∗ own c (ms0_3 t) ((dats m 0 c).after 3 t)
    ∗ own c (ms0_4 t) ((dats m 0 c).after 4 t)
    ∗ own c (ms0_5 t) ((dats m 0 c).after 5 t)
    ∗ own c (ms0_6 t) ((dats m 0 c).after 6 t)
    ∗ own c (ms0_7 t) ((dats m 0 c).after 7 t)
    ∗ own c (ms0_8 t) ((dats m 0 c).after 8 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- THE FRAME. -/
theorem frame : θ_run defs (onTc (τ := τ) (main (F := F))) ⟨m, fun _ => 0, ρ⟩ (fun r => (∀ c : Dev nD, Kept m c r.2.mem) ∧ r.2.sem = fun _ => 0) :=
  (θ_run defs _ _).mono (fun _ h => ⟨fun c => ⟨((h.1 c).1 0).trans ((dats m 0 c).arrAt_in 0 rfl _),
      ((h.1 c).1 1).trans ((dats m 0 c).arrAt_in 1 rfl _),
      ((h.1 c).1 2).trans ((dats m 0 c).arrAt_in 2 rfl _),
      ((h.1 c).1 3).trans ((dats m 0 c).arrAt_in 3 rfl _),
      ((h.1 c).1 4).trans ((dats m 0 c).arrAt_in 4 rfl _),
      (h.1 c).2 main_arg5 (Pipeline.mem_restRefs_of main_arg5 (by decide) (by decide)),
      (h.1 c).2 main_arg6 (Pipeline.mem_restRefs_of main_arg6 (by decide) (by decide)),
      (h.1 c).2 main_arg7 (Pipeline.mem_restRefs_of main_arg7 (by decide) (by decide)),
      (h.1 c).2 main_arg8 (Pipeline.mem_restRefs_of main_arg8 (by decide) (by decide))⟩, h.2⟩) (run_main_quiescent m ρ)

end Cert.Kernel6Ideal.Gen

end
-- ==== Proof.AwRef.lean ====
/-
  The optimiser's call for the input weights: the reference's facts, its run, and its terms at an index.
-/
module

public import proofs.«01_k».proof.Reference6Ideal
public import proofs.«01_k».proof.Proof.AdVal
public import Idealize.ShloMosaic.Lib.Affine
public import Idealize.ShloMosaic.Lib.Decide
public import Idealize.ShloMosaic.Lib.Exec
public import Idealize.ShloMosaic.Lib.StableHlo.Run
public import Idealize.ShloMosaic.Lib.Pipeline.Value
public import Idealize.ShloMosaic.Lib.ValueIdx

@[expose] public section

set_option synthInstance.maxSize 4096

noncomputable section

namespace Cert.Reference6Ideal.Gen

open Idealize.ShloMosaic Idealize.SL.Sem

/-- The program's facts. -/
instance facts₀ : Cert.Reference6Ideal.Facts₀ := by constructor <;> decide
instance facts : Cert.Reference6Ideal.Facts where

end Cert.Reference6Ideal.Gen

namespace Cert.Reference6Ideal.Value

open Cert.Reference6Ideal Cert.Reference6Ideal.Gen Idealize.ShloMosaic Idealize.ShloMosaic.TcCoe Idealize.SL.Sem Idealize.ShloMosaic.StableHlo
open Idealize.ShloMosaic.ValueIdx
open Cert.Kernel5Ideal.Hand (newM newV delta)

/-- The arrays: a scalar, the exchanged sums, one layer's matrix, the same as a slab, the other layers' slabs, all layers. -/
abbrev Sc (F : FTy → Type) := (⟨S_, .f32⟩ : BufTy).Contents (Elt F)
abbrev Half (F : FTy → Type) := (⟨S4224x1024, .bf16⟩ : BufTy).Contents (Elt F)
abbrev Sum (F : FTy → Type) := (⟨S4224x1024, .f32⟩ : BufTy).Contents (Elt F)
abbrev Mat (F : FTy → Type) := (⟨S1024x3072, .f32⟩ : BufTy).Contents (Elt F)
abbrev Slab (F : FTy → Type) := (⟨S1x1024x3072, .f32⟩ : BufTy).Contents (Elt F)
abbrev Rest (F : FTy → Type) := (⟨S3x1024x3072, .f32⟩ : BufTy).Contents (Elt F)
abbrev Stack (F : FTy → Type) := (⟨S4x1024x3072, .f32⟩ : BufTy).Contents (Elt F)
abbrev Op2 (F : FTy → Type) := Mat F → Mat F → Mat F

variable {F : FTy → Type} [FloatOps F]

/-! ## The terms -/

abbrev fill : Sc F → Mat F := broadcastInDim S1024x3072 ![] Facts₀.bcast_S_S1024x3072
abbrev first : Stack F → Slab F := (extractStridedSlice S1x1024x3072 ![0, 0, 0] · Facts₀.slices_S4x1024x3072_S1x1024x3072_0_0_0)
abbrev rest : Stack F → Rest F := (extractStridedSlice S3x1024x3072 ![1, 0, 0] · Facts₀.slices_S4x1024x3072_S3x1024x3072_1_0_0)
abbrev one : Mat F → Slab F := broadcastInDim S1x1024x3072 ![1, 2] Facts₀.bcast_S1024x3072_S1x1024x3072_1_2
abbrev cat : Slab F → Rest F → Stack F :=
  fun a b => concatenate S4x1024x3072 0 [⟨S1x1024x3072, a⟩, ⟨S3x1024x3072, b⟩] Facts₀.concatenates_S1x1024x3072_S3x1024x3072_S4x1024x3072_d0
abbrev num (b : BitVec 32) : Mat F := fill (constant S_ .f32 b)

/-- Layer 0's matrix. -/
def lay (a : Stack F) : Mat F := shapeCast S1024x3072 (first a) Facts₀.shapeCasts_S1x1024x3072_S1024x3072
/-- A matrix as layer 0's, the other layers' as they were. -/
def stack (v : Mat F) (a : Stack F) : Stack F := cat (one v) (rest a)
/-- The gradient: the sum of the two halves, its three blocks of rows side by side. -/
def gsum (a b : Half F) : Mat F :=
  shapeCast S1024x3072 (transpose S1024x3x1024 [1, 0, 2]
    (shapeCast S3x1024x1024 (extractStridedSlice S3072x1024 ![0, 0] (addf (extf .f32 a Facts₀.bitsLt_bf16_f32) (extf .f32 b Facts₀.bitsLt_bf16_f32) : Sum F) Facts₀.slices_S4224x1024_S3072x1024_0_0)
      Facts₀.shapeCasts_S3072x1024_S3x1024x1024) Facts₀.transposes_S3x1024x1024_S1024x3x1024_1_0_2) Facts₀.shapeCasts_S1024x3x1024_S1024x3072
/-- The moments and the change. -/
def mean (g v : Mat F) : Mat F := addf (mulf (num 0x3F666666#32) v) (mulf (num 0x3DCCCCCD#32) g)
def sqmean (g v : Mat F) : Mat F := addf (mulf (num 0x3F7FBE77#32) v) (mulf (num 0x3A83126F#32) (mulf g g))
def change (g w v u : Mat F) : Mat F :=
  mulf (num 0xBA83126F#32) (addf (Host.divf (Host.divf (mean g v) (num 0x3F26BD02#32))
    (addf (Host.sqrt (Host.divf (sqmean g u) (num 0x3C231ACC#32))) (num 0x322BCC77#32))) (mulf (num 0x3C23D70A#32) w))

/-! ## The run -/

/-- @main's operations, in order. -/
abbrev ops : List (HloOp τ sig (Elt F)) :=
  [ unary main_arg0 main_v0 ((extf .f32 · Facts₀.bitsLt_bf16_f32) : (⟨S4224x1024, .bf16⟩ : BufTy).Contents (Elt F) → Sum F),
    unary main_arg1 main_v1 ((extf .f32 · Facts₀.bitsLt_bf16_f32) : (⟨S4224x1024, .bf16⟩ : BufTy).Contents (Elt F) → Sum F),
    binary main_v0 main_v1 main_v2 (addf : Sum F → Sum F → Sum F),
    unary main_v2 main_v3 ((extractStridedSlice S3072x1024 ![0, 0] · Facts₀.slices_S4224x1024_S3072x1024_0_0) : Sum F → (⟨S3072x1024, .f32⟩ : BufTy).Contents (Elt F)),
    reshape main_v3 main_v4 (rfl : (.f32 : EltTy) = .f32) Facts₀.shapeCasts_S3072x1024_S3x1024x1024,
    unary main_v4 main_v5 ((transpose S1024x3x1024 [1, 0, 2] · Facts₀.transposes_S3x1024x1024_S1024x3x1024_1_0_2) : (⟨S3x1024x1024, .f32⟩ : BufTy).Contents (Elt F) → (⟨S1024x3x1024, .f32⟩ : BufTy).Contents (Elt F)),
    reshape main_v5 main_v6 (rfl : (.f32 : EltTy) = .f32) Facts₀.shapeCasts_S1024x3x1024_S1024x3072,
    unary main_arg2 main_v7 first,
    reshape main_v7 main_v8 (rfl : (.f32 : EltTy) = .f32) Facts₀.shapeCasts_S1x1024x3072_S1024x3072,
    unary main_arg3 main_v9 first,
    reshape main_v9 main_v10 (rfl : (.f32 : EltTy) = .f32) Facts₀.shapeCasts_S1x1024x3072_S1024x3072,
    unary main_arg4 main_v11 first,
    reshape main_v11 main_v12 (rfl : (.f32 : EltTy) = .f32) Facts₀.shapeCasts_S1x1024x3072_S1024x3072,
    nullary main_cst (constant S_ .f32 0x3F666666#32),
    unary main_cst main_v13 fill,
    binary main_v13 main_v10 main_v14 (mulf : Op2 F),
    nullary main_cst_0 (constant S_ .f32 0x3DCCCCCD#32),
    unary main_cst_0 main_v15 fill,
    binary main_v15 main_v6 main_v16 (mulf : Op2 F),
    binary main_v14 main_v16 main_v17 (addf : Op2 F),
    nullary main_cst_1 (constant S_ .f32 0x3F7FBE77#32),
    unary main_cst_1 main_v18 fill,
    binary main_v18 main_v12 main_v19 (mulf : Op2 F),
    binary main_v6 main_v6 main_v20 (mulf : Op2 F),
    nullary main_cst_2 (constant S_ .f32 0x3A83126F#32),
    unary main_cst_2 main_v21 fill,
    binary main_v21 main_v20 main_v22 (mulf : Op2 F),
    binary main_v19 main_v22 main_v23 (addf : Op2 F),
    nullary main_cst_3 (constant S_ .f32 0x3F26BD02#32),
    unary main_cst_3 main_v24 fill,
    binary main_v17 main_v24 main_v25 (Host.divf : Op2 F),
    nullary main_cst_4 (constant S_ .f32 0x3C231ACC#32),
    unary main_cst_4 main_v26 fill,
    binary main_v23 main_v26 main_v27 (Host.divf : Op2 F),
    unary main_v27 main_v28 (Host.sqrt : Mat F → Mat F),
    nullary main_cst_5 (constant S_ .f32 0x322BCC77#32),
    unary main_cst_5 main_v29 fill,
    binary main_v28 main_v29 main_v30 (addf : Op2 F),
    binary main_v25 main_v30 main_v31 (Host.divf : Op2 F),
    nullary main_cst_6 (constant S_ .f32 0x3C23D70A#32),
    unary main_cst_6 main_v32 fill,
    binary main_v32 main_v8 main_v33 (mulf : Op2 F),
    binary main_v31 main_v33 main_v34 (addf : Op2 F),
    nullary main_cst_7 (constant S_ .f32 0xBA83126F#32),
    unary main_cst_7 main_v35 fill,
    binary main_v35 main_v34 main_v36 (mulf : Op2 F),
    unary main_v6 main_v37 one,
    unary main_arg5 main_v38 rest,
    binary main_v37 main_v38 main_v39 cat,
    unary main_v36 main_v40 one,
    unary main_arg6 main_v41 rest,
    binary main_v40 main_v41 main_v42 cat,
    unary main_v17 main_v43 one,
    unary main_arg7 main_v44 rest,
    binary main_v43 main_v44 main_v45 cat,
    unary main_v23 main_v46 one,
    unary main_arg8 main_v47 rest,
    binary main_v46 main_v47 main_v48 cat ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxHeartbeats 2000000 in
/-- From any memory with zero counters every execution of @main ends with each result at its term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = stack (gsum (m ((c.tc : Thread nD τ).loc main_arg0)) (m ((c.tc : Thread nD τ).loc main_arg1))) (m ((c.tc : Thread nD τ).loc main_arg5))
      ∧ r.2.mem ((c.tc : Thread nD τ).loc main_v42) = stack (change (gsum (m ((c.tc : Thread nD τ).loc main_arg0)) (m ((c.tc : Thread nD τ).loc main_arg1))) (lay (m ((c.tc : Thread nD τ).loc main_arg2))) (lay (m ((c.tc : Thread nD τ).loc main_arg3))) (lay (m ((c.tc : Thread nD τ).loc main_arg4)))) (m ((c.tc : Thread nD τ).loc main_arg6))
      ∧ r.2.mem ((c.tc : Thread nD τ).loc main_v45) = stack (mean (gsum (m ((c.tc : Thread nD τ).loc main_arg0)) (m ((c.tc : Thread nD τ).loc main_arg1))) (lay (m ((c.tc : Thread nD τ).loc main_arg3)))) (m ((c.tc : Thread nD τ).loc main_arg7))
      ∧ r.2.mem ((c.tc : Thread nD τ).loc main_v48) = stack (sqmean (gsum (m ((c.tc : Thread nD τ).loc main_arg0)) (m ((c.tc : Thread nD τ).loc main_arg1))) (lay (m ((c.tc : Thread nD τ).loc main_arg4)))) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v39).trans (by after_results_simp <;> rfl),
      (h c main_v42).trans (by after_results_simp <;> rfl),
      (h c main_v45).trans (by after_results_simp <;> rfl),
      (h c main_v48).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp)⟩)
    (run_seq scopedRefs_eq scopedSems_eq defs main (fun _ => ops) main_eq (fun _ => ops_sub) m ρ)

/-! ## The terms at an index -/

/-- The gradient at row `x` and column `q`. -/
def gAt (a b : Half Ideal) (x : Fin 1024) (q : Fin 3072) : Ideal .f32 :=
  FloatOps.addf (FloatOps.extf .f32 Facts₀.bitsLt_bf16_f32 (a (ix2 ⟨1024 * (q.val / 1024) + x.val, by omega⟩ ⟨q.val % 1024, Nat.mod_lt _ (by decide)⟩ : S4224x1024.Idx)))
    (FloatOps.extf .f32 Facts₀.bitsLt_bf16_f32 (b (ix2 ⟨1024 * (q.val / 1024) + x.val, by omega⟩ ⟨q.val % 1024, Nat.mod_lt _ (by decide)⟩ : S4224x1024.Idx)))

/-- Layer 0's matrix set, the other layers' kept. -/
def upd (new : Fin 1024 → Fin 3072 → Ideal .f32) (old : Stack Ideal) : Stack Ideal :=
  fun i => if (i 0).val = 0 then new (i 1) (i 2) else old i

theorem gsum_apply (a b : Half Ideal) (x : Fin 1024) (q : Fin 3072) : gsum a b (ix2 x q : S1024x3072.Idx) = gAt a b x q := by
  refine (shapeCast_apply _ _ _ (ix3 x ⟨q.val / 1024, by omega⟩ ⟨q.val % 1024, Nat.mod_lt _ (by decide)⟩ : S1024x3x1024.Idx) ?_).trans ?_
  · rewrite [Shape.rowMajor_val_three, Shape.rowMajor_val_two]
    show (x.val * 3 + q.val / 1024) * 1024 + q.val % 1024 = x.val * 3072 + q.val
    omega
  refine (transpose_apply (s := S3x1024x1024) (t := S1024x3x1024) [1, 0, 2] _ _ _
    (ix3 ⟨q.val / 1024, by omega⟩ x ⟨q.val % 1024, Nat.mod_lt _ (by decide)⟩ : S3x1024x1024.Idx) ?_).trans ?_
  · exact fun b => match b with | 0 => rfl | 1 => rfl | 2 => rfl
  refine (shapeCast_apply _ _ _ (ix2 ⟨1024 * (q.val / 1024) + x.val, by omega⟩ ⟨q.val % 1024, Nat.mod_lt _ (by decide)⟩ : S3072x1024.Idx) ?_).trans ?_
  · rewrite [Shape.rowMajor_val_three, Shape.rowMajor_val_two]
    show (1024 * (q.val / 1024) + x.val) * 1024 + q.val % 1024 = (q.val / 1024 * 1024 + x.val) * 1024 + q.val % 1024
    omega
  exact extractStridedSlice_apply _ _ _ _ (ix2 ⟨1024 * (q.val / 1024) + x.val, by omega⟩ ⟨q.val % 1024, Nat.mod_lt _ (by decide)⟩ : S4224x1024.Idx)
    (fun b => match b with | 0 => (Nat.zero_add _).symm | 1 => (Nat.zero_add _).symm)

theorem lay_apply (a : Stack Ideal) (x : Fin 1024) (q : Fin 3072) : lay a (ix2 x q : S1024x3072.Idx) = a (ix3 0 x q) := by
  refine (shapeCast_apply _ _ _ (ix3 0 x q : S1x1024x3072.Idx) ?_).trans ?_
  · rewrite [Shape.rowMajor_val_three, Shape.rowMajor_val_two]
    show (0 * 1024 + x.val) * 3072 + q.val = x.val * 3072 + q.val
    omega
  exact extractStridedSlice_apply _ _ _ _ (ix3 0 x q : S4x1024x3072.Idx)
    (fun b => match b with | 0 => rfl | 1 => (Nat.zero_add _).symm | 2 => (Nat.zero_add _).symm)

theorem stack_eq (v : Mat Ideal) (old : Stack Ideal) (new : Fin 1024 → Fin 3072 → Ideal .f32) (h : ∀ x q, v (ix2 x q : S1024x3072.Idx) = new x q) :
    stack v old = upd new old := by
  funext i
  obtain ⟨l, x, q, rfl⟩ : ∃ (l : Fin 4) (x : Fin 1024) (q : Fin 3072), (ix3 l x q : S4x1024x3072.Idx) = i := ⟨i 0, i 1, i 2, (eq_ix3 i).symm⟩
  unfold upd
  show concatenate S4x1024x3072 0 [⟨S1x1024x3072, one v⟩, ⟨S3x1024x3072, rest old⟩] Facts₀.concatenates_S1x1024x3072_S3x1024x3072_S4x1024x3072_d0 (ix3 l x q) = _
  by_cases hl : l.val = 0
  · rw [if_pos (show ((ix3 l x q : S4x1024x3072.Idx) 0).val = 0 from hl)]
    refine (concatenate_pair_apply_left (t := S4x1024x3072) (s₁ := S1x1024x3072) (s₂ := S3x1024x3072) 0 _ _ _ _ rfl (ix3 0 x q : S1x1024x3072.Idx) ?_).trans ?_
    · exact fun b => match b with | 0 => hl.symm | 1 => rfl | 2 => rfl
    exact (broadcastInDim_apply _ _ _ _ (ix2 x q : S1024x3072.Idx) (fun b => match b with | 0 => rfl | 1 => rfl)).trans (h x q)
  · rw [if_neg (show ¬((ix3 l x q : S4x1024x3072.Idx) 0).val = 0 from hl)]
    refine (concatenate_pair_apply_right (t := S4x1024x3072) (s₁ := S1x1024x3072) (s₂ := S3x1024x3072) 0 _ _ _ _ rfl rfl (ix3 ⟨l.val - 1, by omega⟩ x q : S3x1024x3072.Idx) ?_ ?_).trans ?_
    · exact fun b hb => match b with | 0 => absurd rfl hb | 1 => rfl | 2 => rfl
    · exact (show l.val - 1 + 1 = l.val by omega)
    exact extractStridedSlice_apply _ _ _ _ (ix3 l x q : S4x1024x3072.Idx)
      (fun b => match b with | 0 => show l.val = 1 + (l.val - 1) by omega | 1 => (Nat.zero_add _).symm | 2 => (Nat.zero_add _).symm)

/-- The four results. -/
def Rg (a b : Half Ideal) (o : Stack Ideal) : Stack Ideal := upd (gAt a b) o
def Rd (a b : Half Ideal) (w v u o : Stack Ideal) : Stack Ideal := upd (fun x q => delta (gAt a b x q) (w (ix3 0 x q)) (v (ix3 0 x q)) (u (ix3 0 x q))) o
def Rm (a b : Half Ideal) (v o : Stack Ideal) : Stack Ideal := upd (fun x q => newM (gAt a b x q) (v (ix3 0 x q))) o
def Rv (a b : Half Ideal) (u o : Stack Ideal) : Stack Ideal := upd (fun x q => newV (gAt a b x q) (u (ix3 0 x q))) o

theorem g_eq (a b : Half Ideal) (o : Stack Ideal) : stack (gsum a b) o = Rg a b o := stack_eq _ _ _ (gsum_apply a b)
theorem m_eq (a b : Half Ideal) (v o : Stack Ideal) : stack (mean (gsum a b) (lay v)) o = Rm a b v o :=
  stack_eq _ _ _ fun x q => congrArg₂ newM (gsum_apply a b x q) (lay_apply v x q)
theorem v_eq (a b : Half Ideal) (u o : Stack Ideal) : stack (sqmean (gsum a b) (lay u)) o = Rv a b u o :=
  stack_eq _ _ _ fun x q => congrArg₂ newV (gsum_apply a b x q) (lay_apply u x q)
theorem d_eq (a b : Half Ideal) (w v u o : Stack Ideal) : stack (change (gsum a b) (lay w) (lay v) (lay u)) o = Rd a b w v u o :=
  stack_eq _ _ _ fun x q => (show change (gsum a b) (lay w) (lay v) (lay u) (ix2 x q)
    = delta (gsum a b (ix2 x q)) (lay w (ix2 x q)) (lay v (ix2 x q)) (lay u (ix2 x q)) from rfl).trans
      (by rw [gsum_apply, lay_apply, lay_apply, lay_apply])

end Cert.Reference6Ideal.Value

end
-- ==== Proof.AwVal.lean ====
/-
  The optimiser's call for the input weights: the result arrays.
-/
module

public import proofs.«01_k».proof.Proof.AwFrame
public import proofs.«01_k».proof.Proof.AwRef
public import Idealize.ShloMosaic.PureOps.Ideal.Laws

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic Idealize.ShloMosaic.ValueIdx
open Idealize.SL.Sem
open Cert.Kernel5Ideal.Hand (newM newV delta)
open Cert.Reference6Ideal.Value (gAt upd Rg Rd Rm Rv)

/-! ## The tiles at an index -/

section Tiles
variable (v0 v2 : GTile Ideal) (x w : Tile Ideal) (u : Fin 1) (r : Fin 128) (d : Fin 1024)

theorem cast_apply (h : S1x128x1024.ShapeCasts S128x1024) : (shapeCast S128x1024 x h : Rows Ideal) (ix2 r d) = x (ix3 0 r d) := by
  refine (shapeCast_dropUnit_apply _ _ _ _).trans ?_
  exact congrArg x (funext fun a => match a with | 0 => rfl | 1 => rfl | 2 => rfl)
theorem up_apply (z : Rows Ideal) (h : S128x1024.ShapeCasts S1x128x1024) : (shapeCast S1x128x1024 z h : Tile Ideal) (ix3 u r d) = z (ix2 r d) := by
  refine (shapeCast_addUnit_apply _ _ _ _).trans ?_
  exact congrArg z (funext fun a => match a with | 0 => rfl | 1 => rfl)

/-- The sum of the two halves. -/
abbrev sumAt : Ideal .f32 := FloatOps.addf (FloatOps.extf .f32 Facts₀.bitsLt_bf16_f32 (v0 (ix2 r d))) (FloatOps.extf .f32 Facts₀.bitsLt_bf16_f32 (v2 (ix2 r d)))
theorem mean_apply : k0_pay3 v0 v2 x (ix2 r d) = newM (sumAt v0 v2 r d) (x (ix3 0 r d)) :=
  congrArg (newM (sumAt v0 v2 r d)) (cast_apply x r d Facts₀.shapeCasts_S1x128x1024_S128x1024)
theorem sqmean_apply : k0_pay4 v0 v2 x (ix2 r d) = newV (sumAt v0 v2 r d) (x (ix3 0 r d)) :=
  congrArg (newV (sumAt v0 v2 r d)) (cast_apply x r d Facts₀.shapeCasts_S1x128x1024_S128x1024)
theorem pay5_apply : k0_pay5 v0 v2 (ix3 u r d) = sumAt v0 v2 r d := up_apply u r d (k0_pay2 v0 v2) _
theorem pay6_apply : k0_pay6 v0 v2 x (ix3 u r d) = newM (sumAt v0 v2 r d) (x (ix3 0 r d)) := (up_apply u r d _ _).trans (mean_apply v0 v2 x r d)
theorem pay7_apply : k0_pay7 v0 v2 x (ix3 u r d) = newV (sumAt v0 v2 r d) (x (ix3 0 r d)) := (up_apply u r d _ _).trans (sqmean_apply v0 v2 x r d)
theorem pay1_apply (y : Tile Ideal) : k0_pay1 (k0_pay4 v0 v2 y) (k0_pay8 v0 v2 x) w (ix3 u r d)
    = delta (sumAt v0 v2 r d) (w (ix3 0 r d)) (x (ix3 0 r d)) (y (ix3 0 r d)) := by
  unfold k0_pay1
  rw [up_apply]
  have e (W M' U : Ideal .f32) (hw : (shapeCast S128x1024 w Facts₀.shapeCasts_S1x128x1024_S128x1024 : Rows Ideal) (ix2 r d) = W)
      (hm : k0_pay3 v0 v2 x (ix2 r d) = M') (hu : k0_pay4 v0 v2 y (ix2 r d) = U) :
      FloatOps.mulf (FloatOps.ofBits .f32 0xBA83126F#32 : Ideal .f32) (FloatOps.addf
        (FloatOps.divf (FloatOps.divf (k0_pay3 v0 v2 x (ix2 r d)) (FloatOps.ofBits .f32 0x3F26BD02#32))
          (FloatOps.addf (FloatOps.sqrt (FloatOps.divf (k0_pay4 v0 v2 y (ix2 r d)) (FloatOps.ofBits .f32 0x3C231ACC#32))) (FloatOps.ofBits .f32 0x322BCC77#32)))
        (FloatOps.mulf (FloatOps.ofBits .f32 0x3C23D70A#32) ((shapeCast S128x1024 w Facts₀.shapeCasts_S1x128x1024_S128x1024 : Rows Ideal) (ix2 r d))))
      = FloatOps.mulf (FloatOps.ofBits .f32 0xBA83126F#32 : Ideal .f32) (FloatOps.addf
        (FloatOps.divf (FloatOps.divf M' (FloatOps.ofBits .f32 0x3F26BD02#32))
          (FloatOps.addf (FloatOps.sqrt (FloatOps.divf U (FloatOps.ofBits .f32 0x3C231ACC#32))) (FloatOps.ofBits .f32 0x322BCC77#32)))
        (FloatOps.mulf (FloatOps.ofBits .f32 0x3C23D70A#32) W)) := by rw [hw, hm, hu]
  exact e _ _ _ (cast_apply w r d _) (mean_apply v0 v2 x r d) (sqmean_apply v0 v2 y r d)

end Tiles

/-! ## The blocks as parts of the arrays -/

variable (m : (ℓ : Loc nD τ sig) → Buf (Elt Ideal) ℓ) (c : Dev nD)

/-- The exchanged sums; the weights and their moments; what the results' arrays held. -/
abbrev A0 : Vec Ideal S4224x1024 .bf16 := m ((c : Thread nD τ).loc main_arg0)
abbrev A1 : Vec Ideal S4224x1024 .bf16 := m ((c : Thread nD τ).loc main_arg1)
abbrev A2 : Vec Ideal S4x1024x3072 .f32 := m ((c : Thread nD τ).loc main_arg2)
abbrev A3 : Vec Ideal S4x1024x3072 .f32 := m ((c : Thread nD τ).loc main_arg3)
abbrev A4 : Vec Ideal S4x1024x3072 .f32 := m ((c : Thread nD τ).loc main_arg4)
abbrev A5 : Vec Ideal S4x1024x3072 .f32 := m ((c : Thread nD τ).loc main_arg5)
abbrev A6 : Vec Ideal S4x1024x3072 .f32 := m ((c : Thread nD τ).loc main_arg6)
abbrev A7 : Vec Ideal S4x1024x3072 .f32 := m ((c : Thread nD τ).loc main_arg7)
abbrev A8 : Vec Ideal S4x1024x3072 .f32 := m ((c : Thread nD τ).loc main_arg8)

/-- The results. -/
def G5 : Vec Ideal S4x1024x3072 .f32 := Rg (A0 m c) (A1 m c) (A5 m c)
def G6 : Vec Ideal S4x1024x3072 .f32 := Rd (A0 m c) (A1 m c) (A2 m c) (A3 m c) (A4 m c) (A6 m c)
def G7 : Vec Ideal S4x1024x3072 .f32 := Rm (A0 m c) (A1 m c) (A3 m c) (A7 m c)
def G8 : Vec Ideal S4x1024x3072 .f32 := Rv (A0 m c) (A1 m c) (A4 m c) (A8 m c)

theorem lt24 (t : Fin cfg0.N) : t.val < 24 := Nat.lt_of_lt_of_eq t.isLt N_0
/-- The row and the column of a block's element. -/
abbrev row (t : Fin cfg0.N) (r : Fin 128) : Fin 1024 := ⟨128 * (t.val % 8) + r.val, by omega⟩
abbrev col (t : Fin cfg0.N) (d : Fin 1024) : Fin 3072 := ⟨1024 * (t.val / 8) + d.val, by have := lt24 t; omega⟩

theorem ind0 : ∀ t : Fin grid0.N, win0_0.index t 0 = t.val ∧ win0_0.index t 1 = 0 := by decide +kernel
theorem ind2 : ∀ t : Fin grid0.N, win0_2.index t 0 = 0 ∧ win0_2.index t 1 = t.val % 8 ∧ win0_2.index t 2 = t.val / 8 := by decide +kernel

/-- The index of the arrays at index `y` of block `t`. -/
abbrev at_ (t : Fin cfg0.N) (y : S1x128x1024.Idx) : S4x1024x3072.Idx := (win0_2.rect t).emb y

theorem at_eq (t : Fin cfg0.N) (u : Fin 1) (r : Fin 128) (d : Fin 1024) : at_ t (ix3 u r d) = ix3 0 (row t r) (col t d) := by
  obtain ⟨i0, i1, i2⟩ := ind2 t
  refine funext fun a => Fin.ext ?_
  match a with
  | 0 => exact (Pipeline.Window.rect_emb_val win0_2 t (ix3 u r d : S1x128x1024.Idx) 0).trans (by rw [i0]; show 0 * 1 + u.val = 0; omega)
  | 1 => exact (Pipeline.Window.rect_emb_val win0_2 t (ix3 u r d : S1x128x1024.Idx) 1).trans (by rw [i1]; show t.val % 8 * 128 + r.val = 128 * (t.val % 8) + r.val; omega)
  | 2 => exact (Pipeline.Window.rect_emb_val win0_2 t (ix3 u r d : S1x128x1024.Idx) 2).trans (by rw [i2]; show t.val / 8 * 1024 + d.val = 1024 * (t.val / 8) + d.val; omega)

theorem sum_at (t : Fin cfg0.N) (r : Fin 128) (d : Fin 1024) : ((win0_0.rect t).emb (ix2 r d : S128x1024.Idx) : S4224x1024.Idx)
    = ix2 ⟨1024 * ((col t d).val / 1024) + (row t r).val, by have := (col t d).isLt; have := (row t r).isLt; omega⟩ ⟨(col t d).val % 1024, Nat.mod_lt _ (by decide)⟩ := by
  obtain ⟨i0, i1⟩ := ind0 t
  refine funext fun a => Fin.ext ?_
  match a with
  | 0 => exact (Pipeline.Window.rect_emb_val win0_0 t (ix2 r d : S128x1024.Idx) 0).trans (by
      rw [i0]; show t.val * 128 + r.val = 1024 * ((1024 * (t.val / 8) + d.val) / 1024) + (128 * (t.val % 8) + r.val); omega)
  | 1 => exact (Pipeline.Window.rect_emb_val win0_0 t (ix2 r d : S128x1024.Idx) 1).trans (by
      rw [i1]; show 0 * 1024 + d.val = (1024 * (t.val / 8) + d.val) % 1024; omega)

theorem iblk0_apply (t : Fin cfg0.N) (y : S128x1024.Idx) : iblk m c 0 t y = A0 m c ((win0_0.rect t).emb y) := rfl
theorem iblk1_apply (t : Fin cfg0.N) (y : S128x1024.Idx) : iblk m c 1 t y = A1 m c ((win0_0.rect t).emb y) := rfl
theorem iblk2_apply (t : Fin cfg0.N) (y : S1x128x1024.Idx) : iblk m c 2 t y = A2 m c (at_ t y) := rfl
theorem iblk3_apply (t : Fin cfg0.N) (y : S1x128x1024.Idx) : iblk m c 3 t y = A3 m c (at_ t y) := rfl
theorem iblk4_apply (t : Fin cfg0.N) (y : S1x128x1024.Idx) : iblk m c 4 t y = A4 m c (at_ t y) := rfl

/-- A block's sums are the gradient's part. -/
theorem sum_eq (t : Fin cfg0.N) (r : Fin 128) (d : Fin 1024) :
    sumAt (iblk m c 0 t) (iblk m c 1 t) r d = gAt (A0 m c) (A1 m c) (row t r) (col t d) := by
  unfold sumAt
  rw [iblk0_apply, iblk1_apply, sum_at]
  rfl

/-- Every index of layer 0 lies in a block, and no other does. -/
theorem exists_at (i : S4x1024x3072.Idx) (h : (i 0).val = 0) : ∃ (t : Fin cfg0.N) (y : S1x128x1024.Idx), at_ t y = i := by
  obtain ⟨l, x, q, rfl⟩ : ∃ (l : Fin 4) (x : Fin 1024) (q : Fin 3072), (ix3 l x q : S4x1024x3072.Idx) = i := ⟨i 0, i 1, i 2, (eq_ix3 i).symm⟩
  have ht : q.val / 1024 * 8 + x.val / 128 < cfg0.N := by rw [show cfg0.N = 24 from N_0]; omega
  refine ⟨⟨_, ht⟩, ix3 0 ⟨x.val % 128, Nat.mod_lt _ (by decide)⟩ ⟨q.val % 1024, Nat.mod_lt _ (by decide)⟩, (at_eq _ _ _ _).trans (funext fun a => Fin.ext ?_)⟩
  match a with
  | 0 => exact h.symm
  | 1 => show 128 * ((q.val / 1024 * 8 + x.val / 128) % 8) + x.val % 128 = x.val; omega
  | 2 => show 1024 * ((q.val / 1024 * 8 + x.val / 128) / 8) + q.val % 1024 = q.val; omega

theorem tile_ix (y : S1x128x1024.Idx) : ∃ (u : Fin 1) (r : Fin 128) (d : Fin 1024), ix3 u r d = y := ⟨y 0, y 1, y 2, (eq_ix3 y).symm⟩
theorem at_zero (t : Fin cfg0.N) (y : S1x128x1024.Idx) : (at_ t y 0).val = 0 := by
  obtain ⟨u, r, d, rfl⟩ := tile_ix y
  rw [at_eq]
  rfl

/-- The body leaves the results' parts. -/
theorem left (t : Fin cfg0.N) (y : S1x128x1024.Idx) :
    (dats m 0 c).after 5 t y = G5 m c (at_ t y) ∧ (dats m 0 c).after 6 t y = G6 m c (at_ t y)
    ∧ (dats m 0 c).after 7 t y = G7 m c (at_ t y) ∧ (dats m 0 c).after 8 t y = G8 m c (at_ t y) := by
  obtain ⟨u, r, d, rfl⟩ := tile_ix y
  rw [after0_5, after0_6, after0_7, after0_8, pay5_apply, pay1_apply, pay6_apply, pay7_apply, sum_eq, iblk2_apply, iblk3_apply, iblk4_apply]
  simp only [at_eq]
  exact ⟨rfl, rfl, rfl, rfl⟩

theorem flush_out : ∀ w : Fin 9, 5 ≤ w → ∀ t : Fin grid0.N, (cfg0.win w).flush t = true := by decide +kernel

/-- The results' arrays: layer 0's slab block by block, the other slabs as they were. -/
theorem arrs : (dats m 0 c).arrAt 5 cfg0.N = G5 m c ∧ (dats m 0 c).arrAt 6 cfg0.N = G6 m c
    ∧ (dats m 0 c).arrAt 7 cfg0.N = G7 m c ∧ (dats m 0 c).arrAt 8 cfg0.N = G8 m c := by
  have em' (i : S4x1024x3072.Idx) : (∃ t y, at_ t y = i) ∨ ¬(i 0).val = 0 := (em _).imp_left (exists_at i)
  have out {i : S4x1024x3072.Idx} (hi : ¬(i 0).val = 0) (t : Fin cfg0.N) (y : S1x128x1024.Idx) : at_ t y ≠ i := fun h => hi (h ▸ at_zero t y)
  refine ⟨funext fun i => ?_, funext fun i => ?_, funext fun i => ?_, funext fun i => ?_⟩ <;>
  rcases em' i with ⟨t, y, rfl⟩ | hi
  all_goals first
    | (refine (dats m 0 c).arrAt_apply_of_mem _ _ (fun t _ => funext fun y => ?_) cfg0.N t _ t.isLt (flush_out _ (by decide) t) (View.emb_mem_set _ y)
       first | exact (left m c t y).1 | exact (left m c t y).2.1 | exact (left m c t y).2.2.1 | exact (left m c t y).2.2.2)
    | (refine ((dats m 0 c).arrAt_apply_of_forall_not_mem _ cfg0.N i fun t _ _ hm => ?_).trans (if_neg hi).symm
       obtain ⟨y, h⟩ := View.exists_emb_of_mem_set _ hm
       exact out hi t y h)

/-- The run's results, the arguments unchanged. -/
theorem run_results (ρ : Dev nD → PrngReg) : θ_run defs (onTc (τ := τ) (main (F := Ideal))) ⟨m, fun _ => 0, ρ⟩ fun r => ∀ c : Dev nD,
      r.2.mem ((c.tc : Thread nD τ).loc main_v0_0) = G5 m c
      ∧ r.2.mem ((c.tc : Thread nD τ).loc main_v0_1) = G6 m c
      ∧ r.2.mem ((c.tc : Thread nD τ).loc main_v0_2) = G7 m c
      ∧ r.2.mem ((c.tc : Thread nD τ).loc main_v0_3) = G8 m c
      ∧ Kept m c r.2.mem :=
  (θ_run defs _ _).mono (fun _ h c => ⟨((h.1.1 c).1 5).trans (arrs m c).1, ((h.1.1 c).1 6).trans (arrs m c).2.1, ((h.1.1 c).1 7).trans (arrs m c).2.2.1, ((h.1.1 c).1 8).trans (arrs m c).2.2.2, h.2.1 c⟩)
    (θ_run_and (run_main_quiescent m ρ) (frame m ρ))

end Cert.Kernel6Ideal.Hand

end
-- ==== Proof.AwKFacts.lean ====
/-
  The optimiser's call for the input weights: the facts the call's program states.
-/
module

public import proofs.«01_k».proof.Kernel6
public import proofs.«01_k».proof.Proof.AwFacts
public import Idealize.ShloMosaic.Lib.Affine
public import Idealize.ShloMosaic.Lib.Decide
public import Idealize.ShloMosaic.Lib.Exec

@[expose] public section

-- a fact under nested conditions takes a `Decidable` instance one implication deeper per condition
set_option synthInstance.maxSize 4096

namespace Cert.Kernel6.Gen

open Idealize.ShloMosaic Idealize.SL.Sem
/-! ## The facts over the vocabulary (`Facts₀`) -/

/-- The program's facts over its vocabulary, proved. -/
instance facts₀ : Cert.Kernel6.Facts₀ := Cert.Kernel6Ideal.Gen.facts₀.casesOn (motive := fun _ => Cert.Kernel6.Facts₀) @Cert.Kernel6.Facts₀.mk

/-! ## The facts over the windows (`Facts`) -/

/-- Every fact the program states, proved. -/
instance facts : Cert.Kernel6.Facts where

end Cert.Kernel6.Gen
-- ==== Proof.AwClaim.lean ====
/-
  The optimiser's call for the input weights computes the reference: the frames and the value claim.
-/
module

public import proofs.«01_k».proof.Defs
public import proofs.«01_k».proof.Proof.AwVal
public import proofs.«01_k».proof.Proof.AwKFacts
public import Idealize.ShloMosaic.Lib.KernelVsHost
public import Idealize.ShloMosaic.Lib.Quiescent

@[expose] public section

set_option maxRecDepth 16384

noncomputable section

namespace Cert.Hand6

open Idealize.ShloMosaic Idealize.ShloMosaic.TcCoe Idealize.SL.Sem
open Cert.Kernel6Ideal.Hand Cert.Reference6Ideal.Value

/-- The two programs have one body table. -/
theorem defs_eq : @Cert.Kernel6.defs Bits _ Cert.Kernel6.Gen.facts = @Cert.Kernel6Ideal.defs Bits _ Cert.Kernel6Ideal.Gen.facts := by
  refine congrArg (Pipeline.defs (@Cert.Kernel6Ideal.pcfgs Bits Cert.Kernel6Ideal.Gen.facts)) ?_
  refine congrArg Defs.onTc (funext fun l => funext fun a => ?_)
  match l, a with
  | 0, (t, s) => rfl

theorem frame_kernel : Cert.quiescent_Kernel6 (hKernel6 := Cert.Kernel6.Gen.facts) := fun m ρ _ =>
  Eq.mpr (congrArg (fun d => θ_run d _ _ _) defs_eq) (Cert.Kernel6Ideal.Gen.frame (F := Bits) m ρ)

theorem frame_ideal : Cert.quiescent_Kernel6Ideal (hKernel6Ideal := Cert.Kernel6Ideal.Gen.facts) := fun m ρ _ =>
  Cert.Kernel6Ideal.Gen.frame m ρ

theorem frame_reference : Cert.quiescent_Reference6Ideal (hReference6Ideal := Cert.Reference6Ideal.Gen.facts) := fun m ρ _ =>
  (θ_run (Cert.Reference6Ideal.defs (F := Ideal)) _ _).mono
    (fun r h => ⟨fun c => (h c).2.2.2.2, sem_eq_zero_of_no_sems (by decide) r.2⟩) (Cert.Reference6Ideal.Value.run m ρ)

theorem algebraic : Cert.algebraic_Kernel6Ideal_Reference6Ideal (hKernel6Ideal := Cert.Kernel6Ideal.Gen.facts)
    (hReference6Ideal := Cert.Reference6Ideal.Gen.facts) := fun m g m' g' _ ha =>
  ⟨fun c => G5 m c, fun c => G6 m c, fun c => G7 m c, fun c => G8 m c, run_results m g,
    (θ_run (Cert.Reference6Ideal.defs (F := Ideal)) _ _).mono (fun r h c => by
      obtain ⟨a0, a1, a2, a3, a4, a5, a6, a7, a8⟩ := ha c
      refine ⟨(h c).1.trans ?_, (h c).2.1.trans ?_, (h c).2.2.1.trans ?_, (h c).2.2.2.1.trans ?_, (h c).2.2.2.2⟩
      · rw [a0, a1, a5]
        exact g_eq _ _ _
      · rw [a0, a1, a2, a3, a4, a6]
        exact d_eq _ _ _ _ _ _
      · rw [a0, a1, a3, a7]
        exact m_eq _ _ _ _
      · rw [a0, a1, a4, a8]
        exact v_eq _ _ _ _) (Cert.Reference6Ideal.Value.run m' g')⟩

end Cert.Hand6

end
-- ==== Proof.AbFacts.lean ====
/-
  The optimiser's calls for the branches' and the output's weights: the facts its idealized program states, the launch, and the body as memory operations over named values.
-/
module

public import proofs.«01_k».proof.Kernel7Ideal
public import Idealize.ShloMosaic.Lib.Affine
public import Idealize.ShloMosaic.Lib.Decide
public import Idealize.ShloMosaic.Lib.Exec
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option synthInstance.maxSize 4096

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The program's facts over its vocabulary, proved. -/
instance facts₀ : Cert.Kernel7Ideal.Facts₀ := by
  constructor
  iterate 2 all_goals try first
    | exact Fin.forall_fin_one.2 (Memref.isWhole_whole _)
    | exact fun _ => .inl rfl
    | exact fun _ => .inr (Affine.block_words_dvd (of_decide_eq_true rfl) (by decide))
    | exact fun _ _ _ => rfl
    | decide +kernel

/-- Every fact the program states, proved. -/
instance facts : Cert.Kernel7Ideal.Facts where

end Cert.Kernel7Ideal.Gen

namespace Cert.Branch

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One staging buffer. -/
abbrev Stg := Memref sig .tc .vmem S1x256x1024 .f32
/-- A tile of 256 rows of an array of the parameters' shape. -/
abbrev Tile (F : FTy → Type) := Vec F S1x256x1024 .f32
/-- A staging buffer of a sum's rows, and 256 of them. -/
abbrev GStg := Memref sig .tc .vmem S256x1024 .bf16
abbrev GTile (F : FTy → Type) := Vec F S256x1024 .bf16
/-- An array of the parameters' shape. -/
abbrev Arr := Memref sig .tc .hbm S4x256x1024 .f32
/-- 256 rows of the computation. -/
abbrev Rows (F : FTy → Type) := FVec F S256x1024 .f32

/-! ## `cc0_adamw` -/

/-- The second moment's correction. -/
abbrev bc2 : F .f32 := Scalar.ofBits .f32 0x3C231ACC#32

/-- `%46` of the body. -/
def k0_pay1 (cst_22 : F .f32) (v19 : Rows F) (v30 : Rows F) (v37 : Tile F) : Tile F :=
  have v31 : Rows F := broadcast S256x1024 cst_22
  have v32 : Rows F := divf v19 v31
  have v33 : Rows F := sqrt v32
  have cst_23 : F .f32 := Scalar.ofBits .f32 0x322BCC77#32
  have v34 : Rows F := broadcast S256x1024 cst_23
  have v35 : Rows F := addf v33 v34
  have v36 : Rows F := divf v30 v35
  have v38 : Rows F := shapeCast S256x1024 v37 Facts₀.shapeCasts_S1x256x1024_S256x1024
  have cst_27 : F .f32 := Scalar.ofBits .f32 0x3C23D70A#32
  have v39 : Rows F := broadcast S256x1024 cst_27
  have v40 : Rows F := mulf v39 v38
  have v41 : Rows F := addf v36 v40
  have cst_28 : F .f32 := Scalar.ofBits .f32 0xBA83126F#32
  have v42 : Rows F := broadcast S256x1024 cst_28
  have v43 : Rows F := mulf v42 v41
  have v46 : Tile F := shapeCast S1x256x1024 v43 Facts₀.shapeCasts_S256x1024_S1x256x1024
  v46

/-- `%4` of the body. -/
def k0_pay2 (v0 v2 : GTile F) : Rows F :=
  have v1 : Rows F := extf .f32 v0 Facts₀.bitsLt_bf16_f32
  have v3 : Rows F := extf .f32 v2 Facts₀.bitsLt_bf16_f32
  have v4 : Rows F := addf v1 v3
  v4

/-- `%11` of the body. -/
def k0_pay3 (v0 v2 : GTile F) (v5 : Tile F) : Rows F :=
  have v6 : Rows F := shapeCast S256x1024 v5 Facts₀.shapeCasts_S1x256x1024_S256x1024
  have cst : F .f32 := Scalar.ofBits .f32 0x3F666666#32
  have v7 : Rows F := broadcast S256x1024 cst
  have v8 : Rows F := mulf v7 v6
  have cst_6 : F .f32 := Scalar.ofBits .f32 0x3DCCCCCD#32
  have v9 : Rows F := broadcast S256x1024 cst_6
  have v10 : Rows F := mulf v9 (k0_pay2 v0 v2)
  have v11 : Rows F := addf v8 v10
  v11

/-- `%19` of the body. -/
def k0_pay4 (v0 v2 : GTile F) (v12 : Tile F) : Rows F :=
  have v13 : Rows F := shapeCast S256x1024 v12 Facts₀.shapeCasts_S1x256x1024_S256x1024
  have cst_10 : F .f32 := Scalar.ofBits .f32 0x3F7FBE77#32
  have v14 : Rows F := broadcast S256x1024 cst_10
  have v15 : Rows F := mulf v14 v13
  have v16 : Rows F := mulf (k0_pay2 v0 v2) (k0_pay2 v0 v2)
  have cst_11 : F .f32 := Scalar.ofBits .f32 0x3A83126F#32
  have v17 : Rows F := broadcast S256x1024 cst_11
  have v18 : Rows F := mulf v17 v16
  have v19 : Rows F := addf v15 v18
  v19

/-- `%22` of the body. -/
def k0_pay5 (v0 v2 : GTile F) : Tile F :=
  have v22 : Tile F := shapeCast S1x256x1024 (k0_pay2 v0 v2) Facts₀.shapeCasts_S256x1024_S1x256x1024
  v22

/-- `%25` of the body. -/
def k0_pay6 (v0 v2 : GTile F) (v5 : Tile F) : Tile F :=
  have v25 : Tile F := shapeCast S1x256x1024 (k0_pay3 v0 v2 v5) Facts₀.shapeCasts_S256x1024_S1x256x1024
  v25

/-- `%28` of the body. -/
def k0_pay7 (v0 v2 : GTile F) (v12 : Tile F) : Tile F :=
  have v28 : Tile F := shapeCast S1x256x1024 (k0_pay4 v0 v2 v12) Facts₀.shapeCasts_S256x1024_S1x256x1024
  v28

/-- `%30` of the body. -/
def k0_pay8 (v0 v2 : GTile F) (v5 : Tile F) : Rows F :=
  have cst_21 : F .f32 := Scalar.ofBits .f32 0x3F26BD02#32
  have v29 : Rows F := broadcast S256x1024 cst_21
  have v30 : Rows F := divf (k0_pay3 v0 v2 v5) v29
  v30

/-- A whole tile. -/
abbrev allRect : Rect S1x256x1024 := Rect.unit (s := S1x256x1024) ![0, 0, 0] S1x256x1024.size Facts₀.inb_S1x256x1024_S1x256x1024_0_0_0

/-- `k0_part1` as a skeleton of memory operations over payloads. -/
def k0_part1_skel {Λ : Labels} (i : grid0.Coords) (arg1 : GStg) (harg1 : arg1.IsWhole) (arg2 : GStg) (harg2 : arg2.IsWhole) (arg3 : Stg) (harg3 : arg3.IsWhole) (arg4 : Stg) (harg4 : arg4.IsWhole) (arg5 : Stg) (harg5 : arg5.IsWhole) (arg6 : Arr) (harg6 : arg6.IsWhole) (arg7 : Arr) (harg7 : arg7.IsWhole) (arg8 : Arr) (harg8 : arg8.IsWhole) (arg9 : Arr) (harg9 : arg9.IsWhole) (arg10 : Stg) (harg10 : arg10.IsWhole) (arg11 : Stg) (harg11 : arg11.IsWhole) (arg12 : Stg) (harg12 : arg12.IsWhole) (arg13 : Stg) (harg13 : arg13.IsWhole) :
    Prog (TpuEff nD τ sig (Elt F) Λ .tc) (Σ' (v19 : Rows F) (v30 : Rows F), F .f32) := do
  let v0 : GTile F ← Prog.lift (.load arg1 (Rect.unit (s := S256x1024) ![0, 0] S256x1024.size Facts₀.inb_S256x1024_S256x1024_0_0).toLoadRect (View.loadsAt_vmem Facts₀.h_S256x1024))
  let v2 : GTile F ← Prog.lift (.load arg2 (Rect.unit (s := S256x1024) ![0, 0] S256x1024.size Facts₀.inb_S256x1024_S256x1024_0_0).toLoadRect (View.loadsAt_vmem Facts₀.h_S256x1024))
  let v5 : Tile F ← Prog.lift (.load arg4 allRect.toLoadRect (View.loadsAt_vmem Facts₀.h_S1x256x1024))
  let v12 : Tile F ← Prog.lift (.load arg5 allRect.toLoadRect (View.loadsAt_vmem Facts₀.h_S1x256x1024))
  let v20 : Tile F ← Prog.lift (.load arg10 allRect.toLoadRect (View.loadsAt_vmem Facts₀.h_S1x256x1024))
  Prog.lift (.store arg10 allRect (k0_pay5 v0 v2) Finset.univ (View.stores_vmem_bits_univ Facts₀.h_S1x256x1024 rfl) (.inl rfl))
  let v23 : Tile F ← Prog.lift (.load arg12 allRect.toLoadRect (View.loadsAt_vmem Facts₀.h_S1x256x1024))
  Prog.lift (.store arg12 allRect (k0_pay6 v0 v2 v5) Finset.univ (View.stores_vmem_bits_univ Facts₀.h_S1x256x1024 rfl) (.inl rfl))
  let v26 : Tile F ← Prog.lift (.load arg13 allRect.toLoadRect (View.loadsAt_vmem Facts₀.h_S1x256x1024))
  Prog.lift (.store arg13 allRect (k0_pay7 v0 v2 v12) Finset.univ (View.stores_vmem_bits_univ Facts₀.h_S1x256x1024 rfl) (.inl rfl))
  pure ⟨k0_pay4 v0 v2 v12, k0_pay8 v0 v2 v5, bc2⟩

/-- `cc0_adamw` as a skeleton of memory operations over payloads. -/
def cc0_adamw_skel {Λ : Labels} (i : grid0.Coords) (arg1 : GStg) (harg1 : arg1.IsWhole) (arg2 : GStg) (harg2 : arg2.IsWhole) (arg3 : Stg) (harg3 : arg3.IsWhole) (arg4 : Stg) (harg4 : arg4.IsWhole) (arg5 : Stg) (harg5 : arg5.IsWhole) (arg6 : Arr) (harg6 : arg6.IsWhole) (arg7 : Arr) (harg7 : arg7.IsWhole) (arg8 : Arr) (harg8 : arg8.IsWhole) (arg9 : Arr) (harg9 : arg9.IsWhole) (arg10 : Stg) (harg10 : arg10.IsWhole) (arg11 : Stg) (harg11 : arg11.IsWhole) (arg12 : Stg) (harg12 : arg12.IsWhole) (arg13 : Stg) (harg13 : arg13.IsWhole) :
    Prog (TpuEff nD τ sig (Elt F) Λ .tc) PUnit := do
  let ⟨v19, v30, cst_22⟩ : Σ' (v19 : Rows F) (v30 : Rows F), F .f32 ← k0_part1_skel i arg1 harg1 arg2 harg2 arg3 harg3 arg4 harg4 arg5 harg5 arg6 harg6 arg7 harg7 arg8 harg8 arg9 harg9 arg10 harg10 arg11 harg11 arg12 harg12 arg13 harg13
  let v37 : Tile F ← Prog.lift (.load arg3 allRect.toLoadRect (View.loadsAt_vmem Facts₀.h_S1x256x1024))
  let v44 : Tile F ← Prog.lift (.load arg11 allRect.toLoadRect (View.loadsAt_vmem Facts₀.h_S1x256x1024))
  Prog.lift (.store arg11 allRect (k0_pay1 cst_22 v19 v30 v37) Finset.univ (View.stores_vmem_bits_univ Facts₀.h_S1x256x1024 rfl) (.inl rfl))
  pure ⟨⟩

/-! ## The calls: they differ in the block of the sums that they take -/

section Calls
variable (k : Fin 4)

/-- The index of the block of the sums that call `k` takes, and its side conditions. -/
abbrev take (i : grid0.Coords) : Fin 2 → Nat := ![12 + k.val, 0]
theorem take_start (i : grid0.Coords) (a : Fin 2) : take k i a * S256x1024.size a < S4224x1024.size a :=
  match a with
  | 0 => (show (12 + k.val) * 256 < 4224 by omega)
  | 1 => (show 0 * 1024 < 1024 by omega)
theorem take_whole (i : grid0.Coords) (a : Fin 2) : Pipeline.Clip.of (take k i a) (S256x1024.size a) (S4224x1024.size a) = none :=
  match a with
  | 0 => if_pos (show (12 + k.val + 1) * 256 ≤ 4224 by omega)
  | 1 => if_pos (show (0 + 1) * 1024 ≤ 1024 by omega)
theorem take_words : ∀ (k : Fin 4) (i : grid0.Coords), EltTy.bits .bf16 = 32 ∨ (Rect.unit (s := S4224x1024) (fun a => take k i a * S256x1024.size a) (fun a => (Pipeline.Clip.of (take k i a) (S256x1024.size a) (S4224x1024.size a)).extent (S256x1024.size a)) fun a => Pipeline.Clip.inb (Pipeline.Clip.ok_of (take_start k i a))).WholeWords (EltTy.packing .bf16) := by decide +kernel
theorem take_stage : ∀ (k : Fin 4) (i : grid0.Coords), EltTy.bits .bf16 = 32 ∨ (Rect.unit (s := S256x1024) (fun _ => 0) (fun a => (Pipeline.Clip.of (take k i a) (S256x1024.size a) (S4224x1024.size a)).extent (S256x1024.size a)) fun a => (Nat.zero_add _).trans_le (Pipeline.Clip.extent_le (Pipeline.Clip.ok_of (take_start k i a)))).WholeWords (EltTy.packing .bf16) := by decide +kernel

/-- The windows. -/
abbrev win0_0 : Pipeline.Window sig grid0 :=
  Pipeline.Window.ofSpecClip (Memref.whole main_arg0) S256x1024.size (take k) reads0_0 false false 1 stage0_0 sem0_0
    Facts₀.hrank0 (fun _ _ _ => rfl) (take_start k) Facts₀.nbuf0_0 (Memref.isWhole_whole _) (take_words k) (take_stage k) Facts₀.hstage0_0
abbrev win0_1 : Pipeline.Window sig grid0 :=
  Pipeline.Window.ofSpecClip (Memref.whole main_arg1) S256x1024.size (take k) reads0_1 false false 1 stage0_1 sem0_1
    Facts₀.hrank0 (fun _ _ _ => rfl) (take_start k) Facts₀.nbuf0_1 (Memref.isWhole_whole _) (take_words k) (take_stage k) Facts₀.hstage0_1
abbrev win0 : Fin 9 → Pipeline.Window sig grid0 := fun | 0 => win0_0 k | 1 => win0_1 k | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 k w).toWinSpec
abbrev Λ₀ : Labels := ⟨Fin 1, fun | 0 => Fin grid0.N × ((w : Fin 9) → Fin (win0 k w).nbuf) | ⟨_ + 1, h⟩ => absurd h (Nat.not_lt.2 (Nat.le_add_left _ _)), fun _ => PUnit⟩

/-- The body at point `t`, on the slots `s`. -/
abbrev bodyOf (t : Fin grid0.N) (s : (w : Fin 9) → Fin (win0 k w).nbuf) : Prog (TpuEff nD τ sig (Elt F) (Λ₀ k) .tc) PUnit :=
  cc0_adamw_skel (grid0.coords t) ((win0_0 k).stage (s 0)) (Facts₀.hstage0_0 ((s 0).cast Facts₀.nbuf0_0)) ((win0_1 k).stage (s 1)) (Facts₀.hstage0_1 ((s 1).cast Facts₀.nbuf0_1)) (win0_2.stage (s 2)) (Facts₀.hstage0_2 ((s 2).cast Facts₀.nbuf0_2)) (win0_3.stage (s 3)) (Facts₀.hstage0_3 ((s 3).cast Facts₀.nbuf0_3)) (win0_4.stage (s 4)) (Facts₀.hstage0_4 ((s 4).cast Facts₀.nbuf0_4)) (Memref.whole main_arg5) (Memref.isWhole_whole _) (Memref.whole main_arg6) (Memref.isWhole_whole _) (Memref.whole main_arg7) (Memref.isWhole_whole _) (Memref.whole main_arg8) (Memref.isWhole_whole _) (win0_5.stage (s 5)) (Facts₀.hstage0_5 ((s 5).cast Facts₀.nbuf0_5)) (win0_6.stage (s 6)) (Facts₀.hstage0_6 ((s 6).cast Facts₀.nbuf0_6)) (win0_7.stage (s 7)) (Facts₀.hstage0_7 ((s 7).cast Facts₀.nbuf0_7)) (win0_8.stage (s 8)) (Facts₀.hstage0_8 ((s 8).cast Facts₀.nbuf0_8))
/-- The body table, the pipeline and @main, as the program of call 0 has them. -/
def defs₀ : Defs nD τ sig (Elt F) (Λ₀ k) := Defs.onTc fun
  | 0, (t, s) => bodyOf k t s
  | ⟨_ + 1, h⟩, _ => absurd h (Nat.not_lt.2 (Nat.le_add_left _ _))
abbrev cfg0 : Pipeline.Cfg sig (Λ₀ k) where
  grid := grid0
  W := 9
  win := win0 k
  body := 0
  bodyArgs t s := (t, s)
  loose := fun | 0 => true | 1 => true | 2 => false | 3 => false | 4 => false | 5 => false | 6 => false | 7 => false | 8 => false | ⟨_ + 9, h⟩ => absurd h (Nat.not_lt.2 (Nat.le_add_left _ _))
abbrev cfgs : Fin 1 → Pipeline.Cfg sig (Λ₀ k) := fun _ => cfg0 k
abbrev pcfgs : Fin 1 → Pipeline.PCfg sig (Λ₀ k) (Elt F) := fun p => (cfgs k p).toPCfg
def defs : Defs nD τ sig (Elt F) (Pipeline.Sig (Λ₀ k) (Fin 1) fun p => (pcfgs k (F := F) p).Adm) := Pipeline.defs (pcfgs k) (defs₀ k)
def main : Dev nD → Prog (TpuEff nD τ sig (Elt F) (Pipeline.Sig (Λ₀ k) (Fin 1) fun p => (pcfgs k (F := F) p).Adm) .tc) PUnit := fun _ => do
  hlo rfl (StableHlo.unary main_arg5 main_v0_0 id) (fun _ => .ret ⟨⟩)
  hlo rfl (StableHlo.unary main_arg6 main_v0_1 id) (fun _ => .ret ⟨⟩)
  hlo rfl (StableHlo.unary main_arg7 main_v0_2 id) (fun _ => .ret ⟨⟩)
  hlo rfl (StableHlo.unary main_arg8 main_v0_3 id) (fun _ => .ret ⟨⟩)
  Prog.lift (.customCall (Pipeline.entry 0) ())
  pure ⟨⟩

/-! ## The staging cells -/

/-- Each custom_call's staging semaphores, listed window by window and slot by slot. -/
abbrev semTab (k : Fin 4) : Fin 1 → List (DmaSem sig) :=
  fun | 0 => Pipeline.specSems (spec0 k) | ⟨_ + 1, h⟩ => absurd h (Nat.not_lt.2 (Nat.le_add_left _ _))
/-- Within each custom_call, no two staging buffers complete on one DMA semaphore. -/
theorem semsDistinct : ∀ (k : Fin 4) (p : Fin 1), (semTab k p).Nodup := by decide
/-- No two custom_calls' staging buffers share a DMA semaphore. -/
theorem semsDisjoint : ∀ (k : Fin 4) (p p' : Fin 1), p ≠ p' → (semTab k p).Forall (· ∉ semTab k p') := by decide
/-- The program's staging cells are pairwise distinct. -/
theorem cellOf_inj : Function.Injective (Pipeline.cellOf (nD := nD) (τ := τ) (cfgs k)) :=
  Pipeline.cellOf_injective_of_table (cfgs k) (semTab k) (fun | 0 => rfl | ⟨_ + 1, h⟩ => absurd h (Nat.not_lt.2 (Nat.le_add_left _ _))) (semsDistinct k) (semsDisjoint k)

/-! ## custom_call 0 (pipeline 0 of @main) -/

/-- The layout the launch needs. -/
theorem winFacts0 : ∀ k : Fin 4, Pipeline.WinFacts (spec0 k) := by decide
/-- No window's block is empty. -/
theorem block_pos0 : ∀ (k : Fin 4) (w : Fin 9), 0 < (spec0 k w).block.numel := by decide
/-- The windows' arrays and the staging memrefs are whole buffers. -/
theorem arr_whole0 : ∀ w : Fin 9, (spec0 k w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | ⟨_ + 9, h⟩ => absurd h (Nat.not_lt.2 (Nat.le_add_left _ _))
theorem stage_whole0 : ∀ (w : Fin 9) (s : Fin (spec0 k w).nbuf), ((spec0 k w).stage s).IsWhole := fun | 0 => fun s => Facts₀.hstage0_0 (s.cast Facts₀.nbuf0_0) | 1 => fun s => Facts₀.hstage0_1 (s.cast Facts₀.nbuf0_1) | 2 => fun s => Facts₀.hstage0_2 (s.cast Facts₀.nbuf0_2) | 3 => fun s => Facts₀.hstage0_3 (s.cast Facts₀.nbuf0_3) | 4 => fun s => Facts₀.hstage0_4 (s.cast Facts₀.nbuf0_4) | 5 => fun s => Facts₀.hstage0_5 (s.cast Facts₀.nbuf0_5) | 6 => fun s => Facts₀.hstage0_6 (s.cast Facts₀.nbuf0_6) | 7 => fun s => Facts₀.hstage0_7 (s.cast Facts₀.nbuf0_7) | 8 => fun s => Facts₀.hstage0_8 (s.cast Facts₀.nbuf0_8) | ⟨_ + 9, h⟩ => absurd h (Nat.not_lt.2 (Nat.le_add_left _ _))
/-- The five, bundled. -/
theorem launch0 : Pipeline.LaunchFacts (nD := nD) (τ := τ) (cfgs k) 0 := ⟨cellOf_inj k, winFacts0 k, block_pos0 k, arr_whole0 k, stage_whole0 k⟩

/-- The grid has one point. -/
theorem N_0 : grid0.N = 1 := by decide

/-- The windows conjoined one by one. -/
theorem bigSep_W0 {M : Type} [URA M] (Φ : Fin 9 → sProp M) : bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ

/-! ## @main as segments and as a chain of items -/

/-- 4 host operations of @main, in order. -/
abbrev hostOps0 : List (HloOp τ sig (Elt F)) :=
  [ StableHlo.unary main_arg5 main_v0_0 id,
    StableHlo.unary main_arg6 main_v0_1 id,
    StableHlo.unary main_arg7 main_v0_2 id,
    StableHlo.unary main_arg8 main_v0_3 id ]
/-- Each touches TensorCore references only. -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
/-- `main` is the chain of its items (`Pipeline.chain`). -/
theorem main_chain (c : Dev nD) : main k (F := F) c = (Pipeline.chain
  [ StableHlo.seq hostOps0,
    Prog.lift (.customCall (Pipeline.entry 0) ()) ] : Prog (TpuEff nD τ sig (Elt F) (Pipeline.Sig (Λ₀ k) (Fin 1) fun p => (pcfgs k (F := F) p).Adm) .tc) PUnit) := by
  rewrite [StableHlo.chain_seq_cons, Pipeline.chain_cons]
  chain_rfl

/-- The kernel body at point `t`, on what the pipeline calls it with (`(defs₀ k)`'s row at the slots). -/
abbrev bodyAt0 (t : Fin (cfg0 k).N) : Prog (TpuEff nD τ sig (Elt F) (Λ₀ k) .tc) PUnit :=
  bodyOf k t ((cfg0 k).slots t)

end Calls

end Cert.Branch

end
-- ==== Proof.AbFrame.lean ====
/-
  The optimiser's calls for the branches' and the output's weights: the body's run, what the points leave, the run and the frame.
-/
module

public import proofs.«01_k».proof.Proof.AbFacts
public import proofs.«01_k».proof.Proof.Whole
public import Idealize.ShloMosaic.Lib.Claim
public import Idealize.ShloMosaic.Lib.ValueIdx

@[expose] public section

set_option maxRecDepth 16384

noncomputable section

namespace Cert.Branch

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.Whole (off2 off3 load_whole stored_whole)

variable {F : FTy → Type} [FloatOps F]

local notation "𝕄" => MT nD τ sig Unit (Elt F) ℕ (UR sig nD τ) ℕ

variable (k : Fin 4) (m : (ℓ : Loc nD τ sig) → Buf (Elt F) ℓ) (ρ : Dev nD → PrngReg)

/-- Core `c` owns the buffer `M` with the contents `x`. -/
abbrev own {S : Shape} {e : EltTy} (c : Dev nD) (M : Memref sig .tc .vmem S e) (x : Vec F S e) : sProp 𝕄 := owns (c : Thread nD τ) M fullShare x

/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) (cfgs k) 0 (defs₀ k) 𝒱₀ m (main k (F := F)) (V m) :=
  Pipeline.hmain_prefix (cfgs k) 0 (defs₀ k) 𝒱₀ m (main k) hostOps0 hostOps0_sub hostOps0_fresh (main_chain k)

/-- The arguments are as they were at the launch. -/
abbrev Kept (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)

/-! ## The windows' blocks -/

/-- Window `w`'s block at point `t`, read off its array as the region finds it (`V`). -/
def iblk (c : Dev nD) (w : Fin (cfg0 k).W) (t : Fin (cfg0 k).N) : (((cfg0 k).win w).xblock ((cfg0 k).grid.coords t)).Idx → Elt F ((cfg0 k).win w).elt :=
  (((cfg0 k).win w).blk t).view.read (Elt F) (V m c (Pipeline.arrRef (spec0 k) w))

/-- The branch's rows of a sum. -/
def rowsOf (k : Fin 4) (x : Vec F S4224x1024 .bf16) : GTile F := fun y => x (ix2 ⟨(12 + k.val) * 256 + (y 0).val, by have h : (y 0).val < 256 := (y 0).isLt; omega⟩ (y 1))
/-- What the first two windows fetch: the sums' rows, which end inside the arrays although the blocks do not tile them. -/
abbrev g0 (c : Dev nD) : GTile F := rowsOf k (V m c main_arg0)
abbrev g1 (c : Dev nD) : GTile F := rowsOf k (V m c main_arg1)

/-! ## The kernel body on any staging memrefs -/

/-- Each window's current staging memref at point `t`, spelled as the pipeline passes it (`bodyAt0`), and its wholeness. -/
abbrev ms0_0 (t : Fin (cfg0 k).N) : GStg := (win0_0 k).stage ((cfg0 k).slots t 0)
abbrev hs0_0 (t : Fin (cfg0 k).N) : (ms0_0 k t).IsWhole := Facts₀.hstage0_0 (((cfg0 k).slots t 0).cast Facts₀.nbuf0_0)
abbrev ms0_1 (t : Fin (cfg0 k).N) : GStg := (win0_1 k).stage ((cfg0 k).slots t 1)
abbrev hs0_1 (t : Fin (cfg0 k).N) : (ms0_1 k t).IsWhole := Facts₀.hstage0_1 (((cfg0 k).slots t 1).cast Facts₀.nbuf0_1)
abbrev ms0_2 (t : Fin (cfg0 k).N) : Stg := win0_2.stage ((cfg0 k).slots t 2)
abbrev hs0_2 (t : Fin (cfg0 k).N) : (ms0_2 k t).IsWhole := Facts₀.hstage0_2 (((cfg0 k).slots t 2).cast Facts₀.nbuf0_2)
abbrev ms0_3 (t : Fin (cfg0 k).N) : Stg := win0_3.stage ((cfg0 k).slots t 3)
abbrev hs0_3 (t : Fin (cfg0 k).N) : (ms0_3 k t).IsWhole := Facts₀.hstage0_3 (((cfg0 k).slots t 3).cast Facts₀.nbuf0_3)
abbrev ms0_4 (t : Fin (cfg0 k).N) : Stg := win0_4.stage ((cfg0 k).slots t 4)
abbrev hs0_4 (t : Fin (cfg0 k).N) : (ms0_4 k t).IsWhole := Facts₀.hstage0_4 (((cfg0 k).slots t 4).cast Facts₀.nbuf0_4)
abbrev ms0_5 (t : Fin (cfg0 k).N) : Stg := win0_5.stage ((cfg0 k).slots t 5)
abbrev hs0_5 (t : Fin (cfg0 k).N) : (ms0_5 k t).IsWhole := Facts₀.hstage0_5 (((cfg0 k).slots t 5).cast Facts₀.nbuf0_5)
abbrev ms0_6 (t : Fin (cfg0 k).N) : Stg := win0_6.stage ((cfg0 k).slots t 6)
abbrev hs0_6 (t : Fin (cfg0 k).N) : (ms0_6 k t).IsWhole := Facts₀.hstage0_6 (((cfg0 k).slots t 6).cast Facts₀.nbuf0_6)
abbrev ms0_7 (t : Fin (cfg0 k).N) : Stg := win0_7.stage ((cfg0 k).slots t 7)
abbrev hs0_7 (t : Fin (cfg0 k).N) : (ms0_7 k t).IsWhole := Facts₀.hstage0_7 (((cfg0 k).slots t 7).cast Facts₀.nbuf0_7)
abbrev ms0_8 (t : Fin (cfg0 k).N) : Stg := win0_8.stage ((cfg0 k).slots t 8)
abbrev hs0_8 (t : Fin (cfg0 k).N) : (ms0_8 k t).IsWhole := Facts₀.hstage0_8 (((cfg0 k).slots t 8).cast Facts₀.nbuf0_8)

section Body
variable (c : Dev nD) (i : grid0.Coords) (arg1 : GStg) (harg1 : arg1.IsWhole) (arg2 : GStg) (harg2 : arg2.IsWhole) (arg3 : Stg) (harg3 : arg3.IsWhole) (arg4 : Stg) (harg4 : arg4.IsWhole) (arg5 : Stg) (harg5 : arg5.IsWhole) (arg10 : Stg) (harg10 : arg10.IsWhole) (arg11 : Stg) (harg11 : arg11.IsWhole) (arg12 : Stg) (harg12 : arg12.IsWhole) (arg13 : Stg) (harg13 : arg13.IsWhole)
  (x0 x1 : GTile F) (x2 x3 x4 : Tile F)

/-- Load a tile, or a sum's rows. -/
abbrev ld (M : Stg) (h : M.IsWhole) (x : Tile F) : Tile F :=
  View.readAt (Elt F) M.view (Rect.unit ![0, 0, 0] S1x256x1024.size Facts₀.inb_S1x256x1024_S1x256x1024_0_0_0).toLoadRect (h.unread x)
abbrev ldg (M : GStg) (h : M.IsWhole) (x : GTile F) : GTile F :=
  View.readAt (Elt F) M.view (Rect.unit ![0, 0] S256x1024.size Facts₀.inb_S256x1024_S256x1024_0_0).toLoadRect (h.unread x)
theorem ld_eq (M : Stg) (h : M.IsWhole) (x : Tile F) : ld M h x = x := load_whole off3 M h x _
theorem ldg_eq (M : GStg) (h : M.IsWhole) (x : GTile F) : ldg M h x = x := load_whole off2 M h x _

set_option maxHeartbeats 1000000 in
/-- One run of the body on whole staging memrefs: the inputs' stay as they were, and each output's holds its value of the inputs' contents. -/
theorem body_run (E : Set ℕ) (K : PUnit → sProp 𝕄) :
    iprop(own c arg1 x0 ∗ own c arg2 x1 ∗ own c arg3 x2 ∗ own c arg4 x3 ∗ own c arg5 x4
        ∗ (∃ d, own c arg10 d) ∗ (∃ d, own c arg11 d) ∗ (∃ d, own c arg12 d) ∗ (∃ d, own c arg13 d)
        ∗ (iprop(own c arg1 x0 ∗ own c arg2 x1 ∗ own c arg3 x2 ∗ own c arg4 x3 ∗ own c arg5 x4
          ∗ own c arg10 (k0_pay5 x0 x1) ∗ own c arg11 (k0_pay1 bc2 (k0_pay4 x0 x1 x4) (k0_pay8 x0 x1 x3) x2) ∗ own c arg12 (k0_pay6 x0 x1 x3) ∗ own c arg13 (k0_pay7 x0 x1 x4)) -∗ K ⟨⟩))
      ⊢ wp frame (wpE (defs₀ k (F := F)) Variants.none c none) E (cc0_adamw_skel i arg1 harg1 arg2 harg2 arg3 harg3 arg4 harg4 arg5 harg5 (Memref.whole main_arg5) (Memref.isWhole_whole _) (Memref.whole main_arg6) (Memref.isWhole_whole _) (Memref.whole main_arg7) (Memref.isWhole_whole _) (Memref.whole main_arg8) (Memref.isWhole_whole _) arg10 harg10 arg11 harg11 arg12 harg12 arg13 harg13) K := by
  unfold cc0_adamw_skel
  unfold own owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]; · iexists _; isplitr; (ipureintro; exact harg1.read_unread _); iexact H0
  isplitl [H1]; · iexists _; isplitr; (ipureintro; exact harg2.read_unread _); iexact H1
  isplitl [H2]; · iexists _; isplitr; (ipureintro; exact harg3.read_unread _); iexact H2
  isplitl [H3]; · iexists _; isplitr; (ipureintro; exact harg4.read_unread _); iexact H3
  isplitl [H4]; · iexists _; isplitr; (ipureintro; exact harg5.read_unread _); iexact H4
  isplitl [H5]; · iexists _; isplitr; swap; (iexact H5); ipureintro; exact (stored_whole off3 arg10.view _ _ (k0_pay5 (ldg _ harg1 x0) (ldg _ harg2 x1))).trans (by simp only [ld_eq, ldg_eq])
  isplitl [H6]; · iexists _; isplitr; swap; (iexact H6); ipureintro; exact (stored_whole off3 arg11.view _ _ (k0_pay1 bc2 (k0_pay4 (ldg _ harg1 x0) (ldg _ harg2 x1) (ld _ harg5 x4)) (k0_pay8 (ldg _ harg1 x0) (ldg _ harg2 x1) (ld _ harg4 x3)) (ld _ harg3 x2))).trans (by simp only [ld_eq, ldg_eq])
  isplitl [H7]; · iexists _; isplitr; swap; (iexact H7); ipureintro; exact (stored_whole off3 arg12.view _ _ (k0_pay6 (ldg _ harg1 x0) (ldg _ harg2 x1) (ld _ harg4 x3))).trans (by simp only [ld_eq, ldg_eq])
  iexists _; isplitr; swap; (iexact H8); ipureintro; exact (stored_whole off3 arg13.view _ _ (k0_pay7 (ldg _ harg1 x0) (ldg _ harg2 x1) (ld _ harg5 x4))).trans (by simp only [ld_eq, ldg_eq])

end Body

/-! ## The pipeline's proof data -/

/-- The proof data of the one pipeline on core `c`. -/
def dats (_ : Fin 1) (c : Dev nD) : Dat τ (Elt F) Unit ℕ (UR sig nD τ) ℕ (cfg0 k) c where
  A w := V m c (Pipeline.arrRef (spec0 k) w)
  after w t := match w with
    | ⟨0, _⟩ => g0 k m c
    | ⟨1, _⟩ => g1 k m c
    | ⟨2, _⟩ => iblk k m c 2 t
    | ⟨3, _⟩ => iblk k m c 3 t
    | ⟨4, _⟩ => iblk k m c 4 t
    | ⟨5, _⟩ => k0_pay5 (g0 k m c) (g1 k m c)
    | ⟨6, _⟩ => k0_pay1 bc2 (k0_pay4 (g0 k m c) (g1 k m c) (iblk k m c 4 t)) (k0_pay8 (g0 k m c) (g1 k m c) (iblk k m c 3 t)) (iblk k m c 2 t)
    | ⟨7, _⟩ => k0_pay6 (g0 k m c) (g1 k m c) (iblk k m c 3 t)
    | ⟨8, _⟩ => k0_pay7 (g0 k m c) (g1 k m c) (iblk k m c 4 t)
  Φ _ := Pipeline.ΦA (spec0 k) c
  q _ := fullShare
  owed _ := 0

/-- What the body leaves, window by window. -/
theorem after0_0 (c : Dev nD) (t : Fin (cfg0 k).N) : (dats k m 0 c).after 0 t = g0 k m c := rfl
theorem after0_1 (c : Dev nD) (t : Fin (cfg0 k).N) : (dats k m 0 c).after 1 t = g1 k m c := rfl
theorem after0_2 (c : Dev nD) (t : Fin (cfg0 k).N) : (dats k m 0 c).after 2 t = iblk k m c 2 t := rfl
theorem after0_3 (c : Dev nD) (t : Fin (cfg0 k).N) : (dats k m 0 c).after 3 t = iblk k m c 3 t := rfl
theorem after0_4 (c : Dev nD) (t : Fin (cfg0 k).N) : (dats k m 0 c).after 4 t = iblk k m c 4 t := rfl
theorem after0_5 (c : Dev nD) (t : Fin (cfg0 k).N) : (dats k m 0 c).after 5 t = k0_pay5 (g0 k m c) (g1 k m c) := rfl
theorem after0_6 (c : Dev nD) (t : Fin (cfg0 k).N) : (dats k m 0 c).after 6 t = k0_pay1 bc2 (k0_pay4 (g0 k m c) (g1 k m c) (iblk k m c 4 t)) (k0_pay8 (g0 k m c) (g1 k m c) (iblk k m c 3 t)) (iblk k m c 2 t) := rfl
theorem after0_7 (c : Dev nD) (t : Fin (cfg0 k).N) : (dats k m 0 c).after 7 t = k0_pay6 (g0 k m c) (g1 k m c) (iblk k m c 3 t) := rfl
theorem after0_8 (c : Dev nD) (t : Fin (cfg0 k).N) : (dats k m 0 c).after 8 t = k0_pay7 (g0 k m c) (g1 k m c) (iblk k m c 4 t) := rfl

/-- Each input's current staging buffer holds its block at every point, fetched there or not. -/
theorem keep0_0 (c : Dev nD) (t : Fin (cfg0 k).N) : ((cfg0 k).win 0).cut ((cfg0 k).grid.coords t) (g0 k m c) = (dats k m 0 c).blockOf 0 t :=
  funext fun j => congrArg (V m c main_arg0) (funext fun a => match a with
    | 0 => Fin.ext (show (12 + k.val) * 256 + (j (0 : Fin 2)).val = (12 + k.val) * 256 + 1 * (j (0 : Fin 2)).val by rw [Nat.one_mul])
    | 1 => Fin.ext (show (j (1 : Fin 2)).val = 0 * 1024 + 1 * (j (1 : Fin 2)).val by rw [Nat.one_mul, Nat.zero_mul, Nat.zero_add]))
theorem keep0_1 (c : Dev nD) (t : Fin (cfg0 k).N) : ((cfg0 k).win 1).cut ((cfg0 k).grid.coords t) (g1 k m c) = (dats k m 0 c).blockOf 1 t :=
  funext fun j => congrArg (V m c main_arg1) (funext fun a => match a with
    | 0 => Fin.ext (show (12 + k.val) * 256 + (j (0 : Fin 2)).val = (12 + k.val) * 256 + 1 * (j (0 : Fin 2)).val by rw [Nat.one_mul])
    | 1 => Fin.ext (show (j (1 : Fin 2)).val = 0 * 1024 + 1 * (j (1 : Fin 2)).val by rw [Nat.one_mul, Nat.zero_mul, Nat.zero_add]))
theorem before0_0 (c : Dev nD) (t : Fin (cfg0 k).N) (d) : (dats k m 0 c).before 0 t d = g0 k m c :=
  ((dats k m 0 c).before_in_eq_fetched 0 rfl (fun _ => rfl) (fun _ _ _ => rfl) (keep0_0 k m c) t d).trans
    (((dats k m 0 c).fetched_of_clip_none 0 t (take_whole k _) d (g0 k m c)).trans
      ((congrArg (((cfg0 k).win 0).fill ((cfg0 k).grid.coords t) (g0 k m c)) (keep0_0 k m c t)).symm.trans (((cfg0 k).win 0).fill_cut _ _)))
theorem before0_1 (c : Dev nD) (t : Fin (cfg0 k).N) (d) : (dats k m 0 c).before 1 t d = g1 k m c :=
  ((dats k m 0 c).before_in_eq_fetched 1 rfl (fun _ => rfl) (fun _ _ _ => rfl) (keep0_1 k m c) t d).trans
    (((dats k m 0 c).fetched_of_clip_none 1 t (take_whole k _) d (g1 k m c)).trans
      ((congrArg (((cfg0 k).win 1).fill ((cfg0 k).grid.coords t) (g1 k m c)) (keep0_1 k m c t)).symm.trans (((cfg0 k).win 1).fill_cut _ _)))
theorem before0_2 (c : Dev nD) (t : Fin (cfg0 k).N) (d) : (dats k m 0 c).before 2 t d = iblk k m c 2 t :=
  (dats k m 0 c).before_in_eq_fetched 2 rfl (fun _ => rfl) (fun _ _ _ => rfl) (fun _ => rfl) t d
theorem before0_3 (c : Dev nD) (t : Fin (cfg0 k).N) (d) : (dats k m 0 c).before 3 t d = iblk k m c 3 t :=
  (dats k m 0 c).before_in_eq_fetched 3 rfl (fun _ => rfl) (fun _ _ _ => rfl) (fun _ => rfl) t d
theorem before0_4 (c : Dev nD) (t : Fin (cfg0 k).N) (d) : (dats k m 0 c).before 4 t d = iblk k m c 4 t :=
  (dats k m 0 c).before_in_eq_fetched 4 rfl (fun _ => rfl) (fun _ _ _ => rfl) (fun _ => rfl) t d

/-! ## The body obligation, at a generic point -/

/-- What the body is called with at point `t`, -/
def bodyPre (c : Dev nD) (t : Fin (cfg0 k).N) : sProp 𝕄 :=
  iprop((dats k m 0 c).Φ t.castSucc ∗ (dats k m 0 c).owesAt () t.castSucc
    ∗ (∃ d, own c (ms0_0 k t) ((dats k m 0 c).before 0 t d))
    ∗ (∃ d, own c (ms0_1 k t) ((dats k m 0 c).before 1 t d))
    ∗ (∃ d, own c (ms0_2 k t) ((dats k m 0 c).before 2 t d))
    ∗ (∃ d, own c (ms0_3 k t) ((dats k m 0 c).before 3 t d))
    ∗ (∃ d, own c (ms0_4 k t) ((dats k m 0 c).before 4 t d))
    ∗ (∃ d, own c (ms0_5 k t) ((dats k m 0 c).before 5 t d))
    ∗ (∃ d, own c (ms0_6 k t) ((dats k m 0 c).before 6 t d))
    ∗ (∃ d, own c (ms0_7 k t) ((dats k m 0 c).before 7 t d))
    ∗ (∃ d, own c (ms0_8 k t) ((dats k m 0 c).before 8 t d)))

/-- and what it returns. -/
def bodyPost (c : Dev nD) (t : Fin (cfg0 k).N) : sProp 𝕄 :=
  iprop((dats k m 0 c).Φ t.succ ∗ (dats k m 0 c).owesAt () t.succ
    ∗ own c (ms0_0 k t) ((dats k m 0 c).after 0 t)
    ∗ own c (ms0_1 k t) ((dats k m 0 c).after 1 t)
    ∗ own c (ms0_2 k t) ((dats k m 0 c).after 2 t)
    ∗ own c (ms0_3 k t) ((dats k m 0 c).after 3 t)
    ∗ own c (ms0_4 k t) ((dats k m 0 c).after 4 t)
    ∗ own c (ms0_5 k t) ((dats k m 0 c).after 5 t)
    ∗ own c (ms0_6 k t) ((dats k m 0 c).after 6 t)
    ∗ own c (ms0_7 k t) ((dats k m 0 c).after 7 t)
    ∗ own c (ms0_8 k t) ((dats k m 0 c).after 8 t))

set_option maxHeartbeats 800000 in
/-- The body at any point. -/
theorem sound_body (c : Dev nD) (t : Fin (cfg0 k).N) :
    bodyPre k m c t ⊢ wp frame (wpE (defs₀ k (F := F)) Variants.none c none) Set.univ (bodyAt0 k t) (fun _ => bodyPost k m c t) := by
  unfold bodyPre bodyPost bodyAt0
  simp only [before0_0, before0_1, before0_2, before0_3, before0_4]
  rw [show (dats k m 0 c).Φ t.succ = (dats k m 0 c).Φ t.castSucc from rfl,
    show (dats k m 0 c).owesAt () t.succ = (dats k m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run k c (grid0.coords t) _ _ _ _ _ _ _ _ _ _ _ _ _ _ _ _ _ _ (g0 k m c) (g1 k m c) (iblk k m c 2 t) (iblk k m c 3 t) (iblk k m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin (cfg0 k).N) :
    defs₀ k (F := F) .tc (cfg0 k).body ((cfg0 k).bodyArgs t ((cfg0 k).slots t)) = bodyAt0 k t := by
  unfold defs₀; rw [Defs.onTc_tc]

/-- The library's body obligation, at every point: the body's triple restated. -/
theorem body_obligation (c : Dev nD) : BodyObligation (dats k (F := F) m 0 c) (defs₀ k (F := F)) Variants.none () Set.univ := fun t => by
  rw [bigSep_W0, bigSep_W0, defs₀_row]
  exact triple_restated (sound_body k m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run (defs k) (onTc (τ := τ) (main k (F := F))) (s₀ m ρ) (fun r => (Pipeline.FramePost (cfgs k) (dats k m) 0 (V m)) r ∧ r.2.sem = fun _ => 0) :=
  Pipeline.θ_run_frame (Q' := _) (cfgs k) (dats k m) (0 : Fin 1) (launch0 k) (defs₀ k) Variants.none m ρ (main k)
    (hbody := fun c => (body_obligation k m c).loose) (hshare := fun c => (dats k m 0 c).share_full fun _ => rfl)
    (howed := fun _ _ => rfl) (V := V m) (hmain := hmain k m Variants.none) (hA := fun _ _ => rfl) (hΦ := fun _ _ => rfl)

theorem apart5 : ∀ (k : Fin 4) (w : Fin 9), (spec0 k w).arr.view.ref ≠ main_arg5 := by decide
theorem apart6 : ∀ (k : Fin 4) (w : Fin 9), (spec0 k w).arr.view.ref ≠ main_arg6 := by decide
theorem apart7 : ∀ (k : Fin 4) (w : Fin 9), (spec0 k w).arr.view.ref ≠ main_arg7 := by decide
theorem apart8 : ∀ (k : Fin 4) (w : Fin 9), (spec0 k w).arr.view.ref ≠ main_arg8 := by decide

/-- THE FRAME. -/
theorem frame : θ_run (defs k) (onTc (τ := τ) (main k (F := F))) ⟨m, fun _ => 0, ρ⟩ (fun r => (∀ c : Dev nD, Kept m c r.2.mem) ∧ r.2.sem = fun _ => 0) :=
  (θ_run (defs k) _ _).mono (fun _ h => ⟨fun c => ⟨((h.1 c).1 0).trans ((dats k m 0 c).arrAt_in 0 rfl _),
      ((h.1 c).1 1).trans ((dats k m 0 c).arrAt_in 1 rfl _),
      ((h.1 c).1 2).trans ((dats k m 0 c).arrAt_in 2 rfl _),
      ((h.1 c).1 3).trans ((dats k m 0 c).arrAt_in 3 rfl _),
      ((h.1 c).1 4).trans ((dats k m 0 c).arrAt_in 4 rfl _),
      (h.1 c).2 main_arg5 (Pipeline.mem_restRefs_of main_arg5 (by decide) (fun w => apart5 k w)),
      (h.1 c).2 main_arg6 (Pipeline.mem_restRefs_of main_arg6 (by decide) (fun w => apart6 k w)),
      (h.1 c).2 main_arg7 (Pipeline.mem_restRefs_of main_arg7 (by decide) (fun w => apart7 k w)),
      (h.1 c).2 main_arg8 (Pipeline.mem_restRefs_of main_arg8 (by decide) (fun w => apart8 k w))⟩, h.2⟩) (run_main_quiescent k m ρ)

end Cert.Branch

end
-- ==== Proof.AbRef.lean ====
/-
  The optimiser's calls for the branches' and the output's weights: the reference's facts, its run, and its terms at an index.
-/
module

public import proofs.«01_k».proof.Reference7Ideal
public import proofs.«01_k».proof.Proof.AdVal
public import Idealize.ShloMosaic.Lib.Affine
public import Idealize.ShloMosaic.Lib.Decide
public import Idealize.ShloMosaic.Lib.Exec
public import Idealize.ShloMosaic.Lib.StableHlo.Run
public import Idealize.ShloMosaic.Lib.Quiescent
public import Idealize.ShloMosaic.Lib.Pipeline.Value
public import Idealize.ShloMosaic.Lib.ValueIdx

@[expose] public section

set_option synthInstance.maxSize 4096

noncomputable section

namespace Cert.Reference7Ideal.Gen

open Idealize.ShloMosaic Idealize.SL.Sem

/-- The program's facts. -/
instance facts₀ : Cert.Reference7Ideal.Facts₀ := by constructor <;> decide
instance facts : Cert.Reference7Ideal.Facts where

end Cert.Reference7Ideal.Gen

namespace Cert.Reference7Ideal.Value

open Cert.Reference7Ideal Cert.Reference7Ideal.Gen Idealize.ShloMosaic Idealize.ShloMosaic.TcCoe Idealize.SL.Sem Idealize.ShloMosaic.StableHlo
open Idealize.ShloMosaic.ValueIdx
open Cert.Kernel5Ideal.Hand (newM newV delta)

/-- The arrays: a scalar, the exchanged sums, one layer's matrix, the same as a slab, the other layers' slabs, all layers. -/
abbrev Sc (F : FTy → Type) := (⟨S_, .f32⟩ : BufTy).Contents (Elt F)
abbrev Half (F : FTy → Type) := (⟨S4224x1024, .bf16⟩ : BufTy).Contents (Elt F)
abbrev Sum (F : FTy → Type) := (⟨S4224x1024, .f32⟩ : BufTy).Contents (Elt F)
abbrev Mat (F : FTy → Type) := (⟨S256x1024, .f32⟩ : BufTy).Contents (Elt F)
abbrev Slab (F : FTy → Type) := (⟨S1x256x1024, .f32⟩ : BufTy).Contents (Elt F)
abbrev Rest (F : FTy → Type) := (⟨S3x256x1024, .f32⟩ : BufTy).Contents (Elt F)
abbrev Stack (F : FTy → Type) := (⟨S4x256x1024, .f32⟩ : BufTy).Contents (Elt F)
abbrev Op2 (F : FTy → Type) := Mat F → Mat F → Mat F

variable {F : FTy → Type} [FloatOps F]

/-! ## The terms -/

abbrev fill : Sc F → Mat F := broadcastInDim S256x1024 ![] Facts₀.bcast_S_S256x1024
abbrev first : Stack F → Slab F := (extractStridedSlice S1x256x1024 ![0, 0, 0] · Facts₀.slices_S4x256x1024_S1x256x1024_0_0_0)
abbrev rest : Stack F → Rest F := (extractStridedSlice S3x256x1024 ![1, 0, 0] · Facts₀.slices_S4x256x1024_S3x256x1024_1_0_0)
abbrev one : Mat F → Slab F := broadcastInDim S1x256x1024 ![1, 2] Facts₀.bcast_S256x1024_S1x256x1024_1_2
abbrev cat : Slab F → Rest F → Stack F :=
  fun a b => concatenate S4x256x1024 0 [⟨S1x256x1024, a⟩, ⟨S3x256x1024, b⟩] Facts₀.concatenates_S1x256x1024_S3x256x1024_S4x256x1024_d0
abbrev num (b : BitVec 32) : Mat F := fill (constant S_ .f32 b)

/-- Layer 0's matrix. -/
def lay (a : Stack F) : Mat F := shapeCast S256x1024 (first a) Facts₀.shapeCasts_S1x256x1024_S256x1024
/-- A matrix as layer 0's, the other layers' as they were. -/
def stack (v : Mat F) (a : Stack F) : Stack F := cat (one v) (rest a)
/-- The gradient: the branch's rows of the sum of the two halves. -/
theorem rows_in : ∀ k : Fin 4, S4224x1024.Slices ![(12 + k.val) * 256, 0] S256x1024 := by decide
abbrev rows0 (k : Fin 4) : Sum F → Mat F := (extractStridedSlice S256x1024 ![(12 + k.val) * 256, 0] · (rows_in k))
def gsum (k : Fin 4) (a b : Half F) : Mat F := rows0 k (addf (extf .f32 a Facts₀.bitsLt_bf16_f32) (extf .f32 b Facts₀.bitsLt_bf16_f32))
/-- The moments and the change. -/
def mean (g v : Mat F) : Mat F := addf (mulf (num 0x3F666666#32) v) (mulf (num 0x3DCCCCCD#32) g)
def sqmean (g v : Mat F) : Mat F := addf (mulf (num 0x3F7FBE77#32) v) (mulf (num 0x3A83126F#32) (mulf g g))
def change (g w v u : Mat F) : Mat F :=
  mulf (num 0xBA83126F#32) (addf (Host.divf (Host.divf (mean g v) (num 0x3F26BD02#32))
    (addf (Host.sqrt (Host.divf (sqmean g u) (num 0x3C231ACC#32))) (num 0x322BCC77#32))) (mulf (num 0x3C23D70A#32) w))

/-! ## The run -/

variable (k : Fin 4)

/-- @main's operations, in order, for call `k`. -/
abbrev ops : List (HloOp τ sig (Elt F)) :=
  [ unary main_arg0 main_v0 ((extf .f32 · Facts₀.bitsLt_bf16_f32) : Half F → Sum F),
    unary main_arg1 main_v1 ((extf .f32 · Facts₀.bitsLt_bf16_f32) : Half F → Sum F),
    binary main_v0 main_v1 main_v2 (addf : Sum F → Sum F → Sum F),
    unary main_v2 main_v3 (rows0 k),
    unary main_arg2 main_v4 first,
    reshape main_v4 main_v5 (rfl : (.f32 : EltTy) = .f32) Facts₀.shapeCasts_S1x256x1024_S256x1024,
    unary main_arg3 main_v6 first,
    reshape main_v6 main_v7 (rfl : (.f32 : EltTy) = .f32) Facts₀.shapeCasts_S1x256x1024_S256x1024,
    unary main_arg4 main_v8 first,
    reshape main_v8 main_v9 (rfl : (.f32 : EltTy) = .f32) Facts₀.shapeCasts_S1x256x1024_S256x1024,
    nullary main_cst (constant S_ .f32 0x3F666666#32),
    unary main_cst main_v10 fill,
    binary main_v10 main_v7 main_v11 (mulf : Op2 F),
    nullary main_cst_0 (constant S_ .f32 0x3DCCCCCD#32),
    unary main_cst_0 main_v12 fill,
    binary main_v12 main_v3 main_v13 (mulf : Op2 F),
    binary main_v11 main_v13 main_v14 (addf : Op2 F),
    nullary main_cst_1 (constant S_ .f32 0x3F7FBE77#32),
    unary main_cst_1 main_v15 fill,
    binary main_v15 main_v9 main_v16 (mulf : Op2 F),
    binary main_v3 main_v3 main_v17 (mulf : Op2 F),
    nullary main_cst_2 (constant S_ .f32 0x3A83126F#32),
    unary main_cst_2 main_v18 fill,
    binary main_v18 main_v17 main_v19 (mulf : Op2 F),
    binary main_v16 main_v19 main_v20 (addf : Op2 F),
    nullary main_cst_3 (constant S_ .f32 0x3F26BD02#32),
    unary main_cst_3 main_v21 fill,
    binary main_v14 main_v21 main_v22 (Host.divf : Op2 F),
    nullary main_cst_4 (constant S_ .f32 0x3C231ACC#32),
    unary main_cst_4 main_v23 fill,
    binary main_v20 main_v23 main_v24 (Host.divf : Op2 F),
    unary main_v24 main_v25 (Host.sqrt : Mat F → Mat F),
    nullary main_cst_5 (constant S_ .f32 0x322BCC77#32),
    unary main_cst_5 main_v26 fill,
    binary main_v25 main_v26 main_v27 (addf : Op2 F),
    binary main_v22 main_v27 main_v28 (Host.divf : Op2 F),
    nullary main_cst_6 (constant S_ .f32 0x3C23D70A#32),
    unary main_cst_6 main_v29 fill,
    binary main_v29 main_v5 main_v30 (mulf : Op2 F),
    binary main_v28 main_v30 main_v31 (addf : Op2 F),
    nullary main_cst_7 (constant S_ .f32 0xBA83126F#32),
    unary main_cst_7 main_v32 fill,
    binary main_v32 main_v31 main_v33 (mulf : Op2 F),
    unary main_v3 main_v34 one,
    unary main_arg5 main_v35 rest,
    binary main_v34 main_v35 main_v36 cat,
    unary main_v33 main_v37 one,
    unary main_arg6 main_v38 rest,
    binary main_v37 main_v38 main_v39 cat,
    unary main_v14 main_v40 one,
    unary main_arg7 main_v41 rest,
    binary main_v40 main_v41 main_v42 cat,
    unary main_v20 main_v43 one,
    unary main_arg8 main_v44 rest,
    binary main_v43 main_v44 main_v45 cat ]

def main : Dev nD → Prog (TpuEff nD τ sig (Elt F) (Pipeline.Sig Λ₀ (Fin 0) fun p => (pcfgs (F := F) p).Adm) .tc) PUnit := fun _ => seq (ops k)
theorem scopedRefs_eq : (Finset.univ.filter fun b : Ref sig .tc => b.isScoped) = ∅ := by decide
theorem scopedSems_eq : (Finset.univ.filter fun sm : SemLoc sig => sm.isScoped .tc) = ∅ := by decide
theorem ops_sub : (ops k : List (HloOp τ sig (Elt F))).Forall fun op => op.bufs ⊆ tcRefs τ sig :=
  ⟨unary_bufs_sub .., unary_bufs_sub .., binary_bufs_sub .., unary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- The arguments are as they were at the launch. -/
abbrev Kept (m : (ℓ : Loc nD τ sig) → Buf (Elt F) ℓ) (c : Dev nD) (mem : (ℓ : Loc nD τ sig) → Buf (Elt F) ℓ) : Prop :=
  mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)

set_option maxHeartbeats 2000000 in
/-- From any memory with zero counters every execution of @main ends with each result at its term of the arguments, and the arguments unchanged. -/
theorem run (m : (ℓ : Loc nD τ sig) → Buf (Elt F) ℓ) (ρ : Dev nD → PrngReg) :
    θ_run defs (onTc (τ := τ) (main k (F := F))) ⟨m, fun _ => 0, ρ⟩ fun r => ∀ c : Dev nD,
      r.2.mem ((c.tc : Thread nD τ).loc main_v36) = stack (gsum k (m ((c.tc : Thread nD τ).loc main_arg0)) (m ((c.tc : Thread nD τ).loc main_arg1))) (m ((c.tc : Thread nD τ).loc main_arg5))
      ∧ r.2.mem ((c.tc : Thread nD τ).loc main_v39) = stack (change (gsum k (m ((c.tc : Thread nD τ).loc main_arg0)) (m ((c.tc : Thread nD τ).loc main_arg1))) (lay (m ((c.tc : Thread nD τ).loc main_arg2))) (lay (m ((c.tc : Thread nD τ).loc main_arg3))) (lay (m ((c.tc : Thread nD τ).loc main_arg4)))) (m ((c.tc : Thread nD τ).loc main_arg6))
      ∧ r.2.mem ((c.tc : Thread nD τ).loc main_v42) = stack (mean (gsum k (m ((c.tc : Thread nD τ).loc main_arg0)) (m ((c.tc : Thread nD τ).loc main_arg1))) (lay (m ((c.tc : Thread nD τ).loc main_arg3)))) (m ((c.tc : Thread nD τ).loc main_arg7))
      ∧ r.2.mem ((c.tc : Thread nD τ).loc main_v45) = stack (sqmean (gsum k (m ((c.tc : Thread nD τ).loc main_arg0)) (m ((c.tc : Thread nD τ).loc main_arg1))) (lay (m ((c.tc : Thread nD τ).loc main_arg4)))) (m ((c.tc : Thread nD τ).loc main_arg8))
      ∧ Kept m c r.2.mem :=
  (θ_run defs _ _).mono (fun _ h c => ⟨(h c main_v36).trans (by after_results_simp <;> rfl),
      (h c main_v39).trans (by after_results_simp <;> rfl),
      (h c main_v42).trans (by after_results_simp <;> rfl),
      (h c main_v45).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp)⟩)
    (run_seq scopedRefs_eq scopedSems_eq defs (main k) (fun _ => ops k) (fun _ => rfl) (fun _ => ops_sub k) m ρ)

theorem frame (m : (ℓ : Loc nD τ sig) → Buf (Elt F) ℓ) (ρ : Dev nD → PrngReg) :
    θ_run defs (onTc (τ := τ) (main k (F := F))) ⟨m, fun _ => 0, ρ⟩ fun r => (∀ c : Dev nD, Kept m c r.2.mem) ∧ r.2.sem = fun _ => 0 :=
  (θ_run defs _ _).mono (fun r h => ⟨fun c => (h c).2.2.2.2, sem_eq_zero_of_no_sems (by decide) r.2⟩) (run k m ρ)

/-! ## The terms at an index -/

/-- The gradient at row `x` and column `q`. -/
def gAt (a b : Half Ideal) (x : Fin 256) (q : Fin 1024) : Ideal .f32 :=
  FloatOps.addf (FloatOps.extf .f32 Facts₀.bitsLt_bf16_f32 (a (ix2 ⟨(12 + k.val) * 256 + x.val, by omega⟩ q : S4224x1024.Idx)))
    (FloatOps.extf .f32 Facts₀.bitsLt_bf16_f32 (b (ix2 ⟨(12 + k.val) * 256 + x.val, by omega⟩ q : S4224x1024.Idx)))

/-- Layer 0's matrix set, the other layers' kept. -/
def upd (new : Fin 256 → Fin 1024 → Ideal .f32) (old : Stack Ideal) : Stack Ideal :=
  fun i => if (i 0).val = 0 then new (i 1) (i 2) else old i

theorem gsum_apply (a b : Half Ideal) (x : Fin 256) (q : Fin 1024) : gsum k a b (ix2 x q : S256x1024.Idx) = gAt k a b x q :=
  extractStridedSlice_apply _ _ (rows_in k) _ (ix2 ⟨(12 + k.val) * 256 + x.val, by omega⟩ q : S4224x1024.Idx) (fun b => match b with | 0 => rfl | 1 => (Nat.zero_add _).symm)

theorem lay_apply (a : Stack Ideal) (x : Fin 256) (q : Fin 1024) : lay a (ix2 x q : S256x1024.Idx) = a (ix3 0 x q) := by
  refine (shapeCast_apply _ _ _ (ix3 0 x q : S1x256x1024.Idx) ?_).trans ?_
  · rewrite [Shape.rowMajor_val_three, Shape.rowMajor_val_two]
    show (0 * 256 + x.val) * 1024 + q.val = x.val * 1024 + q.val
    omega
  exact extractStridedSlice_apply _ _ _ _ (ix3 0 x q : S4x256x1024.Idx)
    (fun b => match b with | 0 => rfl | 1 => (Nat.zero_add _).symm | 2 => (Nat.zero_add _).symm)

theorem stack_eq (v : Mat Ideal) (old : Stack Ideal) (new : Fin 256 → Fin 1024 → Ideal .f32) (h : ∀ x q, v (ix2 x q : S256x1024.Idx) = new x q) :
    stack v old = upd new old := by
  funext i
  obtain ⟨l, x, q, rfl⟩ : ∃ (l : Fin 4) (x : Fin 256) (q : Fin 1024), (ix3 l x q : S4x256x1024.Idx) = i := ⟨i 0, i 1, i 2, (eq_ix3 i).symm⟩
  unfold upd
  show concatenate S4x256x1024 0 [⟨S1x256x1024, one v⟩, ⟨S3x256x1024, rest old⟩] Facts₀.concatenates_S1x256x1024_S3x256x1024_S4x256x1024_d0 (ix3 l x q) = _
  by_cases hl : l.val = 0
  · rw [if_pos (show ((ix3 l x q : S4x256x1024.Idx) 0).val = 0 from hl)]
    refine (concatenate_pair_apply_left (t := S4x256x1024) (s₁ := S1x256x1024) (s₂ := S3x256x1024) 0 _ _ _ _ rfl (ix3 0 x q : S1x256x1024.Idx) ?_).trans ?_
    · exact fun b => match b with | 0 => hl.symm | 1 => rfl | 2 => rfl
    exact (broadcastInDim_apply _ _ _ _ (ix2 x q : S256x1024.Idx) (fun b => match b with | 0 => rfl | 1 => rfl)).trans (h x q)
  · rw [if_neg (show ¬((ix3 l x q : S4x256x1024.Idx) 0).val = 0 from hl)]
    refine (concatenate_pair_apply_right (t := S4x256x1024) (s₁ := S1x256x1024) (s₂ := S3x256x1024) 0 _ _ _ _ rfl rfl (ix3 ⟨l.val - 1, by omega⟩ x q : S3x256x1024.Idx) ?_ ?_).trans ?_
    · exact fun b hb => match b with | 0 => absurd rfl hb | 1 => rfl | 2 => rfl
    · exact (show l.val - 1 + 1 = l.val by omega)
    exact extractStridedSlice_apply _ _ _ _ (ix3 l x q : S4x256x1024.Idx)
      (fun b => match b with | 0 => show l.val = 1 + (l.val - 1) by omega | 1 => (Nat.zero_add _).symm | 2 => (Nat.zero_add _).symm)

/-- The four results. -/
def Rg (a b : Half Ideal) (o : Stack Ideal) : Stack Ideal := upd (gAt k a b) o
def Rd (a b : Half Ideal) (w v u o : Stack Ideal) : Stack Ideal := upd (fun x q => delta (gAt k a b x q) (w (ix3 0 x q)) (v (ix3 0 x q)) (u (ix3 0 x q))) o
def Rm (a b : Half Ideal) (v o : Stack Ideal) : Stack Ideal := upd (fun x q => newM (gAt k a b x q) (v (ix3 0 x q))) o
def Rv (a b : Half Ideal) (u o : Stack Ideal) : Stack Ideal := upd (fun x q => newV (gAt k a b x q) (u (ix3 0 x q))) o

theorem g_eq (a b : Half Ideal) (o : Stack Ideal) : stack (gsum k a b) o = Rg k a b o := stack_eq _ _ _ (gsum_apply k a b)
theorem m_eq (a b : Half Ideal) (v o : Stack Ideal) : stack (mean (gsum k a b) (lay v)) o = Rm k a b v o :=
  stack_eq _ _ _ fun x q => congrArg₂ newM (gsum_apply k a b x q) (lay_apply v x q)
theorem v_eq (a b : Half Ideal) (u o : Stack Ideal) : stack (sqmean (gsum k a b) (lay u)) o = Rv k a b u o :=
  stack_eq _ _ _ fun x q => congrArg₂ newV (gsum_apply k a b x q) (lay_apply u x q)
theorem d_eq (a b : Half Ideal) (w v u o : Stack Ideal) : stack (change (gsum k a b) (lay w) (lay v) (lay u)) o = Rd k a b w v u o :=
  stack_eq _ _ _ fun x q => (show change (gsum k a b) (lay w) (lay v) (lay u) (ix2 x q)
    = delta (gsum k a b (ix2 x q)) (lay w (ix2 x q)) (lay v (ix2 x q)) (lay u (ix2 x q)) from rfl).trans
      (by rw [gsum_apply, lay_apply, lay_apply, lay_apply])

end Cert.Reference7Ideal.Value

end
-- ==== Proof.AbVal.lean ====
/-
  The optimiser's calls for the branches' and the output's weights: the result arrays.
-/
module

public import proofs.«01_k».proof.Proof.AbFrame
public import proofs.«01_k».proof.Proof.AbRef
public import Idealize.ShloMosaic.PureOps.Ideal.Laws

@[expose] public section

set_option maxRecDepth 16384

noncomputable section

namespace Cert.Branch

open Cert.Kernel7Ideal Cert.Kernel7Ideal.Gen
open Idealize.ShloMosaic Idealize.ShloMosaic.TcCoe Idealize.ShloMosaic.Tactic Idealize.ShloMosaic.ValueIdx
open Idealize.SL.Sem
open Cert.Kernel5Ideal.Hand (newM newV delta)
open Cert.Reference7Ideal.Value (gAt upd Rg Rd Rm Rv)

/-! ## The tiles at an index -/

section Tiles
variable (v0 v2 : GTile Ideal) (x w : Tile Ideal) (u : Fin 1) (r : Fin 256) (d : Fin 1024)

theorem cast_apply (h : S1x256x1024.ShapeCasts S256x1024) : (shapeCast S256x1024 x h : Rows Ideal) (ix2 r d) = x (ix3 0 r d) := by
  refine (shapeCast_dropUnit_apply _ _ _ _).trans ?_
  exact congrArg x (funext fun a => match a with | 0 => rfl | 1 => rfl | 2 => rfl)
theorem up_apply (z : Rows Ideal) (h : S256x1024.ShapeCasts S1x256x1024) : (shapeCast S1x256x1024 z h : Tile Ideal) (ix3 u r d) = z (ix2 r d) := by
  refine (shapeCast_addUnit_apply _ _ _ _).trans ?_
  exact congrArg z (funext fun a => match a with | 0 => rfl | 1 => rfl)

/-- The sum of the two halves. -/
abbrev sumAt : Ideal .f32 := FloatOps.addf (FloatOps.extf .f32 Facts₀.bitsLt_bf16_f32 (v0 (ix2 r d))) (FloatOps.extf .f32 Facts₀.bitsLt_bf16_f32 (v2 (ix2 r d)))
theorem mean_apply : k0_pay3 v0 v2 x (ix2 r d) = newM (sumAt v0 v2 r d) (x (ix3 0 r d)) :=
  congrArg (newM (sumAt v0 v2 r d)) (cast_apply x r d Facts₀.shapeCasts_S1x256x1024_S256x1024)
theorem sqmean_apply : k0_pay4 v0 v2 x (ix2 r d) = newV (sumAt v0 v2 r d) (x (ix3 0 r d)) :=
  congrArg (newV (sumAt v0 v2 r d)) (cast_apply x r d Facts₀.shapeCasts_S1x256x1024_S256x1024)
theorem pay5_apply : k0_pay5 v0 v2 (ix3 u r d) = sumAt v0 v2 r d := up_apply u r d (k0_pay2 v0 v2) _
theorem pay6_apply : k0_pay6 v0 v2 x (ix3 u r d) = newM (sumAt v0 v2 r d) (x (ix3 0 r d)) := (up_apply u r d _ _).trans (mean_apply v0 v2 x r d)
theorem pay7_apply : k0_pay7 v0 v2 x (ix3 u r d) = newV (sumAt v0 v2 r d) (x (ix3 0 r d)) := (up_apply u r d _ _).trans (sqmean_apply v0 v2 x r d)
theorem pay1_apply (y : Tile Ideal) : k0_pay1 bc2 (k0_pay4 v0 v2 y) (k0_pay8 v0 v2 x) w (ix3 u r d)
    = delta (sumAt v0 v2 r d) (w (ix3 0 r d)) (x (ix3 0 r d)) (y (ix3 0 r d)) := by
  unfold k0_pay1
  rw [up_apply]
  have e (W M' U : Ideal .f32) (hw : (shapeCast S256x1024 w Facts₀.shapeCasts_S1x256x1024_S256x1024 : Rows Ideal) (ix2 r d) = W)
      (hm : k0_pay3 v0 v2 x (ix2 r d) = M') (hu : k0_pay4 v0 v2 y (ix2 r d) = U) :
      FloatOps.mulf (FloatOps.ofBits .f32 0xBA83126F#32 : Ideal .f32) (FloatOps.addf
        (FloatOps.divf (FloatOps.divf (k0_pay3 v0 v2 x (ix2 r d)) (FloatOps.ofBits .f32 0x3F26BD02#32))
          (FloatOps.addf (FloatOps.sqrt (FloatOps.divf (k0_pay4 v0 v2 y (ix2 r d)) (FloatOps.ofBits .f32 0x3C231ACC#32))) (FloatOps.ofBits .f32 0x322BCC77#32)))
        (FloatOps.mulf (FloatOps.ofBits .f32 0x3C23D70A#32) ((shapeCast S256x1024 w Facts₀.shapeCasts_S1x256x1024_S256x1024 : Rows Ideal) (ix2 r d))))
      = FloatOps.mulf (FloatOps.ofBits .f32 0xBA83126F#32 : Ideal .f32) (FloatOps.addf
        (FloatOps.divf (FloatOps.divf M' (FloatOps.ofBits .f32 0x3F26BD02#32))
          (FloatOps.addf (FloatOps.sqrt (FloatOps.divf U (FloatOps.ofBits .f32 0x3C231ACC#32))) (FloatOps.ofBits .f32 0x322BCC77#32)))
        (FloatOps.mulf (FloatOps.ofBits .f32 0x3C23D70A#32) W)) := by rw [hw, hm, hu]
  exact e _ _ _ (cast_apply w r d _) (mean_apply v0 v2 x r d) (sqmean_apply v0 v2 y r d)

end Tiles

/-! ## The blocks as parts of the arrays -/

variable (k : Fin 4) (m : (ℓ : Loc nD τ sig) → Buf (Elt Ideal) ℓ) (c : Dev nD)

/-- The exchanged sums; the weights and their moments; what the results' arrays held. -/
abbrev A0 : Vec Ideal S4224x1024 .bf16 := m ((c : Thread nD τ).loc main_arg0)
abbrev A1 : Vec Ideal S4224x1024 .bf16 := m ((c : Thread nD τ).loc main_arg1)
abbrev A2 : Vec Ideal S4x256x1024 .f32 := m ((c : Thread nD τ).loc main_arg2)
abbrev A3 : Vec Ideal S4x256x1024 .f32 := m ((c : Thread nD τ).loc main_arg3)
abbrev A4 : Vec Ideal S4x256x1024 .f32 := m ((c : Thread nD τ).loc main_arg4)
abbrev A5 : Vec Ideal S4x256x1024 .f32 := m ((c : Thread nD τ).loc main_arg5)
abbrev A6 : Vec Ideal S4x256x1024 .f32 := m ((c : Thread nD τ).loc main_arg6)
abbrev A7 : Vec Ideal S4x256x1024 .f32 := m ((c : Thread nD τ).loc main_arg7)
abbrev A8 : Vec Ideal S4x256x1024 .f32 := m ((c : Thread nD τ).loc main_arg8)

/-- The results. -/
def G5 : Vec Ideal S4x256x1024 .f32 := Rg k (A0 m c) (A1 m c) (A5 m c)
def G6 : Vec Ideal S4x256x1024 .f32 := Rd k (A0 m c) (A1 m c) (A2 m c) (A3 m c) (A4 m c) (A6 m c)
def G7 : Vec Ideal S4x256x1024 .f32 := Rm k (A0 m c) (A1 m c) (A3 m c) (A7 m c)
def G8 : Vec Ideal S4x256x1024 .f32 := Rv k (A0 m c) (A1 m c) (A4 m c) (A8 m c)

theorem ind2 : ∀ t : Fin grid0.N, win0_2.index t 0 = 0 ∧ win0_2.index t 1 = 0 ∧ win0_2.index t 2 = 0 := by decide +kernel

/-- The index of the arrays at index `y` of block `t`. -/
abbrev at_ (t : Fin (cfg0 k).N) (y : S1x256x1024.Idx) : S4x256x1024.Idx := (win0_2.rect t).emb y

theorem at_eq (t : Fin (cfg0 k).N) (u : Fin 1) (r : Fin 256) (d : Fin 1024) : at_ k t (ix3 u r d) = ix3 0 r d := by
  obtain ⟨i0, i1, i2⟩ := ind2 t
  refine funext fun a => Fin.ext ?_
  match a with
  | 0 => exact (Pipeline.Window.rect_emb_val win0_2 t (ix3 u r d : S1x256x1024.Idx) 0).trans (by rw [i0]; show 0 * 1 + u.val = 0; omega)
  | 1 => exact (Pipeline.Window.rect_emb_val win0_2 t (ix3 u r d : S1x256x1024.Idx) 1).trans (by rw [i1]; show 0 * 256 + r.val = r.val; omega)
  | 2 => exact (Pipeline.Window.rect_emb_val win0_2 t (ix3 u r d : S1x256x1024.Idx) 2).trans (by rw [i2]; show 0 * 1024 + d.val = d.val; omega)

/-- Every index of layer 0 lies in a block, and no other does. -/
theorem exists_at (i : S4x256x1024.Idx) (h : (i 0).val = 0) : ∃ (t : Fin (cfg0 k).N) (y : S1x256x1024.Idx), at_ k t y = i := by
  obtain ⟨l, x, q, rfl⟩ : ∃ (l : Fin 4) (x : Fin 256) (q : Fin 1024), (ix3 l x q : S4x256x1024.Idx) = i := ⟨i 0, i 1, i 2, (eq_ix3 i).symm⟩
  obtain rfl : l = 0 := Fin.ext h
  exact ⟨⟨0, (by decide : 0 < grid0.N)⟩, ix3 0 x q, at_eq k _ _ _ _⟩

theorem tile_ix (y : S1x256x1024.Idx) : ∃ (u : Fin 1) (r : Fin 256) (d : Fin 1024), ix3 u r d = y := ⟨y 0, y 1, y 2, (eq_ix3 y).symm⟩
theorem at_zero (t : Fin (cfg0 k).N) (y : S1x256x1024.Idx) : (at_ k t y 0).val = 0 := by
  obtain ⟨u, r, d, rfl⟩ := tile_ix y
  rw [at_eq]
  rfl

/-- The body leaves the results' parts. -/
theorem left (t : Fin (cfg0 k).N) (y : S1x256x1024.Idx) :
    (dats k m 0 c).after 5 t y = G5 k m c (at_ k t y) ∧ (dats k m 0 c).after 6 t y = G6 k m c (at_ k t y)
    ∧ (dats k m 0 c).after 7 t y = G7 k m c (at_ k t y) ∧ (dats k m 0 c).after 8 t y = G8 k m c (at_ k t y) := by
  obtain ⟨u, r, d, rfl⟩ := tile_ix y
  have e := at_eq k t u r d
  have e2 : iblk k m c 2 t (ix3 0 r d) = A2 m c (ix3 0 r d) := congrArg (A2 m c) (at_eq k t 0 r d)
  have e3 : iblk k m c 3 t (ix3 0 r d) = A3 m c (ix3 0 r d) := congrArg (A3 m c) (at_eq k t 0 r d)
  have e4 : iblk k m c 4 t (ix3 0 r d) = A4 m c (ix3 0 r d) := congrArg (A4 m c) (at_eq k t 0 r d)
  have p1 := pay1_apply (g0 k m c) (g1 k m c) (iblk k m c 3 t) (iblk k m c 2 t) u r d (iblk k m c 4 t)
  have p6 := pay6_apply (g0 k m c) (g1 k m c) (iblk k m c 3 t) u r d
  have p7 := pay7_apply (g0 k m c) (g1 k m c) (iblk k m c 4 t) u r d
  rw [e2, e3, e4] at p1
  rw [e3] at p6
  rw [e4] at p7
  exact ⟨(pay5_apply _ _ u r d).trans (congrArg (G5 k m c) e).symm, p1.trans (congrArg (G6 k m c) e).symm,
    p6.trans (congrArg (G7 k m c) e).symm, p7.trans (congrArg (G8 k m c) e).symm⟩

theorem flush_out : ∀ (k : Fin 4) (w : Fin 9), 5 ≤ w → ∀ t : Fin (cfg0 k).N, ((cfg0 k).win w).flush t = true := by decide +kernel

/-- The results' arrays: layer 0's slab block by block, the other slabs as they were. -/
theorem arrs : (dats k m 0 c).arrAt 5 (cfg0 k).N = G5 k m c ∧ (dats k m 0 c).arrAt 6 (cfg0 k).N = G6 k m c
    ∧ (dats k m 0 c).arrAt 7 (cfg0 k).N = G7 k m c ∧ (dats k m 0 c).arrAt 8 (cfg0 k).N = G8 k m c := by
  have em' (i : S4x256x1024.Idx) : (∃ t y, at_ k t y = i) ∨ ¬(i 0).val = 0 := (em _).imp_left (exists_at k i)
  have out {i : S4x256x1024.Idx} (hi : ¬(i 0).val = 0) (t : Fin (cfg0 k).N) (y : S1x256x1024.Idx) : at_ k t y ≠ i := fun h => hi (h ▸ at_zero k t y)
  refine ⟨funext fun i => ?_, funext fun i => ?_, funext fun i => ?_, funext fun i => ?_⟩ <;> rcases em' i with ⟨t, y, rfl⟩ | hi
  · exact (dats k m 0 c).arrAt_apply_of_mem 5 (G5 k m c) (fun t _ => funext fun y => (left k m c t y).1) (cfg0 k).N t _ t.isLt (flush_out k 5 (by decide) t) (View.emb_mem_set _ y)
  · refine ((dats k m 0 c).arrAt_apply_of_forall_not_mem 5 (cfg0 k).N i fun t _ _ hm => ?_).trans (if_neg hi).symm
    obtain ⟨y, h⟩ := View.exists_emb_of_mem_set _ hm
    exact out hi t y h
  · exact (dats k m 0 c).arrAt_apply_of_mem 6 (G6 k m c) (fun t _ => funext fun y => (left k m c t y).2.1) (cfg0 k).N t _ t.isLt (flush_out k 6 (by decide) t) (View.emb_mem_set _ y)
  · refine ((dats k m 0 c).arrAt_apply_of_forall_not_mem 6 (cfg0 k).N i fun t _ _ hm => ?_).trans (if_neg hi).symm
    obtain ⟨y, h⟩ := View.exists_emb_of_mem_set _ hm
    exact out hi t y h
  · exact (dats k m 0 c).arrAt_apply_of_mem 7 (G7 k m c) (fun t _ => funext fun y => (left k m c t y).2.2.1) (cfg0 k).N t _ t.isLt (flush_out k 7 (by decide) t) (View.emb_mem_set _ y)
  · refine ((dats k m 0 c).arrAt_apply_of_forall_not_mem 7 (cfg0 k).N i fun t _ _ hm => ?_).trans (if_neg hi).symm
    obtain ⟨y, h⟩ := View.exists_emb_of_mem_set _ hm
    exact out hi t y h
  · exact (dats k m 0 c).arrAt_apply_of_mem 8 (G8 k m c) (fun t _ => funext fun y => (left k m c t y).2.2.2) (cfg0 k).N t _ t.isLt (flush_out k 8 (by decide) t) (View.emb_mem_set _ y)
  · refine ((dats k m 0 c).arrAt_apply_of_forall_not_mem 8 (cfg0 k).N i fun t _ _ hm => ?_).trans (if_neg hi).symm
    obtain ⟨y, h⟩ := View.exists_emb_of_mem_set _ hm
    exact out hi t y h

/-- The run's results, the arguments unchanged. -/
theorem run_results (ρ : Dev nD → PrngReg) : θ_run (defs k) (onTc (τ := τ) (main k (F := Ideal))) ⟨m, fun _ => 0, ρ⟩ fun r => ∀ c : Dev nD,
      r.2.mem ((c.tc : Thread nD τ).loc main_v0_0) = G5 k m c
      ∧ r.2.mem ((c.tc : Thread nD τ).loc main_v0_1) = G6 k m c
      ∧ r.2.mem ((c.tc : Thread nD τ).loc main_v0_2) = G7 k m c
      ∧ r.2.mem ((c.tc : Thread nD τ).loc main_v0_3) = G8 k m c
      ∧ Kept m c r.2.mem :=
  (θ_run (defs k) _ _).mono (fun _ h c => ⟨((h.1.1 c).1 5).trans (arrs k m c).1, ((h.1.1 c).1 6).trans (arrs k m c).2.1, ((h.1.1 c).1 7).trans (arrs k m c).2.2.1, ((h.1.1 c).1 8).trans (arrs k m c).2.2.2, h.2.1 c⟩)
    (θ_run_and (run_main_quiescent k m ρ) (frame k m ρ))

/-- The references' threads. -/
abbrev RT := Thread Cert.Reference7Ideal.nD Cert.Reference7Ideal.τ

/-- The call and its reference give the same results. -/
theorem agree (g : Dev nD → PrngReg) (m' : (ℓ : Loc Cert.Reference7Ideal.nD Cert.Reference7Ideal.τ Cert.Reference7Ideal.sig) → Buf (Elt Ideal) ℓ)
    (g' : Dev Cert.Reference7Ideal.nD → PrngReg)
    (ha : ∀ c : Dev nD, m' ((c.tc : RT).loc Cert.Reference7Ideal.main_arg0) = m ((c.tc : Thread nD τ).loc main_arg0)
      ∧ m' ((c.tc : RT).loc Cert.Reference7Ideal.main_arg1) = m ((c.tc : Thread nD τ).loc main_arg1)
      ∧ m' ((c.tc : RT).loc Cert.Reference7Ideal.main_arg2) = m ((c.tc : Thread nD τ).loc main_arg2)
      ∧ m' ((c.tc : RT).loc Cert.Reference7Ideal.main_arg3) = m ((c.tc : Thread nD τ).loc main_arg3)
      ∧ m' ((c.tc : RT).loc Cert.Reference7Ideal.main_arg4) = m ((c.tc : Thread nD τ).loc main_arg4)
      ∧ m' ((c.tc : RT).loc Cert.Reference7Ideal.main_arg5) = m ((c.tc : Thread nD τ).loc main_arg5)
      ∧ m' ((c.tc : RT).loc Cert.Reference7Ideal.main_arg6) = m ((c.tc : Thread nD τ).loc main_arg6)
      ∧ m' ((c.tc : RT).loc Cert.Reference7Ideal.main_arg7) = m ((c.tc : Thread nD τ).loc main_arg7)
      ∧ m' ((c.tc : RT).loc Cert.Reference7Ideal.main_arg8) = m ((c.tc : Thread nD τ).loc main_arg8)) :
    ∃ (v0 v1 v2 v3 : Dev nD → Vec Ideal S4x256x1024 .f32),
      θ_run (defs k) (onTc (τ := τ) (main k (F := Ideal))) ⟨m, fun _ => 0, g⟩ (fun r => ∀ c : Dev nD,
        r.2.mem ((c.tc : Thread nD τ).loc main_v0_0) = v0 c
        ∧ r.2.mem ((c.tc : Thread nD τ).loc main_v0_1) = v1 c
        ∧ r.2.mem ((c.tc : Thread nD τ).loc main_v0_2) = v2 c
        ∧ r.2.mem ((c.tc : Thread nD τ).loc main_v0_3) = v3 c
        ∧ Kept m c r.2.mem)
      ∧ θ_run (Cert.Reference7Ideal.defs (F := Ideal)) (onTc (τ := Cert.Reference7Ideal.τ) (Cert.Reference7Ideal.Value.main k (F := Ideal))) ⟨m', fun _ => 0, g'⟩ (fun r => ∀ c : Dev nD,
        r.2.mem ((c.tc : RT).loc Cert.Reference7Ideal.main_v36) = v0 c
        ∧ r.2.mem ((c.tc : RT).loc Cert.Reference7Ideal.main_v39) = v1 c
        ∧ r.2.mem ((c.tc : RT).loc Cert.Reference7Ideal.main_v42) = v2 c
        ∧ r.2.mem ((c.tc : RT).loc Cert.Reference7Ideal.main_v45) = v3 c
        ∧ Cert.Reference7Ideal.Value.Kept m' c r.2.mem) :=
  ⟨fun c => G5 k m c, fun c => G6 k m c, fun c => G7 k m c, fun c => G8 k m c, run_results k m g,
    (θ_run (Cert.Reference7Ideal.defs (F := Ideal)) _ _).mono (fun r h c => by
      obtain ⟨a0, a1, a2, a3, a4, a5, a6, a7, a8⟩ := ha c
      refine ⟨(h c).1.trans ?_, (h c).2.1.trans ?_, (h c).2.2.1.trans ?_, (h c).2.2.2.1.trans ?_, (h c).2.2.2.2⟩
      · rw [a0, a1, a5]
        exact Cert.Reference7Ideal.Value.g_eq _ _ _ _
      · rw [a0, a1, a2, a3, a4, a6]
        exact Cert.Reference7Ideal.Value.d_eq _ _ _ _ _ _ _
      · rw [a0, a1, a3, a7]
        exact Cert.Reference7Ideal.Value.m_eq _ _ _ _ _
      · rw [a0, a1, a4, a8]
        exact Cert.Reference7Ideal.Value.v_eq _ _ _ _ _) (Cert.Reference7Ideal.Value.run k m' g')⟩

end Cert.Branch

end
-- ==== Proof.AbKFacts.lean ====
/-
  The optimiser's calls for the branches' and the output's weights: the facts the other programs state.
-/
module

public import proofs.«01_k».proof.Kernel7
public import proofs.«01_k».proof.Kernel8
public import proofs.«01_k».proof.Kernel8Ideal
public import proofs.«01_k».proof.Kernel9
public import proofs.«01_k».proof.Kernel9Ideal
public import proofs.«01_k».proof.Kernel10
public import proofs.«01_k».proof.Kernel10Ideal
public import proofs.«01_k».proof.Reference8Ideal
public import proofs.«01_k».proof.Reference9Ideal
public import proofs.«01_k».proof.Reference10Ideal
public import proofs.«01_k».proof.Proof.AbFacts
public import Idealize.ShloMosaic.Lib.Affine
public import Idealize.ShloMosaic.Lib.Decide
public import Idealize.ShloMosaic.Lib.Exec

@[expose] public section

-- a fact under nested conditions takes a `Decidable` instance one implication deeper per condition
set_option synthInstance.maxSize 4096

open Idealize.ShloMosaic Idealize.SL.Sem

namespace Cert.Kernel7.Gen
instance facts₀ : Cert.Kernel7.Facts₀ := Cert.Kernel7Ideal.Gen.facts₀.casesOn (motive := fun _ => Cert.Kernel7.Facts₀) @Cert.Kernel7.Facts₀.mk
instance facts : Cert.Kernel7.Facts where
end Cert.Kernel7.Gen

namespace Cert.Kernel8Ideal.Gen
instance facts₀ : Cert.Kernel8Ideal.Facts₀ := by
  constructor
  iterate 2 all_goals try first
    | exact Fin.forall_fin_one.2 (Memref.isWhole_whole _)
    | exact fun _ => .inl rfl
    | exact fun _ => .inr (Affine.block_words_dvd (of_decide_eq_true rfl) (by decide))
    | exact fun _ _ _ => rfl
    | decide +kernel
instance facts : Cert.Kernel8Ideal.Facts where
end Cert.Kernel8Ideal.Gen

namespace Cert.Reference8Ideal.Gen
instance facts₀ : Cert.Reference8Ideal.Facts₀ := by constructor <;> decide
instance facts : Cert.Reference8Ideal.Facts where
end Cert.Reference8Ideal.Gen

namespace Cert.Kernel8.Gen
instance facts₀ : Cert.Kernel8.Facts₀ := Cert.Kernel8Ideal.Gen.facts₀.casesOn (motive := fun _ => Cert.Kernel8.Facts₀) @Cert.Kernel8.Facts₀.mk
instance facts : Cert.Kernel8.Facts where
end Cert.Kernel8.Gen

namespace Cert.Kernel9Ideal.Gen
instance facts₀ : Cert.Kernel9Ideal.Facts₀ := by
  constructor
  iterate 2 all_goals try first
    | exact Fin.forall_fin_one.2 (Memref.isWhole_whole _)
    | exact fun _ => .inl rfl
    | exact fun _ => .inr (Affine.block_words_dvd (of_decide_eq_true rfl) (by decide))
    | exact fun _ _ _ => rfl
    | decide +kernel
instance facts : Cert.Kernel9Ideal.Facts where
end Cert.Kernel9Ideal.Gen

namespace Cert.Reference9Ideal.Gen
instance facts₀ : Cert.Reference9Ideal.Facts₀ := by constructor <;> decide
instance facts : Cert.Reference9Ideal.Facts where
end Cert.Reference9Ideal.Gen

namespace Cert.Kernel9.Gen
instance facts₀ : Cert.Kernel9.Facts₀ := Cert.Kernel9Ideal.Gen.facts₀.casesOn (motive := fun _ => Cert.Kernel9.Facts₀) @Cert.Kernel9.Facts₀.mk
instance facts : Cert.Kernel9.Facts where
end Cert.Kernel9.Gen

namespace Cert.Kernel10Ideal.Gen
instance facts₀ : Cert.Kernel10Ideal.Facts₀ := by
  constructor
  iterate 2 all_goals try first
    | exact Fin.forall_fin_one.2 (Memref.isWhole_whole _)
    | exact fun _ => .inl rfl
    | exact fun _ => .inr (Affine.block_words_dvd (of_decide_eq_true rfl) (by decide))
    | exact fun _ _ _ => rfl
    | decide +kernel
instance facts : Cert.Kernel10Ideal.Facts where
end Cert.Kernel10Ideal.Gen

namespace Cert.Reference10Ideal.Gen
instance facts₀ : Cert.Reference10Ideal.Facts₀ := by constructor <;> decide
instance facts : Cert.Reference10Ideal.Facts where
end Cert.Reference10Ideal.Gen

namespace Cert.Kernel10.Gen
instance facts₀ : Cert.Kernel10.Facts₀ := Cert.Kernel10Ideal.Gen.facts₀.casesOn (motive := fun _ => Cert.Kernel10.Facts₀) @Cert.Kernel10.Facts₀.mk
instance facts : Cert.Kernel10.Facts where
end Cert.Kernel10.Gen
-- ==== Proof.AbClaim.lean ====
/-
  The optimiser's calls for the branches' and the output's weights compute their references: the frames and the value claims.
-/
module

public import proofs.«01_k».proof.Defs
public import proofs.«01_k».proof.Proof.AbVal
public import proofs.«01_k».proof.Proof.AbKFacts
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.Hand7
open Cert.Kernel7Ideal.Gen Cert.Kernel7.Gen Cert.Reference7Ideal.Gen

/-- The two programs' body tables are call 0's. -/
theorem defs_eq : Cert.Kernel7.defs (F := Bits) = Cert.Branch.defs 0 := by
  refine congrArg (Pipeline.defs (Cert.Branch.pcfgs 0)) (congrArg Defs.onTc (funext fun l => funext fun a => ?_))
  match l, a with
  | 0, (t, s) => rfl
theorem defs_eq_ideal : Cert.Kernel7Ideal.defs (F := Ideal) = Cert.Branch.defs 0 := by
  refine congrArg (Pipeline.defs (Cert.Branch.pcfgs 0)) (congrArg Defs.onTc (funext fun l => funext fun a => ?_))
  match l, a with
  | 0, (t, s) => rfl

theorem frame_kernel : Cert.quiescent_Kernel7 := fun m ρ _ =>
  Eq.mpr (congrArg (fun d => θ_run d _ _ _) defs_eq) (Cert.Branch.frame 0 m ρ)
theorem frame_ideal : Cert.quiescent_Kernel7Ideal := fun m ρ _ =>
  Eq.mpr (congrArg (fun d => θ_run d _ _ _) defs_eq_ideal) (Cert.Branch.frame 0 m ρ)
theorem frame_reference : Cert.quiescent_Reference7Ideal := fun m ρ _ => Cert.Reference7Ideal.Value.frame 0 m ρ
theorem algebraic : Cert.algebraic_Kernel7Ideal_Reference7Ideal := fun m g m' g' _ ha =>
  have ⟨v0, v1, v2, v3, h, h'⟩ := Cert.Branch.agree 0 m g m' g' ha
  ⟨v0, v1, v2, v3, Eq.mpr (congrArg (fun d => θ_run d _ _ _) defs_eq_ideal) h, h'⟩

end Cert.Hand7

namespace Cert.Hand8
open Cert.Kernel8Ideal.Gen Cert.Kernel8.Gen Cert.Reference8Ideal.Gen

/-- The two programs' body tables are call 1's. -/
theorem defs_eq : Cert.Kernel8.defs (F := Bits) = Cert.Branch.defs 1 := by
  refine congrArg (Pipeline.defs (Cert.Branch.pcfgs 1)) (congrArg Defs.onTc (funext fun l => funext fun a => ?_))
  match l, a with
  | 0, (t, s) => rfl
theorem defs_eq_ideal : Cert.Kernel8Ideal.defs (F := Ideal) = Cert.Branch.defs 1 := by
  refine congrArg (Pipeline.defs (Cert.Branch.pcfgs 1)) (congrArg Defs.onTc (funext fun l => funext fun a => ?_))
  match l, a with
  | 0, (t, s) => rfl

theorem frame_kernel : Cert.quiescent_Kernel8 := fun m ρ _ =>
  Eq.mpr (congrArg (fun d => θ_run d _ _ _) defs_eq) (Cert.Branch.frame 1 m ρ)
theorem frame_ideal : Cert.quiescent_Kernel8Ideal := fun m ρ _ =>
  Eq.mpr (congrArg (fun d => θ_run d _ _ _) defs_eq_ideal) (Cert.Branch.frame 1 m ρ)
theorem frame_reference : Cert.quiescent_Reference8Ideal := fun m ρ _ => Cert.Reference7Ideal.Value.frame 1 m ρ
theorem algebraic : Cert.algebraic_Kernel8Ideal_Reference8Ideal := fun m g m' g' _ ha =>
  have ⟨v0, v1, v2, v3, h, h'⟩ := Cert.Branch.agree 1 m g m' g' ha
  ⟨v0, v1, v2, v3, Eq.mpr (congrArg (fun d => θ_run d _ _ _) defs_eq_ideal) h, h'⟩

end Cert.Hand8

namespace Cert.Hand9
open Cert.Kernel9Ideal.Gen Cert.Kernel9.Gen Cert.Reference9Ideal.Gen

/-- The two programs' body tables are call 2's. -/
theorem defs_eq : Cert.Kernel9.defs (F := Bits) = Cert.Branch.defs 2 := by
  refine congrArg (Pipeline.defs (Cert.Branch.pcfgs 2)) (congrArg Defs.onTc (funext fun l => funext fun a => ?_))
  match l, a with
  | 0, (t, s) => rfl
theorem defs_eq_ideal : Cert.Kernel9Ideal.defs (F := Ideal) = Cert.Branch.defs 2 := by
  refine congrArg (Pipeline.defs (Cert.Branch.pcfgs 2)) (congrArg Defs.onTc (funext fun l => funext fun a => ?_))
  match l, a with
  | 0, (t, s) => rfl

theorem frame_kernel : Cert.quiescent_Kernel9 := fun m ρ _ =>
  Eq.mpr (congrArg (fun d => θ_run d _ _ _) defs_eq) (Cert.Branch.frame 2 m ρ)
theorem frame_ideal : Cert.quiescent_Kernel9Ideal := fun m ρ _ =>
  Eq.mpr (congrArg (fun d => θ_run d _ _ _) defs_eq_ideal) (Cert.Branch.frame 2 m ρ)
theorem frame_reference : Cert.quiescent_Reference9Ideal := fun m ρ _ => Cert.Reference7Ideal.Value.frame 2 m ρ
theorem algebraic : Cert.algebraic_Kernel9Ideal_Reference9Ideal := fun m g m' g' _ ha =>
  have ⟨v0, v1, v2, v3, h, h'⟩ := Cert.Branch.agree 2 m g m' g' ha
  ⟨v0, v1, v2, v3, Eq.mpr (congrArg (fun d => θ_run d _ _ _) defs_eq_ideal) h, h'⟩

end Cert.Hand9

namespace Cert.Hand10
open Cert.Kernel10Ideal.Gen Cert.Kernel10.Gen Cert.Reference10Ideal.Gen

/-- The two programs' body tables are call 3's. -/
theorem defs_eq : Cert.Kernel10.defs (F := Bits) = Cert.Branch.defs 3 := by
  refine congrArg (Pipeline.defs (Cert.Branch.pcfgs 3)) (congrArg Defs.onTc (funext fun l => funext fun a => ?_))
  match l, a with
  | 0, (t, s) => rfl
theorem defs_eq_ideal : Cert.Kernel10Ideal.defs (F := Ideal) = Cert.Branch.defs 3 := by
  refine congrArg (Pipeline.defs (Cert.Branch.pcfgs 3)) (congrArg Defs.onTc (funext fun l => funext fun a => ?_))
  match l, a with
  | 0, (t, s) => rfl

theorem frame_kernel : Cert.quiescent_Kernel10 := fun m ρ _ =>
  Eq.mpr (congrArg (fun d => θ_run d _ _ _) defs_eq) (Cert.Branch.frame 3 m ρ)
theorem frame_ideal : Cert.quiescent_Kernel10Ideal := fun m ρ _ =>
  Eq.mpr (congrArg (fun d => θ_run d _ _ _) defs_eq_ideal) (Cert.Branch.frame 3 m ρ)
theorem frame_reference : Cert.quiescent_Reference10Ideal := fun m ρ _ => Cert.Reference7Ideal.Value.frame 3 m ρ
theorem algebraic : Cert.algebraic_Kernel10Ideal_Reference10Ideal := fun m g m' g' _ ha =>
  have ⟨v0, v1, v2, v3, h, h'⟩ := Cert.Branch.agree 3 m g m' g' ha
  ⟨v0, v1, v2, v3, Eq.mpr (congrArg (fun d => θ_run d _ _ _) defs_eq_ideal) h, h'⟩

end Cert.Hand10

end
-- ==== Proof.lean ====
/-
  The certificate's claims, from the modules that prove them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.InClaim
public import proofs.«01_k».proof.Proof.TnClaim
public import proofs.«01_k».proof.Proof.BrClaim
public import proofs.«01_k».proof.Proof.WoClaim
public import proofs.«01_k».proof.Proof.AdClaim
public import proofs.«01_k».proof.Proof.AwClaim
public import proofs.«01_k».proof.Proof.AbClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Hand2.written_facts,
    Cert.Hand.frame_kernel, Cert.Hand.frame_ideal, Cert.Hand.frame_reference,
    Cert.Hand2.frame_kernel, Cert.Hand2.frame_ideal, Cert.Hand2.frame_reference,
    Cert.Hand3.frame_kernel, Cert.Hand3.frame_ideal, Cert.Hand3.frame_reference,
    Cert.Hand4.frame_kernel, Cert.Hand4.frame_ideal, Cert.Hand4.frame_reference,
    Cert.Hand5.frame_kernel, Cert.Hand5.frame_ideal, Cert.Hand5.frame_reference,
    Cert.Hand6.frame_kernel, Cert.Hand6.frame_ideal, Cert.Hand6.frame_reference,
    Cert.Hand7.frame_kernel, Cert.Hand7.frame_ideal, Cert.Hand7.frame_reference,
    Cert.Hand8.frame_kernel, Cert.Hand8.frame_ideal, Cert.Hand8.frame_reference,
    Cert.Hand9.frame_kernel, Cert.Hand9.frame_ideal, Cert.Hand9.frame_reference,
    Cert.Hand10.frame_kernel, Cert.Hand10.frame_ideal, Cert.Hand10.frame_reference,
    trivial, Cert.Hand.algebraic, trivial, Cert.Hand2.algebraic, trivial, Cert.Hand3.algebraic,
    trivial, Cert.Hand4.algebraic, trivial, Cert.Hand5.algebraic, trivial, Cert.Hand6.algebraic, trivial, Cert.Hand7.algebraic,
    trivial, Cert.Hand8.algebraic, trivial, Cert.Hand9.algebraic, trivial, Cert.Hand10.algebraic⟩

end Cert.Proof

end
